-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_factors [hPre_finite_factors : Cert.Pre_finite_factors.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_factors.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).1 = (fun _ => 1#1)
    ∧ (Cert.Pre_finite_factors.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))).2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_factors [hPre_finite_factors : Cert.Pre_finite_factors.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_factors.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).1 = (fun _ => 1#1)
    ∧ (Cert.Pre_finite_factors.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))).2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite_factors [hKernel16Ideal : Cert.Kernel16Ideal.Facts] [hPre_finite_factors : Cert.Pre_finite_factors.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_factors m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite_factors [hReference16Ideal : Cert.Reference16Ideal.Facts] [hPre_finite_factors : Cert.Pre_finite_factors.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_factors m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_v153) = v2 c
          ∧ r.2.mem ((c.tc : Thread Cert.ReferenceIdeal.nD Cert.ReferenceIdeal.τ).loc Cert.ReferenceIdeal.main_v154) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v20) = v0 c
          ∧ r.2.mem ((c.tc : Thread Cert.Reference13Ideal.nD Cert.Reference13Ideal.τ).loc Cert.Reference13Ideal.main_v21) = v1 c
          ∧ r.2.mem ((c.tc : Thread Cert.Reference13Ideal.nD Cert.Reference13Ideal.τ).loc Cert.Reference13Ideal.main_v22) = v2 c
          ∧ r.2.mem ((c.tc : Thread Cert.Reference13Ideal.nD Cert.Reference13Ideal.τ).loc Cert.Reference13Ideal.main_v23) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_v17) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v10) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_v20) = v2 c
          ∧ r.2.mem ((c.tc : Thread Cert.Reference15Ideal.nD Cert.Reference15Ideal.τ).loc Cert.Reference15Ideal.main_v44) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal_pre_finite_factors [hKernel16Ideal : Cert.Kernel16Ideal.Facts] [hReference16Ideal : Cert.Reference16Ideal.Facts] [hPre_finite_factors : Cert.Pre_finite_factors.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_factors m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite_scores : Cert.Pre_finite_scores.Facts) (hPre_finite_factors : Cert.Pre_finite_factors.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite_factors (hKernel16Ideal := hKernel16Ideal) (hPre_finite_factors := hPre_finite_factors)
    ∧ quiescent_Reference16Ideal (hReference16Ideal := hReference16Ideal)
    ∧ quiescent_Reference16Ideal_pre_finite_factors (hReference16Ideal := hReference16Ideal) (hPre_finite_factors := hPre_finite_factors)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite_factors (hKernel16Ideal := hKernel16Ideal) (hReference16Ideal := hReference16Ideal) (hPre_finite_factors := hPre_finite_factors)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite_factors.lean ====
abbrev S2048x2816 : Shape := ⟨2, ![2048, 2816]⟩
abbrev S_ : Shape := ⟨0, ![]⟩

class Facts : Prop where
  bitsLt_bf16_f32 : FTy.bits .bf16 < FTy.bits .f32
  bcast_S_S2048x2816 : S_.BroadcastsInDim S2048x2816 (![] : Fin 0 → Fin S2048x2816.rank)

variable [Facts]

def fn {F : FTy → Type} [FloatOps F] (main_arg0 : FVec F S2048x2816 .bf16) (main_arg1 : FVec F S2048x2816 .bf16) (main_arg2 : FVec F S2048x2816 .bf16) : IVec S2048x2816 1 × IVec S2048x2816 1 :=
  let main_v0 : FVec F S2048x2816 .f32 := (extf .f32 · bitsLt_bf16_f32) main_arg1
  let main_v1 : FVec F S2048x2816 .f32 := Host.absf main_v0
  let main_cst : FVec F S_ .f32 := constant S_ .f32 0x7F800000#32
  let main_v2 : FVec F S2048x2816 .f32 := broadcastInDim S2048x2816 ![] bcast_S_S2048x2816 main_cst
  let main_v3 : IVec S2048x2816 1 := cmpf .olt main_v1 main_v2
  let main_v4 : FVec F S2048x2816 .f32 := (extf .f32 · bitsLt_bf16_f32) main_arg2
  let main_v5 : FVec F S2048x2816 .f32 := Host.absf main_v4
  let main_cst_0 : FVec F S_ .f32 := constant S_ .f32 0x7F800000#32
  let main_v6 : FVec F S2048x2816 .f32 := broadcastInDim S2048x2816 ![] bcast_S_S2048x2816 main_cst_0
  let main_v7 : IVec S2048x2816 1 := cmpf .olt main_v5 main_v6
  (main_v3, main_v7)
-- ==== Pre_finite_scores.lean ====
abbrev S2048x512 : Shape := ⟨2, ![2048, 512]⟩
abbrev S257x8 : Shape := ⟨2, ![257, 8]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  bcast_S_S257x8 : S_.BroadcastsInDim S257x8 (![] : Fin 0 → Fin S257x8.rank)

variable [Facts]

def fn {F : FTy → Type} [FloatOps F] (main_arg0 : FVec F S2048x512 .bf16) (main_arg1 : FVec F S2048x512 .bf16) (main_arg2 : FVec F S2048x512 .bf16) (main_arg3 : FVec F S257x8 .f32) (main_arg4 : FVec F S2048x512 .bf16) : IVec S2048x512 1 × IVec S2048x512 1 × IVec S257x8 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S2048x512 .f32 := (extf .f32 · bitsLt_bf16_f32) main_arg1
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_v8 : FVec F S257x8 .f32 := Host.absf main_arg3
  let main_cst_1 : FVec F S_ .f32 := constant S_ .f32 0x7F800000#32
  let main_v9 : FVec F S257x8 .f32 := broadcastInDim S257x8 ![] bcast_S_S257x8 main_cst_1
  let main_v10 : IVec S257x8 1 := cmpf .olt main_v8 main_v9
  (main_v3, main_v7, main_v10)
-- ==== Kernel.lean ====
abbrev S2048x512 : Shape := ⟨2, ![2048, 512]⟩
abbrev S257x8 : Shape := ⟨2, ![257, 8]⟩
abbrev S191x8 : Shape := ⟨2, ![191, 8]⟩
abbrev S1x8 : Shape := ⟨2, ![1, 8]⟩
abbrev S8 : Shape := ⟨1, ![8]⟩
abbrev S512x8 : Shape := ⟨2, ![512, 8]⟩
abbrev S703x8 : Shape := ⟨2, ![703, 8]⟩
abbrev S8x703 : Shape := ⟨2, ![8, 703]⟩
abbrev S_ : Shape := ⟨0, ![]⟩
abbrev S8x704 : Shape := ⟨2, ![8, 704]⟩
abbrev S1x8x1x704 : Shape := ⟨4, ![1, 8, 1, 704]⟩
abbrev S1x8x64x704 : Shape := ⟨4, ![1, 8, 64, 704]⟩
abbrev S8x45056 : Shape := ⟨2, ![8, 45056]⟩
abbrev S8x44992 : Shape := ⟨2, ![8, 44992]⟩
abbrev S8x64x703 : Shape := ⟨3, ![8, 64, 703]⟩
abbrev S8x64x640 : Shape := ⟨3, ![8, 64, 640]⟩
abbrev S2048x8x64 : Shape := ⟨3, ![2048, 8, 64]⟩
abbrev S8x2048x64 : Shape := ⟨3, ![8, 2048, 64]⟩
abbrev S8x2624x64 : Shape := ⟨3, ![8, 2624, 64]⟩
abbrev S4x2048x64 : Shape := ⟨3, ![4, 2048, 64]⟩
abbrev S4x2624x64 : Shape := ⟨3, ![4, 2624, 64]⟩
abbrev S4x64x640 : Shape := ⟨3, ![4, 64, 640]⟩
abbrev S64x640 : Shape := ⟨2, ![64, 640]⟩
abbrev S1x64x64 : Shape := ⟨3, ![1, 64, 64]⟩
abbrev S64x64 : Shape := ⟨2, ![64, 64]⟩
abbrev S1x640x64 : Shape := ⟨3, ![1, 640, 64]⟩
abbrev S640x64 : Shape := ⟨2, ![640, 64]⟩
abbrev S1x64x640 : Shape := ⟨3, ![1, 64, 640]⟩
abbrev S64 : Shape := ⟨1, ![64]⟩
abbrev S64x1 : Shape := ⟨2, ![64, 1]⟩

abbrev nBuf : Space → Nat
  | .hbm => 39
  | .vmem => 20
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S257x8, .f32⟩
  | .hbm, ⟨4, _⟩ => ⟨S2048x512, .bf16⟩
  | .hbm, ⟨5, _⟩ => ⟨S191x8, .f32⟩
  | .hbm, ⟨6, _⟩ => ⟨S191x8, .f32⟩
  | .hbm, ⟨7, _⟩ => ⟨S1x8, .f32⟩
  | .hbm, ⟨8, _⟩ => ⟨S8, .f32⟩
  | .hbm, ⟨9, _⟩ => ⟨S512x8, .f32⟩
  | .hbm, ⟨10, _⟩ => ⟨S703x8, .f32⟩
  | .hbm, ⟨11, _⟩ => ⟨S8x703, .f32⟩
  | .hbm, ⟨12, _⟩ => ⟨S_, .i32⟩
  | .hbm, ⟨13, _⟩ => ⟨S_, .f32⟩
  | .hbm, ⟨14, _⟩ => ⟨S8x704, .f32⟩
  | .hbm, ⟨15, _⟩ => ⟨S1x8x1x704, .f32⟩
  | .hbm, ⟨16, _⟩ => ⟨S1x8x64x704, .f32⟩
  | .hbm, ⟨17, _⟩ => ⟨S8x45056, .f32⟩
  | .hbm, ⟨18, _⟩ => ⟨S8x44992, .f32⟩
  | .hbm, ⟨19, _⟩ => ⟨S8x64x703, .f32⟩
  | .hbm, ⟨20, _⟩ => ⟨S8x64x640, .f32⟩
  | .hbm, ⟨21, _⟩ => ⟨S2048x8x64, .bf16⟩
  | .hbm, ⟨22, _⟩ => ⟨S8x2048x64, .bf16⟩
  | .hbm, ⟨23, _⟩ => ⟨S2048x8x64, .bf16⟩
  | .hbm, ⟨24, _⟩ => ⟨S8x2048x64, .bf16⟩
  | .hbm, ⟨25, _⟩ => ⟨S_, .i32⟩
  | .hbm, ⟨26, _⟩ => ⟨S_, .bf16⟩
  | .hbm, ⟨27, _⟩ => ⟨S8x2624x64, .bf16⟩
  | .hbm, ⟨28, _⟩ => ⟨S2048x8x64, .bf16⟩
  | .hbm, ⟨29, _⟩ => ⟨S8x2048x64, .bf16⟩
  | .hbm, ⟨30, _⟩ => ⟨S_, .i32⟩
  | .hbm, ⟨31, _⟩ => ⟨S_, .bf16⟩
  | .hbm, ⟨32, _⟩ => ⟨S8x2624x64, .bf16⟩
  | .hbm, ⟨33, _⟩ => ⟨S2048x8x64, .bf16⟩
  | .hbm, ⟨34, _⟩ => ⟨S8x2048x64, .bf16⟩
  | .hbm, ⟨35, _⟩ => ⟨S8x2048x64, .bf16⟩
  | .hbm, ⟨36, _⟩ => ⟨S8x2048x64, .bf16⟩
  | .hbm, ⟨37, _⟩ => ⟨S8x2048x64, .bf16⟩
  | .hbm, ⟨38, _⟩ => ⟨S8x64x640, .f32⟩
  | .local _ .vmem, ⟨0, _⟩ => ⟨S4x2048x64, .bf16⟩
  | .local _ .vmem, ⟨1, _⟩ => ⟨S4x2048x64, .bf16⟩
  | .local _ .vmem, ⟨2, _⟩ => ⟨S4x2624x64, .bf16⟩
  | .local _ .vmem, ⟨3, _⟩ => ⟨S4x2624x64, .bf16⟩
  | .local _ .vmem, ⟨4, _⟩ => ⟨S4x2624x64, .bf16⟩
  | .local _ .vmem, ⟨5, _⟩ => ⟨S4x2624x64, .bf16⟩
  | .local _ .vmem, ⟨6, _⟩ => ⟨S4x64x640, .f32⟩
  | .local _ .vmem, ⟨7, _⟩ => ⟨S4x64x640, .f32⟩
  | .local _ .vmem, ⟨8, _⟩ => ⟨S4x2048x64, .bf16⟩
  | .local _ .vmem, ⟨9, _⟩ => ⟨S4x2048x64, .bf16⟩
  | .local _ .vmem, ⟨10, _⟩ => ⟨S4x2048x64, .bf16⟩
  | .local _ .vmem, ⟨11, _⟩ => ⟨S4x2048x64, .bf16⟩
  | .local _ .vmem, ⟨12, _⟩ => ⟨S4x2048x64, .bf16⟩
  | .local _ .vmem, ⟨13, _⟩ => ⟨S4x2048x64, .bf16⟩
  | .local _ .vmem, ⟨14, _⟩ => ⟨S4x2048x64, .bf16⟩
  | .local _ .vmem, ⟨15, _⟩ => ⟨S4x2048x64, .bf16⟩
  | .local _ .vmem, ⟨16, _⟩ => ⟨S4x64x640, .f32⟩
  | .local _ .vmem, ⟨17, _⟩ => ⟨S4x64x640, .f32⟩
  | .local _ .vmem, ⟨18, _⟩ => ⟨S4x2624x64, .f32⟩
  | .local _ .vmem, ⟨19, _⟩ => ⟨S4x2624x64, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_call2_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v24_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c32_i32 : BitVec 32 := 32#32
  let v11 : BitVec 32 := Scalar.addi c0_i32 c32_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  v18
def k0_off1 (k0_t1 : Fin k0_t1_loop.trips) : Fin 3 → Nat :=
  let c0_22 : Index := 0#32
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v20 : Index := Scalar.indexCast v19
  let c0_23 : Index := 0#32
  ![0, v20.toNat, 0]
def k0_off2 (k0_t1 : Fin k0_t1_loop.trips) : Fin 3 → Nat :=
  let c0_24 : Index := 0#32
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v23 : Index := Scalar.indexCast v19
  let c0_25 : Index := 0#32
  ![0, v23.toNat, 0]
def k0_off3 (k0_t1 : Fin k0_t1_loop.trips) : Fin 3 → Nat :=
  let c1 : Index := 1#32
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v101 : Index := Scalar.indexCast v19
  let c0_64 : Index := 0#32
  ![1, v101.toNat, 0]
def k0_off4 (k0_t1 : Fin k0_t1_loop.trips) : Fin 3 → Nat :=
  let c1_65 : Index := 1#32
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v104 : Index := Scalar.indexCast v19
  let c0_66 : Index := 0#32
  ![1, v104.toNat, 0]
def k0_off5 (k0_t1 : Fin k0_t1_loop.trips) : Fin 3 → Nat :=
  let c2 : Index := 2#32
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v182 : Index := Scalar.indexCast v19
  let c0_107 : Index := 0#32
  ![2, v182.toNat, 0]
def k0_off6 (k0_t1 : Fin k0_t1_loop.trips) : Fin 3 → Nat :=
  let c2_108 : Index := 2#32
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v185 : Index := Scalar.indexCast v19
  let c0_109 : Index := 0#32
  ![2, v185.toNat, 0]
def k0_off7 (k0_t1 : Fin k0_t1_loop.trips) : Fin 3 → Nat :=
  let c3 : Index := 3#32
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v263 : Index := Scalar.indexCast v19
  let c0_150 : Index := 0#32
  ![3, v263.toNat, 0]
def k0_off8 (k0_t1 : Fin k0_t1_loop.trips) : Fin 3 → Nat :=
  let c3_151 : Index := 3#32
  let c0_i32 : BitVec 32 := 0#32
  let c1_i32 : BitVec 32 := 1#32
  let arg12 : BitVec 32 := Scf.iv c0_i32 c1_i32 k0_t1
  let c64_i32 : BitVec 32 := 64#32
  let v18 : BitVec 32 := Scalar.muli arg12 c64_i32
  let v19 : BitVec 32 := v18
  let v266 : Index := Scalar.indexCast v19
  let c0_152 : Index := 0#32
  ![3, v266.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2624x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2624x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2048x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x64x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x512 : Shape := ⟨2, ![2048, 512]⟩
abbrev S257x8 : Shape := ⟨2, ![257, 8]⟩
abbrev S2048x8x64 : Shape := ⟨3, ![2048, 8, 64]⟩
abbrev S8x2048x64 : Shape := ⟨3, ![8, 2048, 64]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S64x576x8 : Shape := ⟨3, ![64, 576, 8]⟩
abbrev S8x64x576 : Shape := ⟨3, ![8, 64, 576]⟩
abbrev S8x32x64x64 : Shape := ⟨4, ![8, 32, 64, 64]⟩
abbrev S8x512x64 : Shape := ⟨3, ![8, 512, 64]⟩
abbrev S8x2560x64 : Shape := ⟨3, ![8, 2560, 64]⟩
abbrev S8x40x64x64 : Shape := ⟨4, ![8, 40, 64, 64]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S8x32x9x64x64 : Shape := ⟨5, ![8, 32, 9, 64, 64]⟩
abbrev S8x32x576x64 : Shape := ⟨4, ![8, 32, 576, 64]⟩
abbrev S8x32x64x576 : Shape := ⟨4, ![8, 32, 64, 576]⟩
abbrev S8x1x64x576 : Shape := ⟨4, ![8, 1, 64, 576]⟩
abbrev S32x576 : Shape := ⟨2, ![32, 576]⟩
abbrev S1x32x1x576 : Shape := ⟨4, ![1, 32, 1, 576]⟩
abbrev S8x32x64 : Shape := ⟨3, ![8, 32, 64]⟩
abbrev S8x32x64x1 : Shape := ⟨4, ![8, 32, 64, 1]⟩
abbrev S8x64x640 : Shape := ⟨3, ![8, 64, 640]⟩

abbrev nBuf : Space → Nat
  | .hbm => 209
  | .vmem => 0
  | .smem => 0
  | _ => 0

abbrev hbmTy0_0 (i : Nat) : BufTy := match i % 128 with
  | 0 => ⟨S2048x512, .bf16⟩
  | 1 => ⟨S2048x512, .bf16⟩
  | 2 => ⟨S2048x512, .bf16⟩
  | 3 => ⟨S257x8, .f32⟩
  | 4 => ⟨S2048x512, .bf16⟩
  | 5 => ⟨S2048x512, .f32⟩
  | 6 => ⟨S2048x8x64, .f32⟩
  | 7 => ⟨S8x2048x64, .f32⟩
  | 8 => ⟨S2048x512, .f32⟩
  | 9 => ⟨S2048x8x64, .f32⟩
  | 10 => ⟨S8x2048x64, .f32⟩
  | 11 => ⟨S2048x512, .f32⟩
  | 12 => ⟨S2048x8x64, .f32⟩
  | 13 => ⟨S8x2048x64, .f32⟩
  | 14 => ⟨S2048x512, .f32⟩
  | 15 => ⟨S2048x8x64, .f32⟩
  | 16 => ⟨S8x2048x64, .f32⟩
  | 17 => ⟨S64, .i32⟩
  | 18 => ⟨S64x1, .i32⟩
  | 19 => ⟨S_, .i32⟩
  | 20 => ⟨S64x1, .i32⟩
  | 21 => ⟨S64x1, .i32⟩
  | 22 => ⟨S576, .i32⟩
  | 23 => ⟨S1x576, .i32⟩
  | 24 => ⟨S64x576, .i32⟩
  | 25 => ⟨S64x576, .i32⟩
  | 26 => ⟨S64x576, .i32⟩
  | 27 => ⟨S_, .i32⟩
  | 28 => ⟨S_, .i32⟩
  | 29 => ⟨S_, .i32⟩
  | 30 => ⟨S64x576, .i32⟩
  | 31 => ⟨S64x576, .i32⟩
  | 32 => ⟨S_, .i32⟩
  | 33 => ⟨S64x576, .i32⟩
  | 34 => ⟨S64x576, .i32⟩
  | 35 => ⟨S_, .i32⟩
  | 36 => ⟨S64x576, .i32⟩
  | 37 => ⟨S64x576, .i32⟩
  | 38 => ⟨S_, .i32⟩
  | 39 => ⟨S64x576, .i32⟩
  | 40 => ⟨S64x576, .i1⟩
  | 41 => ⟨S_, .i32⟩
  | 42 => ⟨S64x576, .i32⟩
  | 43 => ⟨S64x576, .i32⟩
  | 44 => ⟨S64x576, .i32⟩
  | 45 => ⟨S64x576x1, .i32⟩
  | 46 => ⟨S64x576x8, .f32⟩
  | 47 => ⟨S8x64x576, .f32⟩
  | 48 => ⟨S8x32x64x64, .f32⟩
  | 49 => ⟨S_, .f32⟩
  | 50 => ⟨S8x512x64, .f32⟩
  | 51 => ⟨S8x2560x64, .f32⟩
  | 52 => ⟨S_, .f32⟩
  | 53 => ⟨S8x512x64, .f32⟩
  | 54 => ⟨S8x40x64x64, .f32⟩
  | 55 => ⟨S8x2560x64, .f32⟩
  | 56 => ⟨S_, .f32⟩
  | 57 => ⟨S8x512x64, .f32⟩
  | 58 => ⟨S8x40x64x64, .f32⟩
  | 59 => ⟨S32, .i32⟩
  | 60 => ⟨S32x1, .i32⟩
  | 61 => ⟨S9, .i32⟩
  | 62 => ⟨S1x9, .i32⟩
  | 63 => ⟨S32x9, .i32⟩
  | 64 => ⟨S32x9, .i32⟩
  | 65 => ⟨S32x9, .i32⟩
  | 66 => ⟨S_, .i32⟩
  | 67 => ⟨S32x9, .i32⟩
  | 68 => ⟨S32x9, .i1⟩
  | 69 => ⟨S_, .i32⟩
  | 70 => ⟨S32x9, .i32⟩
  | 71 => ⟨S32x9, .i32⟩
  | 72 => ⟨S32x9, .i32⟩
  | 73 => ⟨S32x9x1, .i32⟩
  | 74 => ⟨S8x32x9x64x64, .f32⟩
  | 75 => ⟨S8x32x576x64, .f32⟩
  | 76 => ⟨S_, .i32⟩
  | 77 => ⟨S32x9, .i32⟩
  | 78 => ⟨S32x9, .i1⟩
  | 79 => ⟨S_, .i32⟩
  | 80 => ⟨S32x9, .i32⟩
  | 81 => ⟨S32x9, .i32⟩
  | 82 => ⟨S32x9, .i32⟩
  | 83 => ⟨S32x9x1, .i32⟩
  | 84 => ⟨S8x32x9x64x64, .f32⟩
  | 85 => ⟨S8x32x576x64, .f32⟩
  | 86 => ⟨S8x32x64x576, .f32⟩
  | 87 => ⟨S_, .f32⟩
  | 88 => ⟨S8x32x64x576, .f32⟩
  | 89 => ⟨S8x32x64x576, .f32⟩
  | 90 => ⟨S8x1x64x576, .f32⟩
  | 91 => ⟨S8x32x64x576, .f32⟩
  | 92 => ⟨S8x32x64x576, .f32⟩
  | 93 => ⟨S32, .i32⟩
  | 94 => ⟨S32x1, .i32⟩
  | 95 => ⟨S_, .i32⟩
  | 96 => ⟨S32x1, .i32⟩
  | 97 => ⟨S32x1, .i32⟩
  | 98 => ⟨S_, .i32⟩
  | 99 => ⟨S32x1, .i32⟩
  | 100 => ⟨S32x1, .i32⟩
  | 101 => ⟨S576, .i32⟩
  | 102 => ⟨S1x576, .i32⟩
  | 103 => ⟨S32x576, .i32⟩
  | 104 => ⟨S32x576, .i32⟩
  | 105 => ⟨S32x576, .i32⟩
  | 106 => ⟨S_, .i32⟩
  | 107 => ⟨S32x576, .i32⟩
  | 108 => ⟨S32x576, .i1⟩
  | 109 => ⟨S1x32x1x576, .i1⟩
  | 110 => ⟨S_, .f32⟩
  | 111 => ⟨S_, .f32⟩
  | 112 => ⟨S8x32x64x576, .i1⟩
  | 113 => ⟨S8x32x64x576, .f32⟩
  | 114 => ⟨S8x32x64x576, .f32⟩
  | 115 => ⟨S_, .f32⟩
  | 116 => ⟨S8x32x64x576, .f32⟩
  | 117 => ⟨S_, .f32⟩
  | 118 => ⟨S8x32x64, .f32⟩
  | 119 => ⟨S8x32x64x1, .f32⟩
  | 120 => ⟨S8x32x64x576, .f32⟩
  | 121 => ⟨S8x32x64x576, .i1⟩
  | 122 => ⟨S8x32x64x576, .f32⟩
  | 123 => ⟨S_, .f32⟩
  | 124 => ⟨S8x32x64, .f32⟩
  | 125 => ⟨S_, .f32⟩
  | 126 => ⟨S8x32x64, .f32⟩
  | 127 => ⟨S8x32x64, .f32⟩
  | _ => ⟨S2048x512, .bf16⟩

abbrev hbmTy0_1 (i : Nat) : BufTy := match i % 128 with
  | 0 => ⟨S_, .f32⟩
  | 1 => ⟨S8x32x64, .f32⟩
  | 2 => ⟨S8x32x64, .i1⟩
  | 3 => ⟨S_, .f32⟩
  | 4 => ⟨S8x32x64, .f32⟩
  | 5 => ⟨S8x32x64, .i1⟩
  | 6 => ⟨S_, .f32⟩
  | 7 => ⟨S8x32x64, .f32⟩
  | 8 => ⟨S_, .f32⟩
  | 9 => ⟨S8x32x64, .f32⟩
  | 10 => ⟨S_, .f32⟩
  | 11 => ⟨S8x32x64, .f32⟩
  | 12 => ⟨S8x32x64, .f32⟩
  | 13 => ⟨S8x32x64, .f32⟩
  | 14 => ⟨S8x32x64x1, .f32⟩
  | 15 => ⟨S8x32x64x576, .f32⟩
  | 16 => ⟨S8x32x64x576, .f32⟩
  | 17 => ⟨S8x32x64x576, .f32⟩
  | 18 => ⟨S_, .f32⟩
  | 19 => ⟨S8x32x64, .f32⟩
  | 20 => ⟨S8x32x64x1, .f32⟩
  | 21 => ⟨S8x32x64x576, .f32⟩
  | 22 => ⟨S8x32x64x576, .f32⟩
  | 23 => ⟨S8x32x64x1, .f32⟩
  | 24 => ⟨S_, .f32⟩
  | 25 => ⟨S8x32x64x1, .f32⟩
  | 26 => ⟨S8x32x64x1, .f32⟩
  | 27 => ⟨S8x32x64x64, .f32⟩
  | 28 => ⟨S8x2048x64, .f32⟩
  | 29 => ⟨S8x32x64x64, .f32⟩
  | 30 => ⟨S8x32x64x576, .f32⟩
  | 31 => ⟨S8x32x576x64, .f32⟩
  | 32 => ⟨S8x32x64x576, .f32⟩
  | 33 => ⟨S8x32x64x576, .f32⟩
  | 34 => ⟨S8x32x64x576, .f32⟩
  | 35 => ⟨S8x32x64x576, .f32⟩
  | 36 => ⟨S_, .f32⟩
  | 37 => ⟨S8x32x64, .f32⟩
  | 38 => ⟨S8x32x64x1, .f32⟩
  | 39 => ⟨S8x32x64x1, .f32⟩
  | 40 => ⟨S8x32x64x576, .f32⟩
  | 41 => ⟨S8x32x64x576, .f32⟩
  | 42 => ⟨S_, .f32⟩
  | 43 => ⟨S8x32x64, .f32⟩
  | 44 => ⟨S8x32x64x576, .f32⟩
  | 45 => ⟨S8x32x64x576, .f32⟩
  | 46 => ⟨S8x32x64x576, .f32⟩
  | 47 => ⟨S_, .f32⟩
  | 48 => ⟨S8x32x64x576, .f32⟩
  | 49 => ⟨S8x32x64x576, .f32⟩
  | 50 => ⟨S_, .f32⟩
  | 51 => ⟨S8x64x576, .f32⟩
  | 52 => ⟨S8x1x64x576, .f32⟩
  | 53 => ⟨S_, .f32⟩
  | 54 => ⟨S8x64x576, .f32⟩
  | 55 => ⟨S_, .f32⟩
  | 56 => ⟨S8x32x64x576, .f32⟩
  | 57 => ⟨S8x32x64x576, .f32⟩
  | 58 => ⟨S8x32x576x64, .f32⟩
  | 59 => ⟨S8x32x64x64, .f32⟩
  | 60 => ⟨S8x32x9x64x64, .f32⟩
  | 61 => ⟨S_, .f32⟩
  | 62 => ⟨S8x40x64x64, .f32⟩
  | 63 => ⟨S8x40x64x64, .f32⟩
  | 64 => ⟨S8x32x9x64x64, .f32⟩
  | 65 => ⟨S_, .f32⟩
  | 66 => ⟨S8x40x64x64, .f32⟩
  | 67 => ⟨S8x40x64x64, .f32⟩
  | 68 => ⟨S8x2560x64, .f32⟩
  | 69 => ⟨S8x512x64, .f32⟩
  | 70 => ⟨S8x2048x64, .f32⟩
  | 71 => ⟨S8x2560x64, .f32⟩
  | 72 => ⟨S8x512x64, .f32⟩
  | 73 => ⟨S8x2048x64, .f32⟩
  | 74 => ⟨S8x2048x64, .f32⟩
  | 75 => ⟨S8x2048x64, .bf16⟩
  | 76 => ⟨S8x2048x64, .bf16⟩
  | 77 => ⟨S8x2048x64, .bf16⟩
  | 78 => ⟨S_, .i32⟩
  | 79 => ⟨S_, .f32⟩
  | 80 => ⟨S8x64x640, .f32⟩
  | _ => ⟨S2048x512, .bf16⟩

abbrev hbmTy (i : Nat) : BufTy := match i / 128 with
  | 0 => hbmTy0_0 i
  | 1 => hbmTy0_1 i
  | _ => ⟨S2048x512, .bf16⟩

abbrev bufTy : (tb : Table) → Fin (tcTables nBuf tb) → BufTy
  | .hbm, ⟨i, _⟩ => hbmTy i
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_0 : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_9 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_12 : Ref sig .tc := ⟨.hbm, 95, rfl⟩
abbrev main_v71 : Ref sig .tc := ⟨.hbm, 96, rfl⟩
abbrev main_v72 : Ref sig .tc := ⟨.hbm, 97, rfl⟩
abbrev main_c_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_14 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_call1_v0 : Ref sig .tc := ⟨.hbm, 111, rfl⟩
abbrev main_v83_1 : Ref sig .tc := ⟨.hbm, 112, rfl⟩
abbrev main_call1_v2 : Ref sig .tc := ⟨.hbm, 113, rfl⟩
abbrev main_v83_0 : Ref sig .tc := ⟨.hbm, 114, rfl⟩
abbrev main_call1_cst : Ref sig .tc := ⟨.hbm, 115, rfl⟩
abbrev main_v83_2 : Ref sig .tc := ⟨.hbm, 116, rfl⟩
abbrev main_cst_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_cst_18 : Ref sig .tc := ⟨.hbm, 125, rfl⟩
abbrev main_v90 : Ref sig .tc := ⟨.hbm, 126, rfl⟩
abbrev main_v91 : Ref sig .tc := ⟨.hbm, 127, rfl⟩
abbrev main_cst_19 : Ref sig .tc := ⟨.hbm, 128, rfl⟩
abbrev main_v92 : Ref sig .tc := ⟨.hbm, 129, rfl⟩
abbrev main_v93 : Ref sig .tc := ⟨.hbm, 130, rfl⟩
abbrev main_cst_20 : Ref sig .tc := ⟨.hbm, 131, rfl⟩
abbrev main_v94 : Ref sig .tc := ⟨.hbm, 132, rfl⟩
abbrev main_v95 : Ref sig .tc := ⟨.hbm, 133, rfl⟩
abbrev main_cst_21 : Ref sig .tc := ⟨.hbm, 134, rfl⟩
abbrev main_v96 : Ref sig .tc := ⟨.hbm, 135, rfl⟩
abbrev main_cst_22 : Ref sig .tc := ⟨.hbm, 136, rfl⟩
abbrev main_v97 : Ref sig .tc := ⟨.hbm, 137, rfl⟩
abbrev main_cst_23 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_24 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_25 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_26 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_27 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_call2_cst : Ref sig .tc := ⟨.hbm, 175, rfl⟩
abbrev main_call2_v0 : Ref sig .tc := ⟨.hbm, 176, rfl⟩
abbrev main_v130 : Ref sig .tc := ⟨.hbm, 177, rfl⟩
abbrev main_cst_28 : Ref sig .tc := ⟨.hbm, 178, rfl⟩
abbrev main_v131 : Ref sig .tc := ⟨.hbm, 179, rfl⟩
abbrev main_v132 : Ref sig .tc := ⟨.hbm, 180, rfl⟩
abbrev main_cst_29 : Ref sig .tc := ⟨.hbm, 181, rfl⟩
abbrev main_v133 : Ref sig .tc := ⟨.hbm, 182, rfl⟩
abbrev main_cst_30 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_31 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_32 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_c_33 : Ref sig .tc := ⟨.hbm, 206, rfl⟩
abbrev main_call3_v0 : Ref sig .tc := ⟨.hbm, 207, rfl⟩
abbrev main_v154 : Ref sig .tc := ⟨.hbm, 208, rfl⟩

abbrev nD : Nat := 1
abbrev τ : Topo := Topo.v7x

variable {F : FTy → Type} [FloatOps F]
-- ==== Kernel2.lean ====
abbrev S2048x1024 : Shape := ⟨2, ![2048, 1024]⟩
abbrev S2048x5632 : Shape := ⟨2, ![2048, 5632]⟩
abbrev S2x4x512x1408 : Shape := ⟨4, ![2, 4, 512, 1408]⟩
abbrev S2048x512 : Shape := ⟨2, ![2048, 512]⟩
abbrev S2048x1408 : Shape := ⟨2, ![2048, 1408]⟩
abbrev S1x1x512x1408 : Shape := ⟨4, ![1, 1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S2x4x512x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x512x1408, .bf16⟩
  | .local _ .vmem, ⟨5, _⟩ => ⟨S1x1x512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, arg1.toNat, v26.toNat, c0_i32_11.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S2x512x4x1408 : Shape := ⟨4, ![2, 512, 4, 1408]⟩
abbrev S2x4x512x1408 : Shape := ⟨4, ![2, 4, 512, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S2048x1024, .f32⟩
  | .hbm, ⟨3, _⟩ => ⟨S2048x5632, .f32⟩
  | .hbm, ⟨4, _⟩ => ⟨S_, .f32⟩
  | .hbm, ⟨5, _⟩ => ⟨S1024x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S2x512x4x1408, .f32⟩
  | .hbm, ⟨10, _⟩ => ⟨S2x4x512x1408, .f32⟩
  | .hbm, ⟨11, _⟩ => ⟨S2x4x512x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S2048x2816 : Shape := ⟨2, ![2048, 2816]⟩
abbrev S2048x1024 : Shape := ⟨2, ![2048, 1024]⟩
abbrev S2x2816x512 : Shape := ⟨3, ![2, 2816, 512]⟩
abbrev S2048x1408 : Shape := ⟨2, ![2048, 1408]⟩
abbrev S2048x512 : Shape := ⟨2, ![2048, 512]⟩
abbrev S1x1408x512 : Shape := ⟨3, ![1, 1408, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2x2816x512, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1x1408x512, .bf16⟩
  | .local _ .vmem, ⟨5, _⟩ => ⟨S1x1408x512, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S2816x2x512 : Shape := ⟨3, ![2816, 2, 512]⟩
abbrev S2x2816x512 : Shape := ⟨3, ![2, 2816, 512]⟩

abbrev nBuf : Space → Nat
  | .hbm => 17
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2048x2816, .f32⟩
  | .hbm, ⟨3, _⟩ => ⟨S_, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S1024x2816, .f32⟩
  | .hbm, ⟨13, _⟩ => ⟨S2816x1024, .f32⟩
  | .hbm, ⟨14, _⟩ => ⟨S2816x2x512, .f32⟩
  | .hbm, ⟨15, _⟩ => ⟨S2x2816x512, .f32⟩
  | .hbm, ⟨16, _⟩ => ⟨S2x2816x512, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S2048x1024 : Shape := ⟨2, ![2048, 1024]⟩
abbrev S4x704x1024 : Shape := ⟨3, ![4, 704, 1024]⟩
abbrev S2048x2816 : Shape := ⟨2, ![2048, 2816]⟩
abbrev S1024x1024 : Shape := ⟨2, ![1024, 1024]⟩
abbrev S2x704x1024 : Shape := ⟨3, ![2, 704, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .bf16⟩
  | .hbm, ⟨2, _⟩ => ⟨S2048x2816, .bf16⟩
  | .local _ .vmem, ⟨0, _⟩ => ⟨S1024x1024, .f32⟩
  | .local _ .vmem, ⟨1, _⟩ => ⟨S1024x1024, .f32⟩
  | .local _ .vmem, ⟨2, _⟩ => ⟨S2x704x1024, .bf16⟩
  | .local _ .vmem, ⟨3, _⟩ => ⟨S2x704x1024, .bf16⟩
  | .local _ .vmem, ⟨4, _⟩ => ⟨S1024x1408, .bf16⟩
  | .local _ .vmem, ⟨5, _⟩ => ⟨S1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S4x704x1024 : Shape := ⟨3, ![4, 704, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .bf16⟩
  | .hbm, ⟨2, _⟩ => ⟨S4x704x1024, .f32⟩
  | .hbm, ⟨3, _⟩ => ⟨S2816x1024, .f32⟩
  | .hbm, ⟨4, _⟩ => ⟨S_, .f32⟩
  | .hbm, ⟨5, _⟩ => ⟨S2048x2816, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x2816, .f32⟩
  | .hbm, ⟨14, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S2048x1024 : Shape := ⟨2, ![2048, 1024]⟩
abbrev S1x1024 : Shape := ⟨2, ![1, 1024]⟩
abbrev S4x1024x1408 : Shape := ⟨3, ![4, 1024, 1408]⟩
abbrev S2048x5632 : Shape := ⟨2, ![2048, 5632]⟩
abbrev S1024x1408 : Shape := ⟨2, ![1024, 1408]⟩
abbrev S1x1024x1408 : Shape := ⟨3, ![1, 1024, 1408]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x1408, .bf16⟩
  | .hbm, ⟨3, _⟩ => ⟨S2048x5632, .bf16⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_22 : BitVec 32 := 0#32
  let v43 : BitVec 1 := Scalar.cmpi .eq arg0 c0_i32_22
  let v44 : BitVec 32 := Scalar.extui v43
  let c0_i32_23 : BitVec 32 := 0#32
  let v45 : BitVec 1 := Scalar.cmpi .ne v44 c0_i32_23
  v45

def k0_cond5 (i : grid0.Coords) : BitVec 1 :=
  let arg0 : BitVec 32 := BitVec.ofNat 32 (i 0).val
  let c0_i32_22 : BitVec 32 := 0#32
  let v43 : BitVec 1 := Scalar.cmpi .eq arg0 c0_i32_22
  let v_true : BitVec 1 := 1#1
  let v46 : BitVec 1 := Scalar.xori v43 v_true
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference5Ideal.lean ====
abbrev S2048x1024 : Shape := ⟨2, ![2048, 1024]⟩
abbrev S1x1024 : Shape := ⟨2, ![1, 1024]⟩
abbrev S4x1024x1408 : Shape := ⟨3, ![4, 1024, 1408]⟩
abbrev S2048x5632 : Shape := ⟨2, ![2048, 5632]⟩
abbrev S1024x4x1408 : Shape := ⟨3, ![1024, 4, 1408]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x1408, .bf16⟩
  | .hbm, ⟨3, _⟩ => ⟨S2048x5632, .bf16⟩
  | .hbm, ⟨4, _⟩ => ⟨S2048x1024, .f32⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x5632, .f32⟩
  | .hbm, ⟨28, _⟩ => ⟨S2048x5632, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S1024x6272 : Shape := ⟨2, ![1024, 6272]⟩
abbrev S2048x6272 : Shape := ⟨2, ![2048, 6272]⟩
abbrev S1024x896 : Shape := ⟨2, ![1024, 896]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x6272, .bf16⟩
  | .hbm, ⟨3, _⟩ => ⟨S2048x6272, .bf16⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![2, 1, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_21 : BitVec 32 := 0#32
  let v42 : BitVec 1 := Scalar.cmpi .eq arg0 c0_i32_21
  let v43 : BitVec 32 := Scalar.extui v42
  let c0_i32_22 : BitVec 32 := 0#32
  let v44 : BitVec 1 := Scalar.cmpi .ne v43 c0_i32_22
  v44

def k0_cond5 (i : grid0.Coords) : BitVec 1 :=
  let arg0 : BitVec 32 := BitVec.ofNat 32 (i 0).val
  let c0_i32_21 : BitVec 32 := 0#32
  let v42 : BitVec 1 := Scalar.cmpi .eq arg0 c0_i32_21
  let v_true : BitVec 1 := 1#1
  let v45 : BitVec 1 := Scalar.xori v42 v_true
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference6Ideal.lean ====
abbrev S2048x1024 : Shape := ⟨2, ![2048, 1024]⟩
abbrev S1x1024 : Shape := ⟨2, ![1, 1024]⟩
abbrev S1024x6272 : Shape := ⟨2, ![1024, 6272]⟩
abbrev S2048x6272 : Shape := ⟨2, ![2048, 6272]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x6272, .bf16⟩
  | .hbm, ⟨3, _⟩ => ⟨S2048x6272, .bf16⟩
  | .hbm, ⟨4, _⟩ => ⟨S2048x1024, .f32⟩
  | .hbm, ⟨5, _⟩ => ⟨S1024x6272, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x6272, .f32⟩
  | .hbm, ⟨26, _⟩ => ⟨S2048x6272, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel7.lean ====
abbrev S2048x1024 : Shape := ⟨2, ![2048, 1024]⟩
abbrev S2048x6272 : Shape := ⟨2, ![2048, 6272]⟩
abbrev S1024x6272 : Shape := ⟨2, ![1024, 6272]⟩
abbrev S2048x512 : Shape := ⟨2, ![2048, 512]⟩
abbrev S2048x896 : Shape := ⟨2, ![2048, 896]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x6272, .bf16⟩
  | .hbm, ⟨2, _⟩ => ⟨S1024x6272, .bf16⟩
  | .local _ .vmem, ⟨0, _⟩ => ⟨S2048x512, .bf16⟩
  | .local _ .vmem, ⟨1, _⟩ => ⟨S2048x512, .bf16⟩
  | .local _ .vmem, ⟨2, _⟩ => ⟨S2048x896, .bf16⟩
  | .local _ .vmem, ⟨3, _⟩ => ⟨S2048x896, .bf16⟩
  | .local _ .vmem, ⟨4, _⟩ => ⟨S512x896, .bf16⟩
  | .local _ .vmem, ⟨5, _⟩ => ⟨S512x896, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S2048x6272 : Shape := ⟨2, ![2048, 6272]⟩
abbrev S_ : Shape := ⟨0, ![]⟩
abbrev S1024x6272 : Shape := ⟨2, ![1024, 6272]⟩
abbrev S6272x1024 : Shape := ⟨2, ![6272, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x6272, .bf16⟩
  | .hbm, ⟨2, _⟩ => ⟨S2048x1024, .f32⟩
  | .hbm, ⟨3, _⟩ => ⟨S2048x6272, .f32⟩
  | .hbm, ⟨4, _⟩ => ⟨S_, .f32⟩
  | .hbm, ⟨5, _⟩ => ⟨S1024x6272, .f32⟩
  | .hbm, ⟨6, _⟩ => ⟨S2048x6272, .f32⟩
  | .hbm, ⟨7, _⟩ => ⟨S6272x1024, .f32⟩
  | .hbm, ⟨8, _⟩ => ⟨S1024x6272, .f32⟩
  | .hbm, ⟨9, _⟩ => ⟨S1024x6272, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x1024 : Shape := ⟨2, ![2048, 1024]⟩
abbrev S4x256x1024 : Shape := ⟨3, ![4, 256, 1024]⟩
abbrev S1024x1024 : Shape := ⟨2, ![1024, 1024]⟩
abbrev S2x256x1024 : Shape := ⟨3, ![2, 256, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x256x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S2x256x1024, .bf16⟩
  | .local _ .vmem, ⟨3, _⟩ => ⟨S2x256x1024, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S4x256x1024 : Shape := ⟨3, ![4, 256, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x256x1024, .bf16⟩
  | .hbm, ⟨2, _⟩ => ⟨S4x256x1024, .f32⟩
  | .hbm, ⟨3, _⟩ => ⟨S1024x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x1024 : Shape := ⟨2, ![2048, 1024]⟩
abbrev S2x1024x512 : Shape := ⟨3, ![2, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2x1024x512, .bf16⟩
  | .local _ .vmem, ⟨0, _⟩ => ⟨S2048x1024, .bf16⟩
  | .local _ .vmem, ⟨1, _⟩ => ⟨S2048x512, .f32⟩
  | .local _ .vmem, ⟨2, _⟩ => ⟨S2048x512, .f32⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S_ : Shape := ⟨0, ![]⟩
abbrev S1024x1024 : Shape := ⟨2, ![1024, 1024]⟩
abbrev S1024x2x512 : Shape := ⟨3, ![1024, 2, 512]⟩
abbrev S2x1024x512 : Shape := ⟨3, ![2, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x2x512, .f32⟩
  | .hbm, ⟨9, _⟩ => ⟨S2x1024x512, .f32⟩
  | .hbm, ⟨10, _⟩ => ⟨S2x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S2048x2816 : Shape := ⟨2, ![2048, 2816]⟩
abbrev S4x704x1024 : Shape := ⟨3, ![4, 704, 1024]⟩
abbrev S2048x1024 : Shape := ⟨2, ![2048, 1024]⟩
abbrev S1024x2816 : Shape := ⟨2, ![1024, 2816]⟩
abbrev S4x704x512 : Shape := ⟨3, ![4, 704, 512]⟩
abbrev S1024x512 : Shape := ⟨2, ![1024, 512]⟩
abbrev S2816x512 : Shape := ⟨2, ![2816, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2816, .bf16⟩
  | .hbm, ⟨1, _⟩ => ⟨S4x704x1024, .bf16⟩
  | .hbm, ⟨2, _⟩ => ⟨S2048x1024, .f32⟩
  | .hbm, ⟨3, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S4x704x512, .bf16⟩
  | .local _ .vmem, ⟨3, _⟩ => ⟨S4x704x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x2816 : Shape := ⟨2, ![2048, 2816]⟩
abbrev S4x704x1024 : Shape := ⟨3, ![4, 704, 1024]⟩
abbrev S2048x1024 : Shape := ⟨2, ![2048, 1024]⟩
abbrev S2816x1024 : Shape := ⟨2, ![2816, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S4x704x1024, .bf16⟩
  | .hbm, ⟨2, _⟩ => ⟨S2048x1024, .f32⟩
  | .hbm, ⟨3, _⟩ => ⟨S2048x2816, .f32⟩
  | .hbm, ⟨4, _⟩ => ⟨S4x704x1024, .f32⟩
  | .hbm, ⟨5, _⟩ => ⟨S2816x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel11.lean ====
abbrev S2048x1024 : Shape := ⟨2, ![2048, 1024]⟩
abbrev S1024x6272 : Shape := ⟨2, ![1024, 6272]⟩
abbrev S1x6272 : Shape := ⟨2, ![1, 6272]⟩
abbrev S2048x6272 : Shape := ⟨2, ![2048, 6272]⟩
abbrev S1024x1024 : Shape := ⟨2, ![1024, 1024]⟩
abbrev S1024x896 : Shape := ⟨2, ![1024, 896]⟩
abbrev S1x896 : Shape := ⟨2, ![1, 896]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x6272, .bf16⟩
  | .hbm, ⟨2, _⟩ => ⟨S1x6272, .f32⟩
  | .hbm, ⟨3, _⟩ => ⟨S2048x6272, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1x896, .f32⟩
  | .local _ .vmem, ⟨5, _⟩ => ⟨S1x896, .f32⟩
  | .local _ .vmem, ⟨6, _⟩ => ⟨S1024x896, .bf16⟩
  | .local _ .vmem, ⟨7, _⟩ => ⟨S1024x896, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2048x1024 : Shape := ⟨2, ![2048, 1024]⟩
abbrev S1024x6272 : Shape := ⟨2, ![1024, 6272]⟩
abbrev S1x6272 : Shape := ⟨2, ![1, 6272]⟩
abbrev S2048x6272 : Shape := ⟨2, ![2048, 6272]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x6272, .bf16⟩
  | .hbm, ⟨2, _⟩ => ⟨S1x6272, .f32⟩
  | .hbm, ⟨3, _⟩ => ⟨S2048x1024, .f32⟩
  | .hbm, ⟨4, _⟩ => ⟨S1024x6272, .f32⟩
  | .hbm, ⟨5, _⟩ => ⟨S2048x6272, .f32⟩
  | .hbm, ⟨6, _⟩ => ⟨S2048x6272, .f32⟩
  | .hbm, ⟨7, _⟩ => ⟨S2048x6272, .f32⟩
  | .hbm, ⟨8, _⟩ => ⟨S2048x6272, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S2048x1024 : Shape := ⟨2, ![2048, 1024]⟩
abbrev S4x256x1024 : Shape := ⟨3, ![4, 256, 1024]⟩
abbrev S1024x1024 : Shape := ⟨2, ![1024, 1024]⟩
abbrev S4x256x512 : Shape := ⟨3, ![4, 256, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S4x256x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x256x512, .bf16⟩
  | .local _ .vmem, ⟨3, _⟩ => ⟨S4x256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x256x1024, .bf16⟩
  | .hbm, ⟨2, _⟩ => ⟨S2048x1024, .f32⟩
  | .hbm, ⟨3, _⟩ => ⟨S2048x1024, .f32⟩
  | .hbm, ⟨4, _⟩ => ⟨S4x256x1024, .f32⟩
  | .hbm, ⟨5, _⟩ => ⟨S1024x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2048x1024 : Shape := ⟨2, ![2048, 1024]⟩
abbrev S1x1024 : Shape := ⟨2, ![1, 1024]⟩
abbrev S4x1024x1408 : Shape := ⟨3, ![4, 1024, 1408]⟩
abbrev S2048x2816 : Shape := ⟨2, ![2048, 2816]⟩
abbrev S512x1024 : Shape := ⟨2, ![512, 1024]⟩
abbrev S1x1024x1408 : Shape := ⟨3, ![1, 1024, 1408]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩

abbrev nBuf : Space → Nat
  | .hbm => 7
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x1408, .bf16⟩
  | .hbm, ⟨3, _⟩ => ⟨S2048x1024, .bf16⟩
  | .hbm, ⟨4, _⟩ => ⟨S2048x2816, .bf16⟩
  | .hbm, ⟨5, _⟩ => ⟨S2048x2816, .bf16⟩
  | .hbm, ⟨6, _⟩ => ⟨S2048x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S512x1024, .bf16⟩
  | .local _ .vmem, ⟨8, _⟩ => ⟨S512x1024, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S2048x1024 : Shape := ⟨2, ![2048, 1024]⟩
abbrev S1x1024 : Shape := ⟨2, ![1, 1024]⟩
abbrev S4x1024x1408 : Shape := ⟨3, ![4, 1024, 1408]⟩
abbrev S_ : Shape := ⟨0, ![]⟩
abbrev S2048 : Shape := ⟨1, ![2048]⟩
abbrev S2048x1 : Shape := ⟨2, ![2048, 1]⟩
abbrev S1024x4x1408 : Shape := ⟨3, ![1024, 4, 1408]⟩
abbrev S1024x5632 : Shape := ⟨2, ![1024, 5632]⟩
abbrev S2048x5632 : Shape := ⟨2, ![2048, 5632]⟩
abbrev S2048x2816 : Shape := ⟨2, ![2048, 2816]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x1024x1408, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S4x1024x1408, .f32⟩
  | .hbm, ⟨19, _⟩ => ⟨S1024x4x1408, .f32⟩
  | .hbm, ⟨20, _⟩ => ⟨S1024x5632, .f32⟩
  | .hbm, ⟨21, _⟩ => ⟨S2048x5632, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x1024, .bf16⟩
  | .hbm, ⟨35, _⟩ => ⟨S2048x2816, .bf16⟩
  | .hbm, ⟨36, _⟩ => ⟨S2048x2816, .bf16⟩
  | .hbm, ⟨37, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel14.lean ====
abbrev S2048x256 : Shape := ⟨2, ![2048, 256]⟩
abbrev S2048x512 : Shape := ⟨2, ![2048, 512]⟩
abbrev S2048x1024 : Shape := ⟨2, ![2048, 1024]⟩
abbrev S2x4x128x256 : Shape := ⟨4, ![2, 4, 128, 256]⟩
abbrev S2x4x256x256 : Shape := ⟨4, ![2, 4, 256, 256]⟩
abbrev S2x1x128x256 : Shape := ⟨4, ![2, 1, 128, 256]⟩
abbrev S2x1x256x256 : Shape := ⟨4, ![2, 1, 256, 256]⟩
abbrev S256x256 : Shape := ⟨2, ![256, 256]⟩
abbrev S128x256 : Shape := ⟨2, ![128, 256]⟩
abbrev S1x1x128x256 : Shape := ⟨4, ![1, 1, 128, 256]⟩
abbrev S512x256 : Shape := ⟨2, ![512, 256]⟩
abbrev S1x1x256x256 : Shape := ⟨4, ![1, 1, 256, 256]⟩

abbrev nBuf : Space → Nat
  | .hbm => 9
  | .vmem => 15
  | .smem => 0
  | _ => 0

abbrev bufTy : (tb : Table) → Fin (tcTables nBuf tb) → BufTy
  | .hbm, ⟨0, _⟩ => ⟨S2048x256, .bf16⟩
  | .hbm, ⟨1, _⟩ => ⟨S2048x512, .bf16⟩
  | .hbm, ⟨2, _⟩ => ⟨S2048x256, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2x4x128x256, .bf16⟩
  | .hbm, ⟨7, _⟩ => ⟨S2x4x256x256, .bf16⟩
  | .hbm, ⟨8, _⟩ => ⟨S2x4x128x256, .bf16⟩
  | .local _ .vmem, ⟨0, _⟩ => ⟨S2048x256, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2x1x128x256, .bf16⟩
  | .local _ .vmem, ⟨10, _⟩ => ⟨S2x1x128x256, .bf16⟩
  | .local _ .vmem, ⟨11, _⟩ => ⟨S2x1x256x256, .bf16⟩
  | .local _ .vmem, ⟨12, _⟩ => ⟨S2x1x256x256, .bf16⟩
  | .local _ .vmem, ⟨13, _⟩ => ⟨S2x1x128x256, .bf16⟩
  | .local _ .vmem, ⟨14, _⟩ => ⟨S2x1x128x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S2048x256 : Shape := ⟨2, ![2048, 256]⟩
abbrev S2048x512 : Shape := ⟨2, ![2048, 512]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩
abbrev S2x128x4x256 : Shape := ⟨4, ![2, 128, 4, 256]⟩
abbrev S2x4x128x256 : Shape := ⟨4, ![2, 4, 128, 256]⟩
abbrev S512x1024 : Shape := ⟨2, ![512, 1024]⟩
abbrev S1024x512 : Shape := ⟨2, ![1024, 512]⟩
abbrev S2x256x4x256 : Shape := ⟨4, ![2, 256, 4, 256]⟩
abbrev S2x4x256x256 : Shape := ⟨4, ![2, 4, 256, 256]⟩

abbrev nBuf : Space → Nat
  | .hbm => 36
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x512, .bf16⟩
  | .hbm, ⟨2, _⟩ => ⟨S2048x256, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x256, .f32⟩
  | .hbm, ⟨7, _⟩ => ⟨S2048x1024, .f32⟩
  | .hbm, ⟨8, _⟩ => ⟨S_, .f32⟩
  | .hbm, ⟨9, _⟩ => ⟨S256x1024, .f32⟩
  | .hbm, ⟨10, _⟩ => ⟨S2048x1024, .f32⟩
  | .hbm, ⟨11, _⟩ => ⟨S1024x256, .f32⟩
  | .hbm, ⟨12, _⟩ => ⟨S256x1024, .f32⟩
  | .hbm, ⟨13, _⟩ => ⟨S2x128x4x256, .f32⟩
  | .hbm, ⟨14, _⟩ => ⟨S2x4x128x256, .f32⟩
  | .hbm, ⟨15, _⟩ => ⟨S2x4x128x256, .bf16⟩
  | .hbm, ⟨16, _⟩ => ⟨S2048x512, .f32⟩
  | .hbm, ⟨17, _⟩ => ⟨S2048x1024, .f32⟩
  | .hbm, ⟨18, _⟩ => ⟨S_, .f32⟩
  | .hbm, ⟨19, _⟩ => ⟨S512x1024, .f32⟩
  | .hbm, ⟨20, _⟩ => ⟨S2048x1024, .f32⟩
  | .hbm, ⟨21, _⟩ => ⟨S1024x512, .f32⟩
  | .hbm, ⟨22, _⟩ => ⟨S512x1024, .f32⟩
  | .hbm, ⟨23, _⟩ => ⟨S2x256x4x256, .f32⟩
  | .hbm, ⟨24, _⟩ => ⟨S2x4x256x256, .f32⟩
  | .hbm, ⟨25, _⟩ => ⟨S2x4x256x256, .bf16⟩
  | .hbm, ⟨26, _⟩ => ⟨S2048x256, .f32⟩
  | .hbm, ⟨27, _⟩ => ⟨S2048x1024, .f32⟩
  | .hbm, ⟨28, _⟩ => ⟨S_, .f32⟩
  | .hbm, ⟨29, _⟩ => ⟨S256x1024, .f32⟩
  | .hbm, ⟨30, _⟩ => ⟨S2048x1024, .f32⟩
  | .hbm, ⟨31, _⟩ => ⟨S1024x256, .f32⟩
  | .hbm, ⟨32, _⟩ => ⟨S256x1024, .f32⟩
  | .hbm, ⟨33, _⟩ => ⟨S2x128x4x256, .f32⟩
  | .hbm, ⟨34, _⟩ => ⟨S2x4x128x256, .f32⟩
  | .hbm, ⟨35, _⟩ => ⟨S2x4x128x256, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel15.lean ====
abbrev S2048x6272 : Shape := ⟨2, ![2048, 6272]⟩
abbrev S2048x256 : Shape := ⟨2, ![2048, 256]⟩
abbrev S2048x512 : Shape := ⟨2, ![2048, 512]⟩
abbrev S4x256x256 : Shape := ⟨3, ![4, 256, 256]⟩
abbrev S4x512x256 : Shape := ⟨3, ![4, 512, 256]⟩
abbrev S2048x1024 : Shape := ⟨2, ![2048, 1024]⟩
abbrev S1024x256 : Shape := ⟨2, ![1024, 256]⟩
abbrev S1024x512 : Shape := ⟨2, ![1024, 512]⟩
abbrev S1x256x256 : Shape := ⟨3, ![1, 256, 256]⟩
abbrev S1x512x256 : Shape := ⟨3, ![1, 512, 256]⟩
abbrev S256x256 : Shape := ⟨2, ![256, 256]⟩
abbrev S512x256 : Shape := ⟨2, ![512, 256]⟩

abbrev nBuf : Space → Nat
  | .hbm => 11
  | .vmem => 26
  | .smem => 0
  | _ => 0

abbrev bufTy : (tb : Table) → Fin (tcTables nBuf tb) → BufTy
  | .hbm, ⟨0, _⟩ => ⟨S2048x6272, .bf16⟩
  | .hbm, ⟨1, _⟩ => ⟨S2048x256, .bf16⟩
  | .hbm, ⟨2, _⟩ => ⟨S2048x512, .bf16⟩
  | .hbm, ⟨3, _⟩ => ⟨S2048x256, .bf16⟩
  | .hbm, ⟨4, _⟩ => ⟨S4x256x256, .bf16⟩
  | .hbm, ⟨5, _⟩ => ⟨S4x512x256, .bf16⟩
  | .hbm, ⟨6, _⟩ => ⟨S4x256x256, .bf16⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x512, .bf16⟩
  | .local _ .vmem, ⟨9, _⟩ => ⟨S1024x512, .bf16⟩
  | .local _ .vmem, ⟨10, _⟩ => ⟨S1024x256, .bf16⟩
  | .local _ .vmem, ⟨11, _⟩ => ⟨S1024x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x256x256, .bf16⟩
  | .local _ .vmem, ⟨17, _⟩ => ⟨S1x256x256, .bf16⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .bf16⟩
  | .local _ .vmem, ⟨25, _⟩ => ⟨S1024x256, .bf16⟩
  | _, _ => ⟨S2048x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference15Ideal.lean ====
abbrev S2048x6272 : Shape := ⟨2, ![2048, 6272]⟩
abbrev S2048x256 : Shape := ⟨2, ![2048, 256]⟩
abbrev S2048x512 : Shape := ⟨2, ![2048, 512]⟩
abbrev S4x256x256 : Shape := ⟨3, ![4, 256, 256]⟩
abbrev S4x512x256 : Shape := ⟨3, ![4, 512, 256]⟩
abbrev S2048x3072 : Shape := ⟨2, ![2048, 3072]⟩
abbrev S2048x1024 : Shape := ⟨2, ![2048, 1024]⟩
abbrev S2048x128 : Shape := ⟨2, ![2048, 128]⟩
abbrev S256x4x256 : Shape := ⟨3, ![256, 4, 256]⟩
abbrev S256x1024 : Shape := ⟨2, ![256, 1024]⟩
abbrev S512x4x256 : Shape := ⟨3, ![512, 4, 256]⟩
abbrev S512x1024 : Shape := ⟨2, ![512, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S2048x6272, .bf16⟩
  | .hbm, ⟨1, _⟩ => ⟨S2048x256, .bf16⟩
  | .hbm, ⟨2, _⟩ => ⟨S2048x512, .bf16⟩
  | .hbm, ⟨3, _⟩ => ⟨S2048x256, .bf16⟩
  | .hbm, ⟨4, _⟩ => ⟨S4x256x256, .bf16⟩
  | .hbm, ⟨5, _⟩ => ⟨S4x512x256, .bf16⟩
  | .hbm, ⟨6, _⟩ => ⟨S4x256x256, .bf16⟩
  | .hbm, ⟨7, _⟩ => ⟨S2048x6272, .f32⟩
  | .hbm, ⟨8, _⟩ => ⟨S2048x3072, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x128, .f32⟩
  | .hbm, ⟨13, _⟩ => ⟨S2048x256, .f32⟩
  | .hbm, ⟨14, _⟩ => ⟨S4x256x256, .f32⟩
  | .hbm, ⟨15, _⟩ => ⟨S256x4x256, .f32⟩
  | .hbm, ⟨16, _⟩ => ⟨S256x1024, .f32⟩
  | .hbm, ⟨17, _⟩ => ⟨S2048x1024, .f32⟩
  | .hbm, ⟨18, _⟩ => ⟨S2048x512, .f32⟩
  | .hbm, ⟨19, _⟩ => ⟨S4x512x256, .f32⟩
  | .hbm, ⟨20, _⟩ => ⟨S512x4x256, .f32⟩
  | .hbm, ⟨21, _⟩ => ⟨S512x1024, .f32⟩
  | .hbm, ⟨22, _⟩ => ⟨S2048x1024, .f32⟩
  | .hbm, ⟨23, _⟩ => ⟨S2048x256, .f32⟩
  | .hbm, ⟨24, _⟩ => ⟨S4x256x256, .f32⟩
  | .hbm, ⟨25, _⟩ => ⟨S256x4x256, .f32⟩
  | .hbm, ⟨26, _⟩ => ⟨S256x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .bf16⟩
  | _, _ => ⟨S2048x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel16.lean ====
abbrev S2048x2816 : Shape := ⟨2, ![2048, 2816]⟩
abbrev S2048x5632 : Shape := ⟨2, ![2048, 5632]⟩
abbrev S256x2816 : Shape := ⟨2, ![256, 2816]⟩
abbrev S256x5632 : Shape := ⟨2, ![256, 5632]⟩

abbrev nBuf : Space → Nat
  | .hbm => 4
  | .vmem => 8
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x2816, .bf16⟩
  | .hbm, ⟨3, _⟩ => ⟨S2048x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x5632, .bf16⟩
  | .local _ .vmem, ⟨7, _⟩ => ⟨S256x5632, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S2048x2816 : Shape := ⟨2, ![2048, 2816]⟩
abbrev S_ : Shape := ⟨0, ![]⟩
abbrev S2048x5632 : Shape := ⟨2, ![2048, 5632]⟩

abbrev nBuf : Space → Nat
  | .hbm => 28
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x2816, .bf16⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x5632, .f32⟩
  | .hbm, ⟨27, _⟩ => ⟨S2048x5632, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Kernel17.lean ====
abbrev S2048x6272 : Shape := ⟨2, ![2048, 6272]⟩
abbrev S_ : Shape := ⟨0, ![]⟩
abbrev S8x2048 : Shape := ⟨2, ![8, 2048]⟩
abbrev S8x6272 : Shape := ⟨2, ![8, 6272]⟩
abbrev S2048x896 : Shape := ⟨2, ![2048, 896]⟩
abbrev S8x896 : Shape := ⟨2, ![8, 896]⟩
abbrev S1x6272 : Shape := ⟨2, ![1, 6272]⟩

abbrev nBuf : Space → Nat
  | .hbm => 5
  | .vmem => 5
  | .smem => 0
  | _ => 0

abbrev bufTy : (tb : Table) → Fin (tcTables nBuf tb) → BufTy
  | .hbm, ⟨0, _⟩ => ⟨S2048x6272, .bf16⟩
  | .hbm, ⟨1, _⟩ => ⟨S_, .bf16⟩
  | .hbm, ⟨2, _⟩ => ⟨S8x2048, .bf16⟩
  | .hbm, ⟨3, _⟩ => ⟨S8x6272, .f32⟩
  | .hbm, ⟨4, _⟩ => ⟨S1x6272, .f32⟩
  | .local _ .vmem, ⟨0, _⟩ => ⟨S8x2048, .bf16⟩
  | .local _ .vmem, ⟨1, _⟩ => ⟨S2048x896, .bf16⟩
  | .local _ .vmem, ⟨2, _⟩ => ⟨S2048x896, .bf16⟩
  | .local _ .vmem, ⟨3, _⟩ => ⟨S8x896, .f32⟩
  | .local _ .vmem, ⟨4, _⟩ => ⟨S8x896, .f32⟩
  | _, _ => ⟨S2048x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x6272 : Shape := ⟨2, ![2048, 6272]⟩
abbrev S_ : Shape := ⟨0, ![]⟩
abbrev S1x6272 : Shape := ⟨2, ![1, 6272]⟩
abbrev S6272 : Shape := ⟨1, ![6272]⟩

abbrev nBuf : Space → Nat
  | .hbm => 11
  | .vmem => 0
  | .smem => 0
  | _ => 0

abbrev bufTy : (tb : Table) → Fin (tcTables nBuf tb) → BufTy
  | .hbm, ⟨0, _⟩ => ⟨S2048x6272, .bf16⟩
  | .hbm, ⟨1, _⟩ => ⟨S2048x6272, .f32⟩
  | .hbm, ⟨2, _⟩ => ⟨S_, .f32⟩
  | .hbm, ⟨3, _⟩ => ⟨S1x6272, .f32⟩
  | .hbm, ⟨4, _⟩ => ⟨S_, .f32⟩
  | .hbm, ⟨5, _⟩ => ⟨S2048x6272, .f32⟩
  | .hbm, ⟨6, _⟩ => ⟨S2048x6272, .f32⟩
  | .hbm, ⟨7, _⟩ => ⟨S2048x6272, .f32⟩
  | .hbm, ⟨8, _⟩ => ⟨S_, .f32⟩
  | .hbm, ⟨9, _⟩ => ⟨S6272, .f32⟩
  | .hbm, ⟨10, _⟩ => ⟨S1x6272, .f32⟩
  | _, _ => ⟨S2048x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel18.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Rest.lean ====
/- The frame of the chunk-attention gradient at any floats: its body runs to the end whatever its result blocks
   held, so the program ends with its arguments unchanged and no semaphore raised. What the results hold is not said here. -/
module

public import proofs.«01_k».proof.Proof.Gen.Kernel.Frame.Runs
public import Idealize.ShloMosaic.Lib.Claim

@[expose] public section

set_option maxRecDepth 16384

noncomputable section

namespace Cert.Rest

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple, its results at anything. -/
theorem body_run (c : Dev nD) (i : grid0.Coords) (arg1 : Memref sig .tc .vmem S4x2048x64 .bf16) (harg1 : arg1.IsWhole) (arg2 : Memref sig .tc .vmem S4x2624x64 .bf16) (harg2 : arg2.IsWhole) (arg3 : Memref sig .tc .vmem S4x2624x64 .bf16) (harg3 : arg3.IsWhole) (arg4 : Memref sig .tc .vmem S4x64x640 .f32) (harg4 : arg4.IsWhole) (arg5 : Memref sig .tc .vmem S4x2048x64 .bf16) (harg5 : arg5.IsWhole) (arg6 : Memref sig .tc .vmem S4x2048x64 .bf16) (harg6 : arg6.IsWhole) (arg7 : Memref sig .tc .vmem S4x2048x64 .bf16) (harg7 : arg7.IsWhole) (arg8 : Memref sig .tc .vmem S4x2048x64 .bf16) (harg8 : arg8.IsWhole) (arg9 : Memref sig .tc .vmem S4x64x640 .f32) (harg9 : arg9.IsWhole) (arg10 : Memref sig .tc .vmem S4x2624x64 .f32) (harg10 : arg10.IsWhole) (arg11 : Memref sig .tc .vmem S4x2624x64 .f32) (harg11 : arg11.IsWhole) (x1 : Vec F S4x2048x64 .bf16) (x2 x3 : Vec F S4x2624x64 .bf16) (x4 : Vec F S4x64x640 .f32) (x5 : Vec F S4x2048x64 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_dch (F := F) i arg1 harg1 arg2 harg2 arg3 harg3 arg4 harg4 arg5 harg5 arg6 harg6 arg7 harg7 arg8 harg8 arg9 harg9 arg10 harg10 arg11 harg11) K := by
  simp only [cc0_dch_eq_skeleton]; unfold cc0_dch_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4; obtain rfl := harg5.eq_unread hf5
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

variable (m : (ℓ : Loc nD τ sig) → Buf (Elt F) ℓ) (ρ : Dev nD → PrngReg)

/-- What the pipeline finds; what the results are left at is not tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The result windows, whose contents are not tracked. -/
def results (w : Fin cfg0.W) : Bool := decide (5 ≤ w.val)

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, H5, H6, H7, H8⟩
  iapply (body_run (c := c) (i := grid0.coords t) (x1 := iblk m c 0 t) (x2 := iblk m c 1 t) (x3 := iblk m c 2 t) (x4 := iblk m c 3 t) (x5 := iblk m c 4 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ results := fun t => by
  rw [bigSep_W0, bigSep_W0, defs₀_row]
  exact triple_restated (sound_body m c t) rfl .rfl fun _ => .rfl

set_option backward.isDefEq.respectTransparency.types false in
/-- Every execution ends, with the buffers outside the pipeline as the host code left them and no semaphore raised. -/
theorem run_quiescent : θ_run defs (onTc (τ := τ) (main (F := F))) (s₀ m ρ)
    (fun r => (Pipeline.RDat.FramePost cfg0 (fun c => (dats m 0 c).toRForget results) (V m)) r ∧ r.2.sem = fun _ => 0) :=
  Pipeline.θ_run_frame_forget (Q' := _) cfgs (dats m) (0 : Fin 1) launch0 defs₀ Variants.none results m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments unchanged, every semaphore at rest. -/
theorem frameP : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_quiescent m ρ)

end Cert.Rest

end
-- ==== Proof.Softmax.lean ====
/- The gradient of a softmax over the extended reals: the row maximum, the exponentials, their sum, and
   the two ways of writing the gradient of the scores, which agree when the largest score of the row is finite. -/
module

public import Idealize.ShloMosaic.Lib.IdealHost
public import Idealize.ShloMosaic.Lib.ValueIdx
public import Idealize.ShloMosaic.Init

@[expose] public section

noncomputable section

namespace Cert.Grad

open Idealize.ShloMosaic

/-! ## Sums of extended reals times a real that is not negative -/

/-- A real that is not negative goes into a finite sum, from the left. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- The same from the right. -/
theorem sum_mul_coe {ι : Type} (s : Finset ι) (r : ℝ) (hr : 0 ≤ r) (f : ι → EReal) :
    (∑ i ∈ s, f i) * (r : EReal) = ∑ i ∈ s, f i * (r : EReal) := by
  rw [mul_comm, coe_mul_sum s r hr]
  exact Finset.sum_congr rfl fun i _ => mul_comm _ _

/-- A real that is not negative goes into a difference. -/
theorem coe_mul_sub (r : ℝ) (hr : 0 ≤ r) (x y : EReal) : (r : EReal) * (x - y) = (r : EReal) * x - (r : EReal) * y := by
  rw [sub_eq_add_neg, sub_eq_add_neg, EReal.left_distrib_of_nonneg_of_ne_top (EReal.coe_nonneg.mpr hr) (EReal.coe_ne_top r), mul_neg]

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Division at a positive real -/

/-- Division by a real that is not zero is the product with its inverse. -/
theorem div_coe (x : EReal) (l : ℝ) (hl : l ≠ 0) : Ideal.div x (l : EReal) = x * ((l⁻¹ : ℝ) : EReal) := by
  unfold Ideal.div
  rw [if_neg (by exact_mod_cast hl), EReal.coe_inv]

/-! ## The two gradients -/

section Row
variable {ι : Type} [Fintype ι]

/-- THE SOFTMAX GRADIENT. `e` are the exponentials of the row, `l` their sum, `dp` the gradient of the
    probabilities. The probabilities times (the gradient less its mean under them) are the gradient as it comes
    from a quotient rule written out: the exponential times (the gradient over the sum, less the sum of the
    gradients times the exponentials over the square of the sum). -/
theorem softmax_grad (e : ι → ℝ) (he : ∀ i, 0 ≤ e i) (l : ℝ) (hl : 0 < l) (dp : ι → EReal) (j : ι) :
    Ideal.div (e j : EReal) (l : EReal) * (dp j - ∑ i, Ideal.div (e i : EReal) (l : EReal) * dp i)
      = (Ideal.div (dp j) (l : EReal) + -(∑ i, (dp i * Ideal.div 1 ((l : EReal) * (l : EReal))) * (e i : EReal)))
          * (e j : EReal) := by
  have hl0 : l ≠ 0 := hl.ne'
  have hli : 0 ≤ l⁻¹ := (inv_pos.mpr hl).le
  have hll : ((l : EReal) * (l : EReal)) = ((l * l : ℝ) : EReal) := (EReal.coe_mul l l).symm
  rw [hll, div_coe 1 (l * l) (mul_ne_zero hl0 hl0), div_coe (dp j) l hl0]
  simp only [div_coe _ l hl0, one_mul]
  set S : EReal := ∑ i, (e i : EReal) * ((l⁻¹ : ℝ) : EReal) * dp i with hS
  have hT : (∑ i, (dp i * (((l * l)⁻¹ : ℝ) : EReal)) * (e i : EReal)) = ((l⁻¹ : ℝ) : EReal) * S := by
    rw [hS, coe_mul_sum _ _ hli]
    refine Finset.sum_congr rfl fun i _ => ?_
    rw [show ((l * l)⁻¹ : ℝ) = l⁻¹ * l⁻¹ by rw [mul_inv], EReal.coe_mul]
    ac_rfl
  rw [hT]
  have : dp j * ((l⁻¹ : ℝ) : EReal) + -(((l⁻¹ : ℝ) : EReal) * S) = ((l⁻¹ : ℝ) : EReal) * (dp j - S) := by
    rw [coe_mul_sub _ hli, mul_comm (dp j), sub_eq_add_neg]
  rw [this]
  rw [mul_comm (((l⁻¹ : ℝ) : EReal) * (dp j - S)) (e j : EReal), ← mul_assoc]

end Row

/-! ## A row of scores -/

section Scores
variable {n : ℕ}

/-- The largest score of a row (`⊥` for an empty one). -/
def rowMax (z : Fin n → EReal) : EReal := (Finset.univ : Finset (Fin n)).fold max ⊥ z

/-- The exponential of each score less the largest. -/
def rowExp (z : Fin n → EReal) (j : Fin n) : EReal := Ideal.exp (z j - rowMax z)

/-- The sum of the exponentials. -/
def rowSum (z : Fin n → EReal) : EReal := ∑ j, rowExp z j

/-- The probabilities. -/
def rowProb (z : Fin n → EReal) (j : Fin n) : EReal := Ideal.div (rowExp z j) (rowSum z)

/-- The gradient of the scores from the gradient of the probabilities. -/
def rowGrad (z dp : Fin n → EReal) (j : Fin n) : EReal := rowProb z j * (dp j - ∑ i, rowProb z i * dp i)

theorem rowMax_eq_sup (z : Fin n → EReal) : rowMax z = Finset.univ.sup z := by
  unfold rowMax Finset.sup
  rfl

theorem le_rowMax (z : Fin n → EReal) (j : Fin n) : z j ≤ rowMax z := by
  rw [rowMax_eq_sup]; exact Finset.le_sup (f := z) (Finset.mem_univ j)

/-- If no score is `⊤` and one is not `⊥`, the largest is a real. -/
theorem rowMax_finite (z : Fin n → EReal) (hz : ∀ j, z j ≠ ⊤) (j₀ : Fin n) (h₀ : z j₀ ≠ ⊥) :
    ∃ r : ℝ, rowMax z = (r : EReal) := by
  have hne : (Finset.univ : Finset (Fin n)).Nonempty := ⟨j₀, Finset.mem_univ _⟩
  obtain ⟨i, -, hi⟩ := Finset.exists_mem_eq_sup Finset.univ hne z
  have h1 : rowMax z ≠ ⊤ := by rw [rowMax_eq_sup, hi]; exact hz i
  have h2 : rowMax z ≠ ⊥ := fun h => h₀ (le_bot_iff.mp (h ▸ le_rowMax z j₀))
  exact ⟨(rowMax z).toReal, (EReal.coe_toReal h1 h2).symm⟩

/-- The largest score is one of them. -/
theorem exists_rowMax (z : Fin n → EReal) (j₀ : Fin n) : ∃ j, rowMax z = z j := by
  obtain ⟨i, -, hi⟩ := Finset.exists_mem_eq_sup Finset.univ ⟨j₀, Finset.mem_univ _⟩ z
  exact ⟨i, by rw [rowMax_eq_sup, hi]⟩

/-- The exponential of a score that is not `⊤` less a real is a real that is not negative. -/
theorem exp_sub_coe (x : EReal) (hx : x ≠ ⊤) (r : ℝ) : ∃ e : ℝ, 0 ≤ e ∧ Ideal.exp (x - (r : EReal)) = (e : EReal) := by
  induction x with
  | bot => exact ⟨0, le_refl _, by rw [EReal.bot_sub]; rfl⟩
  | coe a => exact ⟨Real.exp (a - r), (Real.exp_pos _).le, by rw [← EReal.coe_sub]; rfl⟩
  | top => exact absurd rfl hx

/-- A masked score (`⊥`) has exponential zero. -/
theorem rowExp_of_bot (z : Fin n → EReal) (j : Fin n) (h : z j = ⊥) : rowExp z j = 0 := by
  unfold rowExp; rw [h, EReal.bot_sub]; rfl

/-- The exponentials and their sum are reals: the exponentials not negative, the sum positive. -/
theorem row_real (z : Fin n → EReal) (hz : ∀ j, z j ≠ ⊤) (j₀ : Fin n) (h₀ : z j₀ ≠ ⊥) :
    ∃ (e : Fin n → ℝ) (l : ℝ), (∀ j, 0 ≤ e j) ∧ 0 < l ∧ (∀ j, rowExp z j = (e j : EReal)) ∧ rowSum z = (l : EReal) := by
  obtain ⟨r, hr⟩ := rowMax_finite z hz j₀ h₀
  have he : ∀ j, ∃ e : ℝ, 0 ≤ e ∧ rowExp z j = (e : EReal) := fun j => by
    unfold rowExp; rw [hr]; exact exp_sub_coe _ (hz j) r
  choose e he0 he1 using he
  refine ⟨e, ∑ j, e j, he0, ?_, he1, ?_⟩
  · obtain ⟨i, hi⟩ := exists_rowMax z j₀
    refine Finset.sum_pos' (fun j _ => he0 j) ⟨i, Finset.mem_univ _, ?_⟩
    have : (e i : EReal) = 1 := by
      rw [← he1 i]; unfold rowExp; rw [← hi, hr, ← EReal.coe_sub, sub_self]
      show ((Real.exp 0 : ℝ) : EReal) = 1
      rw [Real.exp_zero]; rfl
    have : e i = 1 := by exact_mod_cast this
    rw [this]; exact one_pos
  · unfold rowSum; rw [coe_sum]; exact Finset.sum_congr rfl fun j _ => he1 j

/-- The gradient of the scores as the quotient rule writes it. -/
theorem rowGrad_eq (z dp : Fin n → EReal) (hz : ∀ j, z j ≠ ⊤) (j₀ : Fin n) (h₀ : z j₀ ≠ ⊥) (j : Fin n) :
    rowGrad z dp j
      = (Ideal.div (dp j) (rowSum z) + -(∑ i, (dp i * Ideal.div 1 (rowSum z * rowSum z)) * rowExp z i)) * rowExp z j := by
  obtain ⟨e, l, he0, hl, he, hls⟩ := row_real z hz j₀ h₀
  unfold rowGrad rowProb
  simp only [he, hls]
  exact softmax_grad e he0 l hl dp j

/-- A masked score has probability zero. -/
theorem rowProb_of_bot (z : Fin n → EReal) (hz : ∀ j, z j ≠ ⊤) (j₀ : Fin n) (h₀ : z j₀ ≠ ⊥) (j : Fin n) (h : z j = ⊥) :
    rowProb z j = 0 := by
  obtain ⟨e, l, he0, hl, he, hls⟩ := row_real z hz j₀ h₀
  unfold rowProb
  rw [rowExp_of_bot z j h, hls, div_coe _ _ hl.ne', zero_mul]

/-- A masked score has gradient zero. -/
theorem rowGrad_of_bot (z dp : Fin n → EReal) (hz : ∀ j, z j ≠ ⊤) (j₀ : Fin n) (h₀ : z j₀ ≠ ⊥) (j : Fin n) (h : z j = ⊥) :
    rowGrad z dp j = 0 := by
  unfold rowGrad
  rw [rowProb_of_bot z hz j₀ h₀ j h, zero_mul]

end Scores

/-! ## A row with masked columns before it -/

section Pad
variable {a n : ℕ}

/-- The columns `⊥` put before a row change neither its largest score … -/
theorem rowMax_pad (w : Fin (a + n) → EReal) (z : Fin n → EReal) (hd : ∀ i : Fin a, w (Fin.castAdd n i) = ⊥)
    (hl : ∀ k : Fin n, w (Fin.natAdd a k) = z k) : rowMax w = rowMax z := by
  rw [rowMax_eq_sup, rowMax_eq_sup]
  apply le_antisymm
  · refine Finset.sup_le fun j _ => ?_
    induction j using Fin.addCases with
    | left i => rw [hd]; exact bot_le
    | right k => rw [hl]; exact Finset.le_sup (f := z) (Finset.mem_univ k)
  · refine Finset.sup_le fun k _ => ?_
    rw [← hl k]; exact Finset.le_sup (f := w) (Finset.mem_univ _)

/-- … nor its exponentials … -/
theorem rowExp_pad (w : Fin (a + n) → EReal) (z : Fin n → EReal) (hd : ∀ i : Fin a, w (Fin.castAdd n i) = ⊥)
    (hl : ∀ k : Fin n, w (Fin.natAdd a k) = z k) (k : Fin n) : rowExp w (Fin.natAdd a k) = rowExp z k := by
  unfold rowExp; rw [rowMax_pad w z hd hl, hl]

/-- … nor their sum … -/
theorem rowSum_pad (w : Fin (a + n) → EReal) (z : Fin n → EReal) (hd : ∀ i : Fin a, w (Fin.castAdd n i) = ⊥)
    (hl : ∀ k : Fin n, w (Fin.natAdd a k) = z k) : rowSum w = rowSum z := by
  unfold rowSum
  rw [Fin.sum_univ_add, Finset.sum_eq_zero (fun i _ => rowExp_of_bot w _ (hd i)), zero_add]
  exact Finset.sum_congr rfl fun k _ => rowExp_pad w z hd hl k

/-- … nor its probabilities … -/
theorem rowProb_pad (w : Fin (a + n) → EReal) (z : Fin n → EReal) (hd : ∀ i : Fin a, w (Fin.castAdd n i) = ⊥)
    (hl : ∀ k : Fin n, w (Fin.natAdd a k) = z k) (k : Fin n) : rowProb w (Fin.natAdd a k) = rowProb z k := by
  unfold rowProb; rw [rowSum_pad w z hd hl, rowExp_pad w z hd hl]

/-- … nor the gradient of its scores. -/
theorem rowGrad_pad (w u : Fin (a + n) → EReal) (z dp : Fin n → EReal) (hd : ∀ i : Fin a, w (Fin.castAdd n i) = ⊥)
    (hl : ∀ k : Fin n, w (Fin.natAdd a k) = z k) (hu : ∀ k : Fin n, u (Fin.natAdd a k) = dp k)
    (hz : ∀ k, z k ≠ ⊤) (k₀ : Fin n) (h₀ : z k₀ ≠ ⊥) (k : Fin n) :
    rowGrad w u (Fin.natAdd a k) = rowGrad z dp k := by
  have hw : ∀ j, w j ≠ ⊤ := fun j => by
    induction j using Fin.addCases with
    | left i => rw [hd]; exact bot_ne_top
    | right k => rw [hl]; exact hz k
  unfold rowGrad
  rw [Fin.sum_univ_add, Finset.sum_eq_zero (fun i _ => by
    rw [rowProb_of_bot w hw (Fin.natAdd a k₀) (by rw [hl]; exact h₀) _ (hd i), zero_mul]), zero_add]
  simp only [rowProb_pad w z hd hl, hu]

end Pad

end Cert.Grad

end
-- ==== Proof.Tile.lean ====
/- One head of one chunk of the chunk-attention gradient, over the extended reals: what the kernel's payloads are at an
   index. The payloads of the four heads are the same operations, so those of the first head stand for all of them. -/
module

public import proofs.«01_k».proof.Proof.Softmax
public import proofs.«01_k».proof.Proof.Gen.KernelIdeal.Skeleton
public import Idealize.ShloMosaic.Lib.MatmulPlain
public import Idealize.ShloMosaic.Lib.Pipeline.Value
public import Idealize.ShloMosaic.PureOps.IdealRules

@[expose] public section

set_option maxRecDepth 16384

noncomputable section

namespace Cert.Grad

open Cert.KernelIdeal Cert.KernelIdeal.Gen Idealize.ShloMosaic Idealize.ShloMosaic.ValueIdx

/-! ## Shapes -/

/-- A leading axis of extent one is dropped. -/
theorem dropLead {α : Type} {a b : ℕ} (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 0 i j) :=
  shapeCast_apply x h _ _ (by
    rw [Shape.rowMajor_val_two, Shape.rowMajor_val_three]
    show ((0 : ℕ) * a + i.val) * b + j.val = i.val * b + j.val
    rw [Nat.zero_mul, Nat.zero_add])

/-- A leading axis of extent one is added. -/
theorem addLead {α : Type} {a b : ℕ} (x : (⟨2, ![a, b]⟩ : Shape).Idx → α)
    (h : (⟨2, ![a, b]⟩ : Shape).ShapeCasts ⟨3, ![1, a, b]⟩) (u : Fin 1) (i : Fin a) (j : Fin b) :
    shapeCast ⟨3, ![1, a, b]⟩ x h (ix3 u i j) = x (ix2 i j) :=
  shapeCast_apply x h _ _ (by
    rw [Shape.rowMajor_val_two, Shape.rowMajor_val_three]
    show i.val * b + j.val = (u.val * a + i.val) * b + j.val
    obtain rfl : u = 0 := Subsingleton.elim _ _
    show _ = ((0 : ℕ) * a + i.val) * b + j.val
    rw [Nat.zero_mul, Nat.zero_add])

/-- A column of row values spread over the row. -/
theorem spreadRow {α : Type} (x : S64.Idx → α) (q : Fin 64) (j : Fin 640) :
    broadcastTo S64x640 (shapeCast S64x1 x shapeCasts_S64_S64x1) broadcasts_S64x1_S64x640 (ix2 q j) = x (ix1 q) := by
  refine (broadcastTo_apply _ _ (ix2 q j) (ix2 q 0) (fun a => ?_)).trans ?_
  · match a with
    | ⟨0, _⟩ => rfl
    | ⟨1, _⟩ => rfl
  refine shapeCast_apply x _ _ _ ?_
  rw [Shape.rowMajor_val_one, Shape.rowMajor_val_two]
  show q.val = q.val * 1 + 0
  omega

/-- The rows of a matrix, as the reduction over its columns takes them. -/
theorem lift_row (q : Fin 64) (k : Fin 640) : reduces_S64x640_S64.lift (ix1 q) k = ix2 q k := by
  funext a
  match a with
  | ⟨0, _⟩ => rfl
  | ⟨1, _⟩ => rfl

/-- The sum over a row. -/
theorem sumRow (x : FVec Ideal S64x640 .f32) (q : Fin 64) :
    multiReduction .add [1] S64 x 0x00000000#32 reduces_S64x640_S64 (.inl rfl) rfl (ix1 q) = ∑ j : Fin 640, x (ix2 q j) := by
  refine (Ideal.multiReduction_add_single ..).trans ?_
  exact Finset.sum_congr rfl fun k _ => congrArg x (lift_row q k)

/-- The largest of a row. -/
theorem maxRow (x : FVec Ideal S64x640 .f32) (q : Fin 64) :
    multiReduction .maximumf [1] S64 x 0xFF800000#32 reduces_S64x640_S64 (.inl rfl) rfl (ix1 q)
      = rowMax fun j => x (ix2 q j) := by
  refine (Ideal.multiReduction_maximumf_single ..).trans ?_
  unfold rowMax
  have h0 : FloatOps.ofBits (F := Ideal) .f32 0xFF800000#32 = (⊥ : EReal) := by
    show Ideal.ofBits .f32 0xFF800000#32 = ⊥
    simp [Ideal.ofBits, Ideal.ieee]
  rw [h0]
  exact congrArg (Finset.fold max ⊥ · Finset.univ) (funext fun k => congrArg x (lift_row q k))

/-- A product contracting the first coordinates of both operands. -/
theorem matmul_firsts (a : FVec Ideal S64x640 .bf16) (b : FVec Ideal S64x64 .bf16) (j : Fin 640) (d : Fin 64) :
    matmul dot_S64x640_S64x64_S640x64_0_0_1_1_n_n none a b (constant S640x64 .f32 0x00000000#32) (ix2 j d)
      = ∑ q : Fin 64, a (ix2 q j) * b (ix2 q d) := by
  refine (Ideal.matmul_constant_zero_apply dot_S64x640_S64x64_S640x64_0_0_1_1_n_n none a b (ix2 j d)).trans ?_
  let D := dot_S64x640_S64x64_S640x64_0_0_1_1_n_n
  have hr : D.contr.rank = 1 := rfl
  have hs : D.contr.size ⟨0, by rw [hr]; exact Nat.one_pos⟩ = 64 := rfl
  rw [← Equiv.sum_comp (contrEquiv1 D 64 hr hs).symm]
  refine Finset.sum_congr rfl fun k _ => ?_
  have hk := contrEquiv1_symm_val D 64 hr hs k
  refine congrArg₂ (· * ·) (congrArg a (funext fun x => Fin.ext ?_)) (congrArg b (funext fun x => Fin.ext ?_))
  · match x with
    | ⟨0, _⟩ => exact hk
    | ⟨1, _⟩ => rfl
  · match x with
    | ⟨0, _⟩ => exact hk
    | ⟨1, _⟩ => rfl

/-- A product contracting the last coordinates of both operands. -/
theorem matmul_lasts (a : FVec Ideal S64x64 .bf16) (b : FVec Ideal S640x64 .bf16) (q : Fin 64) (j : Fin 640) :
    matmul dot_S64x64_S640x64_S64x640_1_1_0_0_n_n none a b (constant S64x640 .f32 0x00000000#32) (ix2 q j)
      = ∑ d : Fin 64, a (ix2 q d) * b (ix2 j d) := by
  refine (Ideal.matmul_constant_zero_apply dot_S64x64_S640x64_S64x640_1_1_0_0_n_n none a b (ix2 q j)).trans ?_
  let D := dot_S64x64_S640x64_S64x640_1_1_0_0_n_n
  have hr : D.contr.rank = 1 := rfl
  have hs : D.contr.size ⟨0, by rw [hr]; exact Nat.one_pos⟩ = 64 := rfl
  rw [← Equiv.sum_comp (contrEquiv1 D 64 hr hs).symm]
  refine Finset.sum_congr rfl fun k _ => ?_
  have hk := contrEquiv1_symm_val D 64 hr hs k
  refine congrArg₂ (· * ·) (congrArg a (funext fun x => Fin.ext ?_)) (congrArg b (funext fun x => Fin.ext ?_))
  · match x with
    | ⟨0, _⟩ => rfl
    | ⟨1, _⟩ => exact hk
  · match x with
    | ⟨0, _⟩ => rfl
    | ⟨1, _⟩ => exact hk

/-- The usual product of a matrix by a matrix. -/
theorem matmul_usual (a : FVec Ideal S64x640 .bf16) (b : FVec Ideal S640x64 .bf16) (q : Fin 64) (d : Fin 64) :
    matmul dot_S64x640_S640x64_S64x64_1_0_0_1_n_n none a b (constant S64x64 .f32 0x00000000#32) (ix2 q d)
      = ∑ j : Fin 640, a (ix2 q j) * b (ix2 j d) := by
  refine (Ideal.matmul_constant_zero_apply dot_S64x640_S640x64_S64x64_1_0_0_1_n_n none a b (ix2 q d)).trans ?_
  let D := dot_S64x640_S640x64_S64x64_1_0_0_1_n_n
  have hr : D.contr.rank = 1 := rfl
  have hs : D.contr.size ⟨0, by rw [hr]; exact Nat.one_pos⟩ = 640 := rfl
  rw [← Equiv.sum_comp (contrEquiv1 D 640 hr hs).symm]
  refine Finset.sum_congr rfl fun k _ => ?_
  have hk := contrEquiv1_symm_val D 640 hr hs k
  refine congrArg₂ (· * ·) (congrArg a (funext fun x => Fin.ext ?_)) (congrArg b (funext fun x => Fin.ext ?_))
  · match x with
    | ⟨0, _⟩ => rfl
    | ⟨1, _⟩ => exact hk
  · match x with
    | ⟨0, _⟩ => exact hk
    | ⟨1, _⟩ => rfl

/-! ## The scores of a chunk -/

/-- The head dimension to the power −1/2, as the programs write it. -/
abbrev sc : EReal := Ideal.ofBits .f32 0x3E000000#32

/-- Column `j` of the 640 is a key of the band of chunk `k`. -/
abbrev live (k j : ℕ) : Prop := 64 ≤ j ∧ 576 ≤ 64 * k + j

/-- The column numbers of the band, as the body makes them. -/
abbrev colIota : IVec S64x640 32 := iota .tc S64x640 32 [1] iota_S64x640_d1_w32

theorem colIota_apply (q : Fin 64) (j : Fin 640) : colIota (ix2 q j) = BitVec.ofNat 32 j.val := by
  show BitVec.ofNat 32 (0 * 640 + j.val) = _
  rw [Nat.zero_mul, Nat.zero_add]

set_option maxHeartbeats 1000000 in
/-- The comparison deciding which columns are keys. -/
theorem live_word : ∀ (k : Fin k0_t1_loop.trips) (j : Fin 640),
    IntOp.cmpi .sge (IntOp.addi (Scalar.muli (Scalar.subi (Scf.iv 0#32 1#32 k) 9#32) 64#32) (BitVec.ofNat 32 j.val))
        (Scalar.maxsi 0#32 (Scalar.muli (Scalar.subi (Scf.iv 0#32 1#32 k) 8#32) 64#32))
      = if live k.val j.val then 1#1 else 0#1 := by
  decide +kernel

/-- The scores of query `q` of chunk `k`, over the 640 columns. -/
def tileScore (k : ℕ) (qb : Vec Ideal S1x64x64 .bf16) (kb : Vec Ideal S1x640x64 .bf16) (bb : Vec Ideal S1x64x640 .f32)
    (q : Fin 64) (j : Fin 640) : EReal :=
  if live k j.val then (∑ d : Fin 64, qb (ix3 0 q d) * kb (ix3 0 j d)) * sc + bb (ix3 0 q j) else ⊥

variable (k : Fin k0_t1_loop.trips) (qb : Vec Ideal S1x64x64 .bf16) (kb vb : Vec Ideal S1x640x64 .bf16)
  (bb : Vec Ideal S1x64x640 .f32) (ob : Vec Ideal S1x64x64 .bf16)

theorem k0_pay9_apply (q d : Fin 64) : k0_pay9 (F := Ideal) qb (ix2 q d) = qb (ix3 0 q d) := dropLead _ _ q d
theorem k0_pay10_apply (j : Fin 640) (d : Fin 64) : k0_pay10 (F := Ideal) kb (ix2 j d) = kb (ix3 0 j d) := dropLead _ _ j d
theorem k0_pay11_apply (j : Fin 640) (d : Fin 64) : k0_pay11 (F := Ideal) vb (ix2 j d) = vb (ix3 0 j d) := dropLead _ _ j d
theorem k0_pay12_apply (q d : Fin 64) : k0_pay12 (F := Ideal) ob (ix2 q d) = ob (ix3 0 q d) := dropLead _ _ q d

/-- The exponentials of a tile. -/
abbrev tileExp : FVec Ideal S64x640 .f32 := k0_pay13 (F := Ideal) colIota 0#32 1#32 k qb kb bb
/-- The sums of its rows. -/
abbrev tileSum : FVec Ideal S64 .f32 := k0_pay14 (F := Ideal) colIota 0#32 1#32 k qb kb bb
/-- The probabilities of a tile. -/
abbrev tileProb : FVec Ideal S64x640 .f32 := k0_pay15 (F := Ideal) (tileExp k qb kb bb) (tileSum k qb kb bb)
/-- The gradient of its scores. -/
abbrev tileGrad : FVec Ideal S64x640 .f32 :=
  k0_pay16 (F := Ideal) (k0_pay11 vb) (k0_pay12 ob) (tileExp k qb kb bb) (tileSum k qb kb bb)

theorem tileExp_apply (q : Fin 64) (j : Fin 640) :
    tileExp k qb kb bb (ix2 q j) = rowExp (tileScore k.val qb kb bb q) j := by
  have hz : ∀ j : Fin 640, select (cmpi .sge (addi (broadcast S64x640 (Scalar.muli (Scalar.subi (Scf.iv 0#32 1#32 k) 9#32) 64#32)) colIota)
        (broadcast S64x640 (Scalar.maxsi 0#32 (Scalar.muli (Scalar.subi (Scf.iv 0#32 1#32 k) 8#32) 64#32))))
        (addf (mulf (matmul dot_S64x64_S640x64_S64x640_1_1_0_0_n_n none (k0_pay9 qb) (k0_pay10 kb) (constant S64x640 .f32 0x00000000#32))
          (broadcast S64x640 (Scalar.ofBits .f32 0x3E000000#32))) (shapeCast S64x640 bb shapeCasts_S1x64x640_S64x640))
        (broadcast S64x640 (Named.named (F := Ideal) κ "mask" (φ := .f32) 0xF149F2CA#32)) (ix2 q j) = tileScore k.val qb kb bb q j := by
    intro j
    rw [select_apply]
    have hc : cmpi .sge (addi (broadcast S64x640 (Scalar.muli (Scalar.subi (Scf.iv 0#32 1#32 k) 9#32) 64#32)) colIota)
        (broadcast S64x640 (Scalar.maxsi 0#32 (Scalar.muli (Scalar.subi (Scf.iv 0#32 1#32 k) 8#32) 64#32))) (ix2 q j)
        = if live k.val j.val then 1#1 else 0#1 := by
      refine Eq.trans ?_ (live_word k j)
      show IntOp.cmpi .sge (IntOp.addi _ (colIota (ix2 q j))) _ = _
      rw [colIota_apply]
      rfl
    rw [hc]
    unfold tileScore
    split
    · rw [select_one, addf_apply, mulf_apply, matmul_lasts, dropLead]
      simp only [k0_pay9_apply, k0_pay10_apply]
      rfl
    · rw [select_zero]
      exact IdealRules.named_const.ideal_named_scalar κ "mask" (φ := .f32) 0xF149F2CA#32 ⊥ rfl
  unfold tileExp k0_pay13
  show Ideal.exp (_ - _) = _
  rw [spreadRow, maxRow, hz]
  unfold rowExp
  rw [funext hz]

theorem tileSum_apply (q : Fin 64) : tileSum k qb kb bb (ix1 q) = rowSum (tileScore k.val qb kb bb q) := by
  unfold tileSum k0_pay14
  rw [sumRow]
  exact Finset.sum_congr rfl fun j _ => tileExp_apply k qb kb bb q j

theorem tileProb_apply (q : Fin 64) (j : Fin 640) :
    tileProb k qb kb bb (ix2 q j) = rowProb (tileScore k.val qb kb bb q) j := by
  unfold tileProb k0_pay15
  rw [divf_apply, spreadRow, tileExp_apply, tileSum_apply]
  rfl

/-- The gradient of the probabilities of query `q`. -/
def tileDp (vb : Vec Ideal S1x640x64 .bf16) (ob : Vec Ideal S1x64x64 .bf16) (q : Fin 64) (j : Fin 640) : EReal :=
  ∑ d : Fin 64, ob (ix3 0 q d) * vb (ix3 0 j d)

theorem tileGrad_apply (q : Fin 64) (j : Fin 640) :
    tileGrad k qb kb vb bb ob (ix2 q j) = rowGrad (tileScore k.val qb kb bb q) (tileDp vb ob q) j := by
  have hd : ∀ j : Fin 640, matmul dot_S64x64_S640x64_S64x640_1_1_0_0_n_n none (k0_pay12 (F := Ideal) ob) (k0_pay11 vb)
      (constant S64x640 .f32 0x00000000#32) (ix2 q j) = tileDp vb ob q j := by
    intro j
    rw [matmul_lasts]
    simp only [k0_pay12_apply, k0_pay11_apply]
    rfl
  unfold tileGrad k0_pay16
  rw [mulf_apply, subf_apply, spreadRow, sumRow, hd, show k0_pay15 (tileExp k qb kb bb) (tileSum k qb kb bb) (ix2 q j) = _ from tileProb_apply k qb kb bb q j]
  unfold rowGrad
  refine congrArg₂ (· * ·) rfl (congrArg₂ (· - ·) rfl (Finset.sum_congr rfl fun i _ => ?_))
  rw [mulf_apply, hd, show k0_pay15 (tileExp k qb kb bb) (tileSum k qb kb bb) (ix2 q i) = _ from tileProb_apply k qb kb bb q i]

/-! ## What one head stores -/

/-- The gradient of the queries of the tile. -/
abbrev tileDq : FVec Ideal S1x64x64 .bf16 :=
  k0_pay18 (F := Ideal) (k0_pay10 kb) (k0_pay11 vb) (k0_pay12 ob) (tileExp k qb kb bb) (tileSum k qb kb bb)

theorem tileDq_apply (u : Fin 1) (q d : Fin 64) :
    tileDq k qb kb vb bb ob (ix3 u q d)
      = (∑ j : Fin 640, rowGrad (tileScore k.val qb kb bb q) (tileDp vb ob q) j * kb (ix3 0 j d)) * sc := by
  unfold tileDq k0_pay18
  rw [addLead, truncf_apply, mulf_apply, matmul_usual]
  refine congrArg₂ (· * ·) (Finset.sum_congr rfl fun j _ => ?_) rfl
  rw [k0_pay10_apply]
  exact congrArg (· * _) (tileGrad_apply k qb kb vb bb ob q j)

/-- The keys' gradients, grown by the tile. -/
abbrev tileDk (x : Vec Ideal S1x640x64 .f32) : FVec Ideal S1x640x64 .f32 :=
  k0_pay19 (F := Ideal) (k0_pay9 qb) (k0_pay11 vb) (k0_pay12 ob) (tileExp k qb kb bb) (tileSum k qb kb bb) x

theorem tileDk_apply (x : Vec Ideal S1x640x64 .f32) (u : Fin 1) (j : Fin 640) (d : Fin 64) :
    tileDk k qb kb vb bb ob x (ix3 u j d) = x (ix3 u j d)
      + (∑ q : Fin 64, rowGrad (tileScore k.val qb kb bb q) (tileDp vb ob q) j * qb (ix3 0 q d)) * sc := by
  obtain rfl : u = 0 := Subsingleton.elim _ _
  unfold tileDk k0_pay19
  rw [addLead, addf_apply, dropLead, mulf_apply, matmul_firsts]
  refine congrArg (_ + ·) (congrArg₂ (· * ·) (Finset.sum_congr rfl fun q _ => ?_) rfl)
  rw [k0_pay9_apply]
  exact congrArg (· * _) (tileGrad_apply k qb kb vb bb ob q j)

/-- The values' gradients, grown by the tile. -/
abbrev tileDv (x : Vec Ideal S1x640x64 .f32) : FVec Ideal S1x640x64 .f32 :=
  k0_pay20 (F := Ideal) (k0_pay12 ob) (tileExp k qb kb bb) (tileSum k qb kb bb) x

theorem tileDv_apply (x : Vec Ideal S1x640x64 .f32) (u : Fin 1) (j : Fin 640) (d : Fin 64) :
    tileDv k qb kb bb ob x (ix3 u j d) = x (ix3 u j d)
      + ∑ q : Fin 64, rowProb (tileScore k.val qb kb bb q) j * ob (ix3 0 q d) := by
  obtain rfl : u = 0 := Subsingleton.elim _ _
  unfold tileDv k0_pay20
  rw [addLead, addf_apply, dropLead, matmul_firsts]
  refine congrArg (_ + ·) (Finset.sum_congr rfl fun q _ => ?_)
  rw [k0_pay12_apply, truncf_apply]
  exact congrArg (· * _) (tileProb_apply k qb kb bb q j)

/-- The bias's gradients, grown by the tile. -/
abbrev tileDb (x : Vec Ideal S1x64x640 .f32) : FVec Ideal S1x64x640 .f32 :=
  k0_pay21 (F := Ideal) (tileGrad k qb kb vb bb ob) x

theorem tileDb_apply (x : Vec Ideal S1x64x640 .f32) (u : Fin 1) (q : Fin 64) (j : Fin 640) :
    tileDb k qb kb vb bb ob x (ix3 u q j) = x (ix3 u q j) + rowGrad (tileScore k.val qb kb bb q) (tileDp vb ob q) j := by
  obtain rfl : u = 0 := Subsingleton.elim _ _
  unfold tileDb k0_pay21
  rw [addLead, addf_apply, dropLead, tileGrad_apply]

end Cert.Grad

end
-- ==== Proof.Trip.lean ====
/- One trip of the chunk loop, over the extended reals: the pieces it writes, head by head, as the tiles of
   Tile.lean taken at the windows it loads. -/
module

public import proofs.«01_k».proof.Proof.Gen.KernelIdeal.Loops
public import proofs.«01_k».proof.Proof.Tile

@[expose] public section

set_option maxRecDepth 16384

noncomputable section

namespace Cert.Grad

open Cert.KernelIdeal Cert.KernelIdeal.Gen Idealize.ShloMosaic Idealize.ShloMosaic.TcCoe Idealize.SL.Sem

variable (𝒱 : Variants) (c : Dev nD) (bd : Option 𝒱.V) (i : grid0.Coords) (arg1 : Memref sig .tc .vmem S4x2048x64 .bf16) (harg1 : arg1.IsWhole) (arg2 : Memref sig .tc .vmem S4x2624x64 .bf16) (harg2 : arg2.IsWhole) (arg3 : Memref sig .tc .vmem S4x2624x64 .bf16) (harg3 : arg3.IsWhole) (arg4 : Memref sig .tc .vmem S4x64x640 .f32) (harg4 : arg4.IsWhole) (arg5 : Memref sig .tc .vmem S4x2048x64 .bf16) (harg5 : arg5.IsWhole) (arg6 : Memref sig .tc .vmem S4x2048x64 .bf16) (harg6 : arg6.IsWhole) (arg7 : Memref sig .tc .vmem S4x2048x64 .bf16) (harg7 : arg7.IsWhole) (arg8 : Memref sig .tc .vmem S4x2048x64 .bf16) (harg8 : arg8.IsWhole) (arg9 : Memref sig .tc .vmem S4x64x640 .f32) (harg9 : arg9.IsWhole) (arg10 : Memref sig .tc .vmem S4x2624x64 .f32) (harg10 : arg10.IsWhole) (arg11 : Memref sig .tc .vmem S4x2624x64 .f32) (harg11 : arg11.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (f_arg6 : BufTy.Contents (Elt Ideal) arg6.view.ty) (f_arg9 : BufTy.Contents (Elt Ideal) arg9.view.ty) (f_arg10 : BufTy.Contents (Elt Ideal) arg10.view.ty) (f_arg11 : BufTy.Contents (Elt Ideal) arg11.view.ty)

set_option maxHeartbeats 4000000 in
/-- What the trip writes of the gradient of the queries. -/
theorem trip_dq : (tripL_k0_t1 (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 k f_arg6 f_arg9 f_arg10 f_arg11).1 = [
      ⟨Rect.unit (k0_off7 k) ![1, 64, 64] (k0_off7_inb k), tileDq k (View.readAt (Elt Ideal) arg1.view (Rect.unit (s := S4x2048x64) (k0_off7 k) S1x64x64.size (k0_off7_inb k)).toLoadRect X_arg1) (View.readAt (Elt Ideal) arg2.view (Rect.unit (s := S4x2624x64) (k0_off8 k) S1x640x64.size (k0_off8_inb k)).toLoadRect X_arg2) (View.readAt (Elt Ideal) arg3.view (Rect.unit (s := S4x2624x64) (k0_off8 k) S1x640x64.size (k0_off8_inb k)).toLoadRect X_arg3) (View.readAt (Elt Ideal) arg4.view (Rect.unit (s := S4x64x640) ![3, 0, 0] S1x64x640.size inb_S4x64x640_S1x64x640_3_0_0).toLoadRect X_arg4) (View.readAt (Elt Ideal) arg5.view (Rect.unit (s := S4x2048x64) (k0_off7 k) S1x64x64.size (k0_off7_inb k)).toLoadRect X_arg5)⟩,
      ⟨Rect.unit (k0_off5 k) ![1, 64, 64] (k0_off5_inb k), tileDq k (View.readAt (Elt Ideal) arg1.view (Rect.unit (s := S4x2048x64) (k0_off5 k) S1x64x64.size (k0_off5_inb k)).toLoadRect X_arg1) (View.readAt (Elt Ideal) arg2.view (Rect.unit (s := S4x2624x64) (k0_off6 k) S1x640x64.size (k0_off6_inb k)).toLoadRect X_arg2) (View.readAt (Elt Ideal) arg3.view (Rect.unit (s := S4x2624x64) (k0_off6 k) S1x640x64.size (k0_off6_inb k)).toLoadRect X_arg3) (View.readAt (Elt Ideal) arg4.view (Rect.unit (s := S4x64x640) ![2, 0, 0] S1x64x640.size inb_S4x64x640_S1x64x640_2_0_0).toLoadRect X_arg4) (View.readAt (Elt Ideal) arg5.view (Rect.unit (s := S4x2048x64) (k0_off5 k) S1x64x64.size (k0_off5_inb k)).toLoadRect X_arg5)⟩,
      ⟨Rect.unit (k0_off3 k) ![1, 64, 64] (k0_off3_inb k), tileDq k (View.readAt (Elt Ideal) arg1.view (Rect.unit (s := S4x2048x64) (k0_off3 k) S1x64x64.size (k0_off3_inb k)).toLoadRect X_arg1) (View.readAt (Elt Ideal) arg2.view (Rect.unit (s := S4x2624x64) (k0_off4 k) S1x640x64.size (k0_off4_inb k)).toLoadRect X_arg2) (View.readAt (Elt Ideal) arg3.view (Rect.unit (s := S4x2624x64) (k0_off4 k) S1x640x64.size (k0_off4_inb k)).toLoadRect X_arg3) (View.readAt (Elt Ideal) arg4.view (Rect.unit (s := S4x64x640) ![1, 0, 0] S1x64x640.size inb_S4x64x640_S1x64x640_1_0_0).toLoadRect X_arg4) (View.readAt (Elt Ideal) arg5.view (Rect.unit (s := S4x2048x64) (k0_off3 k) S1x64x64.size (k0_off3_inb k)).toLoadRect X_arg5)⟩,
      ⟨Rect.unit (k0_off1 k) ![1, 64, 64] (k0_off1_inb k), tileDq k (View.readAt (Elt Ideal) arg1.view (Rect.unit (s := S4x2048x64) (k0_off1 k) S1x64x64.size (k0_off1_inb k)).toLoadRect X_arg1) (View.readAt (Elt Ideal) arg2.view (Rect.unit (s := S4x2624x64) (k0_off2 k) S1x640x64.size (k0_off2_inb k)).toLoadRect X_arg2) (View.readAt (Elt Ideal) arg3.view (Rect.unit (s := S4x2624x64) (k0_off2 k) S1x640x64.size (k0_off2_inb k)).toLoadRect X_arg3) (View.readAt (Elt Ideal) arg4.view (Rect.unit (s := S4x64x640) ![0, 0, 0] S1x64x640.size inb_S4x64x640_S1x64x640_0_0_0).toLoadRect X_arg4) (View.readAt (Elt Ideal) arg5.view (Rect.unit (s := S4x2048x64) (k0_off1 k) S1x64x64.size (k0_off1_inb k)).toLoadRect X_arg5)⟩] := by
  unfold tripL_k0_t1 trip_k0_t1
  dsimp only
  sl_unfold_words
  rfl

set_option maxHeartbeats 4000000 in
/-- What the trip adds to the gradient of the bias. -/
theorem trip_db : (tripL_k0_t1 (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 k f_arg6 f_arg9 f_arg10 f_arg11).2.1 = [
      ⟨Rect.unit ![3, 0, 0] ![1, 64, 640] inb_S4x64x640_S1x64x640_3_0_0, tileDb k (View.readAt (Elt Ideal) arg1.view (Rect.unit (s := S4x2048x64) (k0_off7 k) S1x64x64.size (k0_off7_inb k)).toLoadRect X_arg1) (View.readAt (Elt Ideal) arg2.view (Rect.unit (s := S4x2624x64) (k0_off8 k) S1x640x64.size (k0_off8_inb k)).toLoadRect X_arg2) (View.readAt (Elt Ideal) arg3.view (Rect.unit (s := S4x2624x64) (k0_off8 k) S1x640x64.size (k0_off8_inb k)).toLoadRect X_arg3) (View.readAt (Elt Ideal) arg4.view (Rect.unit (s := S4x64x640) ![3, 0, 0] S1x64x640.size inb_S4x64x640_S1x64x640_3_0_0).toLoadRect X_arg4) (View.readAt (Elt Ideal) arg5.view (Rect.unit (s := S4x2048x64) (k0_off7 k) S1x64x64.size (k0_off7_inb k)).toLoadRect X_arg5) (View.readAt (Elt Ideal) arg9.view (Rect.unit (s := S4x64x640) ![3, 0, 0] S1x64x640.size inb_S4x64x640_S1x64x640_3_0_0).toLoadRect f_arg9)⟩,
      ⟨Rect.unit ![2, 0, 0] ![1, 64, 640] inb_S4x64x640_S1x64x640_2_0_0, tileDb k (View.readAt (Elt Ideal) arg1.view (Rect.unit (s := S4x2048x64) (k0_off5 k) S1x64x64.size (k0_off5_inb k)).toLoadRect X_arg1) (View.readAt (Elt Ideal) arg2.view (Rect.unit (s := S4x2624x64) (k0_off6 k) S1x640x64.size (k0_off6_inb k)).toLoadRect X_arg2) (View.readAt (Elt Ideal) arg3.view (Rect.unit (s := S4x2624x64) (k0_off6 k) S1x640x64.size (k0_off6_inb k)).toLoadRect X_arg3) (View.readAt (Elt Ideal) arg4.view (Rect.unit (s := S4x64x640) ![2, 0, 0] S1x64x640.size inb_S4x64x640_S1x64x640_2_0_0).toLoadRect X_arg4) (View.readAt (Elt Ideal) arg5.view (Rect.unit (s := S4x2048x64) (k0_off5 k) S1x64x64.size (k0_off5_inb k)).toLoadRect X_arg5) (View.readAt (Elt Ideal) arg9.view (Rect.unit (s := S4x64x640) ![2, 0, 0] S1x64x640.size inb_S4x64x640_S1x64x640_2_0_0).toLoadRect f_arg9)⟩,
      ⟨Rect.unit ![1, 0, 0] ![1, 64, 640] inb_S4x64x640_S1x64x640_1_0_0, tileDb k (View.readAt (Elt Ideal) arg1.view (Rect.unit (s := S4x2048x64) (k0_off3 k) S1x64x64.size (k0_off3_inb k)).toLoadRect X_arg1) (View.readAt (Elt Ideal) arg2.view (Rect.unit (s := S4x2624x64) (k0_off4 k) S1x640x64.size (k0_off4_inb k)).toLoadRect X_arg2) (View.readAt (Elt Ideal) arg3.view (Rect.unit (s := S4x2624x64) (k0_off4 k) S1x640x64.size (k0_off4_inb k)).toLoadRect X_arg3) (View.readAt (Elt Ideal) arg4.view (Rect.unit (s := S4x64x640) ![1, 0, 0] S1x64x640.size inb_S4x64x640_S1x64x640_1_0_0).toLoadRect X_arg4) (View.readAt (Elt Ideal) arg5.view (Rect.unit (s := S4x2048x64) (k0_off3 k) S1x64x64.size (k0_off3_inb k)).toLoadRect X_arg5) (View.readAt (Elt Ideal) arg9.view (Rect.unit (s := S4x64x640) ![1, 0, 0] S1x64x640.size inb_S4x64x640_S1x64x640_1_0_0).toLoadRect f_arg9)⟩,
      ⟨Rect.unit ![0, 0, 0] ![1, 64, 640] inb_S4x64x640_S1x64x640_0_0_0, tileDb k (View.readAt (Elt Ideal) arg1.view (Rect.unit (s := S4x2048x64) (k0_off1 k) S1x64x64.size (k0_off1_inb k)).toLoadRect X_arg1) (View.readAt (Elt Ideal) arg2.view (Rect.unit (s := S4x2624x64) (k0_off2 k) S1x640x64.size (k0_off2_inb k)).toLoadRect X_arg2) (View.readAt (Elt Ideal) arg3.view (Rect.unit (s := S4x2624x64) (k0_off2 k) S1x640x64.size (k0_off2_inb k)).toLoadRect X_arg3) (View.readAt (Elt Ideal) arg4.view (Rect.unit (s := S4x64x640) ![0, 0, 0] S1x64x640.size inb_S4x64x640_S1x64x640_0_0_0).toLoadRect X_arg4) (View.readAt (Elt Ideal) arg5.view (Rect.unit (s := S4x2048x64) (k0_off1 k) S1x64x64.size (k0_off1_inb k)).toLoadRect X_arg5) (View.readAt (Elt Ideal) arg9.view (Rect.unit (s := S4x64x640) ![0, 0, 0] S1x64x640.size inb_S4x64x640_S1x64x640_0_0_0).toLoadRect f_arg9)⟩] := by
  unfold tripL_k0_t1 trip_k0_t1
  dsimp only
  sl_unfold_words
  rfl

set_option maxHeartbeats 4000000 in
/-- What the trip adds to the gradient of the keys. -/
theorem trip_dk : (tripL_k0_t1 (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 k f_arg6 f_arg9 f_arg10 f_arg11).2.2.1 = [
      ⟨Rect.unit (k0_off8 k) ![1, 640, 64] (k0_off8_inb k), tileDk k (View.readAt (Elt Ideal) arg1.view (Rect.unit (s := S4x2048x64) (k0_off7 k) S1x64x64.size (k0_off7_inb k)).toLoadRect X_arg1) (View.readAt (Elt Ideal) arg2.view (Rect.unit (s := S4x2624x64) (k0_off8 k) S1x640x64.size (k0_off8_inb k)).toLoadRect X_arg2) (View.readAt (Elt Ideal) arg3.view (Rect.unit (s := S4x2624x64) (k0_off8 k) S1x640x64.size (k0_off8_inb k)).toLoadRect X_arg3) (View.readAt (Elt Ideal) arg4.view (Rect.unit (s := S4x64x640) ![3, 0, 0] S1x64x640.size inb_S4x64x640_S1x64x640_3_0_0).toLoadRect X_arg4) (View.readAt (Elt Ideal) arg5.view (Rect.unit (s := S4x2048x64) (k0_off7 k) S1x64x64.size (k0_off7_inb k)).toLoadRect X_arg5) (View.readAt (Elt Ideal) arg10.view (Rect.unit (s := S4x2624x64) (k0_off8 k) S1x640x64.size (k0_off8_inb k)).toLoadRect f_arg10)⟩,
      ⟨Rect.unit (k0_off6 k) ![1, 640, 64] (k0_off6_inb k), tileDk k (View.readAt (Elt Ideal) arg1.view (Rect.unit (s := S4x2048x64) (k0_off5 k) S1x64x64.size (k0_off5_inb k)).toLoadRect X_arg1) (View.readAt (Elt Ideal) arg2.view (Rect.unit (s := S4x2624x64) (k0_off6 k) S1x640x64.size (k0_off6_inb k)).toLoadRect X_arg2) (View.readAt (Elt Ideal) arg3.view (Rect.unit (s := S4x2624x64) (k0_off6 k) S1x640x64.size (k0_off6_inb k)).toLoadRect X_arg3) (View.readAt (Elt Ideal) arg4.view (Rect.unit (s := S4x64x640) ![2, 0, 0] S1x64x640.size inb_S4x64x640_S1x64x640_2_0_0).toLoadRect X_arg4) (View.readAt (Elt Ideal) arg5.view (Rect.unit (s := S4x2048x64) (k0_off5 k) S1x64x64.size (k0_off5_inb k)).toLoadRect X_arg5) (View.readAt (Elt Ideal) arg10.view (Rect.unit (s := S4x2624x64) (k0_off6 k) S1x640x64.size (k0_off6_inb k)).toLoadRect f_arg10)⟩,
      ⟨Rect.unit (k0_off4 k) ![1, 640, 64] (k0_off4_inb k), tileDk k (View.readAt (Elt Ideal) arg1.view (Rect.unit (s := S4x2048x64) (k0_off3 k) S1x64x64.size (k0_off3_inb k)).toLoadRect X_arg1) (View.readAt (Elt Ideal) arg2.view (Rect.unit (s := S4x2624x64) (k0_off4 k) S1x640x64.size (k0_off4_inb k)).toLoadRect X_arg2) (View.readAt (Elt Ideal) arg3.view (Rect.unit (s := S4x2624x64) (k0_off4 k) S1x640x64.size (k0_off4_inb k)).toLoadRect X_arg3) (View.readAt (Elt Ideal) arg4.view (Rect.unit (s := S4x64x640) ![1, 0, 0] S1x64x640.size inb_S4x64x640_S1x64x640_1_0_0).toLoadRect X_arg4) (View.readAt (Elt Ideal) arg5.view (Rect.unit (s := S4x2048x64) (k0_off3 k) S1x64x64.size (k0_off3_inb k)).toLoadRect X_arg5) (View.readAt (Elt Ideal) arg10.view (Rect.unit (s := S4x2624x64) (k0_off4 k) S1x640x64.size (k0_off4_inb k)).toLoadRect f_arg10)⟩,
      ⟨Rect.unit (k0_off2 k) ![1, 640, 64] (k0_off2_inb k), tileDk k (View.readAt (Elt Ideal) arg1.view (Rect.unit (s := S4x2048x64) (k0_off1 k) S1x64x64.size (k0_off1_inb k)).toLoadRect X_arg1) (View.readAt (Elt Ideal) arg2.view (Rect.unit (s := S4x2624x64) (k0_off2 k) S1x640x64.size (k0_off2_inb k)).toLoadRect X_arg2) (View.readAt (Elt Ideal) arg3.view (Rect.unit (s := S4x2624x64) (k0_off2 k) S1x640x64.size (k0_off2_inb k)).toLoadRect X_arg3) (View.readAt (Elt Ideal) arg4.view (Rect.unit (s := S4x64x640) ![0, 0, 0] S1x64x640.size inb_S4x64x640_S1x64x640_0_0_0).toLoadRect X_arg4) (View.readAt (Elt Ideal) arg5.view (Rect.unit (s := S4x2048x64) (k0_off1 k) S1x64x64.size (k0_off1_inb k)).toLoadRect X_arg5) (View.readAt (Elt Ideal) arg10.view (Rect.unit (s := S4x2624x64) (k0_off2 k) S1x640x64.size (k0_off2_inb k)).toLoadRect f_arg10)⟩] := by
  unfold tripL_k0_t1 trip_k0_t1
  dsimp only
  sl_unfold_words
  rfl

set_option maxHeartbeats 4000000 in
/-- What the trip adds to the gradient of the values. -/
theorem trip_dv : (tripL_k0_t1 (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 k f_arg6 f_arg9 f_arg10 f_arg11).2.2.2 = [
      ⟨Rect.unit (k0_off8 k) ![1, 640, 64] (k0_off8_inb k), tileDv k (View.readAt (Elt Ideal) arg1.view (Rect.unit (s := S4x2048x64) (k0_off7 k) S1x64x64.size (k0_off7_inb k)).toLoadRect X_arg1) (View.readAt (Elt Ideal) arg2.view (Rect.unit (s := S4x2624x64) (k0_off8 k) S1x640x64.size (k0_off8_inb k)).toLoadRect X_arg2) (View.readAt (Elt Ideal) arg4.view (Rect.unit (s := S4x64x640) ![3, 0, 0] S1x64x640.size inb_S4x64x640_S1x64x640_3_0_0).toLoadRect X_arg4) (View.readAt (Elt Ideal) arg5.view (Rect.unit (s := S4x2048x64) (k0_off7 k) S1x64x64.size (k0_off7_inb k)).toLoadRect X_arg5) (View.readAt (Elt Ideal) arg11.view (Rect.unit (s := S4x2624x64) (k0_off8 k) S1x640x64.size (k0_off8_inb k)).toLoadRect f_arg11)⟩,
      ⟨Rect.unit (k0_off6 k) ![1, 640, 64] (k0_off6_inb k), tileDv k (View.readAt (Elt Ideal) arg1.view (Rect.unit (s := S4x2048x64) (k0_off5 k) S1x64x64.size (k0_off5_inb k)).toLoadRect X_arg1) (View.readAt (Elt Ideal) arg2.view (Rect.unit (s := S4x2624x64) (k0_off6 k) S1x640x64.size (k0_off6_inb k)).toLoadRect X_arg2) (View.readAt (Elt Ideal) arg4.view (Rect.unit (s := S4x64x640) ![2, 0, 0] S1x64x640.size inb_S4x64x640_S1x64x640_2_0_0).toLoadRect X_arg4) (View.readAt (Elt Ideal) arg5.view (Rect.unit (s := S4x2048x64) (k0_off5 k) S1x64x64.size (k0_off5_inb k)).toLoadRect X_arg5) (View.readAt (Elt Ideal) arg11.view (Rect.unit (s := S4x2624x64) (k0_off6 k) S1x640x64.size (k0_off6_inb k)).toLoadRect f_arg11)⟩,
      ⟨Rect.unit (k0_off4 k) ![1, 640, 64] (k0_off4_inb k), tileDv k (View.readAt (Elt Ideal) arg1.view (Rect.unit (s := S4x2048x64) (k0_off3 k) S1x64x64.size (k0_off3_inb k)).toLoadRect X_arg1) (View.readAt (Elt Ideal) arg2.view (Rect.unit (s := S4x2624x64) (k0_off4 k) S1x640x64.size (k0_off4_inb k)).toLoadRect X_arg2) (View.readAt (Elt Ideal) arg4.view (Rect.unit (s := S4x64x640) ![1, 0, 0] S1x64x640.size inb_S4x64x640_S1x64x640_1_0_0).toLoadRect X_arg4) (View.readAt (Elt Ideal) arg5.view (Rect.unit (s := S4x2048x64) (k0_off3 k) S1x64x64.size (k0_off3_inb k)).toLoadRect X_arg5) (View.readAt (Elt Ideal) arg11.view (Rect.unit (s := S4x2624x64) (k0_off4 k) S1x640x64.size (k0_off4_inb k)).toLoadRect f_arg11)⟩,
      ⟨Rect.unit (k0_off2 k) ![1, 640, 64] (k0_off2_inb k), tileDv k (View.readAt (Elt Ideal) arg1.view (Rect.unit (s := S4x2048x64) (k0_off1 k) S1x64x64.size (k0_off1_inb k)).toLoadRect X_arg1) (View.readAt (Elt Ideal) arg2.view (Rect.unit (s := S4x2624x64) (k0_off2 k) S1x640x64.size (k0_off2_inb k)).toLoadRect X_arg2) (View.readAt (Elt Ideal) arg4.view (Rect.unit (s := S4x64x640) ![0, 0, 0] S1x64x640.size inb_S4x64x640_S1x64x640_0_0_0).toLoadRect X_arg4) (View.readAt (Elt Ideal) arg5.view (Rect.unit (s := S4x2048x64) (k0_off1 k) S1x64x64.size (k0_off1_inb k)).toLoadRect X_arg5) (View.readAt (Elt Ideal) arg11.view (Rect.unit (s := S4x2624x64) (k0_off2 k) S1x640x64.size (k0_off2_inb k)).toLoadRect f_arg11)⟩] := by
  unfold tripL_k0_t1 trip_k0_t1
  dsimp only
  sl_unfold_words
  rfl

end Cert.Grad

end
-- ==== Proof.Block.lean ====
/- The chunk loop, over the extended reals: what the four buffers it writes read after any number of trips. The gradient of
   the queries is stored chunk by chunk; those of the keys, the values and the bias are sums over the chunks done. -/
module

public import proofs.«01_k».proof.Proof.Trip
public import Idealize.ShloMosaic.Lib.WritesUnit
public import Idealize.ShloMosaic.Lib.VecWindow

@[expose] public section

set_option maxRecDepth 16384

noncomputable section

namespace Cert.Grad

open Cert.KernelIdeal Cert.KernelIdeal.Gen Idealize.ShloMosaic Idealize.ShloMosaic.TcCoe Idealize.SL.Sem
open Idealize.ShloMosaic.ValueIdx

/-! ## Windows of rows -/

section Windows

variable {sg : RefSig} {κ' : Kind} {sp : Space} {e : EltTy} {Val : EltTy → Type} {N B D : ℕ}
  (v : View sg κ' sp (⟨3, ![4, N, D]⟩ : Shape) e) (f : v.ty.Contents Val)

/-- A load of `B` rows of head `h` from row `r`. -/
theorem load_rows {off : Fin 3 → ℕ} (inb : ∀ a : Fin 3, off a + (![1, B, D] : Fin 3 → ℕ) a ≤ (![4, N, D] : Fin 3 → ℕ) a)
    (h : Fin 4) (r : ℕ) (heq : off = ![h.val, r, 0]) (i : (⟨3, ![1, B, D]⟩ : Shape).Idx) (t : Fin N)
    (ht : t.val = r + (i (1 : Fin 3)).val) :
    v.readAt Val (Rect.unit (s := ⟨3, ![4, N, D]⟩) off ![1, B, D] inb).toLoadRect f i
      = v.read Val f (ix3 h t (i (2 : Fin 3))) := by
  subst heq
  refine congrArg (v.read Val f) (funext fun a => Fin.ext ?_)
  match a with
  | ⟨0, _⟩ =>
    have h0 : (i (0 : Fin 3)).val < 1 := (i (0 : Fin 3)).isLt
    show h.val + 1 * (i (0 : Fin 3)).val = h.val
    omega
  | ⟨1, _⟩ =>
    show r + 1 * (i (1 : Fin 3)).val = t.val
    omega
  | ⟨2, _⟩ =>
    show 0 + 1 * (i (2 : Fin 3)).val = (i (2 : Fin 3)).val
    omega

/-- A store of `B` rows of head `h'` from row `r`, read. -/
theorem read_head (L : List (View.Piece Val (⟨3, ![4, N, D]⟩ : Shape) e)) {off : Fin 3 → ℕ}
    (inb : ∀ a : Fin 3, off a + (![1, B, D] : Fin 3 → ℕ) a ≤ (![4, N, D] : Fin 3 → ℕ) a)
    (w : (⟨3, ![1, B, D]⟩ : Shape).Idx → Val e) (h' : Fin 4) (r : ℕ) (heq : off = ![h'.val, r, 0])
    (h : Fin 4) (t : Fin N) (d : Fin D) :
    v.read Val (v.writes Val f ((⟨Rect.unit (s := ⟨3, ![4, N, D]⟩) off ![1, B, D] inb, w⟩ : View.Piece Val _ e) :: L)) (ix3 h t d)
      = if hh : h = h' ∧ r ≤ t.val ∧ t.val < r + B then w (ix3 0 ⟨t.val - r, by omega⟩ d)
        else v.read Val (v.writes Val f L) (ix3 h t d) := by
  split
  · rename_i hh
    obtain ⟨rfl, h1, h2⟩ := hh
    refine View.read_writes_cons_unit_of_mem v f inb w L _ _ heq fun a => ?_
    match a with
    | ⟨0, _⟩ => rfl
    | ⟨1, _⟩ => exact (Nat.add_sub_cancel' h1).symm
    | ⟨2, _⟩ => exact (Nat.zero_add _).symm
  · rename_i hh
    by_cases hc : h = h'
    · refine View.read_writes_cons_unit_of_not_mem v f inb w L _ heq (1 : Fin 3) ?_
      show t.val < r ∨ r + B ≤ t.val
      have : ¬ (r ≤ t.val ∧ t.val < r + B) := fun x => hh ⟨hc, x⟩
      omega
    · refine View.read_writes_cons_unit_of_not_mem v f inb w L _ heq (0 : Fin 3) ?_
      show h.val < h'.val ∨ h'.val + 1 ≤ h.val
      have : h.val ≠ h'.val := fun x => hc (Fin.ext x)
      omega

/-- The stores of the same rows of the four heads, read. -/
theorem read_heads {o3 o2 o1 o0 : Fin 3 → ℕ}
    (i3 : ∀ a : Fin 3, o3 a + (![1, B, D] : Fin 3 → ℕ) a ≤ (![4, N, D] : Fin 3 → ℕ) a)
    (i2 : ∀ a : Fin 3, o2 a + (![1, B, D] : Fin 3 → ℕ) a ≤ (![4, N, D] : Fin 3 → ℕ) a)
    (i1 : ∀ a : Fin 3, o1 a + (![1, B, D] : Fin 3 → ℕ) a ≤ (![4, N, D] : Fin 3 → ℕ) a)
    (i0 : ∀ a : Fin 3, o0 a + (![1, B, D] : Fin 3 → ℕ) a ≤ (![4, N, D] : Fin 3 → ℕ) a)
    (w3 w2 w1 w0 : (⟨3, ![1, B, D]⟩ : Shape).Idx → Val e) (r : ℕ)
    (e3 : o3 = ![3, r, 0]) (e2 : o2 = ![2, r, 0]) (e1 : o1 = ![1, r, 0]) (e0 : o0 = ![0, r, 0])
    (W : Fin 4 → (⟨3, ![1, B, D]⟩ : Shape).Idx → Val e) (q3 : w3 = W 3) (q2 : w2 = W 2) (q1 : w1 = W 1) (q0 : w0 = W 0)
    (h : Fin 4) (t : Fin N) (d : Fin D) :
    v.read Val (v.writes Val f [⟨Rect.unit (s := ⟨3, ![4, N, D]⟩) o3 ![1, B, D] i3, w3⟩,
        ⟨Rect.unit (s := ⟨3, ![4, N, D]⟩) o2 ![1, B, D] i2, w2⟩, ⟨Rect.unit (s := ⟨3, ![4, N, D]⟩) o1 ![1, B, D] i1, w1⟩,
        ⟨Rect.unit (s := ⟨3, ![4, N, D]⟩) o0 ![1, B, D] i0, w0⟩]) (ix3 h t d)
      = if hh : r ≤ t.val ∧ t.val < r + B then W h (ix3 0 ⟨t.val - r, by omega⟩ d) else v.read Val f (ix3 h t d) := by
  subst q3 q2 q1 q0
  rw [read_head v f _ i3 (W 3) 3 r e3, read_head v f _ i2 (W 2) 2 r e2, read_head v f _ i1 (W 1) 1 r e1,
    read_head v f _ i0 (W 0) 0 r e0]
  by_cases hh : r ≤ t.val ∧ t.val < r + B
  · rw [dif_pos hh]
    match h with
    | 0 => rw [dif_neg (fun x => absurd x.1 (by decide)), dif_neg (fun x => absurd x.1 (by decide)),
        dif_neg (fun x => absurd x.1 (by decide)), dif_pos ⟨rfl, hh⟩]
    | 1 => rw [dif_neg (fun x => absurd x.1 (by decide)), dif_neg (fun x => absurd x.1 (by decide)), dif_pos ⟨rfl, hh⟩]
    | 2 => rw [dif_neg (fun x => absurd x.1 (by decide)), dif_pos ⟨rfl, hh⟩]
    | 3 => rw [dif_pos ⟨rfl, hh⟩]
  · rw [dif_neg hh, dif_neg (fun x => hh x.2), dif_neg (fun x => hh x.2), dif_neg (fun x => hh x.2), dif_neg (fun x => hh x.2)]
    rfl

end Windows

/-- The 64 query rows of chunk `k`. -/
def qTile {α : Type} (x : S4x2048x64.Idx → α) (h : Fin 4) (k : Fin 32) : S1x64x64.Idx → α :=
  fun i => x (ix3 h ⟨64 * k.val + (i (1 : Fin 3)).val, by have : (i (1 : Fin 3)).val < 64 := (i (1 : Fin 3)).isLt; omega⟩ (i (2 : Fin 3)))

/-- The 640 padded key rows of chunk `k`. -/
def kTile {α : Type} (x : S4x2624x64.Idx → α) (h : Fin 4) (k : Fin 32) : S1x640x64.Idx → α :=
  fun i => x (ix3 h ⟨64 * k.val + (i (1 : Fin 3)).val, by have : (i (1 : Fin 3)).val < 640 := (i (1 : Fin 3)).isLt; omega⟩ (i (2 : Fin 3)))

/-- The bias of head `h`. -/
def bTile {α : Type} (x : S4x64x640.Idx → α) (h : Fin 4) : S1x64x640.Idx → α :=
  fun i => x (ix3 h (i (1 : Fin 3)) (i (2 : Fin 3)))

theorem trips_eq : k0_t1_loop.trips = 32 := by decide

/-- A trip's number, of the 32. -/
def chunkNo (k : Fin k0_t1_loop.trips) : Fin 32 := ⟨k.val, trips_eq.subst (motive := fun n => k.val < n) k.isLt⟩

theorem load_q {sg : RefSig} {κ' : Kind} {sp : Space} {e : EltTy} (v : View sg κ' sp S4x2048x64 e) (f : v.ty.Contents (Elt Ideal))
    {off : Fin 3 → ℕ} (inb : ∀ a : Fin 3, off a + S1x64x64.size a ≤ S4x2048x64.size a) (h : Fin 4) (k : Fin k0_t1_loop.trips)
    (heq : off = ![h.val, 64 * k.val, 0]) :
    v.readAt (Elt Ideal) (Rect.unit (s := S4x2048x64) off S1x64x64.size inb).toLoadRect f = qTile (v.read (Elt Ideal) f) h (chunkNo k) :=
  funext fun i => load_rows v f inb h _ heq i _ rfl

theorem load_k {sg : RefSig} {κ' : Kind} {sp : Space} {e : EltTy} (v : View sg κ' sp S4x2624x64 e) (f : v.ty.Contents (Elt Ideal))
    {off : Fin 3 → ℕ} (inb : ∀ a : Fin 3, off a + S1x640x64.size a ≤ S4x2624x64.size a) (h : Fin 4) (k : Fin k0_t1_loop.trips)
    (heq : off = ![h.val, 64 * k.val, 0]) :
    v.readAt (Elt Ideal) (Rect.unit (s := S4x2624x64) off S1x640x64.size inb).toLoadRect f = kTile (v.read (Elt Ideal) f) h (chunkNo k) :=
  funext fun i => load_rows v f inb h _ heq i _ rfl

theorem load_b {sg : RefSig} {κ' : Kind} {sp : Space} {e : EltTy} (v : View sg κ' sp S4x64x640 e) (f : v.ty.Contents (Elt Ideal))
    {off : Fin 3 → ℕ} (inb : ∀ a : Fin 3, off a + S1x64x640.size a ≤ S4x64x640.size a) (h : Fin 4) (heq : off = ![h.val, 0, 0]) :
    v.readAt (Elt Ideal) (Rect.unit (s := S4x64x640) off S1x64x640.size inb).toLoadRect f = bTile (v.read (Elt Ideal) f) h :=
  funext fun i => load_rows v f inb h 0 heq i _ (Nat.zero_add _).symm

/-! ## The gradients of one chunk of one head -/

section Spec

variable (x1 : S4x2048x64.Idx → EReal) (x2 x3 : S4x2624x64.Idx → EReal) (x4 : S4x64x640.Idx → EReal)
  (x5 : S4x2048x64.Idx → EReal) (h : Fin 4) (k : Fin 32)

/-- The scores of query `q`. -/
def bScore (q : Fin 64) : Fin 640 → EReal := tileScore k.val (qTile x1 h k) (kTile x2 h k) (bTile x4 h) q

/-- The gradient of the scores of query `q`. -/
def bGrad (q : Fin 64) : Fin 640 → EReal := rowGrad (bScore x1 x2 x4 h k q) (tileDp (kTile x3 h k) (qTile x5 h k) q)

/-- The gradient of a query. -/
def dqChunk (q d : Fin 64) : EReal :=
  (∑ j : Fin 640, bGrad x1 x2 x3 x4 x5 h k q j * kTile x2 h k (ix3 0 j d)) * sc

/-- What a chunk adds to the gradient of a key. -/
def dkChunk (j : Fin 640) (d : Fin 64) : EReal :=
  (∑ q : Fin 64, bGrad x1 x2 x3 x4 x5 h k q j * qTile x1 h k (ix3 0 q d)) * sc

/-- What a chunk adds to the gradient of a value. -/
def dvChunk (j : Fin 640) (d : Fin 64) : EReal :=
  ∑ q : Fin 64, rowProb (bScore x1 x2 x4 h k q) j * qTile x5 h k (ix3 0 q d)

end Spec

/-- A sum over the chunks before `n`. -/
def before (n : ℕ) (g : Fin 32 → EReal) : EReal := ∑ k ∈ Finset.univ.filter (fun k : Fin 32 => k.val < n), g k

theorem before_zero (g : Fin 32 → EReal) : before 0 g = 0 := by
  unfold before
  rw [Finset.filter_false_of_mem fun k _ => Nat.not_lt_zero _, Finset.sum_empty]

theorem before_succ (k : Fin 32) (g : Fin 32 → EReal) : before (k.val + 1) g = before k.val g + g k := by
  unfold before
  have : (Finset.univ.filter fun k' : Fin 32 => k'.val < k.val + 1) = insert k (Finset.univ.filter fun k' : Fin 32 => k'.val < k.val) := by
    ext k'
    simp only [Finset.mem_filter, Finset.mem_univ, true_and, Finset.mem_insert, Fin.ext_iff]
    omega
  rw [this, Finset.sum_insert (by simp), add_comm]

theorem before_all (g : Fin 32 → EReal) : before 32 g = ∑ k, g k := by
  unfold before
  rw [Finset.filter_true_of_mem fun k _ => k.isLt]

/-- Row `r` of the rows that chunk `k` reaches, or nothing. -/
def overRows (g : Fin 32 → Fin 640 → EReal) (r : ℕ) (k : Fin 32) : EReal :=
  if hh : 64 * k.val ≤ r ∧ r < 64 * k.val + 640 then g k ⟨r - 64 * k.val, by omega⟩ else 0

/-! ## The trips -/

variable (𝒱 : Variants) (c : Dev nD) (bd : Option 𝒱.V) (i : grid0.Coords) (arg1 : Memref sig .tc .vmem S4x2048x64 .bf16) (harg1 : arg1.IsWhole) (arg2 : Memref sig .tc .vmem S4x2624x64 .bf16) (harg2 : arg2.IsWhole) (arg3 : Memref sig .tc .vmem S4x2624x64 .bf16) (harg3 : arg3.IsWhole) (arg4 : Memref sig .tc .vmem S4x64x640 .f32) (harg4 : arg4.IsWhole) (arg5 : Memref sig .tc .vmem S4x2048x64 .bf16) (harg5 : arg5.IsWhole) (arg6 : Memref sig .tc .vmem S4x2048x64 .bf16) (harg6 : arg6.IsWhole) (arg7 : Memref sig .tc .vmem S4x2048x64 .bf16) (harg7 : arg7.IsWhole) (arg8 : Memref sig .tc .vmem S4x2048x64 .bf16) (harg8 : arg8.IsWhole) (arg9 : Memref sig .tc .vmem S4x64x640 .f32) (harg9 : arg9.IsWhole) (arg10 : Memref sig .tc .vmem S4x2624x64 .f32) (harg10 : arg10.IsWhole) (arg11 : Memref sig .tc .vmem S4x2624x64 .f32) (harg11 : arg11.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (f_arg6 : BufTy.Contents (Elt Ideal) arg6.view.ty) (f_arg9 : BufTy.Contents (Elt Ideal) arg9.view.ty) (f_arg10 : BufTy.Contents (Elt Ideal) arg10.view.ty) (f_arg11 : BufTy.Contents (Elt Ideal) arg11.view.ty)

theorem read_trip_dq (h : Fin 4) (t : Fin 2048) (d : Fin 64) :
    arg6.view.read (Elt Ideal) (arg6.view.writes (Elt Ideal) f_arg6 (tripL_k0_t1 (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 k f_arg6 f_arg9 f_arg10 f_arg11).1) (ix3 h t d)
      = if hh : 64 * k.val ≤ t.val ∧ t.val < 64 * k.val + 64 then
          dqChunk (arg1.view.read (Elt Ideal) X_arg1) (arg2.view.read (Elt Ideal) X_arg2) (arg3.view.read (Elt Ideal) X_arg3) (arg4.view.read (Elt Ideal) X_arg4) (arg5.view.read (Elt Ideal) X_arg5) h (chunkNo k) ⟨t.val - 64 * k.val, by omega⟩ d
        else arg6.view.read (Elt Ideal) f_arg6 (ix3 h t d) := by
  rw [trip_dq]
  refine (read_heads arg6.view f_arg6 _ _ _ _ _ _ _ _ (64 * k.val) (k0_off7_eq k) (k0_off5_eq k) (k0_off3_eq k) (k0_off1_eq k)
    (fun h => tileDq k (qTile (arg1.view.read (Elt Ideal) X_arg1) h (chunkNo k)) (kTile (arg2.view.read (Elt Ideal) X_arg2) h (chunkNo k)) (kTile (arg3.view.read (Elt Ideal) X_arg3) h (chunkNo k)) (bTile (arg4.view.read (Elt Ideal) X_arg4) h) (qTile (arg5.view.read (Elt Ideal) X_arg5) h (chunkNo k)))
    (by rw [load_q arg1.view X_arg1 (k0_off7_inb k) 3 k (k0_off7_eq k), load_k arg2.view X_arg2 (k0_off8_inb k) 3 k (k0_off8_eq k), load_k arg3.view X_arg3 (k0_off8_inb k) 3 k (k0_off8_eq k), load_b arg4.view X_arg4 inb_S4x64x640_S1x64x640_3_0_0 3 rfl, load_q arg5.view X_arg5 (k0_off7_inb k) 3 k (k0_off7_eq k)])
    (by rw [load_q arg1.view X_arg1 (k0_off5_inb k) 2 k (k0_off5_eq k), load_k arg2.view X_arg2 (k0_off6_inb k) 2 k (k0_off6_eq k), load_k arg3.view X_arg3 (k0_off6_inb k) 2 k (k0_off6_eq k), load_b arg4.view X_arg4 inb_S4x64x640_S1x64x640_2_0_0 2 rfl, load_q arg5.view X_arg5 (k0_off5_inb k) 2 k (k0_off5_eq k)])
    (by rw [load_q arg1.view X_arg1 (k0_off3_inb k) 1 k (k0_off3_eq k), load_k arg2.view X_arg2 (k0_off4_inb k) 1 k (k0_off4_eq k), load_k arg3.view X_arg3 (k0_off4_inb k) 1 k (k0_off4_eq k), load_b arg4.view X_arg4 inb_S4x64x640_S1x64x640_1_0_0 1 rfl, load_q arg5.view X_arg5 (k0_off3_inb k) 1 k (k0_off3_eq k)])
    (by rw [load_q arg1.view X_arg1 (k0_off1_inb k) 0 k (k0_off1_eq k), load_k arg2.view X_arg2 (k0_off2_inb k) 0 k (k0_off2_eq k), load_k arg3.view X_arg3 (k0_off2_inb k) 0 k (k0_off2_eq k), load_b arg4.view X_arg4 inb_S4x64x640_S1x64x640_0_0_0 0 rfl, load_q arg5.view X_arg5 (k0_off1_inb k) 0 k (k0_off1_eq k)]) h t d).trans ?_
  split
  · exact tileDq_apply ..
  · rfl

theorem read_trip_dk (h : Fin 4) (r : Fin 2624) (d : Fin 64) :
    arg10.view.read (Elt Ideal) (arg10.view.writes (Elt Ideal) f_arg10 (tripL_k0_t1 (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 k f_arg6 f_arg9 f_arg10 f_arg11).2.2.1) (ix3 h r d)
      = arg10.view.read (Elt Ideal) f_arg10 (ix3 h r d)
        + overRows (fun k j => dkChunk (arg1.view.read (Elt Ideal) X_arg1) (arg2.view.read (Elt Ideal) X_arg2) (arg3.view.read (Elt Ideal) X_arg3) (arg4.view.read (Elt Ideal) X_arg4) (arg5.view.read (Elt Ideal) X_arg5) h k j d) r.val (chunkNo k) := by
  rw [trip_dk]
  refine (read_heads arg10.view f_arg10 _ _ _ _ _ _ _ _ (64 * k.val) (k0_off8_eq k) (k0_off6_eq k) (k0_off4_eq k) (k0_off2_eq k)
    (fun h => tileDk k (qTile (arg1.view.read (Elt Ideal) X_arg1) h (chunkNo k)) (kTile (arg2.view.read (Elt Ideal) X_arg2) h (chunkNo k)) (kTile (arg3.view.read (Elt Ideal) X_arg3) h (chunkNo k)) (bTile (arg4.view.read (Elt Ideal) X_arg4) h) (qTile (arg5.view.read (Elt Ideal) X_arg5) h (chunkNo k)) (kTile (arg10.view.read (Elt Ideal) f_arg10) h (chunkNo k)))
    (by rw [load_q arg1.view X_arg1 (k0_off7_inb k) 3 k (k0_off7_eq k), load_k arg2.view X_arg2 (k0_off8_inb k) 3 k (k0_off8_eq k), load_k arg3.view X_arg3 (k0_off8_inb k) 3 k (k0_off8_eq k), load_b arg4.view X_arg4 inb_S4x64x640_S1x64x640_3_0_0 3 rfl, load_q arg5.view X_arg5 (k0_off7_inb k) 3 k (k0_off7_eq k), load_k arg10.view f_arg10 (k0_off8_inb k) 3 k (k0_off8_eq k)])
    (by rw [load_q arg1.view X_arg1 (k0_off5_inb k) 2 k (k0_off5_eq k), load_k arg2.view X_arg2 (k0_off6_inb k) 2 k (k0_off6_eq k), load_k arg3.view X_arg3 (k0_off6_inb k) 2 k (k0_off6_eq k), load_b arg4.view X_arg4 inb_S4x64x640_S1x64x640_2_0_0 2 rfl, load_q arg5.view X_arg5 (k0_off5_inb k) 2 k (k0_off5_eq k), load_k arg10.view f_arg10 (k0_off6_inb k) 2 k (k0_off6_eq k)])
    (by rw [load_q arg1.view X_arg1 (k0_off3_inb k) 1 k (k0_off3_eq k), load_k arg2.view X_arg2 (k0_off4_inb k) 1 k (k0_off4_eq k), load_k arg3.view X_arg3 (k0_off4_inb k) 1 k (k0_off4_eq k), load_b arg4.view X_arg4 inb_S4x64x640_S1x64x640_1_0_0 1 rfl, load_q arg5.view X_arg5 (k0_off3_inb k) 1 k (k0_off3_eq k), load_k arg10.view f_arg10 (k0_off4_inb k) 1 k (k0_off4_eq k)])
    (by rw [load_q arg1.view X_arg1 (k0_off1_inb k) 0 k (k0_off1_eq k), load_k arg2.view X_arg2 (k0_off2_inb k) 0 k (k0_off2_eq k), load_k arg3.view X_arg3 (k0_off2_inb k) 0 k (k0_off2_eq k), load_b arg4.view X_arg4 inb_S4x64x640_S1x64x640_0_0_0 0 rfl, load_q arg5.view X_arg5 (k0_off1_inb k) 0 k (k0_off1_eq k), load_k arg10.view f_arg10 (k0_off2_inb k) 0 k (k0_off2_eq k)]) h r d).trans ?_
  unfold overRows
  split
  · rename_i hh
    rw [dif_pos (show 64 * (chunkNo k).val ≤ r.val ∧ r.val < 64 * (chunkNo k).val + 640 from hh)]
    refine (tileDk_apply ..).trans (congrArg₂ (· + ·) (congrArg (arg10.view.read (Elt Ideal) f_arg10) ?_) rfl)
    exact congrArg (fun r => ix3 h r d) (Fin.ext (Nat.add_sub_cancel' hh.1))
  · rename_i hh
    rw [dif_neg (show ¬ (64 * (chunkNo k).val ≤ r.val ∧ r.val < 64 * (chunkNo k).val + 640) from hh), add_zero]

theorem read_trip_dv (h : Fin 4) (r : Fin 2624) (d : Fin 64) :
    arg11.view.read (Elt Ideal) (arg11.view.writes (Elt Ideal) f_arg11 (tripL_k0_t1 (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 k f_arg6 f_arg9 f_arg10 f_arg11).2.2.2) (ix3 h r d)
      = arg11.view.read (Elt Ideal) f_arg11 (ix3 h r d)
        + overRows (fun k j => dvChunk (arg1.view.read (Elt Ideal) X_arg1) (arg2.view.read (Elt Ideal) X_arg2) (arg4.view.read (Elt Ideal) X_arg4) (arg5.view.read (Elt Ideal) X_arg5) h k j d) r.val (chunkNo k) := by
  rw [trip_dv]
  refine (read_heads arg11.view f_arg11 _ _ _ _ _ _ _ _ (64 * k.val) (k0_off8_eq k) (k0_off6_eq k) (k0_off4_eq k) (k0_off2_eq k)
    (fun h => tileDv k (qTile (arg1.view.read (Elt Ideal) X_arg1) h (chunkNo k)) (kTile (arg2.view.read (Elt Ideal) X_arg2) h (chunkNo k)) (bTile (arg4.view.read (Elt Ideal) X_arg4) h) (qTile (arg5.view.read (Elt Ideal) X_arg5) h (chunkNo k)) (kTile (arg11.view.read (Elt Ideal) f_arg11) h (chunkNo k)))
    (by rw [load_q arg1.view X_arg1 (k0_off7_inb k) 3 k (k0_off7_eq k), load_k arg2.view X_arg2 (k0_off8_inb k) 3 k (k0_off8_eq k), load_b arg4.view X_arg4 inb_S4x64x640_S1x64x640_3_0_0 3 rfl, load_q arg5.view X_arg5 (k0_off7_inb k) 3 k (k0_off7_eq k), load_k arg11.view f_arg11 (k0_off8_inb k) 3 k (k0_off8_eq k)])
    (by rw [load_q arg1.view X_arg1 (k0_off5_inb k) 2 k (k0_off5_eq k), load_k arg2.view X_arg2 (k0_off6_inb k) 2 k (k0_off6_eq k), load_b arg4.view X_arg4 inb_S4x64x640_S1x64x640_2_0_0 2 rfl, load_q arg5.view X_arg5 (k0_off5_inb k) 2 k (k0_off5_eq k), load_k arg11.view f_arg11 (k0_off6_inb k) 2 k (k0_off6_eq k)])
    (by rw [load_q arg1.view X_arg1 (k0_off3_inb k) 1 k (k0_off3_eq k), load_k arg2.view X_arg2 (k0_off4_inb k) 1 k (k0_off4_eq k), load_b arg4.view X_arg4 inb_S4x64x640_S1x64x640_1_0_0 1 rfl, load_q arg5.view X_arg5 (k0_off3_inb k) 1 k (k0_off3_eq k), load_k arg11.view f_arg11 (k0_off4_inb k) 1 k (k0_off4_eq k)])
    (by rw [load_q arg1.view X_arg1 (k0_off1_inb k) 0 k (k0_off1_eq k), load_k arg2.view X_arg2 (k0_off2_inb k) 0 k (k0_off2_eq k), load_b arg4.view X_arg4 inb_S4x64x640_S1x64x640_0_0_0 0 rfl, load_q arg5.view X_arg5 (k0_off1_inb k) 0 k (k0_off1_eq k), load_k arg11.view f_arg11 (k0_off2_inb k) 0 k (k0_off2_eq k)]) h r d).trans ?_
  unfold overRows
  split
  · rename_i hh
    rw [dif_pos (show 64 * (chunkNo k).val ≤ r.val ∧ r.val < 64 * (chunkNo k).val + 640 from hh)]
    refine (tileDv_apply ..).trans (congrArg₂ (· + ·) (congrArg (arg11.view.read (Elt Ideal) f_arg11) ?_) rfl)
    exact congrArg (fun r => ix3 h r d) (Fin.ext (Nat.add_sub_cancel' hh.1))
  · rename_i hh
    rw [dif_neg (show ¬ (64 * (chunkNo k).val ≤ r.val ∧ r.val < 64 * (chunkNo k).val + 640) from hh), add_zero]

theorem read_trip_db (h : Fin 4) (q : Fin 64) (j : Fin 640) :
    arg9.view.read (Elt Ideal) (arg9.view.writes (Elt Ideal) f_arg9 (tripL_k0_t1 (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 k f_arg6 f_arg9 f_arg10 f_arg11).2.1) (ix3 h q j)
      = arg9.view.read (Elt Ideal) f_arg9 (ix3 h q j) + bGrad (arg1.view.read (Elt Ideal) X_arg1) (arg2.view.read (Elt Ideal) X_arg2) (arg3.view.read (Elt Ideal) X_arg3) (arg4.view.read (Elt Ideal) X_arg4) (arg5.view.read (Elt Ideal) X_arg5) h (chunkNo k) q j := by
  rw [trip_db]
  refine (read_heads arg9.view f_arg9 _ _ _ _ _ _ _ _ 0 rfl rfl rfl rfl
    (fun h => tileDb k (qTile (arg1.view.read (Elt Ideal) X_arg1) h (chunkNo k)) (kTile (arg2.view.read (Elt Ideal) X_arg2) h (chunkNo k)) (kTile (arg3.view.read (Elt Ideal) X_arg3) h (chunkNo k)) (bTile (arg4.view.read (Elt Ideal) X_arg4) h) (qTile (arg5.view.read (Elt Ideal) X_arg5) h (chunkNo k)) (bTile (arg9.view.read (Elt Ideal) f_arg9) h))
    (by rw [load_q arg1.view X_arg1 (k0_off7_inb k) 3 k (k0_off7_eq k), load_k arg2.view X_arg2 (k0_off8_inb k) 3 k (k0_off8_eq k), load_k arg3.view X_arg3 (k0_off8_inb k) 3 k (k0_off8_eq k), load_b arg4.view X_arg4 inb_S4x64x640_S1x64x640_3_0_0 3 rfl, load_q arg5.view X_arg5 (k0_off7_inb k) 3 k (k0_off7_eq k), load_b arg9.view f_arg9 inb_S4x64x640_S1x64x640_3_0_0 3 rfl])
    (by rw [load_q arg1.view X_arg1 (k0_off5_inb k) 2 k (k0_off5_eq k), load_k arg2.view X_arg2 (k0_off6_inb k) 2 k (k0_off6_eq k), load_k arg3.view X_arg3 (k0_off6_inb k) 2 k (k0_off6_eq k), load_b arg4.view X_arg4 inb_S4x64x640_S1x64x640_2_0_0 2 rfl, load_q arg5.view X_arg5 (k0_off5_inb k) 2 k (k0_off5_eq k), load_b arg9.view f_arg9 inb_S4x64x640_S1x64x640_2_0_0 2 rfl])
    (by rw [load_q arg1.view X_arg1 (k0_off3_inb k) 1 k (k0_off3_eq k), load_k arg2.view X_arg2 (k0_off4_inb k) 1 k (k0_off4_eq k), load_k arg3.view X_arg3 (k0_off4_inb k) 1 k (k0_off4_eq k), load_b arg4.view X_arg4 inb_S4x64x640_S1x64x640_1_0_0 1 rfl, load_q arg5.view X_arg5 (k0_off3_inb k) 1 k (k0_off3_eq k), load_b arg9.view f_arg9 inb_S4x64x640_S1x64x640_1_0_0 1 rfl])
    (by rw [load_q arg1.view X_arg1 (k0_off1_inb k) 0 k (k0_off1_eq k), load_k arg2.view X_arg2 (k0_off2_inb k) 0 k (k0_off2_eq k), load_k arg3.view X_arg3 (k0_off2_inb k) 0 k (k0_off2_eq k), load_b arg4.view X_arg4 inb_S4x64x640_S1x64x640_0_0_0 0 rfl, load_q arg5.view X_arg5 (k0_off1_inb k) 0 k (k0_off1_eq k), load_b arg9.view f_arg9 inb_S4x64x640_S1x64x640_0_0_0 0 rfl]) h q j).trans ?_
  rw [dif_pos ⟨Nat.zero_le _, by rw [Nat.zero_add]; exact q.isLt⟩]
  exact tileDb_apply ..

/-! ## The loop -/

theorem loop_dq (n : ℕ) (hn : n ≤ 32) (h : Fin 4) (t : Fin 2048) (d : Fin 64) :
    arg6.view.read (Elt Ideal) (arg6.view.writes (Elt Ideal) f_arg6 (pb_k0_t1 (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 f_arg6 f_arg9 f_arg10 f_arg11 n).1) (ix3 h t d)
      = if t.val < 64 * n then dqChunk (arg1.view.read (Elt Ideal) X_arg1) (arg2.view.read (Elt Ideal) X_arg2) (arg3.view.read (Elt Ideal) X_arg3) (arg4.view.read (Elt Ideal) X_arg4) (arg5.view.read (Elt Ideal) X_arg5) h ⟨t.val / 64, by omega⟩ ⟨t.val % 64, by omega⟩ d
        else arg6.view.read (Elt Ideal) f_arg6 (ix3 h t d) := by
  induction n with
  | zero => rw [if_neg (by omega)]; rfl
  | succ n ih =>
    have hk : n < k0_t1_loop.trips := by rw [trips_eq]; omega
    rw [pb_k0_t1_succ (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 f_arg6 f_arg9 f_arg10 f_arg11 ⟨n, hk⟩]
    dsimp only
    rw [View.writes_append, read_trip_dq, ih (by omega)]
    by_cases hh : 64 * n ≤ t.val ∧ t.val < 64 * n + 64
    · rw [dif_pos hh, if_pos (by omega)]
      have h1 : t.val / 64 = n := by omega
      have h2 : t.val % 64 = t.val - 64 * n := by omega
      exact congrArg₂ (fun a b => dqChunk (arg1.view.read (Elt Ideal) X_arg1) (arg2.view.read (Elt Ideal) X_arg2) (arg3.view.read (Elt Ideal) X_arg3) (arg4.view.read (Elt Ideal) X_arg4) (arg5.view.read (Elt Ideal) X_arg5) h a b d) (Fin.ext h1.symm) (Fin.ext h2.symm)
    · rw [dif_neg hh]
      by_cases h1 : t.val < 64 * n
      · rw [if_pos h1, if_pos (by omega)]
      · rw [if_neg h1, if_neg (by omega)]

theorem loop_dk (n : ℕ) (hn : n ≤ 32) (h : Fin 4) (r : Fin 2624) (d : Fin 64) :
    arg10.view.read (Elt Ideal) (arg10.view.writes (Elt Ideal) f_arg10 (pb_k0_t1 (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 f_arg6 f_arg9 f_arg10 f_arg11 n).2.2.1) (ix3 h r d)
      = arg10.view.read (Elt Ideal) f_arg10 (ix3 h r d)
        + before n (overRows (fun k j => dkChunk (arg1.view.read (Elt Ideal) X_arg1) (arg2.view.read (Elt Ideal) X_arg2) (arg3.view.read (Elt Ideal) X_arg3) (arg4.view.read (Elt Ideal) X_arg4) (arg5.view.read (Elt Ideal) X_arg5) h k j d) r.val) := by
  induction n with
  | zero => rw [before_zero, add_zero]; rfl
  | succ n ih =>
    have hk : n < k0_t1_loop.trips := by rw [trips_eq]; omega
    rw [pb_k0_t1_succ (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 f_arg6 f_arg9 f_arg10 f_arg11 ⟨n, hk⟩]
    dsimp only
    rw [View.writes_append, read_trip_dk, ih (by omega), add_assoc]
    exact congrArg _ (before_succ ⟨n, by omega⟩ _).symm

theorem loop_dv (n : ℕ) (hn : n ≤ 32) (h : Fin 4) (r : Fin 2624) (d : Fin 64) :
    arg11.view.read (Elt Ideal) (arg11.view.writes (Elt Ideal) f_arg11 (pb_k0_t1 (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 f_arg6 f_arg9 f_arg10 f_arg11 n).2.2.2) (ix3 h r d)
      = arg11.view.read (Elt Ideal) f_arg11 (ix3 h r d)
        + before n (overRows (fun k j => dvChunk (arg1.view.read (Elt Ideal) X_arg1) (arg2.view.read (Elt Ideal) X_arg2) (arg4.view.read (Elt Ideal) X_arg4) (arg5.view.read (Elt Ideal) X_arg5) h k j d) r.val) := by
  induction n with
  | zero => rw [before_zero, add_zero]; rfl
  | succ n ih =>
    have hk : n < k0_t1_loop.trips := by rw [trips_eq]; omega
    rw [pb_k0_t1_succ (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 f_arg6 f_arg9 f_arg10 f_arg11 ⟨n, hk⟩]
    dsimp only
    rw [View.writes_append, read_trip_dv, ih (by omega), add_assoc]
    exact congrArg _ (before_succ ⟨n, by omega⟩ _).symm

theorem loop_db (n : ℕ) (hn : n ≤ 32) (h : Fin 4) (q : Fin 64) (j : Fin 640) :
    arg9.view.read (Elt Ideal) (arg9.view.writes (Elt Ideal) f_arg9 (pb_k0_t1 (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 f_arg6 f_arg9 f_arg10 f_arg11 n).2.1) (ix3 h q j)
      = arg9.view.read (Elt Ideal) f_arg9 (ix3 h q j) + before n (fun k => bGrad (arg1.view.read (Elt Ideal) X_arg1) (arg2.view.read (Elt Ideal) X_arg2) (arg3.view.read (Elt Ideal) X_arg3) (arg4.view.read (Elt Ideal) X_arg4) (arg5.view.read (Elt Ideal) X_arg5) h k q j) := by
  induction n with
  | zero => rw [before_zero, add_zero]; rfl
  | succ n ih =>
    have hk : n < k0_t1_loop.trips := by rw [trips_eq]; omega
    rw [pb_k0_t1_succ (F := Ideal) 𝒱 c bd i arg1 harg1 arg2 harg2 arg3 harg3 arg4 harg4 arg5 harg5 arg6 harg6 arg7 harg7 arg8 harg8 arg9 harg9 arg10 harg10 arg11 harg11 colIota X_arg1 X_arg2 X_arg3 X_arg4 X_arg5 f_arg6 f_arg9 f_arg10 f_arg11 ⟨n, hk⟩]
    dsimp only
    rw [View.writes_append, read_trip_db, ih (by omega), add_assoc]
    exact congrArg _ (before_succ ⟨n, by omega⟩ _).symm

end Cert.Grad

end
-- ==== Proof.Body.lean ====
/- The body of the chunk-attention gradient, run once over the extended reals: on whole staging buffers it leaves in each
   output the block the specification names, whatever the outputs and the scratch held. -/
module

public import proofs.«01_k».proof.Proof.Block
public import proofs.«01_k».proof.Proof.Gen.KernelIdeal.Frame.Runs

@[expose] public section

set_option maxRecDepth 16384

noncomputable section

namespace Cert.Grad

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

local notation "𝕄" => MT nD τ sig Unit (Elt Ideal) ℕ (UR sig nD τ) ℕ

/-! ## The blocks -/

section Blocks

variable (x1 : S4x2048x64.Idx → EReal) (x2 x3 : S4x2624x64.Idx → EReal) (x4 : S4x64x640.Idx → EReal)
  (x5 : S4x2048x64.Idx → EReal)

/-- The block of the gradient of the queries. -/
def outDq : S4x2048x64.Idx → EReal := fun i =>
  have h1 : (i (1 : Fin 3)).val < 2048 := (i (1 : Fin 3)).isLt
  dqChunk x1 x2 x3 x4 x5 (i (0 : Fin 3)) ⟨(i (1 : Fin 3)).val / 64, by omega⟩ ⟨(i (1 : Fin 3)).val % 64, by omega⟩ (i (2 : Fin 3))

/-- The block of the gradient of the keys: the padded rows from row 576. -/
def outDk : S4x2048x64.Idx → EReal := fun i =>
  ∑ k, overRows (fun k j => dkChunk x1 x2 x3 x4 x5 (i (0 : Fin 3)) k j (i (2 : Fin 3))) (576 + (i (1 : Fin 3)).val) k

/-- The block of the gradient of the values. -/
def outDv : S4x2048x64.Idx → EReal := fun i =>
  ∑ k, overRows (fun k j => dvChunk x1 x2 x4 x5 (i (0 : Fin 3)) k j (i (2 : Fin 3))) (576 + (i (1 : Fin 3)).val) k

/-- The block of the gradient of the bias. -/
def outDb : S4x64x640.Idx → EReal := fun i =>
  ∑ k, bGrad x1 x2 x3 x4 x5 (i (0 : Fin 3)) k (i (1 : Fin 3)) (i (2 : Fin 3))

end Blocks

/-! ## What the loop leaves, as blocks -/

section Out

variable (𝒱 : Variants) (c : Dev nD) (bd : Option 𝒱.V) (i : grid0.Coords) (arg1 : Memref sig .tc .vmem S4x2048x64 .bf16) (harg1 : arg1.IsWhole) (arg2 : Memref sig .tc .vmem S4x2624x64 .bf16) (harg2 : arg2.IsWhole) (arg3 : Memref sig .tc .vmem S4x2624x64 .bf16) (harg3 : arg3.IsWhole) (arg4 : Memref sig .tc .vmem S4x64x640 .f32) (harg4 : arg4.IsWhole) (arg5 : Memref sig .tc .vmem S4x2048x64 .bf16) (harg5 : arg5.IsWhole) (arg6 : Memref sig .tc .vmem S4x2048x64 .bf16) (harg6 : arg6.IsWhole) (arg7 : Memref sig .tc .vmem S4x2048x64 .bf16) (harg7 : arg7.IsWhole) (arg8 : Memref sig .tc .vmem S4x2048x64 .bf16) (harg8 : arg8.IsWhole) (arg9 : Memref sig .tc .vmem S4x64x640 .f32) (harg9 : arg9.IsWhole) (arg10 : Memref sig .tc .vmem S4x2624x64 .f32) (harg10 : arg10.IsWhole) (arg11 : Memref sig .tc .vmem S4x2624x64 .f32) (harg11 : arg11.IsWhole) (x1 : Vec Ideal S4x2048x64 .bf16) (x2 x3 : Vec Ideal S4x2624x64 .bf16) (x4 : Vec Ideal S4x64x640 .f32) (x5 : Vec Ideal S4x2048x64 .bf16)
  (f6 : BufTy.Contents (Elt Ideal) arg6.view.ty) (f9 : BufTy.Contents (Elt Ideal) arg9.view.ty)
  (f10 : BufTy.Contents (Elt Ideal) arg10.view.ty) (f11 : BufTy.Contents (Elt Ideal) arg11.view.ty)

theorem out_dq : arg6.view.read (Elt Ideal) (arg6.view.writes (Elt Ideal) f6 (pb_k0_t1 (F := Ideal) 𝒱 c bd i arg1 harg1 arg2 harg2 arg3 harg3 arg4 harg4 arg5 harg5 arg6 harg6 arg7 harg7 arg8 harg8 arg9 harg9 arg10 harg10 arg11 harg11 colIota (harg1.unread x1) (harg2.unread x2) (harg3.unread x3) (harg4.unread x4) (harg5.unread x5) f6 f9 f10 f11 32).1) = outDq x1 x2 x3 x4 x5 := by
  funext i
  have h1 : (i (1 : Fin 3)).val < 2048 := (i (1 : Fin 3)).isLt
  obtain ⟨h, t, d, rfl⟩ : ∃ (h : Fin 4) (t : Fin 2048) (d : Fin 64), i = ix3 h t d := ⟨i 0, i 1, i 2, eq_ix3 i⟩
  rw [loop_dq (n := 32) (hn := le_refl _), if_pos (by omega), harg1.read_unread, harg2.read_unread, harg3.read_unread, harg4.read_unread, harg5.read_unread]
  rfl

theorem out_db (h9 : arg9.view.read (Elt Ideal) f9 = fun _ => (0 : EReal)) :
    arg9.view.read (Elt Ideal) (arg9.view.writes (Elt Ideal) f9 (pb_k0_t1 (F := Ideal) 𝒱 c bd i arg1 harg1 arg2 harg2 arg3 harg3 arg4 harg4 arg5 harg5 arg6 harg6 arg7 harg7 arg8 harg8 arg9 harg9 arg10 harg10 arg11 harg11 colIota (harg1.unread x1) (harg2.unread x2) (harg3.unread x3) (harg4.unread x4) (harg5.unread x5) f6 f9 f10 f11 32).2.1) = outDb x1 x2 x3 x4 x5 := by
  funext i
  obtain ⟨h, t, d, rfl⟩ : ∃ (h : Fin 4) (t : Fin 64) (d : Fin 640), i = ix3 h t d := ⟨i 0, i 1, i 2, eq_ix3 i⟩
  rw [loop_db (n := 32) (hn := le_refl _), h9, before_all, harg1.read_unread, harg2.read_unread, harg3.read_unread, harg4.read_unread, harg5.read_unread]
  exact zero_add _

theorem out_dk (h10 : arg10.view.read (Elt Ideal) f10 = fun _ => (0 : EReal))
    (inb : ∀ a : Fin 3, (![0, 576, 0] : Fin 3 → ℕ) a + S4x2048x64.size a ≤ S4x2624x64.size a) :
    arg10.view.readAt (Elt Ideal) (Rect.unit (s := S4x2624x64) ![0, 576, 0] S4x2048x64.size inb).toLoadRect
      (arg10.view.writes (Elt Ideal) f10 (pb_k0_t1 (F := Ideal) 𝒱 c bd i arg1 harg1 arg2 harg2 arg3 harg3 arg4 harg4 arg5 harg5 arg6 harg6 arg7 harg7 arg8 harg8 arg9 harg9 arg10 harg10 arg11 harg11 colIota (harg1.unread x1) (harg2.unread x2) (harg3.unread x3) (harg4.unread x4) (harg5.unread x5) f6 f9 f10 f11 32).2.2.1) = outDk x1 x2 x3 x4 x5 := by
  funext i
  obtain ⟨h, t, d, rfl⟩ : ∃ (h : Fin 4) (t : Fin 2048) (d : Fin 64), i = ix3 h t d := ⟨i 0, i 1, i 2, eq_ix3 i⟩
  rw [View.readAt_unit arg10.view _ inb rfl inb]
  refine (congrArg (arg10.view.read (Elt Ideal) _) (show _ = ix3 h (⟨576 + t.val, by omega⟩ : Fin 2624) d from funext fun a => Fin.ext ?_)).trans ?_
  · match a with
    | ⟨0, _⟩ => show 0 + 1 * h.val = h.val; omega
    | ⟨1, _⟩ => show 576 + 1 * t.val = 576 + t.val; omega
    | ⟨2, _⟩ => show 0 + 1 * d.val = d.val; omega
  rw [loop_dk (n := 32) (hn := le_refl _), h10, before_all, harg1.read_unread, harg2.read_unread, harg3.read_unread, harg4.read_unread, harg5.read_unread]
  exact zero_add _

theorem out_dv (h11 : arg11.view.read (Elt Ideal) f11 = fun _ => (0 : EReal))
    (inb : ∀ a : Fin 3, (![0, 576, 0] : Fin 3 → ℕ) a + S4x2048x64.size a ≤ S4x2624x64.size a) :
    arg11.view.readAt (Elt Ideal) (Rect.unit (s := S4x2624x64) ![0, 576, 0] S4x2048x64.size inb).toLoadRect
      (arg11.view.writes (Elt Ideal) f11 (pb_k0_t1 (F := Ideal) 𝒱 c bd i arg1 harg1 arg2 harg2 arg3 harg3 arg4 harg4 arg5 harg5 arg6 harg6 arg7 harg7 arg8 harg8 arg9 harg9 arg10 harg10 arg11 harg11 colIota (harg1.unread x1) (harg2.unread x2) (harg3.unread x3) (harg4.unread x4) (harg5.unread x5) f6 f9 f10 f11 32).2.2.2) = outDv x1 x2 x4 x5 := by
  funext i
  obtain ⟨h, t, d, rfl⟩ : ∃ (h : Fin 4) (t : Fin 2048) (d : Fin 64), i = ix3 h t d := ⟨i 0, i 1, i 2, eq_ix3 i⟩
  rw [View.readAt_unit arg11.view _ inb rfl inb]
  refine (congrArg (arg11.view.read (Elt Ideal) _) (show _ = ix3 h (⟨576 + t.val, by omega⟩ : Fin 2624) d from funext fun a => Fin.ext ?_)).trans ?_
  · match a with
    | ⟨0, _⟩ => show 0 + 1 * h.val = h.val; omega
    | ⟨1, _⟩ => show 576 + 1 * t.val = 576 + t.val; omega
    | ⟨2, _⟩ => show 0 + 1 * d.val = d.val; omega
  rw [loop_dv (n := 32) (hn := le_refl _), h11, before_all, harg1.read_unread, harg2.read_unread, harg4.read_unread, harg5.read_unread]
  exact zero_add _

end Out

/-! ## The run -/

/-- A buffer all of whose elements have been stored reads what was stored. -/
theorem read_whole {sg : RefSig} {κ' : Kind} {sp : Space} {s : Shape} {e : EltTy} {Val : EltTy → Type} (v : View sg κ' sp s e)
    (f : v.ty.Contents Val) {off : Fin s.rank → ℕ} (inb : ∀ a, off a + s.size a ≤ s.size a) (w : s.Idx → Val e) (L) :
    v.read Val (v.writes Val f ((⟨Rect.unit off s.size inb, w⟩ : View.Piece Val s e) :: L)) = w :=
  funext fun y => View.read_writes_cons_unit_of_mem v f inb w L y y
    (off' := fun _ => 0) (funext fun a => by have := inb a; omega) fun a => (Nat.zero_add _).symm

theorem pay7_id (v : Vec Ideal S4x2048x64 .f32) : k0_pay7 (F := Ideal) v = v := rfl
theorem pay8_id (v : Vec Ideal S4x2048x64 .f32) : k0_pay8 (F := Ideal) v = v := rfl

set_option maxHeartbeats 4000000 in
/-- The body's triple. -/
theorem body_run (c : Dev nD) (i : grid0.Coords) (arg1 : Memref sig .tc .vmem S4x2048x64 .bf16) (harg1 : arg1.IsWhole) (arg2 : Memref sig .tc .vmem S4x2624x64 .bf16) (harg2 : arg2.IsWhole) (arg3 : Memref sig .tc .vmem S4x2624x64 .bf16) (harg3 : arg3.IsWhole) (arg4 : Memref sig .tc .vmem S4x64x640 .f32) (harg4 : arg4.IsWhole) (arg5 : Memref sig .tc .vmem S4x2048x64 .bf16) (harg5 : arg5.IsWhole) (arg6 : Memref sig .tc .vmem S4x2048x64 .bf16) (harg6 : arg6.IsWhole) (arg7 : Memref sig .tc .vmem S4x2048x64 .bf16) (harg7 : arg7.IsWhole) (arg8 : Memref sig .tc .vmem S4x2048x64 .bf16) (harg8 : arg8.IsWhole) (arg9 : Memref sig .tc .vmem S4x64x640 .f32) (harg9 : arg9.IsWhole) (arg10 : Memref sig .tc .vmem S4x2624x64 .f32) (harg10 : arg10.IsWhole) (arg11 : Memref sig .tc .vmem S4x2624x64 .f32) (harg11 : arg11.IsWhole) (x1 : Vec Ideal S4x2048x64 .bf16) (x2 x3 : Vec Ideal S4x2624x64 .bf16) (x4 : Vec Ideal S4x64x640 .f32) (x5 : Vec Ideal S4x2048x64 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outDq x1 x2 x3 x4 x5) ∗ owns (c : Thread nD τ) arg7 fullShare (outDk x1 x2 x3 x4 x5) ∗ owns (c : Thread nD τ) arg8 fullShare (outDv x1 x2 x4 x5) ∗ owns (c : Thread nD τ) arg9 fullShare (outDb x1 x2 x3 x4 x5) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_dch (F := Ideal) i arg1 harg1 arg2 harg2 arg3 harg3 arg4 harg4 arg5 harg5 arg6 harg6 arg7 harg7 arg8 harg8 arg9 harg9 arg10 harg10 arg11 harg11) K := by
  simp only [cc0_dch_eq_skeleton]; unfold cc0_dch_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4; obtain rfl := harg5.eq_unread hf5
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; exact out_dq ..
  isplitl [H7]
  · iexists _; isplitr
    swap; · iexact H7
    ipureintro
    sl_unfold_words
    refine (read_whole _ _ _ _ _).trans ?_
    refine (pay7_id _).trans ?_
    unfold View.readCov
    rw [View.writes_append]
    exact out_dk (h10 := (read_whole _ _ _ _ _).trans (funext fun _ => Ideal.ofBits_zero_f32)) ..
  isplitl [H8]
  · iexists _; isplitr
    swap; · iexact H8
    ipureintro
    sl_unfold_words
    refine (read_whole _ _ _ _ _).trans ?_
    refine (pay8_id _).trans ?_
    unfold View.readCov
    rw [View.writes_append]
    exact out_dv (h11 := (read_whole _ _ _ _ _).trans (funext fun _ => Ideal.ofBits_zero_f32)) ..
  isplitl [H9]
  · iexists _; isplitr
    swap; · iexact H9
    ipureintro
    rw [View.writes_append]
    exact out_db (h9 := (read_whole _ _ _ _ _).trans (funext fun _ => Ideal.ofBits_zero_f32)) ..
  isplitl [H10]
  · iexists _; iexists _; isplitr
    swap; · iexact H10
    ipureintro; rfl
  iexists _; iexists _; isplitr
  swap; · iexact H11
  ipureintro; rfl

end Cert.Grad

end
-- ==== Proof.Frame.lean ====
/- The launch of the chunk-attention gradient over the extended reals: what each point leaves in its blocks, the run of the
   whole program, the frame, and what the four result arrays hold at the end. -/
module

public import proofs.«01_k».proof.Proof.Body
public import Idealize.ShloMosaic.Lib.Claim

@[expose] public section

set_option maxRecDepth 16384

noncomputable section

namespace Cert.Grad

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the pipeline finds and what each point leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outDq (iblk m c 0 t) (iblk m c 1 t) (iblk m c 2 t) (iblk m c 3 t) (iblk m c 4 t)
    | ⟨6, _⟩ => outDk (iblk m c 0 t) (iblk m c 1 t) (iblk m c 2 t) (iblk m c 3 t) (iblk m c 4 t)
    | ⟨7, _⟩ => outDv (iblk m c 0 t) (iblk m c 1 t) (iblk m c 3 t) (iblk m c 4 t)
    | ⟨8, _⟩ => outDb (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outDq (iblk m c 0 t) (iblk m c 1 t) (iblk m c 2 t) (iblk m c 3 t) (iblk m c 4 t) := by dsimp only [dats]
theorem after_6 (c : Dev nD) (t : Fin cfg0.N) : (dats m 0 c).after 6 t = outDk (iblk m c 0 t) (iblk m c 1 t) (iblk m c 2 t) (iblk m c 3 t) (iblk m c 4 t) := by dsimp only [dats]
theorem after_7 (c : Dev nD) (t : Fin cfg0.N) : (dats m 0 c).after 7 t = outDv (iblk m c 0 t) (iblk m c 1 t) (iblk m c 3 t) (iblk m c 4 t) := by dsimp only [dats]
theorem after_8 (c : Dev nD) (t : Fin cfg0.N) : (dats m 0 c).after 8 t = outDb (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body at a point -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run (c := c) (i := grid0.coords t) (x1 := iblk m c 0 t) (x2 := iblk m c 1 t) (x3 := iblk m c 2 t) (x4 := iblk m c 3 t) (x5 := iblk m c 4 t))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- Every execution of the program ends, with the pipeline's arrays at what the blocks make of them and no semaphore raised. -/
theorem run_quiescent : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := Ideal))) (s₀ m ρ) (Pipeline.FramePost cfgs (dats m) 0 (V m)) :=
  (θ_run defs _ _).mono (fun _ h => h.1) (run_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_arrays m ρ)

/-- The frame: the arguments unchanged, every semaphore at rest. -/
theorem frameK : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiescent m ρ))

/-! ## The result arrays -/

theorem index_inj5 : ∀ t t' : Fin cfg0.N, win0_5.index t = win0_5.index t' → t = t' :=
  (by decide +kernel : ∀ t t' : Fin grid0.N, win0_5.index t = win0_5.index t' → t = t')

theorem apart5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (index_inj5 t t' h)

theorem flushes5 : ∀ t : Fin cfg0.N, (cfg0.win 5).flush t = true :=
  (by decide +kernel : ∀ t : Fin grid0.N, (cfg0.win 5).flush t = true)

/-- Block `t` of result array 1. -/
theorem block5 (c : Dev nD) (t : Fin cfg0.N) :
    ((cfg0.win 5).blk t).view.read (Elt Ideal) ((dats m 0 c).arrAt 5 cfg0.N)
      = (cfg0.win 5).cut (grid0.coords t) (outDq (iblk m c 0 t) (iblk m c 1 t) (iblk m c 2 t) (iblk m c 3 t) (iblk m c 4 t)) := by
  rw [(dats m 0 c).read_blk_arrAt_eq_flushed 5 apart5 cfg0.N t t.isLt (flushes5 t)]
  show (cfg0.win 5).cut (grid0.coords t) ((dats m 0 c).after 5 t) = _
  rw [after_5]

theorem index_inj6 : ∀ t t' : Fin cfg0.N, win0_6.index t = win0_6.index t' → t = t' :=
  (by decide +kernel : ∀ t t' : Fin grid0.N, win0_6.index t = win0_6.index t' → t = t')

theorem apart6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (index_inj6 t t' h)

theorem flushes6 : ∀ t : Fin cfg0.N, (cfg0.win 6).flush t = true :=
  (by decide +kernel : ∀ t : Fin grid0.N, (cfg0.win 6).flush t = true)

/-- Block `t` of result array 2. -/
theorem block6 (c : Dev nD) (t : Fin cfg0.N) :
    ((cfg0.win 6).blk t).view.read (Elt Ideal) ((dats m 0 c).arrAt 6 cfg0.N)
      = (cfg0.win 6).cut (grid0.coords t) (outDk (iblk m c 0 t) (iblk m c 1 t) (iblk m c 2 t) (iblk m c 3 t) (iblk m c 4 t)) := by
  rw [(dats m 0 c).read_blk_arrAt_eq_flushed 6 apart6 cfg0.N t t.isLt (flushes6 t)]
  show (cfg0.win 6).cut (grid0.coords t) ((dats m 0 c).after 6 t) = _
  rw [after_6]

theorem index_inj7 : ∀ t t' : Fin cfg0.N, win0_7.index t = win0_7.index t' → t = t' :=
  (by decide +kernel : ∀ t t' : Fin grid0.N, win0_7.index t = win0_7.index t' → t = t')

theorem apart7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (index_inj7 t t' h)

theorem flushes7 : ∀ t : Fin cfg0.N, (cfg0.win 7).flush t = true :=
  (by decide +kernel : ∀ t : Fin grid0.N, (cfg0.win 7).flush t = true)

/-- Block `t` of result array 3. -/
theorem block7 (c : Dev nD) (t : Fin cfg0.N) :
    ((cfg0.win 7).blk t).view.read (Elt Ideal) ((dats m 0 c).arrAt 7 cfg0.N)
      = (cfg0.win 7).cut (grid0.coords t) (outDv (iblk m c 0 t) (iblk m c 1 t) (iblk m c 3 t) (iblk m c 4 t)) := by
  rw [(dats m 0 c).read_blk_arrAt_eq_flushed 7 apart7 cfg0.N t t.isLt (flushes7 t)]
  show (cfg0.win 7).cut (grid0.coords t) ((dats m 0 c).after 7 t) = _
  rw [after_7]

theorem index_inj8 : ∀ t t' : Fin cfg0.N, win0_8.index t = win0_8.index t' → t = t' :=
  (by decide +kernel : ∀ t t' : Fin grid0.N, win0_8.index t = win0_8.index t' → t = t')

theorem apart8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (index_inj8 t t' h)

theorem flushes8 : ∀ t : Fin cfg0.N, (cfg0.win 8).flush t = true :=
  (by decide +kernel : ∀ t : Fin grid0.N, (cfg0.win 8).flush t = true)

/-- Block `t` of result array 4. -/
theorem block8 (c : Dev nD) (t : Fin cfg0.N) :
    ((cfg0.win 8).blk t).view.read (Elt Ideal) ((dats m 0 c).arrAt 8 cfg0.N)
      = (cfg0.win 8).cut (grid0.coords t) (outDb (iblk m c 0 t) (iblk m c 1 t) (iblk m c 2 t) (iblk m c 3 t) (iblk m c 4 t)) := by
  rw [(dats m 0 c).read_blk_arrAt_eq_flushed 8 apart8 cfg0.N t t.isLt (flushes8 t)]
  show (cfg0.win 8).cut (grid0.coords t) ((dats m 0 c).after 8 t) = _
  rw [after_8]

end Cert.Grad

end
-- ==== Proof.Spec.lean ====
/- What the four gradients are, over the extended reals, entry by entry from the five arguments: heads are 64 columns each,
   chunk `k` looks at the 576 keys that end with its own, and keys before the first one are hidden. -/
module

public import proofs.«01_k».proof.Proof.Softmax
public import Idealize.ShloMosaic.Lib.ValueIdx

@[expose] public section

noncomputable section

namespace Cert.Grad

open Idealize.ShloMosaic Idealize.ShloMosaic.ValueIdx

/-- The scale of the scores, one eighth. -/
def scale : EReal := Ideal.ofBits .f32 0x3E000000#32

abbrev Flat : Shape := ⟨2, ![2048, 512]⟩
abbrev Table : Shape := ⟨2, ![257, 8]⟩

/-- Entry `d` of head `H` at row `r`. -/
def headAt (x : Flat.Idx → EReal) (H : Fin 8) (r : Fin 2048) (d : Fin 64) : EReal := x (ix2 r ⟨64 * H.val + d.val, by omega⟩)

/-- Row `q` of chunk `k`. -/
def rowOf (k : Fin 32) (q : Fin 64) : Fin 2048 := ⟨64 * k.val + q.val, by omega⟩

/-- Key `s` of the band of chunk `k`; zero before the first key. -/
def keyAt (x : Flat.Idx → EReal) (H : Fin 8) (k : Fin 32) (s : Fin 576) (d : Fin 64) : EReal :=
  if h : 512 ≤ 64 * k.val + s.val then headAt x H ⟨64 * k.val + s.val - 512, by omega⟩ d else 0

/-- The bias of row `q` towards key `s`. -/
def biasAt (x : Table.Idx → EReal) (H : Fin 8) (q : Fin 64) (s : Fin 576) : EReal :=
  x (ix2 ⟨min 256 (640 + q.val - s.val), by omega⟩ H)

section

variable (xq xk xv : Flat.Idx → EReal) (xt : Table.Idx → EReal) (xo : Flat.Idx → EReal)

/-- The scores of row `q` of chunk `k`, hidden keys at minus infinity. -/
def zRow (H : Fin 8) (k : Fin 32) (q : Fin 64) (s : Fin 576) : EReal :=
  if 512 ≤ 64 * k.val + s.val then (∑ d : Fin 64, headAt xq H (rowOf k q) d * keyAt xk H k s d) * scale + biasAt xt H q s else ⊥

/-- The cotangent of the probabilities. -/
def dpRow (H : Fin 8) (k : Fin 32) (q : Fin 64) (s : Fin 576) : EReal :=
  ∑ d : Fin 64, headAt xo H (rowOf k q) d * keyAt xv H k s d

/-- The gradient of the scores. -/
def zGrad (H : Fin 8) (k : Fin 32) (q : Fin 64) (s : Fin 576) : EReal :=
  rowGrad (zRow xq xk xt H k q) (dpRow xv xo H k q) s

/-- The sum over the chunks whose band holds key `r`. -/
def overBand (g : Fin 32 → Fin 576 → EReal) (r : ℕ) : EReal :=
  ∑ k : Fin 32, if h : 64 * k.val ≤ r ∧ r < 64 * k.val + 576 then g k ⟨r - 64 * k.val, by omega⟩ else 0

/-- The gradient of the queries. -/
def gradQ (H : Fin 8) (k : Fin 32) (q : Fin 64) (d : Fin 64) : EReal :=
  (∑ s : Fin 576, zGrad xq xk xv xt xo H k q s * keyAt xk H k s d) * scale

/-- The gradient of the keys. -/
def gradK (H : Fin 8) (r : Fin 2048) (d : Fin 64) : EReal :=
  overBand (fun k s => (∑ q : Fin 64, zGrad xq xk xv xt xo H k q s * headAt xq H (rowOf k q) d) * scale) (512 + r.val)

/-- The gradient of the values. -/
def gradV (H : Fin 8) (r : Fin 2048) (d : Fin 64) : EReal :=
  overBand (fun k s => ∑ q : Fin 64, rowProb (zRow xq xk xt H k q) s * headAt xo H (rowOf k q) d) (512 + r.val)

/-- The gradient of the band's bias. -/
def gradB (H : Fin 8) (q : Fin 64) (s : Fin 576) : EReal := ∑ k : Fin 32, zGrad xq xk xv xt xo H k q s

/-- The four results as arrays. -/
def arrQ : (⟨3, ![8, 2048, 64]⟩ : Shape).Idx → EReal := fun i =>
  have h1 : (i (1 : Fin 3)).val < 2048 := (i (1 : Fin 3)).isLt
  gradQ xq xk xv xt xo (i (0 : Fin 3)) ⟨(i (1 : Fin 3)).val / 64, by omega⟩ ⟨(i (1 : Fin 3)).val % 64, by omega⟩ (i (2 : Fin 3))
def arrK : (⟨3, ![8, 2048, 64]⟩ : Shape).Idx → EReal := fun i => gradK xq xk xv xt xo (i (0 : Fin 3)) (i (1 : Fin 3)) (i (2 : Fin 3))
def arrV : (⟨3, ![8, 2048, 64]⟩ : Shape).Idx → EReal := fun i => gradV xq xk xt xo (i (0 : Fin 3)) (i (1 : Fin 3)) (i (2 : Fin 3))
def arrB : (⟨3, ![8, 64, 640]⟩ : Shape).Idx → EReal := fun i =>
  have h2 : (i (2 : Fin 3)).val < 640 := (i (2 : Fin 3)).isLt
  if h : 64 ≤ (i (2 : Fin 3)).val then gradB xq xk xv xt xo (i (0 : Fin 3)) (i (1 : Fin 3)) ⟨(i (2 : Fin 3)).val - 64, by omega⟩ else 0

end

end Cert.Grad

end
-- ==== Proof.Bands.lean ====
/- One head of one block: with the block's entries those of the arguments, what a chunk computes over its 640 columns is what
   the specification says over the 576 keys of its band; the first 64 columns are hidden for every row. -/
module

public import proofs.«01_k».proof.Proof.Block
public import proofs.«01_k».proof.Proof.Spec

@[expose] public section

set_option maxRecDepth 16384

noncomputable section

namespace Cert.Grad

open Cert.KernelIdeal Idealize.ShloMosaic Idealize.ShloMosaic.ValueIdx

variable {x1 : S4x2048x64.Idx → EReal} {x2 x3 : S4x2624x64.Idx → EReal} {x4 : S4x64x640.Idx → EReal}
  {x5 : S4x2048x64.Idx → EReal} {h : Fin 4}
  {xq xk xv : Flat.Idx → EReal} {xt : Table.Idx → EReal} {xo : Flat.Idx → EReal} {H : Fin 8}

/-- Row `r` of the keys with 576 rows of zeros before them. -/
def padAt (x : Flat.Idx → EReal) (H : Fin 8) (r : Fin 2624) (d : Fin 64) : EReal :=
  if h : 576 ≤ r.val then headAt x H ⟨r.val - 576, by omega⟩ d else 0

/-- Column `64 + s` of the padded band. -/
def lateCol (s : Fin 576) : Fin 640 := Fin.natAdd 64 s

theorem padAt_band (x : Flat.Idx → EReal) (k : Fin 32) (s : Fin 576) (d : Fin 64) (r : Fin 2624)
    (hr : r.val = 64 * k.val + (64 + s.val)) : padAt x H r d = keyAt x H k s d := by
  unfold padAt keyAt
  by_cases hs : 512 ≤ 64 * k.val + s.val
  · have hr' : 576 ≤ r.val := by omega
    rw [dif_pos hr', dif_pos hs]
    have e : r.val - 576 = 64 * k.val + s.val - 512 := by omega
    exact congrArg (fun t => headAt x H t d) (Fin.ext e)
  · have hr' : ¬ 576 ≤ r.val := by omega
    rw [dif_neg hr', dif_neg hs]

section

variable (hq : ∀ r d, x1 (ix3 h r d) = headAt xq H r d) (hk : ∀ r d, x2 (ix3 h r d) = padAt xk H r d)
  (hv : ∀ r d, x3 (ix3 h r d) = padAt xv H r d) (hb : ∀ q s, x4 (ix3 h q (lateCol s)) = biasAt xt H q s)
  (ho : ∀ r d, x5 (ix3 h r d) = headAt xo H r d) (hf : ∀ k q s, zRow xq xk xt H k q s ≠ ⊤)
  (hn : ∀ k q, zRow xq xk xt H k q 512 ≠ ⊥) (k : Fin 32) (q : Fin 64)

include hq in
theorem qTile_eq (d : Fin 64) : qTile x1 h k (ix3 0 q d) = headAt xq H (rowOf k q) d := hq (rowOf k q) d

include hk in
theorem kTile_eq (s : Fin 576) (d : Fin 64) : kTile x2 h k (ix3 0 (lateCol s) d) = keyAt xk H k s d :=
  (hk ⟨64 * k.val + (64 + s.val), by omega⟩ d).trans (padAt_band xk k s d _ rfl)

theorem bScore_early (i : Fin 64) : bScore x1 x2 x4 h k q (Fin.castAdd 576 i) = ⊥ := by
  unfold bScore tileScore
  rw [if_neg]
  intro hl
  have := hl.1
  have hi : (Fin.castAdd 576 i).val = i.val := rfl
  omega

include hq hk hb in
theorem bScore_late (s : Fin 576) : bScore x1 x2 x4 h k q (lateCol s) = zRow xq xk xt H k q s := by
  unfold bScore tileScore zRow
  have hs : (lateCol s).val = 64 + s.val := rfl
  by_cases hl : 512 ≤ 64 * k.val + s.val
  · rw [if_pos hl, if_pos ⟨by omega, by omega⟩]
    refine congrArg₂ (· + ·) (congrArg₂ (· * ·) (Finset.sum_congr rfl fun d _ => ?_) rfl) (hb q s)
    rw [qTile_eq hq, kTile_eq hk]
  · rw [if_neg hl, if_neg]
    intro h'
    have := h'.2
    omega

include hq hk hb hf in
theorem bScore_ne_top (j : Fin 640) : bScore x1 x2 x4 h k q j ≠ ⊤ := by
  by_cases hj : 64 ≤ j.val
  · have e : 64 + (j.val - 64) = j.val := by omega
    have e' : lateCol ⟨j.val - 64, by omega⟩ = j := Fin.ext e
    rw [← e', bScore_late hq hk hb]
    exact hf k q _
  · have e' : Fin.castAdd 576 (⟨j.val, by omega⟩ : Fin 64) = j := Fin.ext rfl
    rw [← e', bScore_early]
    exact bot_ne_top

include hq hk hb hn in
theorem bScore_own : bScore x1 x2 x4 h k q (lateCol 512) ≠ ⊥ := by
  rw [bScore_late hq hk hb]
  exact hn k q

include hv ho in
theorem tileDp_late (s : Fin 576) : tileDp (kTile x3 h k) (qTile x5 h k) q (lateCol s) = dpRow xv xo H k q s := by
  unfold tileDp dpRow
  refine Finset.sum_congr rfl fun d _ => ?_
  rw [qTile_eq ho, kTile_eq hv]

include hq hk hb hf hn in
theorem bGrad_early (i : Fin 64) : bGrad x1 x2 x3 x4 x5 h k q (Fin.castAdd 576 i) = 0 := by
  unfold bGrad
  exact rowGrad_of_bot _ _ (bScore_ne_top hq hk hb hf k q) _ (bScore_own hq hk hb hn k q) _ (bScore_early k q i)

include hq hk hv hb ho hf hn in
theorem bGrad_late (s : Fin 576) : bGrad x1 x2 x3 x4 x5 h k q (lateCol s) = zGrad xq xk xv xt xo H k q s := by
  unfold bGrad zGrad
  exact rowGrad_pad _ _ _ _ (bScore_early k q) (bScore_late hq hk hb k q) (tileDp_late hv ho k q) (hf k q) 512 (hn k q) s

include hq hk hb hf hn in
theorem prob_early (i : Fin 64) : rowProb (bScore x1 x2 x4 h k q) (Fin.castAdd 576 i) = 0 :=
  rowProb_of_bot _ (bScore_ne_top hq hk hb hf k q) _ (bScore_own hq hk hb hn k q) _ (bScore_early k q i)

include hq hk hb in
theorem prob_late (s : Fin 576) : rowProb (bScore x1 x2 x4 h k q) (lateCol s) = rowProb (zRow xq xk xt H k q) s :=
  rowProb_pad _ _ (bScore_early k q) (bScore_late hq hk hb k q) s

include hq hk hv hb ho hf hn in
theorem dqChunk_eq (d : Fin 64) : dqChunk x1 x2 x3 x4 x5 h k q d = gradQ xq xk xv xt xo H k q d := by
  unfold dqChunk gradQ
  refine congrArg₂ (· * ·) ?_ rfl
  rw [show (∑ j : Fin 640, bGrad x1 x2 x3 x4 x5 h k q j * kTile x2 h k (ix3 0 j d))
    = (∑ j : Fin (64 + 576), bGrad x1 x2 x3 x4 x5 h k q j * kTile x2 h k (ix3 0 j d)) from rfl, Fin.sum_univ_add]
  rw [Finset.sum_eq_zero fun i _ => by rw [bGrad_early hq hk hb hf hn, zero_mul], zero_add]
  refine Finset.sum_congr rfl fun s _ => ?_
  exact congrArg₂ (· * ·) (bGrad_late hq hk hv hb ho hf hn k q s) (kTile_eq hk k s d)

end

/-- A sum over the padded rows whose first 64 columns add nothing is the sum over the band. -/
theorem overRows_sum (g : Fin 32 → Fin 640 → EReal) (g' : Fin 32 → Fin 576 → EReal)
    (h₀ : ∀ k i, g k (Fin.castAdd 576 i) = 0) (h₁ : ∀ k s, g k (lateCol s) = g' k s) (r : ℕ) :
    ∑ k, overRows g (576 + r) k = overBand g' (512 + r) := by
  unfold overBand
  refine Finset.sum_congr rfl fun k _ => ?_
  unfold overRows
  by_cases hb : 64 * k.val ≤ 512 + r ∧ 512 + r < 64 * k.val + 576
  · rw [dif_pos hb, dif_pos (by omega), ← h₁]
    congr 1
    exact Fin.ext (by show 576 + r - 64 * k.val = 64 + (512 + r - 64 * k.val); omega)
  · rw [dif_neg hb]
    split
    · rename_i hh
      rw [show (⟨576 + r - 64 * k.val, by omega⟩ : Fin 640) = Fin.castAdd 576 ⟨576 + r - 64 * k.val, by omega⟩ from rfl, h₀]
    · rfl

section

variable (hq : ∀ r d, x1 (ix3 h r d) = headAt xq H r d) (hk : ∀ r d, x2 (ix3 h r d) = padAt xk H r d)
  (hv : ∀ r d, x3 (ix3 h r d) = padAt xv H r d) (hb : ∀ q s, x4 (ix3 h q (lateCol s)) = biasAt xt H q s)
  (ho : ∀ r d, x5 (ix3 h r d) = headAt xo H r d) (hf : ∀ k q s, zRow xq xk xt H k q s ≠ ⊤)
  (hn : ∀ k q, zRow xq xk xt H k q 512 ≠ ⊥)

include hq hk hv hb ho hf hn in
theorem dk_eq (r : Fin 2048) (d : Fin 64) :
    ∑ k, overRows (fun k j => dkChunk x1 x2 x3 x4 x5 h k j d) (576 + r.val) k = gradK xq xk xv xt xo H r d := by
  unfold gradK
  refine overRows_sum _ _ (fun k i => ?_) (fun k s => ?_) r.val
  · unfold dkChunk
    rw [Finset.sum_eq_zero fun q _ => by rw [bGrad_early hq hk hb hf hn, zero_mul], zero_mul]
  · unfold dkChunk
    refine congrArg₂ (· * ·) (Finset.sum_congr rfl fun q _ => ?_) rfl
    rw [bGrad_late hq hk hv hb ho hf hn, qTile_eq hq]

include hq hk hb ho hf hn in
theorem dv_eq (r : Fin 2048) (d : Fin 64) :
    ∑ k, overRows (fun k j => dvChunk x1 x2 x4 x5 h k j d) (576 + r.val) k = gradV xq xk xt xo H r d := by
  unfold gradV
  refine overRows_sum _ _ (fun k i => ?_) (fun k s => ?_) r.val
  · unfold dvChunk
    rw [Finset.sum_eq_zero fun q _ => by rw [prob_early hq hk hb hf hn, zero_mul]]
  · unfold dvChunk
    refine Finset.sum_congr rfl fun q _ => ?_
    rw [prob_late hq hk hb, qTile_eq ho]

include hq hk hv hb ho hf hn in
theorem db_eq (q : Fin 64) (j : Fin 640) : ∑ k, bGrad x1 x2 x3 x4 x5 h k q j
    = if hj : 64 ≤ j.val then gradB xq xk xv xt xo H q ⟨j.val - 64, by omega⟩ else 0 := by
  split
  · rename_i hj
    unfold gradB
    refine Finset.sum_congr rfl fun k _ => ?_
    rw [← bGrad_late hq hk hv hb ho hf hn]
    congr 1
    exact Fin.ext (by show j.val = 64 + (j.val - 64); omega)
  · rename_i hj
    refine Finset.sum_eq_zero fun k _ => ?_
    rw [show j = Fin.castAdd 576 ⟨j.val, by omega⟩ from rfl, bGrad_early hq hk hb hf hn]

end

end Cert.Grad

end
-- ==== Proof.Arrays.lean ====
/- The arrays the call is given and the arrays it returns, entry by entry from the arguments. -/
module

public import proofs.«01_k».proof.Proof.Frame
public import proofs.«01_k».proof.Proof.Bands
public import Idealize.ShloMosaic.Lib.KernelVsHost
public import Idealize.ShloMosaic.Lib.Pipeline.ValueKit.Geometry

@[expose] public section

set_option maxRecDepth 16384

noncomputable section

namespace Cert.Grad

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The arguments on a device. -/
abbrev argOf (c : Dev nD) (b : Ref sig .tc) : Buf (Elt Ideal) ((c.tc : Thread nD τ).loc b) := m ((c.tc : Thread nD τ).loc b)

theorem V_q (c : Dev nD) : (V m c main_v15 : S8x2048x64.Idx → EReal)
    = transpose S8x2048x64 [1, 0, 2] (shapeCast S2048x8x64 (argOf m c main_arg0 : S2048x512.Idx → EReal) shapeCasts_S2048x512_S2048x8x64) transposes_S2048x8x64_S8x2048x64_1_0_2 := by
  unfold_abbrev_sides
  after_results
  rfl
theorem V_do (c : Dev nD) : (V m c main_v23 : S8x2048x64.Idx → EReal)
    = transpose S8x2048x64 [1, 0, 2] (shapeCast S2048x8x64 (argOf m c main_arg4 : S2048x512.Idx → EReal) shapeCasts_S2048x512_S2048x8x64) transposes_S2048x8x64_S8x2048x64_1_0_2 := by
  unfold_abbrev_sides
  after_results
  rfl
theorem V_k (c : Dev nD) : (V m c main_v18 : S8x2624x64.Idx → EReal)
    = pad S8x2624x64 ![0, 576, 0] ![0, 0, 0] ![0, 0, 0] (transpose S8x2048x64 [1, 0, 2] (shapeCast S2048x8x64 (argOf m c main_arg1 : S2048x512.Idx → EReal) shapeCasts_S2048x512_S2048x8x64) transposes_S2048x8x64_S8x2048x64_1_0_2)
      ((sitofp .bf16 (constantI S_ 32 0#32) : FVec Ideal S_ .bf16) : S_.Idx → EReal) pads_S8x2048x64_S8x2624x64_000_57600_000 h_S_ := by
  unfold_abbrev_sides
  after_results
  rfl

theorem V_v (c : Dev nD) : (V m c main_v21 : S8x2624x64.Idx → EReal)
    = pad S8x2624x64 ![0, 576, 0] ![0, 0, 0] ![0, 0, 0] (transpose S8x2048x64 [1, 0, 2] (shapeCast S2048x8x64 (argOf m c main_arg2 : S2048x512.Idx → EReal) shapeCasts_S2048x512_S2048x8x64) transposes_S2048x8x64_S8x2048x64_1_0_2)
      ((sitofp .bf16 (constantI S_ 32 0#32) : FVec Ideal S_ .bf16) : S_.Idx → EReal) pads_S8x2048x64_S8x2624x64_000_57600_000 h_S_ := by
  unfold_abbrev_sides
  after_results
  rfl

/-- The columns of the table in the order the band reads them. -/
def tableRow (x : S257x8.Idx → EReal) : S703x8.Idx → EReal :=
  concatenate S703x8 0 [⟨S512x8, broadcastInDim S512x8 ![1] bcast_S8_S512x8_1 (shapeCast S8 (extractStridedSlice S1x8 ![256, 0] x slices_S257x8_S1x8_256_0) shapeCasts_S1x8_S8)⟩,
    ⟨S191x8, Host.reverse [0] (extractStridedSlice S191x8 ![65, 0] x slices_S257x8_S191x8_65_0)⟩] concatenates_S512x8_S191x8_S703x8_d0

/-- The row of every head, repeated with one column more than it has, so that each repetition is shifted by one. -/
def shifted (x : S257x8.Idx → EReal) : S8x64x703.Idx → EReal :=
  shapeCast S8x64x703 (extractStridedSlice S8x44992 ![0, 0] (shapeCast S8x45056 (broadcastInDim S1x8x64x704 ![0, 1, 2, 3] bcast_S1x8x1x704_S1x8x64x704_0_1_2_3
    (shapeCast S1x8x1x704 (pad S8x704 ![0, 0] ![0, 1] ![0, 0] (transpose S8x703 [1, 0] (tableRow x) transposes_S703x8_S8x703_1_0)
      ((sitofp .f32 (constantI S_ 32 0#32) : FVec Ideal S_ .f32) : S_.Idx → EReal) pads_S8x703_S8x704_000_010 h_S_) shapeCasts_S8x704_S1x8x1x704)) shapeCasts_S1x8x64x704_S8x45056) slices_S8x45056_S8x44992_0_0) shapeCasts_S8x44992_S8x64x703

theorem V_bias (c : Dev nD) : (V m c main_v13 : S8x64x640.Idx → EReal)
    = extractStridedSlice S8x64x640 ![0, 0, 63] (shifted (argOf m c main_arg3 : S257x8.Idx → EReal)) slices_S8x64x703_S8x64x640_0_0_63 := by
  unfold shifted tableRow
  unfold_abbrev_sides
  after_results
  rfl

/-! ## Entry by entry -/

theorem heads_apply (x : S2048x512.Idx → EReal) (H : Fin 8) (r : Fin 2048) (d : Fin 64) :
    transpose S8x2048x64 [1, 0, 2] (shapeCast S2048x8x64 x shapeCasts_S2048x512_S2048x8x64) transposes_S2048x8x64_S8x2048x64_1_0_2 (ix3 H r d)
      = headAt x H r d := by
  rw [transpose_apply [1, 0, 2] _ _ (ix3 H r d) (ix3 r H d) (by intro b; fin_cases b <;> rfl)]
  refine shapeCast_apply _ _ _ _ ?_
  rw [Shape.rowMajor_val_two, Shape.rowMajor_val_three]
  show r.val * 512 + (64 * H.val + d.val) = (r.val * 8 + H.val) * 64 + d.val
  omega

theorem padded_apply (x : S2048x512.Idx → EReal) (H : Fin 8) (r : Fin 2624) (d : Fin 64) :
    pad S8x2624x64 ![0, 576, 0] ![0, 0, 0] ![0, 0, 0] (transpose S8x2048x64 [1, 0, 2] (shapeCast S2048x8x64 x shapeCasts_S2048x512_S2048x8x64) transposes_S2048x8x64_S8x2048x64_1_0_2)
      ((sitofp .bf16 (constantI S_ 32 0#32) : FVec Ideal S_ .bf16) : S_.Idx → EReal) pads_S8x2048x64_S8x2624x64_000_57600_000 h_S_ (ix3 H r d)
      = padAt x H r d := by
  unfold padAt
  split
  · rename_i hr
    rw [← heads_apply]
    refine pad_apply_of_inside _ _ _ _ _ _ _ _ (ix3 H ⟨r.val - 576, by omega⟩ d) ?_
    intro a
    fin_cases a
    · show H.val = 0 + H.val * 1; omega
    · show r.val = 576 + (r.val - 576) * 1; omega
    · show d.val = 0 + d.val * 1; omega
  · rename_i hr
    rw [pad_apply_of_not_inside _ _ _ _ _ _ _ _ (1 : Fin 3) (fun h => hr h.1)]
    show ((((0#32 : BitVec 32).toInt : ℝ)) : EReal) = 0
    simp

/-- The row of the table for a distance of `u` columns. -/
theorem tableRow_apply (x : S257x8.Idx → EReal) (u : Fin 703) (H : Fin 8) :
    tableRow x (ix2 u H) = x (ix2 ⟨min 256 (767 - u.val), by omega⟩ H) := by
  unfold tableRow
  by_cases hu : u.val < 512
  · rw [concatenate_pair_apply_left (s₁ := S512x8) (s₂ := S191x8) _ _ _ _ (ix2 u H) rfl (ix2 ⟨u.val, hu⟩ H) (by intro b; fin_cases b <;> rfl)]
    rw [broadcastInDim_apply _ _ _ _ (ix1 H) (by intro a; fin_cases a; rfl)]
    rw [shapeCast_apply _ _ (ix1 H) (ix2 0 H) (by rw [Shape.rowMajor_val_two, Shape.rowMajor_val_one]; show 0 * 8 + H.val = H.val; omega)]
    refine extractStridedSlice_apply _ _ _ _ _ ?_
    intro a; fin_cases a
    · show min 256 (767 - u.val) = 256 + 0; omega
    · show H.val = 0 + H.val; omega
  · rw [concatenate_pair_apply_right (s₁ := S512x8) (s₂ := S191x8) _ _ _ _ (ix2 u H) rfl rfl (ix2 ⟨u.val - 512, by omega⟩ H)
      (by intro b hb; fin_cases b; · exact absurd rfl hb
          rfl) (by show u.val - 512 + 512 = u.val; omega)]
    refine extractStridedSlice_apply _ _ _ _ _ ?_
    intro a; fin_cases a
    · show min 256 (767 - u.val) = 65 + (191 - (u.val - 512 + 1)); omega
    · show H.val = 0 + H.val; omega

theorem shifted_apply (x : S257x8.Idx → EReal) (H : Fin 8) (q : Fin 64) (w : Fin 703) (hq : q.val ≤ w.val) :
    shifted x (ix3 H q w) = tableRow x (ix2 ⟨w.val - q.val, by omega⟩ H) := by
  unfold shifted
  rw [shapeCast_apply _ _ (ix3 H q w) (ix2 H ⟨q.val * 703 + w.val, by omega⟩)
    (by rw [Shape.rowMajor_val_two, Shape.rowMajor_val_three]; show H.val * 44992 + (q.val * 703 + w.val) = (H.val * 64 + q.val) * 703 + w.val; omega)]
  rw [extractStridedSlice_apply _ _ _ _ (ix2 H ⟨q.val * 703 + w.val, by omega⟩)
    (by intro a; fin_cases a
        · show H.val = 0 + H.val; omega
        · show q.val * 703 + w.val = 0 + (q.val * 703 + w.val); omega)]
  rw [shapeCast_apply _ _ _ (ix4 0 H q ⟨w.val - q.val, by omega⟩)
    (by rw [Shape.rowMajor_val_two, Shape.rowMajor_val_four]; show ((0 * 8 + H.val) * 64 + q.val) * 704 + (w.val - q.val) = H.val * 45056 + (q.val * 703 + w.val); omega)]
  rw [broadcastInDim_apply _ _ _ _ (ix4 0 H 0 ⟨w.val - q.val, by omega⟩) (by intro a; fin_cases a <;> rfl)]
  rw [shapeCast_apply _ _ _ (ix2 H ⟨w.val - q.val, by omega⟩)
    (by rw [Shape.rowMajor_val_two, Shape.rowMajor_val_four]; show H.val * 704 + (w.val - q.val) = ((0 * 8 + H.val) * 1 + 0) * 704 + (w.val - q.val); omega)]
  rw [pad_apply_of_inside _ _ _ _ _ _ _ _ (ix2 H ⟨w.val - q.val, by omega⟩)
    (by intro a; fin_cases a
        · show H.val = 0 + H.val * 1; omega
        · show w.val - q.val = 0 + (w.val - q.val) * 1; omega)]
  exact transpose_apply [1, 0] _ _ _ _ (by intro b; fin_cases b <;> rfl)

theorem bias_apply (x : S257x8.Idx → EReal) (H : Fin 8) (q : Fin 64) (s : Fin 576) :
    extractStridedSlice S8x64x640 ![0, 0, 63] (shifted x) slices_S8x64x703_S8x64x640_0_0_63 (ix3 H q (lateCol s)) = biasAt x H q s := by
  have hs : (lateCol s).val = 64 + s.val := rfl
  rw [extractStridedSlice_apply _ _ _ _ (ix3 H q ⟨63 + (lateCol s).val, by omega⟩)
    (by intro a; fin_cases a
        · show H.val = 0 + H.val; omega
        · show q.val = 0 + q.val; omega
        · rfl)]
  rw [shifted_apply _ _ _ _ (by show q.val ≤ 63 + (lateCol s).val; omega), tableRow_apply]
  unfold biasAt
  refine congrArg (fun t => x (ix2 t H)) (Fin.ext ?_)
  show min 256 (767 - (63 + (lateCol s).val - q.val)) = min 256 (640 + q.val - s.val)
  omega

/-! ## The blocks of a point -/

/-- Head `h` of the block of point `t`. -/
def headNo (t : Fin cfg0.N) (h : Fin 4) : Fin 8 := ⟨4 * t.val + h.val, by have : t.val < 2 := t.isLt; omega⟩

theorem coord_eq (t : Fin cfg0.N) : (grid0.coords t (0 : Fin 1)).val = t.val := by revert t; decide

theorem index0 (t : Fin cfg0.N) : win0_0.index t = ![t.val, 0, 0] := by revert t; decide
theorem index1 (t : Fin cfg0.N) : win0_1.index t = ![t.val, 0, 0] := by revert t; decide
theorem index2 (t : Fin cfg0.N) : win0_2.index t = ![t.val, 0, 0] := by revert t; decide
theorem index3 (t : Fin cfg0.N) : win0_3.index t = ![t.val, 0, 0] := by revert t; decide
theorem index4 (t : Fin cfg0.N) : win0_4.index t = ![t.val, 0, 0] := by revert t; decide

theorem blk_q (c : Dev nD) (t : Fin cfg0.N) (h : Fin 4) (r : Fin 2048) (d : Fin 64) :
    (iblk m c 0 t : S4x2048x64.Idx → EReal) (ix3 h r d) = headAt (argOf m c main_arg0) (headNo t h) r d := by
  rw [← heads_apply, ← V_q]
  show V m c main_v15 _ = V m c main_v15 _
  blk_ext [iblk, index0, headNo]
  show t.val * 4 + h.val = 4 * t.val + h.val
  omega

theorem blk_o (c : Dev nD) (t : Fin cfg0.N) (h : Fin 4) (r : Fin 2048) (d : Fin 64) :
    (iblk m c 4 t : S4x2048x64.Idx → EReal) (ix3 h r d) = headAt (argOf m c main_arg4) (headNo t h) r d := by
  rw [← heads_apply, ← V_do]
  show V m c main_v23 _ = V m c main_v23 _
  blk_ext [iblk, index4, headNo]
  show t.val * 4 + h.val = 4 * t.val + h.val
  omega

theorem blk_k (c : Dev nD) (t : Fin cfg0.N) (h : Fin 4) (r : Fin 2624) (d : Fin 64) :
    (iblk m c 1 t : S4x2624x64.Idx → EReal) (ix3 h r d) = padAt (argOf m c main_arg1) (headNo t h) r d := by
  rw [← padded_apply, ← V_k]
  show V m c main_v18 _ = V m c main_v18 _
  blk_ext [iblk, index1, headNo]
  show t.val * 4 + h.val = 4 * t.val + h.val
  omega

theorem blk_v (c : Dev nD) (t : Fin cfg0.N) (h : Fin 4) (r : Fin 2624) (d : Fin 64) :
    (iblk m c 2 t : S4x2624x64.Idx → EReal) (ix3 h r d) = padAt (argOf m c main_arg2) (headNo t h) r d := by
  rw [← padded_apply, ← V_v]
  show V m c main_v21 _ = V m c main_v21 _
  blk_ext [iblk, index2, headNo]
  show t.val * 4 + h.val = 4 * t.val + h.val
  omega

theorem blk_b (c : Dev nD) (t : Fin cfg0.N) (h : Fin 4) (q : Fin 64) (s : Fin 576) :
    (iblk m c 3 t : S4x64x640.Idx → EReal) (ix3 h q (lateCol s)) = biasAt (argOf m c main_arg3) (headNo t h) q s := by
  rw [← bias_apply, ← V_bias]
  show V m c main_v13 _ = V m c main_v13 _
  blk_ext [iblk, index3, headNo]
  show t.val * 4 + h.val = 4 * t.val + h.val
  omega

/-! ## The result arrays -/

theorem index5 (t : Fin cfg0.N) : win0_5.index t = ![t.val, 0, 0] := by revert t; decide
theorem index6 (t : Fin cfg0.N) : win0_6.index t = ![t.val, 0, 0] := by revert t; decide
theorem index7 (t : Fin cfg0.N) : win0_7.index t = ![t.val, 0, 0] := by revert t; decide
theorem index8 (t : Fin cfg0.N) : win0_8.index t = ![t.val, 0, 0] := by revert t; decide

section Results

variable (c : Dev nD)
  (hf : ∀ H k q s, zRow (argOf m c main_arg0) (argOf m c main_arg1) (argOf m c main_arg3) H k q s ≠ ⊤)
  (hn : ∀ H k q, zRow (argOf m c main_arg0) (argOf m c main_arg1) (argOf m c main_arg3) H k q 512 ≠ ⊥)

include hf hn in
theorem arr_q : ((dats m 0 c).arrAt 5 cfg0.N : S8x2048x64.Idx → EReal)
    = arrQ (argOf m c main_arg0) (argOf m c main_arg1) (argOf m c main_arg2) (argOf m c main_arg3) (argOf m c main_arg4) := by
  refine (dats m 0 c).arrAt_eq_of_covers 5 _ (by decide +kernel) fun t hfl y => ?_
  obtain ⟨h, r, d, rfl⟩ : ∃ (h : Fin 4) (r : Fin 2048) (d : Fin 64), y = (ix3 h r d : S4x2048x64.Idx) := ⟨y 0, y 1, y 2, eq_ix3 _⟩
  have e : ((cfg0.win 5).blk t).view.emb (ix3 h r d : S4x2048x64.Idx) = (ix3 (headNo t h) r d : S8x2048x64.Idx) := by
    blk_ext [index5, headNo]
    show t.val * 4 + h.val = 4 * t.val + h.val
    omega
  rw [e]
  show outDq (iblk m c 0 t) (iblk m c 1 t) (iblk m c 2 t) (iblk m c 3 t) (iblk m c 4 t) (ix3 h r d) = _
  exact dqChunk_eq (blk_q m c t h) (blk_k m c t h) (blk_v m c t h) (blk_b m c t h) (blk_o m c t h) (hf (headNo t h)) (hn (headNo t h)) _ _ _

include hf hn in
theorem arr_k : ((dats m 0 c).arrAt 6 cfg0.N : S8x2048x64.Idx → EReal)
    = arrK (argOf m c main_arg0) (argOf m c main_arg1) (argOf m c main_arg2) (argOf m c main_arg3) (argOf m c main_arg4) := by
  refine (dats m 0 c).arrAt_eq_of_covers 6 _ (by decide +kernel) fun t hfl y => ?_
  obtain ⟨h, r, d, rfl⟩ : ∃ (h : Fin 4) (r : Fin 2048) (d : Fin 64), y = (ix3 h r d : S4x2048x64.Idx) := ⟨y 0, y 1, y 2, eq_ix3 _⟩
  have e : ((cfg0.win 6).blk t).view.emb (ix3 h r d : S4x2048x64.Idx) = (ix3 (headNo t h) r d : S8x2048x64.Idx) := by
    blk_ext [index6, headNo]
    show t.val * 4 + h.val = 4 * t.val + h.val
    omega
  rw [e]
  show outDk (iblk m c 0 t) (iblk m c 1 t) (iblk m c 2 t) (iblk m c 3 t) (iblk m c 4 t) (ix3 h r d) = _
  exact dk_eq (blk_q m c t h) (blk_k m c t h) (blk_v m c t h) (blk_b m c t h) (blk_o m c t h) (hf (headNo t h)) (hn (headNo t h)) _ _

include hf hn in
theorem arr_v : ((dats m 0 c).arrAt 7 cfg0.N : S8x2048x64.Idx → EReal)
    = arrV (argOf m c main_arg0) (argOf m c main_arg1) (argOf m c main_arg3) (argOf m c main_arg4) := by
  refine (dats m 0 c).arrAt_eq_of_covers 7 _ (by decide +kernel) fun t hfl y => ?_
  obtain ⟨h, r, d, rfl⟩ : ∃ (h : Fin 4) (r : Fin 2048) (d : Fin 64), y = (ix3 h r d : S4x2048x64.Idx) := ⟨y 0, y 1, y 2, eq_ix3 _⟩
  have e : ((cfg0.win 7).blk t).view.emb (ix3 h r d : S4x2048x64.Idx) = (ix3 (headNo t h) r d : S8x2048x64.Idx) := by
    blk_ext [index7, headNo]
    show t.val * 4 + h.val = 4 * t.val + h.val
    omega
  rw [e]
  show outDv (iblk m c 0 t) (iblk m c 1 t) (iblk m c 3 t) (iblk m c 4 t) (ix3 h r d) = _
  exact dv_eq (blk_q m c t h) (blk_k m c t h) (blk_b m c t h) (blk_o m c t h) (hf (headNo t h)) (hn (headNo t h)) _ _

include hf hn in
theorem arr_b : ((dats m 0 c).arrAt 8 cfg0.N : S8x64x640.Idx → EReal)
    = arrB (argOf m c main_arg0) (argOf m c main_arg1) (argOf m c main_arg2) (argOf m c main_arg3) (argOf m c main_arg4) := by
  refine (dats m 0 c).arrAt_eq_of_covers 8 _ (by decide +kernel) fun t hfl y => ?_
  obtain ⟨h, q, j, rfl⟩ : ∃ (h : Fin 4) (q : Fin 64) (j : Fin 640), y = (ix3 h q j : S4x64x640.Idx) := ⟨y 0, y 1, y 2, eq_ix3 _⟩
  have e : ((cfg0.win 8).blk t).view.emb (ix3 h q j : S4x64x640.Idx) = (ix3 (headNo t h) q j : S8x64x640.Idx) := by
    blk_ext [index8, headNo]
    show t.val * 4 + h.val = 4 * t.val + h.val
    omega
  rw [e]
  show outDb (iblk m c 0 t) (iblk m c 1 t) (iblk m c 2 t) (iblk m c 3 t) (iblk m c 4 t) (ix3 h q j) = _
  exact db_eq (blk_q m c t h) (blk_k m c t h) (blk_v m c t h) (blk_b m c t h) (blk_o m c t h) (hf (headNo t h)) (hn (headNo t h)) _ _

end Results

end Cert.Grad

end
-- ==== Proof.Reference.lean ====
/- What the reference's arrays hold before its softmax: the heads of its arguments, the keys of each chunk's band, the bias and
   the mask, read entry by entry. -/
module

public import proofs.«01_k».proof.Proof.Gen.ReferenceIdeal.Read
public import proofs.«01_k».proof.Proof.Spec
public import Idealize.ShloMosaic.Lib.WordCmp
public import Idealize.ShloMosaic.Lib.KernelVsHost

@[expose] public section

set_option maxRecDepth 16384

noncomputable section

namespace Cert.Grad

open Idealize.ShloMosaic Idealize.ShloMosaic.ValueIdx Idealize.ShloMosaic.WordCmp
open Cert.ReferenceIdeal Cert.ReferenceIdeal.Read Cert.ReferenceIdeal.Gen

/-! ## The heads -/

theorem ref_heads (x : Flat.Idx → EReal) (H : Fin 8) (r : Fin 2048) (d : Fin 64) :
    val_main_v2 (F := Ideal) x (ix3 H r d) = headAt x H r d := by
  rw [val_main_v2_apply, val_main_v1_apply, val_main_v0_apply]
  refine congrArg x (funext fun a => Fin.ext ?_)
  match a with
  | ⟨0, _⟩ => show ((r.val * 8 + H.val) * 64 + d.val) / 512 = r.val; omega
  | ⟨1, _⟩ => show ((r.val * 8 + H.val) * 64 + d.val) % 512 = 64 * H.val + d.val; omega

theorem ref_chunks (x : Flat.Idx → EReal) (H : Fin 8) (k : Fin 32) (q : Fin 64) (d : Fin 64) :
    val_main_v32 (F := Ideal) x (ix4 H k q d) = headAt x H (rowOf k q) d := by
  rw [val_main_v32_apply, ← ref_heads]
  refine congrArg (val_main_v2 (F := Ideal) x) (funext fun a => Fin.ext ?_)
  match a with
  | ⟨0, _⟩ => show (((H.val * 32 + k.val) * 64 + q.val) * 64 + d.val) / 131072 = H.val; omega
  | ⟨1, _⟩ => show (((H.val * 32 + k.val) * 64 + q.val) * 64 + d.val) / 64 % 2048 = 64 * k.val + q.val; omega
  | ⟨2, _⟩ => show (((H.val * 32 + k.val) * 64 + q.val) * 64 + d.val) % 64 = d.val; omega

/-- The cotangent in chunks is the same array of another argument. -/
theorem ref_chunks_o (x : Flat.Idx → EReal) (H : Fin 8) (k : Fin 32) (q : Fin 64) (d : Fin 64) :
    val_main_v114 (F := Ideal) x (ix4 H k q d) = headAt x H (rowOf k q) d := ref_chunks x H k q d

/-! ## The keys of a chunk's band -/

theorem ref_padded (x : Flat.Idx → EReal) (H : Fin 8) (j : Fin 2560) (d : Fin 64) :
    val_main_v34 (F := Ideal) x (ix3 H j d) = if h : 512 ≤ j.val then headAt x H ⟨j.val - 512, by omega⟩ d else 0 := by
  unfold val_main_v34
  split
  · rename_i h
    rw [← ref_heads]
    exact concatenate_pair_apply_right (s₁ := S8x512x64) (s₂ := S8x2048x64) 1 _ _ _ (ix3 H j d) rfl rfl
      (ix3 H (⟨j.val - 512, by omega⟩ : Fin 2048) d)
      (fun b hb => by match b with | ⟨0, _⟩ => rfl | ⟨1, _⟩ => exact absurd rfl hb | ⟨2, _⟩ => rfl)
      (by show j.val - 512 + 512 = j.val; omega)
  · rename_i h
    refine (concatenate_pair_apply_left (s₁ := S8x512x64) (s₂ := S8x2048x64) 1 _ _ _ (ix3 H j d) rfl
      (ix3 H (⟨j.val, by omega⟩ : Fin 512) d) (fun b => by match b with | ⟨0, _⟩ => rfl | ⟨1, _⟩ => rfl | ⟨2, _⟩ => rfl)).trans ?_
    rw [val_main_v33_apply]
    exact Ideal.ofBits_zero_f32

theorem ref_blocks (x : Flat.Idx → EReal) (H : Fin 8) (b : Fin 40) (r : Fin 64) (d : Fin 64) :
    val_main_v36 (F := Ideal) x (ix4 H b r d) = val_main_v34 (F := Ideal) x (ix3 H (⟨64 * b.val + r.val, by omega⟩ : Fin 2560) d) := by
  rw [val_main_v36_apply]
  refine congrArg (val_main_v34 (F := Ideal) x) (funext fun a => Fin.ext ?_)
  match a with
  | ⟨0, _⟩ => show (((H.val * 40 + b.val) * 64 + r.val) * 64 + d.val) / 163840 = H.val; omega
  | ⟨1, _⟩ => show (((H.val * 40 + b.val) * 64 + r.val) * 64 + d.val) / 64 % 2560 = 64 * b.val + r.val; omega
  | ⟨2, _⟩ => show (((H.val * 40 + b.val) * 64 + r.val) * 64 + d.val) % 64 = d.val; omega

/-- The block that chunk `k` reads in place `n`. -/
theorem ref_start (k : Fin 32) (n : Fin 9) : val_main_v52 (F := Ideal) (ix3 k n (0 : Fin 1)) = BitVec.ofNat 32 (k.val + n.val) := by
  have h : val_main_v46 (F := Ideal) (ix2 k n) = BitVec.ofNat 32 (k.val + n.val) := by
    rw [val_main_v46_apply, val_main_v44_apply, val_main_v41_apply, val_main_v40_apply, val_main_v45_apply, val_main_v43_apply,
      val_main_v42_apply]
    exact addi_ofNat _ _
  have e : idx_main_v52 (ix3 k n (0 : Fin 1)) = ix2 k n := funext fun a => by match a with | ⟨0, _⟩ => rfl | ⟨1, _⟩ => rfl
  rw [val_main_v52_apply, e, val_main_v51_apply, val_main_v48_apply, h, val_main_v47_apply, val_main_c_7_apply]
  have hc : IntOp.cmpi .slt (BitVec.ofNat 32 (k.val + n.val)) 0#32 = 0#1 := by
    show IntOp.cmpi .slt (BitVec.ofNat 32 (k.val + n.val)) (BitVec.ofNat 32 0) = 0#1
    rw [cmpi_slt_ofNat (by omega) (by omega)]
    rfl
  rw [hc]
  exact ValueIdx.select_zero _ _

/-- The dimension numbers of the gather of blocks. -/
abbrev blockDims := gather_S8x40x64x64_S32x9x1_S8x32x9x64x64_034_1_n_n_1_2_816464

/-- The gather of blocks, read at an entry. -/
theorem gather_block (y : S8x40x64x64.Idx → EReal) (i : IVec S32x9x1 32)
    (hi : ∀ (k : Fin 32) (n : Fin 9), i (ix3 k n (0 : Fin 1)) = BitVec.ofNat 32 (k.val + n.val))
    (H : Fin 8) (k : Fin 32) (n : Fin 9) (r : Fin 64) (d : Fin 64) :
    Host.gather blockDims y i (ix5 H k n r d) = y (ix4 H (⟨k.val + n.val, by omega⟩ : Fin 40) r d) := by
  have s0 : ∀ a : Fin 4, a ≠ 1 → blockDims.start (ix5 H k n r d) i a = 0 := fun a ha => by
    unfold GatherDims.start
    exact dif_neg (fun h => ha (List.mem_singleton.mp h))
  have s1 : blockDims.start (ix5 H k n r d) i (1 : Fin 4) = k.val + n.val := by
    unfold GatherDims.start
    rw [dif_pos (show (1 : Fin 4) ∈ blockDims.startIndexMap from List.mem_singleton.mpr rfl)]
    have hs : blockDims.siIdx (ix5 H k n r d) ⟨List.idxOf (1 : Fin 4) blockDims.startIndexMap,
        List.idxOf_lt_length_iff.2 (List.mem_singleton.mpr rfl)⟩ = ix3 k n (0 : Fin 1) := by
      funext b; refine Fin.ext ?_
      match b with
      | ⟨0, _⟩ => rfl
      | ⟨1, _⟩ => rfl
      | ⟨2, _⟩ => rfl
    rw [hs, hi, toInt_ofNat_of_lt (by omega)]
    show min ((k.val + n.val : ℕ) : Int).toNat 39 = _
    omega
  have o1 : blockDims.offCoord (ix5 H k n r d) (1 : Fin 4) = 0 :=
    GatherDims.offCoord_eq_zero _ _ _ (fun h => ((GatherDims.mem_sKept _ _).mp h).1 (List.mem_singleton.mpr rfl))
  have o0 : blockDims.offCoord (ix5 H k n r d) (0 : Fin 4) = H.val := by
    unfold GatherDims.offCoord
    exact (dif_pos (by decide)).trans rfl
  have o2 : blockDims.offCoord (ix5 H k n r d) (2 : Fin 4) = r.val := by
    unfold GatherDims.offCoord
    exact (dif_pos (by decide)).trans rfl
  have o3 : blockDims.offCoord (ix5 H k n r d) (3 : Fin 4) = d.val := by
    unfold GatherDims.offCoord
    exact (dif_pos (by decide)).trans rfl
  unfold Host.gather
  refine congrArg y (funext fun a => Fin.ext ?_)
  show GatherDims.start _ _ _ a + GatherDims.batchCoord _ _ a + GatherDims.offCoord _ _ a = _
  rw [GatherDims.batchCoord_eq_zero _ _ _ List.not_mem_nil]
  match a with
  | ⟨0, _⟩ => exact (congrArg₂ (fun u v => u + 0 + v) (s0 0 (by decide)) o0).trans (by show 0 + 0 + H.val = H.val; omega)
  | ⟨1, _⟩ => exact (congrArg₂ (fun u v : ℕ => u + 0 + v) s1 o1).trans rfl
  | ⟨2, _⟩ => exact (congrArg₂ (fun u v => u + 0 + v) (s0 2 (by decide)) o2).trans (by show 0 + 0 + r.val = r.val; omega)
  | ⟨3, _⟩ => exact (congrArg₂ (fun u v => u + 0 + v) (s0 3 (by decide)) o3).trans (by show 0 + 0 + d.val = d.val; omega)

/-- The keys of the band of chunk `k`. -/
theorem ref_keys (x : Flat.Idx → EReal) (H : Fin 8) (k : Fin 32) (s : Fin 576) (d : Fin 64) :
    val_main_v54 (F := Ideal) x (ix4 H k s d) = keyAt x H k s d := by
  have e : idx_main_v54 (ix4 H k s d) = ix5 H k (⟨s.val / 64, by omega⟩ : Fin 9) (⟨s.val % 64, by omega⟩ : Fin 64) d := by
    funext a; refine Fin.ext ?_
    match a with
    | ⟨0, _⟩ => show (((H.val * 32 + k.val) * 576 + s.val) * 64 + d.val) / 1179648 = H.val; omega
    | ⟨1, _⟩ => show (((H.val * 32 + k.val) * 576 + s.val) * 64 + d.val) / 36864 % 32 = k.val; omega
    | ⟨2, _⟩ => show (((H.val * 32 + k.val) * 576 + s.val) * 64 + d.val) / 4096 % 9 = s.val / 64; omega
    | ⟨3, _⟩ => show (((H.val * 32 + k.val) * 576 + s.val) * 64 + d.val) / 64 % 64 = s.val % 64; omega
    | ⟨4, _⟩ => show (((H.val * 32 + k.val) * 576 + s.val) * 64 + d.val) % 64 = d.val; omega
  rw [val_main_v54_apply, e]
  unfold val_main_v53
  rw [gather_block _ _ ref_start, ref_blocks, ref_padded]
  have ej : 64 * (k.val + s.val / 64) + s.val % 64 = 64 * k.val + s.val := by omega
  unfold keyAt
  by_cases h : 512 ≤ 64 * k.val + s.val
  · rw [dif_pos h, dif_pos (by show 512 ≤ 64 * (k.val + s.val / 64) + s.val % 64; omega)]
    exact congrArg (fun t => headAt x H t d) (Fin.ext (by show 64 * (k.val + s.val / 64) + s.val % 64 - 512 = 64 * k.val + s.val - 512; omega))
  · rw [dif_neg h, dif_neg (by show ¬ 512 ≤ 64 * (k.val + s.val / 64) + s.val % 64; omega)]

/-- The values' band is the same array of another argument. -/
theorem ref_vals (x : Flat.Idx → EReal) (H : Fin 8) (k : Fin 32) (s : Fin 576) (d : Fin 64) :
    val_main_v62 (F := Ideal) x (ix4 H k s d) = keyAt x H k s d := ref_keys x H k s d

/-! ## Words -/

theorem toInt_sub_small (x y : BitVec 32) (h : -1000000 < x.toInt - y.toInt) (h' : x.toInt - y.toInt < 1000000) :
    (IntOp.subi x y).toInt = x.toInt - y.toInt := by
  show (x - y).toInt = _
  rw [BitVec.toInt_sub]
  exact Int.bmod_eq_of_le (by omega) (by omega)

theorem toInt_add_small (x y : BitVec 32) (h : -1000000 < x.toInt + y.toInt) (h' : x.toInt + y.toInt < 1000000) :
    (IntOp.addi x y).toInt = x.toInt + y.toInt := by
  show (x + y).toInt = _
  rw [BitVec.toInt_add]
  exact Int.bmod_eq_of_le (by omega) (by omega)

theorem toInt_mul_small (x y : BitVec 32) (h : -1000000 < x.toInt * y.toInt) (h' : x.toInt * y.toInt < 1000000) :
    (IntOp.muli x y).toInt = x.toInt * y.toInt := by
  show (x * y).toInt = _
  rw [BitVec.toInt_mul]
  exact Int.bmod_eq_of_le (by omega) (by omega)

theorem toInt_small (n : ℕ) (h : n < 1000000) : (BitVec.ofNat 32 n).toInt = n := toInt_ofNat_of_lt (by omega)

/-! ## The bias -/

theorem ref_rel (q : Fin 64) (s : Fin 576) :
    (val_main_v28 (F := Ideal) (ix2 q s)).toInt = ((min 256 (640 + q.val - s.val) : ℕ) : Int) := by
  have t15 : (val_main_v18 (F := Ideal) (ix2 q s)).toInt = (q.val : Int) + 512 := by
    rw [val_main_v18_apply, val_main_v15_apply, val_main_v13_apply, val_main_v12_apply, val_main_v14_apply, val_main_c_apply]
    show (IntOp.addi (BitVec.ofNat 32 q.val) (BitVec.ofNat 32 512)).toInt = _
    rw [toInt_add_small, toInt_small q.val (by omega), toInt_small 512 (by omega)] <;>
      (try rw [toInt_small q.val (by omega), toInt_small 512 (by omega)]) <;> omega
  have t19 : (val_main_v19 (F := Ideal) (ix2 q s)).toInt = (s.val : Int) := by
    rw [val_main_v19_apply, val_main_v17_apply, val_main_v16_apply]
    exact toInt_small s.val (by omega)
  have t20 : (val_main_v20 (F := Ideal) (ix2 q s)).toInt = (q.val : Int) + 512 - s.val := by
    rw [val_main_v20_apply, toInt_sub_small, t15, t19] <;> rw [t15, t19] <;> omega
  have t2 : (val_main_call0_v2 (F := Ideal) (ix2 q s)).toInt = max (-128) ((q.val : Int) + 512 - s.val) := by
    rw [val_main_call0_v2_apply, val_main_call0_v1_apply, val_main_call0_v0_apply, val_main_c_0_apply]
    unfold IntOp.maxsi
    rw [BitVec.slt_eq_decide, t20]
    have e : (4294967168#32 : BitVec 32).toInt = -128 := by decide
    rw [e]
    split
    · rename_i h; rw [e]; have := of_decide_eq_true h; omega
    · rename_i h; rw [t20]; have : ¬ _ := fun g => h (decide_eq_true g); omega
  have t21 : (val_main_v21 (F := Ideal) (ix2 q s)).toInt = min 128 (max (-128) ((q.val : Int) + 512 - s.val)) := by
    rw [val_main_v21_apply, val_main_call0_v4_apply, val_main_call0_v3_apply, val_main_c_1_apply]
    unfold IntOp.minsi
    rw [BitVec.slt_eq_decide, t2]
    have e : (128#32 : BitVec 32).toInt = 128 := by decide
    rw [e]
    split
    · rename_i h; rw [e]; have := of_decide_eq_true h; omega
    · rename_i h; rw [t2]; have : ¬ _ := fun g => h (decide_eq_true g); omega
  have t23 : (val_main_v23 (F := Ideal) (ix2 q s)).toInt = ((min 256 (640 + q.val - s.val) : ℕ) : Int) := by
    have e : (128#32 : BitVec 32).toInt = 128 := by decide
    rw [val_main_v23_apply, val_main_v22_apply, val_main_c_2_apply, toInt_add_small, t21, e] <;> (try rw [t21, e]) <;> omega
  rw [val_main_v28_apply, val_main_v25_apply, val_main_v24_apply, val_main_c_3_apply]
  have hc : IntOp.cmpi .slt (val_main_v23 (F := Ideal) (ix2 q s)) 0#32 = 0#1 := by
    rw [cmpi_slt_eq, t23, BitVec.toInt_zero, decide_eq_false (by omega)]
    rfl
  rw [hc, ValueIdx.select_zero, t23]

/-- The dimension numbers of the gather of the table's rows. -/
abbrev tableDims := gather_S257x8_S64x576x1_S64x576x8_2_0_n_n_0_2_18

theorem ref_bias (x : Table.Idx → EReal) (H : Fin 8) (q : Fin 64) (s : Fin 576) :
    val_main_v31 (F := Ideal) x (ix3 H q s) = biasAt x H q s := by
  have e : idx_main_v31 (ix3 H q s) = ix3 q s H := by
    funext a
    match a with | ⟨0, _⟩ => rfl | ⟨1, _⟩ => rfl | ⟨2, _⟩ => rfl
  rw [val_main_v31_apply, e]
  have s0 : tableDims.start (ix3 q s H) (val_main_v29 (F := Ideal)) (0 : Fin 2) = min 256 (640 + q.val - s.val) := by
    unfold GatherDims.start
    rw [dif_pos (show (0 : Fin 2) ∈ tableDims.startIndexMap from List.mem_singleton.mpr rfl)]
    have hs : tableDims.siIdx (ix3 q s H) ⟨List.idxOf (0 : Fin 2) tableDims.startIndexMap,
        List.idxOf_lt_length_iff.2 (List.mem_singleton.mpr rfl)⟩ = ix3 q s (0 : Fin 1) := by
      funext b; refine Fin.ext ?_
      match b with
      | ⟨0, _⟩ => rfl
      | ⟨1, _⟩ => rfl
      | ⟨2, _⟩ => rfl
    have e9 : val_main_v29 (F := Ideal) (ix3 q s (0 : Fin 1)) = val_main_v28 (F := Ideal) (ix2 q s) := by
      rw [val_main_v29_apply]
      exact congrArg (val_main_v28 (F := Ideal)) (funext fun b => by match b with | ⟨0, _⟩ => rfl | ⟨1, _⟩ => rfl)
    rw [hs, e9, ref_rel]
    show min ((min 256 (640 + q.val - s.val) : ℕ) : Int).toNat 256 = _
    omega
  have s1 : tableDims.start (ix3 q s H) (val_main_v29 (F := Ideal)) (1 : Fin 2) = 0 := by
    unfold GatherDims.start
    exact dif_neg (by decide)
  have o0 : tableDims.offCoord (ix3 q s H) (0 : Fin 2) = 0 :=
    GatherDims.offCoord_eq_zero _ _ _ (fun h => ((GatherDims.mem_sKept _ _).mp h).1 (List.mem_singleton.mpr rfl))
  have o1 : tableDims.offCoord (ix3 q s H) (1 : Fin 2) = H.val := by
    unfold GatherDims.offCoord
    exact (dif_pos (by decide)).trans rfl
  unfold val_main_v30 Host.gather biasAt
  refine congrArg x (funext fun a => Fin.ext ?_)
  show GatherDims.start _ _ _ a + GatherDims.batchCoord _ _ a + GatherDims.offCoord _ _ a = _
  rw [GatherDims.batchCoord_eq_zero _ _ _ List.not_mem_nil]
  match a with
  | ⟨0, _⟩ => exact (congrArg₂ (fun u v : ℕ => u + 0 + v) s0 o0).trans rfl
  | ⟨1, _⟩ => exact (congrArg₂ (fun u v => u + 0 + v) s1 o1).trans (by show 0 + 0 + H.val = H.val; omega)

/-! ## The mask -/

theorem ref_mask (H : Fin 8) (k : Fin 32) (q : Fin 64) (s : Fin 576) :
    val_main_v83_1 (F := Ideal) (ix4 H k q s) = if 512 ≤ 64 * k.val + s.val then 1#1 else 0#1 := by
  have e8 : (8#32 : BitVec 32).toInt = 8 := by decide
  have e64 : (64#32 : BitVec 32).toInt = 64 := by decide
  have t72 : (val_main_v72 (F := Ideal) (idx_main_v77 (ix2 k s))).toInt = (k.val : Int) - 8 := by
    have hk : (val_main_v70 (F := Ideal) (idx_main_v77 (ix2 k s))).toInt = (k.val : Int) := by
      rw [val_main_v70_apply, val_main_v69_apply]
      exact toInt_small k.val (by omega)
    rw [val_main_v72_apply, val_main_v71_apply, val_main_c_12_apply, toInt_sub_small, hk, e8] <;> (try rw [hk, e8]) <;> omega
  have t74 : (val_main_v77 (F := Ideal) (ix2 k s)).toInt = ((k.val : Int) - 8) * 64 := by
    rw [val_main_v77_apply, val_main_v74_apply, val_main_v73_apply, val_main_c_13_apply, toInt_mul_small, t72, e64] <;>
      (try rw [t72, e64]) <;> omega
  have t78 : (val_main_v78 (F := Ideal) (ix2 k s)).toInt = (s.val : Int) := by
    rw [val_main_v78_apply, val_main_v76_apply, val_main_v75_apply]
    exact toInt_small s.val (by omega)
  have t79 : (val_main_v79 (F := Ideal) (ix2 k s)).toInt = 64 * (k.val : Int) + s.val - 512 := by
    rw [val_main_v79_apply, toInt_add_small, t74, t78] <;> (try rw [t74, t78]) <;> omega
  have e1 : idx_main_v82 (idx_main_v83_1 (ix4 H k q s)) = ix2 k s := funext fun a => by match a with | ⟨0, _⟩ => rfl | ⟨1, _⟩ => rfl
  rw [val_main_v83_1_apply, val_main_v82_apply, e1, val_main_v81_apply, val_main_v80_apply, val_main_c_14_apply, cmpi_sge_eq, t79,
    BitVec.toInt_zero]
  by_cases h : 512 ≤ 64 * k.val + s.val
  · rw [if_pos h, decide_eq_true (by omega)]; rfl
  · rw [if_neg h, decide_eq_false (by omega)]; rfl

end Cert.Grad

end
-- ==== Proof.RefGrad.lean ====
/- The reference's softmax and its gradient, entry by entry: each row of scores, its probabilities, and the gradient of the scores. -/
module

public import proofs.«01_k».proof.Proof.Reference
public import Idealize.ShloMosaic.PureOps.Ideal.Laws

@[expose] public section

set_option maxRecDepth 16384

noncomputable section

namespace Cert.Grad

open Idealize.ShloMosaic Idealize.ShloMosaic.ValueIdx
open Cert.ReferenceIdeal Cert.ReferenceIdeal.Read Cert.ReferenceIdeal.Gen

theorem word_bot : Ideal.ofBits .f32 0xFF800000#32 = ⊥ := by simp [Ideal.ofBits, Ideal.ieee]

theorem scale_real : scale = ((1 / 8 : ℝ) : EReal) := by
  unfold scale
  simp [Ideal.ofBits, Ideal.ieee]
  norm_num
  rw [← EReal.coe_mul]
  norm_num

/-! ## Equal indices -/

theorem ix4_ext {a b c d : ℕ} {i j : (⟨4, ![a, b, c, d]⟩ : Shape).Idx} (h0 : (i (0 : Fin 4)).val = (j (0 : Fin 4)).val)
    (h1 : (i (1 : Fin 4)).val = (j (1 : Fin 4)).val) (h2 : (i (2 : Fin 4)).val = (j (2 : Fin 4)).val)
    (h3 : (i (3 : Fin 4)).val = (j (3 : Fin 4)).val) : i = j :=
  funext fun x => Fin.ext (match x with | ⟨0, _⟩ => h0 | ⟨1, _⟩ => h1 | ⟨2, _⟩ => h2 | ⟨3, _⟩ => h3)

theorem ix3_ext {a b c : ℕ} {i j : (⟨3, ![a, b, c]⟩ : Shape).Idx} (h0 : (i (0 : Fin 3)).val = (j (0 : Fin 3)).val)
    (h1 : (i (1 : Fin 3)).val = (j (1 : Fin 3)).val) (h2 : (i (2 : Fin 3)).val = (j (2 : Fin 3)).val) : i = j :=
  funext fun x => Fin.ext (match x with | ⟨0, _⟩ => h0 | ⟨1, _⟩ => h1 | ⟨2, _⟩ => h2)

section

variable (x0 x1 x2 : Flat.Idx → EReal) (x3 : Table.Idx → EReal) (x4 : Flat.Idx → EReal)

/-! ## The scores -/

theorem ref_qk (H : Fin 8) (k : Fin 32) (q : Fin 64) (s : Fin 576) :
    val_main_v63 (F := Ideal) x0 x1 (ix4 H k q s) = ∑ d : Fin 64, headAt x0 H (rowOf k q) d * keyAt x1 H k s d := by
  rw [val_main_v63_apply]
  refine Finset.sum_congr rfl fun d _ => ?_
  rw [show lidx_main_v63 (ix4 H k q s) d = ix4 H k q d from ix4_ext rfl rfl rfl rfl,
    show ridx_main_v63 (ix4 H k q s) d = ix4 H k s d from ix4_ext rfl rfl rfl rfl, ref_chunks, ref_keys]

theorem ref_dp (H : Fin 8) (k : Fin 32) (q : Fin 64) (s : Fin 576) :
    val_main_v117 (F := Ideal) x2 x4 (ix4 H k q s) = dpRow x2 x4 H k q s := by
  rw [val_main_v117_apply]
  refine Finset.sum_congr rfl fun d _ => ?_
  rw [show lidx_main_v117 (ix4 H k q s) d = ix4 H k q d from ix4_ext rfl rfl rfl rfl,
    show ridx_main_v117 (ix4 H k q s) d = ix4 H k s d from ix4_ext rfl rfl rfl rfl, ref_chunks_o, ref_vals]

theorem ref_scores (H : Fin 8) (k : Fin 32) (q : Fin 64) (s : Fin 576) :
    val_main_v83_0 (F := Ideal) x0 x1 x3 (ix4 H k q s) = zRow x0 x1 x3 H k q s := by
  rw [val_main_v83_0_apply, ref_mask]
  unfold zRow
  by_cases h : 512 ≤ 64 * k.val + s.val
  · rw [if_pos h, if_pos h, ValueIdx.select_one, val_main_v68_apply, val_main_v65_apply, ref_qk, val_main_v64_apply, val_main_cst_11_apply,
      val_main_v67_apply, val_main_v66_apply,
      show idx_main_v66 (idx_main_v67 (ix4 H k q s)) = ix3 H q s from ix3_ext rfl rfl rfl, ref_bias]
    rfl
  · rw [if_neg h, if_neg h, ValueIdx.select_zero, val_main_call1_v2_apply, val_main_call1_v0_apply, val_main_cst_15_apply]
    exact word_bot

/-! ## The softmax -/

omit x0 x1 x2 x3 x4 in
theorem max_reduce (y : FVec Ideal S8x32x64x576 .f32) (H : Fin 8) (k : Fin 32) (q : Fin 64) :
    (Host.reduce FloatOps.maximumf y (constant S_ .f32 0xFF800000#32) reducesTo_S8x32x64x576_S8x32x64_d3 h_S_ : FVec Ideal S8x32x64 .f32)
      (ix3 H k q) = Finset.univ.fold max (⊥ : EReal) (fun s : Fin 576 => y (ix4 H k q s)) := by
  have hR : Shape.Reduces S8x32x64x576 [3] S8x32x64 := by decide
  have hb : (FloatOps.ofBits .f32 0xFF800000#32 : Ideal .f32) = (⊥ : EReal) := word_bot
  refine (congrFun (hostReduce_maximumf_eq_multiReduction y 0xFF800000#32 reducesTo_S8x32x64x576_S8x32x64_d3 h_S_ hR (.inl rfl) rfl)
    (ix3 H k q)).trans ((Ideal.multiReduction_maximumf_single y 0xFF800000#32 hR (.inl rfl) rfl (ix3 H k q)).trans ?_)
  rw [hb]
  exact congrArg (fun f => Finset.univ.fold max (⊥ : EReal) f) (funext fun s => congrArg y (ix4_ext rfl rfl rfl rfl))

theorem ref_max (H : Fin 8) (k : Fin 32) (q : Fin 64) :
    val_main_v84 (F := Ideal) x0 x1 x3 (ix3 H k q) = rowMax (zRow x0 x1 x3 H k q) := by
  unfold val_main_v84 val_main_cst_16 rowMax
  rw [max_reduce]
  exact congrArg (fun f => Finset.univ.fold max (⊥ : EReal) f) (funext fun s => ref_scores x0 x1 x3 H k q s)

theorem ref_exp (H : Fin 8) (k : Fin 32) (q : Fin 64) (s : Fin 576) :
    val_main_v104 (F := Ideal) x0 x1 x3 (ix4 H k q s) = rowExp (zRow x0 x1 x3 H k q) s := by
  rw [val_main_v104_apply, val_main_v103_apply, ref_scores, val_main_v102_apply, val_main_v101_apply,
    show idx_main_v101 (idx_main_v102 (ix4 H k q s)) = ix3 H k q from ix3_ext rfl rfl rfl, val_main_v91_apply, ref_max,
    val_main_v90_apply, val_main_cst_18_apply]
  show Ideal.exp (zRow x0 x1 x3 H k q s - max (Ideal.ofBits .f32 0xFF800000#32) (rowMax (zRow x0 x1 x3 H k q))) = _
  rw [word_bot, max_eq_right bot_le]
  rfl

theorem ref_sum (H : Fin 8) (k : Fin 32) (q : Fin 64) (u : Fin 1) :
    val_main_v106 (F := Ideal) x0 x1 x3 (ix4 H k q u) = rowSum (zRow x0 x1 x3 H k q) := by
  rw [val_main_v106_apply, show idx_main_v106 (ix4 H k q u) = ix3 H k q from ix3_ext rfl rfl rfl, val_main_v105_apply]
  rw [show val_main_cst_24 (F := Ideal) (Shape.Idx.first h_S_) = (0 : EReal) from Ideal.ofBits_zero_f32, zero_add]
  refine Finset.sum_congr rfl fun s _ => ?_
  rw [show idx_main_v105 (ix3 H k q) s = ix4 H k q s from ix4_ext rfl rfl rfl rfl, ref_exp]

theorem ref_prob (H : Fin 8) (k : Fin 32) (q : Fin 64) (s : Fin 576) :
    val_main_v108 (F := Ideal) x0 x1 x3 (ix4 H k q s) = rowProb (zRow x0 x1 x3 H k q) s := by
  rw [val_main_v108_apply, ref_exp, val_main_v107_apply,
    show idx_main_v107 (ix4 H k q s) = ix4 H k q (0 : Fin 1) from ix4_ext rfl rfl rfl rfl, ref_sum]
  rfl

/-! ## The gradient of the scores -/

theorem ref_corr (H : Fin 8) (k : Fin 32) (q : Fin 64) (s : Fin 576) :
    val_main_v120 (F := Ideal) x0 x1 x2 x3 x4 (ix4 H k q s)
      = (dpRow x2 x4 H k q s * Ideal.div 1 (rowSum (zRow x0 x1 x3 H k q) * rowSum (zRow x0 x1 x3 H k q)))
        * rowExp (zRow x0 x1 x3 H k q) s := by
  rw [val_main_v120_apply, val_main_v119_apply, ref_dp, ref_exp, val_main_v118_apply,
    show idx_main_v118 (ix4 H k q s) = ix4 H k q (0 : Fin 1) from ix4_ext rfl rfl rfl rfl, val_main_v111_apply, val_main_v109_apply,
    ref_sum, val_main_v110_apply, val_main_cst_25_apply,
    show (FloatOps.ofBits .f32 0x3F800000#32 : Ideal .f32) = (1 : EReal) from Ideal.ofBits_one_f32]
  rfl

theorem ref_corr_sum (H : Fin 8) (k : Fin 32) (q : Fin 64) :
    val_main_v126 (F := Ideal) x0 x1 x2 x3 x4 (ix3 H k q)
      = -(∑ s : Fin 576, (dpRow x2 x4 H k q s * Ideal.div 1 (rowSum (zRow x0 x1 x3 H k q) * rowSum (zRow x0 x1 x3 H k q)))
          * rowExp (zRow x0 x1 x3 H k q) s) := by
  rw [val_main_v126_apply, show val_main_cst_27 (F := Ideal) (Shape.Idx.first h_S_) = (0 : EReal) from Ideal.ofBits_zero_f32, zero_add,
    Fin.sum_univ_one, show idx_main_v126 (ix3 H k q) 0 = ix4 H k q (0 : Fin 1) from ix4_ext rfl rfl rfl rfl, val_main_v123_apply,
    val_main_v122_apply]
  rw [show idx_main_v122 (ix4 H k q (0 : Fin 1)) = ix3 H k q from ix3_ext
    (by show (((H.val * 32 + k.val) * 64 + q.val) * 1 + 0) / 2048 = H.val; omega)
    (by show (((H.val * 32 + k.val) * 64 + q.val) * 1 + 0) / 64 % 32 = k.val; omega)
    (by show (((H.val * 32 + k.val) * 64 + q.val) * 1 + 0) % 64 = q.val; omega)]
  rw [val_main_v121_apply, show val_main_cst_26 (F := Ideal) (Shape.Idx.first h_S_) = (0 : EReal) from Ideal.ofBits_zero_f32, zero_add]
  show -(∑ s : Fin 576, val_main_v120 (F := Ideal) x0 x1 x2 x3 x4 (idx_main_v121 (ix3 H k q) s)) = _
  refine congrArg (fun t => -t) (Finset.sum_congr rfl fun s _ => ?_)
  rw [show idx_main_v121 (ix3 H k q) s = ix4 H k q s from ix4_ext rfl rfl rfl rfl, ref_corr]

/-- The gradient of the scores, where every score is below plus infinity and the first key of the last eight blocks is seen. -/
theorem ref_grad (hf : ∀ H k q s, zRow x0 x1 x3 H k q s ≠ ⊤) (hn : ∀ H k q, zRow x0 x1 x3 H k q 512 ≠ ⊥)
    (H : Fin 8) (k : Fin 32) (q : Fin 64) (s : Fin 576) :
    val_main_v130 (F := Ideal) x0 x1 x2 x3 x4 (ix4 H k q s) = zGrad x0 x1 x2 x3 x4 H k q s := by
  rw [val_main_v130_apply, ref_mask]
  unfold zGrad
  by_cases h : 512 ≤ 64 * k.val + s.val
  · rw [if_pos h, ValueIdx.select_one, val_main_v129_apply, val_main_v128_apply, val_main_v125_apply, ref_dp, ref_exp, val_main_v124_apply,
      show idx_main_v124 (ix4 H k q s) = ix4 H k q (0 : Fin 1) from ix4_ext rfl rfl rfl rfl, ref_sum, val_main_v127_apply,
      show idx_main_v127 (ix4 H k q s) = ix3 H k q from ix3_ext rfl rfl rfl, ref_corr_sum,
      rowGrad_eq _ _ (hf H k q) 512 (hn H k q) s]
    rfl
  · rw [if_neg h, ValueIdx.select_zero, rowGrad_of_bot _ _ (hf H k q) 512 (hn H k q) s (by unfold zRow; exact if_neg h),
      val_main_call2_v0_apply]
    exact Ideal.ofBits_zero_f32

end

end Cert.Grad

end
-- ==== Proof.RefResult.lean ====
/- The reference's four results, entry by entry: they are the four arrays of the specification. -/
module

public import proofs.«01_k».proof.Proof.RefGrad

@[expose] public section

set_option maxRecDepth 16384

noncomputable section

namespace Cert.Grad

open Idealize.ShloMosaic Idealize.ShloMosaic.ValueIdx Idealize.ShloMosaic.WordCmp
open Cert.ReferenceIdeal Cert.ReferenceIdeal.Read Cert.ReferenceIdeal.Gen

theorem arr3_ext {a b c : ℕ} (f g : (⟨3, ![a, b, c]⟩ : Shape).Idx → EReal)
    (h : ∀ (i : Fin a) (j : Fin b) (k : Fin c), f (ix3 i j k) = g (ix3 i j k)) : f = g :=
  funext fun i => by rw [eq_ix3 i]; exact h _ _ _

/-! ## The scatter of blocks -/

/-- The dimension numbers of the scatter of blocks. -/
abbrev spreadDims := scatter_S8x40x64x64_S32x9x1_S8x32x9x64x64_034_1_1_2

/-- Where an entry of the updates goes. -/
theorem spread_to (i : IVec S32x9x1 32) (hi : ∀ (k : Fin 32) (n : Fin 9), i (ix3 k n (0 : Fin 1)) = BitVec.ofNat 32 (k.val + n.val))
    (H : Fin 8) (k : Fin 32) (n : Fin 9) (r : Fin 64) (d : Fin 64) :
    spreadDims.resultIdx? (ix5 H k n r d) i = some (ix4 H (⟨k.val + n.val, by omega⟩ : Fin 40) r d) := by
  have s0 : ∀ a : Fin 4, a ≠ 1 → spreadDims.start (ix5 H k n r d) i a = 0 := fun a ha => by
    unfold ScatterDims.start
    exact dif_neg (fun h => ha (List.mem_singleton.mp h))
  have s1 : spreadDims.start (ix5 H k n r d) i (1 : Fin 4) = ((k.val + n.val : ℕ) : Int) := by
    unfold ScatterDims.start
    rw [dif_pos (show (1 : Fin 4) ∈ spreadDims.scatterDimsToOperandDims from List.mem_singleton.mpr rfl)]
    have hs : spreadDims.siIdx (ix5 H k n r d) ⟨List.idxOf (1 : Fin 4) spreadDims.scatterDimsToOperandDims,
        List.idxOf_lt_length_iff.2 (List.mem_singleton.mpr rfl)⟩ = ix3 k n (0 : Fin 1) := by
      funext b; refine Fin.ext ?_
      match b with
      | ⟨0, _⟩ => rfl
      | ⟨1, _⟩ => rfl
      | ⟨2, _⟩ => rfl
    rw [hs, hi, toInt_ofNat_of_lt (by omega)]
  have w0 : spreadDims.window (ix5 H k n r d) (0 : Fin 4) = H.val := by
    unfold ScatterDims.window
    exact (dif_pos (by decide)).trans rfl
  have w1 : spreadDims.window (ix5 H k n r d) (1 : Fin 4) = 0 := by
    unfold ScatterDims.window
    exact dif_neg (by decide)
  have w2 : spreadDims.window (ix5 H k n r d) (2 : Fin 4) = r.val := by
    unfold ScatterDims.window
    exact (dif_pos (by decide)).trans rfl
  have w3 : spreadDims.window (ix5 H k n r d) (3 : Fin 4) = d.val := by
    unfold ScatterDims.window
    exact (dif_pos (by decide)).trans rfl
  have e : ∀ a : Fin 4, spreadDims.start (ix5 H k n r d) i a + (spreadDims.window (ix5 H k n r d) a : Int)
      = (((ix4 H (⟨k.val + n.val, by omega⟩ : Fin 40) r d : S8x40x64x64.Idx) a).val : Int) := fun a => by
    match a with
    | ⟨0, _⟩ => exact (congrArg₂ (fun (u : Int) (v : ℕ) => u + v) (s0 0 (by decide)) w0).trans (by show (0 : Int) + (H.val : Int) = (H.val : Int); omega)
    | ⟨1, _⟩ => exact (congrArg₂ (fun (u : Int) (v : ℕ) => u + v) s1 w1).trans (by show ((k.val + n.val : ℕ) : Int) + ((0 : ℕ) : Int) = ((k.val + n.val : ℕ) : Int); omega)
    | ⟨2, _⟩ => exact (congrArg₂ (fun (u : Int) (v : ℕ) => u + v) (s0 2 (by decide)) w2).trans (by show (0 : Int) + (r.val : Int) = (r.val : Int); omega)
    | ⟨3, _⟩ => exact (congrArg₂ (fun (u : Int) (v : ℕ) => u + v) (s0 3 (by decide)) w3).trans (by show (0 : Int) + (d.val : Int) = (d.val : Int); omega)
  unfold ScatterDims.resultIdx?
  rw [dif_pos (fun a => by
    have ha := e a
    have hl := ((ix4 H (⟨k.val + n.val, by omega⟩ : Fin 40) r d : S8x40x64x64.Idx) a).isLt
    constructor
    · exact ha ▸ Int.natCast_nonneg _
    · exact ha ▸ Int.ofNat_lt.mpr hl)]
  refine congrArg some (funext fun a => Fin.ext ?_)
  exact (congrArg Int.toNat (e a)).trans (Int.toNat_natCast _)

/-- The scatter of blocks into zeros, read at an entry: the sum over the chunks whose band holds that block. -/
theorem spread_apply (x : S8x40x64x64.Idx → EReal) (hx : ∀ j, x j = 0) (i : IVec S32x9x1 32)
    (hi : ∀ (k : Fin 32) (n : Fin 9), i (ix3 k n (0 : Fin 1)) = BitVec.ofNat 32 (k.val + n.val))
    (upd : S8x32x9x64x64.Idx → EReal) (H : Fin 8) (b : Fin 40) (r : Fin 64) (d : Fin 64) :
    Ideal.hostScatterAdd spreadDims x i upd (ix4 H b r d)
      = ∑ k : Fin 32, if k.val ≤ b.val ∧ b.val < k.val + 9 then upd (ix5 H k (⟨(b.val - k.val) % 9, by omega⟩ : Fin 9) r d) else 0 := by
  unfold Ideal.hostScatterAdd
  rw [hx, zero_add, ← Finset.sum_filter]
  have goes : ∀ j : S8x32x9x64x64.Idx, spreadDims.resultIdx? j i = some (ix4 H b r d) →
      j (0 : Fin 5) = H ∧ (j (1 : Fin 5)).val + (j (2 : Fin 5)).val = b.val ∧ j (3 : Fin 5) = r ∧ j (4 : Fin 5) = d := fun j hj => by
    obtain ⟨H', k, n, r', d', rfl⟩ : ∃ (H' : Fin 8) (k : Fin 32) (n : Fin 9) (r' : Fin 64) (d' : Fin 64), j = (ix5 H' k n r' d' : S8x32x9x64x64.Idx) :=
      ⟨j 0, j 1, j 2, j 3, j 4, eq_ix5 _⟩
    rw [spread_to i hi] at hj
    have h := Option.some.inj hj
    exact ⟨congrFun h (0 : Fin 4), congrArg Fin.val (congrFun h (1 : Fin 4)), congrFun h (2 : Fin 4), congrFun h (3 : Fin 4)⟩
  refine Finset.sum_nbij' (fun j => (j (1 : Fin 5) : Fin 32)) (fun k => ix5 H k (⟨(b.val - k.val) % 9, by omega⟩ : Fin 9) r d) ?_ ?_ ?_ ?_ ?_
  · intro j hj
    obtain ⟨h0, h1, h3, h4⟩ := goes j (Finset.mem_filter.mp hj).2
    have h2 : (j (2 : Fin 5)).val < 9 := (j (2 : Fin 5)).isLt
    exact Finset.mem_filter.mpr ⟨Finset.mem_univ _, by omega, by omega⟩
  · intro k hk
    obtain ⟨-, h1, h2⟩ := Finset.mem_filter.mp hk
    refine Finset.mem_filter.mpr ⟨Finset.mem_univ _, ?_⟩
    rw [spread_to i hi]
    exact congrArg (fun t : Fin 40 => some (ix4 H t r d)) (Fin.ext (by show k.val + (b.val - k.val) % 9 = b.val; omega))
  · intro j hj
    obtain ⟨h0, h1, h3, h4⟩ := goes j (Finset.mem_filter.mp hj).2
    have h2 : (j (2 : Fin 5)).val < 9 := (j (2 : Fin 5)).isLt
    funext a
    refine Fin.ext ?_
    match a with
    | ⟨0, _⟩ => exact (congrArg Fin.val h0).symm
    | ⟨1, _⟩ => rfl
    | ⟨2, _⟩ => show (b.val - (j (1 : Fin 5)).val) % 9 = (j (2 : Fin 5)).val; omega
    | ⟨3, _⟩ => exact (congrArg Fin.val h3).symm
    | ⟨4, _⟩ => exact (congrArg Fin.val h4).symm
  · intro k hk
    rfl
  · intro j hj
    obtain ⟨h0, h1, h3, h4⟩ := goes j (Finset.mem_filter.mp hj).2
    have h2 : (j (2 : Fin 5)).val < 9 := (j (2 : Fin 5)).isLt
    refine congrArg upd (funext fun a => Fin.ext ?_)
    match a with
    | ⟨0, _⟩ => exact (congrArg Fin.val h0)
    | ⟨1, _⟩ => rfl
    | ⟨2, _⟩ => show (j (2 : Fin 5)).val = (b.val - (j (1 : Fin 5)).val) % 9; omega
    | ⟨3, _⟩ => exact (congrArg Fin.val h3)
    | ⟨4, _⟩ => exact (congrArg Fin.val h4)

/-- Summing blocks over the chunks that hold them is summing rows over the bands that hold them. -/
theorem over_blocks (g : Fin 32 → Fin 576 → EReal) (u : Fin 32 → Fin 9 → EReal) (r : Fin 2048)
    (hu : ∀ (k : Fin 32) (n : Fin 9) (h : 64 * n.val + (512 + r.val) % 64 < 576), u k n = g k ⟨64 * n.val + (512 + r.val) % 64, h⟩) :
    (∑ k : Fin 32, if k.val ≤ (512 + r.val) / 64 ∧ (512 + r.val) / 64 < k.val + 9 then
      u k (⟨((512 + r.val) / 64 - k.val) % 9, by omega⟩ : Fin 9) else 0) = overBand g (512 + r.val) := by
  unfold overBand
  refine Finset.sum_congr rfl fun k _ => ?_
  by_cases h : 64 * k.val ≤ 512 + r.val ∧ 512 + r.val < 64 * k.val + 576
  · have h' : k.val ≤ (512 + r.val) / 64 ∧ (512 + r.val) / 64 < k.val + 9 := by omega
    rw [dif_pos h, if_pos h', hu _ _ (by show 64 * (((512 + r.val) / 64 - k.val) % 9) + (512 + r.val) % 64 < 576; omega)]
    exact congrArg (g k) (Fin.ext (by show 64 * (((512 + r.val) / 64 - k.val) % 9) + (512 + r.val) % 64 = 512 + r.val - 64 * k.val; omega))
  · have h' : ¬ (k.val ≤ (512 + r.val) / 64 ∧ (512 + r.val) / 64 < k.val + 9) := by omega
    rw [dif_neg h, if_neg h']

section

variable (x0 x1 x2 : Flat.Idx → EReal) (x3 : Table.Idx → EReal) (x4 : Flat.Idx → EReal)

/-! ## The values -/

theorem ref_dv (H : Fin 8) (k : Fin 32) (s : Fin 576) (d : Fin 64) :
    val_main_v116 (F := Ideal) x0 x1 x3 x4 (ix4 H k s d)
      = ∑ q : Fin 64, rowProb (zRow x0 x1 x3 H k q) s * headAt x4 H (rowOf k q) d := by
  rw [val_main_v116_apply, show idx_main_v116 (ix4 H k s d) = ix4 H k d s from ix4_ext rfl rfl rfl rfl, val_main_v115_apply]
  refine Finset.sum_congr rfl fun q _ => ?_
  rw [show lidx_main_v115 (ix4 H k d s) q = ix4 H k q d from ix4_ext rfl rfl rfl rfl,
    show ridx_main_v115 (ix4 H k d s) q = ix4 H k q s from ix4_ext rfl rfl rfl rfl, ref_chunks_o, ref_prob, mul_comm]

omit x0 x1 x2 x3 x4 in
theorem idx_band (H : Fin 8) (k : Fin 32) (n : Fin 9) (r : Fin 64) (d : Fin 64) :
    idx_main_v138 (ix5 H k n r d) = ix4 H k (⟨64 * n.val + r.val, by omega⟩ : Fin 576) d :=
  ix4_ext (by show ((((H.val * 32 + k.val) * 9 + n.val) * 64 + r.val) * 64 + d.val) / 1179648 = H.val; omega)
    (by show ((((H.val * 32 + k.val) * 9 + n.val) * 64 + r.val) * 64 + d.val) / 36864 % 32 = k.val; omega)
    (by show ((((H.val * 32 + k.val) * 9 + n.val) * 64 + r.val) * 64 + d.val) / 64 % 576 = 64 * n.val + r.val; omega)
    (by show ((((H.val * 32 + k.val) * 9 + n.val) * 64 + r.val) * 64 + d.val) % 64 = d.val; omega)

omit x0 x1 x2 x3 x4 in
theorem idx_flat (H : Fin 8) (r : Fin 2048) (d : Fin 64) :
    idx_main_v144 (idx_main_v146 (ix3 H r d)) = ix4 H (⟨(512 + r.val) / 64, by omega⟩ : Fin 40) (⟨(512 + r.val) % 64, by omega⟩ : Fin 64) d :=
  ix4_ext (by show ((H.val * 2560 + (512 + r.val)) * 64 + d.val) / 163840 = H.val; omega)
    (by show ((H.val * 2560 + (512 + r.val)) * 64 + d.val) / 4096 % 40 = (512 + r.val) / 64; omega)
    (by show ((H.val * 2560 + (512 + r.val)) * 64 + d.val) / 64 % 64 = (512 + r.val) % 64; omega)
    (by show ((H.val * 2560 + (512 + r.val)) * 64 + d.val) % 64 = d.val; omega)

theorem ref_v : (val_main_v153 (F := Ideal) x0 x1 x3 x4 : S8x2048x64.Idx → EReal) = arrV x0 x1 x3 x4 := by
  refine arr3_ext (a := 8) (b := 2048) (c := 64) _ _ fun H r d => ?_
  rw [val_main_v153_apply, val_main_v146_apply, val_main_v144_apply]
  show val_main_v140 (F := Ideal) x0 x1 x3 x4 (idx_main_v144 (idx_main_v146 (ix3 H r d))) = gradV x0 x1 x3 x4 H r d
  rw [idx_flat]
  refine (spread_apply (val_main_v139 (F := Ideal)) (fun j => by rw [val_main_v139_apply]; exact Ideal.ofBits_zero_f32) _ ref_start
    (val_main_v138 (F := Ideal) x0 x1 x3 x4) H _ _ d).trans ?_
  exact over_blocks _ (fun k n => val_main_v138 (F := Ideal) x0 x1 x3 x4 (ix5 H k n (⟨(512 + r.val) % 64, by omega⟩ : Fin 64) d)) r
    (fun k n h => by
      show val_main_v138 (F := Ideal) x0 x1 x3 x4 (ix5 H k n (⟨(512 + r.val) % 64, by omega⟩ : Fin 64) d) = _
      rw [val_main_v138_apply, idx_band, ref_dv])

section

variable (hf : ∀ H k q s, zRow x0 x1 x3 H k q s ≠ ⊤) (hn : ∀ H k q, zRow x0 x1 x3 H k q 512 ≠ ⊥)
include hf hn

theorem ref_scaled (H : Fin 8) (k : Fin 32) (q : Fin 64) (s : Fin 576) :
    val_main_v135 (F := Ideal) x0 x1 x2 x3 x4 (ix4 H k q s) = zGrad x0 x1 x2 x3 x4 H k q s * scale := by
  rw [val_main_v135_apply, ref_grad x0 x1 x2 x3 x4 hf hn, val_main_v134_apply, val_main_cst_30_apply]
  rfl

/-! ## The keys -/

theorem ref_dk (H : Fin 8) (k : Fin 32) (s : Fin 576) (d : Fin 64) :
    val_main_v136 (F := Ideal) x0 x1 x2 x3 x4 (ix4 H k s d)
      = (∑ q : Fin 64, zGrad x0 x1 x2 x3 x4 H k q s * headAt x0 H (rowOf k q) d) * scale := by
  rw [val_main_v136_apply, scale_real, sum_mul_coe _ _ (by norm_num), ← scale_real]
  refine Finset.sum_congr rfl fun q _ => ?_
  rw [show lidx_main_v136 (ix4 H k s d) q = ix4 H k q s from ix4_ext rfl rfl rfl rfl,
    show ridx_main_v136 (ix4 H k s d) q = ix4 H k q d from ix4_ext rfl rfl rfl rfl, ref_chunks,
    ref_scaled x0 x1 x2 x3 x4 hf hn, mul_right_comm]

theorem ref_k : (val_main_v152 (F := Ideal) x0 x1 x2 x3 x4 : S8x2048x64.Idx → EReal) = arrK x0 x1 x2 x3 x4 := by
  refine arr3_ext (a := 8) (b := 2048) (c := 64) _ _ fun H r d => ?_
  rw [val_main_v152_apply, val_main_v149_apply, val_main_v147_apply]
  show val_main_v143 (F := Ideal) x0 x1 x2 x3 x4 (idx_main_v144 (idx_main_v146 (ix3 H r d))) = gradK x0 x1 x2 x3 x4 H r d
  rw [idx_flat]
  refine (spread_apply (val_main_v142 (F := Ideal)) (fun j => by rw [val_main_v142_apply]; exact Ideal.ofBits_zero_f32) _ ref_start
    (val_main_v141 (F := Ideal) x0 x1 x2 x3 x4) H _ _ d).trans ?_
  exact over_blocks _ (fun k n => val_main_v141 (F := Ideal) x0 x1 x2 x3 x4 (ix5 H k n (⟨(512 + r.val) % 64, by omega⟩ : Fin 64) d)) r
    (fun k n h => by
      show val_main_v141 (F := Ideal) x0 x1 x2 x3 x4 (ix5 H k n (⟨(512 + r.val) % 64, by omega⟩ : Fin 64) d) = _
      rw [val_main_v141_apply]
      show val_main_v136 (F := Ideal) x0 x1 x2 x3 x4 (idx_main_v138 (ix5 H k n (⟨(512 + r.val) % 64, by omega⟩ : Fin 64) d)) = _
      rw [idx_band, ref_dk x0 x1 x2 x3 x4 hf hn])

/-! ## The queries -/

theorem ref_dq (H : Fin 8) (k : Fin 32) (q : Fin 64) (d : Fin 64) :
    val_main_v137 (F := Ideal) x0 x1 x2 x3 x4 (ix4 H k q d) = gradQ x0 x1 x2 x3 x4 H k q d := by
  unfold gradQ
  rw [val_main_v137_apply, scale_real, sum_mul_coe _ _ (by norm_num), ← scale_real]
  refine Finset.sum_congr rfl fun s _ => ?_
  rw [show lidx_main_v137 (ix4 H k q d) s = ix4 H k q s from ix4_ext rfl rfl rfl rfl,
    show ridx_main_v137 (ix4 H k q d) s = ix4 H k s d from ix4_ext rfl rfl rfl rfl, ref_keys,
    ref_scaled x0 x1 x2 x3 x4 hf hn, mul_right_comm]

theorem ref_q : (val_main_v151 (F := Ideal) x0 x1 x2 x3 x4 : S8x2048x64.Idx → EReal) = arrQ x0 x1 x2 x3 x4 := by
  refine arr3_ext (a := 8) (b := 2048) (c := 64) _ _ fun H r d => ?_
  rw [val_main_v151_apply, val_main_v150_apply]
  show val_main_v137 (F := Ideal) x0 x1 x2 x3 x4 (idx_main_v150 (ix3 H r d))
    = gradQ x0 x1 x2 x3 x4 H (⟨r.val / 64, by omega⟩ : Fin 32) (⟨r.val % 64, by omega⟩ : Fin 64) d
  rw [show idx_main_v150 (ix3 H r d) = ix4 H (⟨r.val / 64, by omega⟩ : Fin 32) (⟨r.val % 64, by omega⟩ : Fin 64) d from
    ix4_ext (by show ((H.val * 2048 + r.val) * 64 + d.val) / 131072 = H.val; omega)
      (by show ((H.val * 2048 + r.val) * 64 + d.val) / 4096 % 32 = r.val / 64; omega)
      (by show ((H.val * 2048 + r.val) * 64 + d.val) / 64 % 64 = r.val % 64; omega)
      (by show ((H.val * 2048 + r.val) * 64 + d.val) % 64 = d.val; omega), ref_dq x0 x1 x2 x3 x4 hf hn]

/-! ## The bias -/

theorem ref_db (H : Fin 8) (q : Fin 64) (s : Fin 576) :
    val_main_v133 (F := Ideal) x0 x1 x2 x3 x4 (ix3 H q s) = gradB x0 x1 x2 x3 x4 H q s := by
  rw [val_main_v133_apply, show val_main_cst_29 (F := Ideal) (Shape.Idx.first h_S_) = (0 : EReal) from Ideal.ofBits_zero_f32, zero_add,
    Fin.sum_univ_one, show idx_main_v133 (ix3 H q s) 0 = ix4 H (0 : Fin 1) q s from ix4_ext rfl rfl rfl rfl, val_main_v132_apply,
    show idx_main_v132 (ix4 H (0 : Fin 1) q s) = ix3 H q s from ix3_ext
      (by show (((H.val * 1 + 0) * 64 + q.val) * 576 + s.val) / 36864 = H.val; omega)
      (by show (((H.val * 1 + 0) * 64 + q.val) * 576 + s.val) / 576 % 64 = q.val; omega)
      (by show (((H.val * 1 + 0) * 64 + q.val) * 576 + s.val) % 576 = s.val; omega),
    val_main_v131_apply, show val_main_cst_28 (F := Ideal) (Shape.Idx.first h_S_) = (0 : EReal) from Ideal.ofBits_zero_f32, zero_add]
  refine Finset.sum_congr rfl fun k _ => ?_
  rw [show idx_main_v131 (ix3 H q s) k = ix4 H k q s from ix4_ext rfl rfl rfl rfl, ref_grad x0 x1 x2 x3 x4 hf hn]

theorem ref_b : (val_main_v154 (F := Ideal) x0 x1 x2 x3 x4 : S8x64x640.Idx → EReal) = arrB x0 x1 x2 x3 x4 := by
  refine arr3_ext (a := 8) (b := 64) (c := 640) _ _ fun H q s => ?_
  unfold val_main_v154
  by_cases h : 64 ≤ s.val
  · refine (pad_apply_of_inside _ _ _ _ _ _ _ (ix3 H q s) (ix3 H q (⟨s.val - 64, by omega⟩ : Fin 576)) (fun a => ?_)).trans ?_
    · match a with
      | ⟨0, _⟩ => show H.val = 0 + H.val * (0 + 1); omega
      | ⟨1, _⟩ => show q.val = 0 + q.val * (0 + 1); omega
      | ⟨2, _⟩ => show s.val = 64 + (s.val - 64) * (0 + 1); omega
    · rw [ref_db x0 x1 x2 x3 x4 hf hn]
      exact (dif_pos (c := 64 ≤ s.val) (t := fun h => gradB x0 x1 x2 x3 x4 H q ⟨s.val - 64, by omega⟩)
        (e := fun _ => (0 : EReal)) h).symm
  · refine (pad_apply_of_not_inside _ _ _ _ _ _ _ (ix3 H q s) (2 : Fin 3) (fun hh => h hh.1)).trans ?_
    unfold arrB
    refine Eq.trans ?_ (dif_neg h).symm
    rw [val_main_call3_v0_apply, val_main_c_33_apply]
    show ((((0#32 : BitVec 32).toInt : ℝ)) : EReal) = 0
    simp

end

end

end Cert.Grad

end
-- ==== Proof.Finite.lean ====
/- Finite queries, keys and biases give finite scores. -/
module

public import proofs.«01_k».proof.Defs
public import proofs.«01_k».proof.Proof.RefGrad

@[expose] public section

noncomputable section

namespace Cert.Grad

open Idealize.ShloMosaic Idealize.ShloMosaic.ValueIdx

/-- An extended real that is a real number. -/
def IsNum (x : EReal) : Prop := ∃ r : ℝ, x = (r : EReal)

theorem fin_of_ne {x : EReal} (h : x ≠ ⊤) (h' : x ≠ ⊥) : IsNum x := ⟨x.toReal, (EReal.coe_toReal h h').symm⟩

theorem fin_top {x : EReal} : IsNum x → x ≠ ⊤ := by
  rintro ⟨r, rfl⟩; exact EReal.coe_ne_top r

theorem fin_bot {x : EReal} : IsNum x → x ≠ ⊥ := by
  rintro ⟨r, rfl⟩; exact EReal.coe_ne_bot r

theorem fin_zero : IsNum 0 := ⟨0, rfl⟩

theorem fin_mul {x y : EReal} : IsNum x → IsNum y → IsNum (x * y) := by
  rintro ⟨r, rfl⟩ ⟨s, rfl⟩; exact ⟨r * s, (EReal.coe_mul r s).symm⟩

theorem fin_add {x y : EReal} : IsNum x → IsNum y → IsNum (x + y) := by
  rintro ⟨r, rfl⟩ ⟨s, rfl⟩; exact ⟨r + s, (EReal.coe_add r s).symm⟩

theorem fin_sum {ι : Type} (s : Finset ι) (f : ι → EReal) (h : ∀ i, IsNum (f i)) : IsNum (∑ i ∈ s, f i) := by
  classical
  induction s using Finset.induction_on with
  | empty => exact fin_zero
  | insert a s ha ih => rw [Finset.sum_insert ha]; exact fin_add (h a) ih

theorem fin_of_abs {x : EReal} (h : max x (-x) < ⊤) : IsNum x := by
  refine fin_of_ne (fun e => ?_) (fun e => ?_)
  · rw [e] at h; exact absurd h (by simp)
  · rw [e] at h; exact absurd h (by simp)

theorem fin_scale : IsNum scale := ⟨1 / 8, scale_real⟩

section

variable (xq xk : Flat.Idx → EReal) (xt : Table.Idx → EReal) (hq : ∀ i, IsNum (xq i)) (hk : ∀ i, IsNum (xk i)) (ht : ∀ i, IsNum (xt i))
include hq hk ht

theorem fin_seen (H : Fin 8) (k : Fin 32) (q : Fin 64) (s : Fin 576) :
    IsNum ((∑ d : Fin 64, headAt xq H (rowOf k q) d * keyAt xk H k s d) * scale + biasAt xt H q s) := by
  refine fin_add (fin_mul (fin_sum _ _ fun d => fin_mul (hq _) ?_) fin_scale) (ht _)
  unfold keyAt
  split
  · exact hk _
  · exact fin_zero

theorem score_top (H : Fin 8) (k : Fin 32) (q : Fin 64) (s : Fin 576) : zRow xq xk xt H k q s ≠ ⊤ := by
  unfold zRow
  split
  · exact fin_top (fin_seen xq xk xt hq hk ht H k q s)
  · exact bot_ne_top

theorem score_bot (H : Fin 8) (k : Fin 32) (q : Fin 64) : zRow xq xk xt H k q 512 ≠ ⊥ := by
  unfold zRow
  have h : 512 ≤ 64 * k.val + ((512 : Fin 576) : Fin 576).val := by show 512 ≤ 64 * k.val + 512; omega
  rw [if_pos h]
  exact fin_bot (fin_seen xq xk xt hq hk ht H k q 512)

end

/-! ## The precondition -/

theorem preFacts : Cert.Pre_finite_scores.Facts := ⟨by decide, by decide, by decide⟩

theorem word_top : Ideal.ofBits .f32 0x7F800000#32 = ⊤ := by simp [Ideal.ofBits, Ideal.ieee]

theorem fin_of_test {s : Shape} {x y : s.Idx → EReal} (hy : ∀ i, y i = ⊤)
    (h : (cmpf (F := Ideal) (φ := .f32) .olt (Host.absf (F := Ideal) (φ := .f32) x) y : IVec s 1) = fun _ => 1#1) (i : s.Idx) : IsNum (x i) := by
  have hi := congrFun h i
  have h' : BitVec.ofBool (decide (max (x i) (-(x i)) < y i)) = 1#1 := hi
  rw [hy] at h'
  by_cases hc : max (x i) (-(x i)) < ⊤
  · exact fin_of_abs hc
  · rw [decide_eq_false hc] at h'
    exact absurd h' (by decide)

/-- What the precondition says of the five arguments of one device. -/
theorem fin_args [hP : Cert.Pre_finite_scores.Facts] (x0 x1 x2 : FVec Ideal Cert.Pre_finite_scores.S2048x512 .bf16)
    (x3 : FVec Ideal Cert.Pre_finite_scores.S257x8 .f32) (x4 : FVec Ideal Cert.Pre_finite_scores.S2048x512 .bf16)
    (h0 : (Cert.Pre_finite_scores.fn (F := Ideal) x0 x1 x2 x3 x4).1 = fun _ => 1#1)
    (h1 : (Cert.Pre_finite_scores.fn (F := Ideal) x0 x1 x2 x3 x4).2.1 = fun _ => 1#1)
    (h2 : (Cert.Pre_finite_scores.fn (F := Ideal) x0 x1 x2 x3 x4).2.2 = fun _ => 1#1) :
    (∀ i : Flat.Idx, IsNum (x0 i)) ∧ (∀ i : Flat.Idx, IsNum (x1 i)) ∧ ∀ i : Table.Idx, IsNum (x3 i) :=
  ⟨fin_of_test (fun _ => word_top) h0, fin_of_test (fun _ => word_top) h1, fin_of_test (fun _ => word_top) h2⟩

end Cert.Grad

end
-- ==== Proof.Dwin.lean ====
/- The gradient of the feed-forward's first matrix: the kernel's blocks of the product of the normed rows with the gradient
   of the gate and up columns, and the reference's one product, are the same array. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit.Geometry
public import Idealize.ShloMosaic.Lib.Pipeline.Value
public import Idealize.ShloMosaic.Lib.ValueIdx
public import Idealize.ShloMosaic.PureOps.Ideal.Laws

@[expose] public section

set_option maxRecDepth 16384

noncomputable section

namespace Cert.Dwin

open Cert.Kernel2Ideal Cert.Kernel2Ideal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The gradient of the matrix, its rows in two halves and its columns in four parts, as the call lays it out. -/
def grad (h : S2048x1024.Idx → EReal) (z : S2048x5632.Idx → EReal) : S2x4x512x1408.Idx → EReal := fun i =>
  ∑ k : Fin 2048, h (ix2 k ⟨512 * (i 0).val + (i 2).val, by have := (i 0).isLt; have := (i 2).isLt; simp at *; omega⟩)
    * z (ix2 k ⟨1408 * (i 1).val + (i 3).val, by have := (i 1).isLt; have := (i 3).isLt; simp at *; omega⟩)

/-- One block's product. -/
theorem product (a : FVec Ideal S2048x512 .bf16) (b : FVec Ideal S2048x1408 .bf16) (i : Fin 512) (j : Fin 1408) :
    matmul dot_S2048x512_S2048x1408_S512x1408_0_0_1_1_n_n none a b (constant S512x1408 .f32 0x00000000#32) (ix2 i j)
      = ∑ k : Fin 2048, a (ix2 k i) * b (ix2 k j) := by
  refine (Ideal.matmul_constant_zero_apply dot_S2048x512_S2048x1408_S512x1408_0_0_1_1_n_n none a b (ix2 i j)).trans ?_
  let D := dot_S2048x512_S2048x1408_S512x1408_0_0_1_1_n_n
  have hr : D.contr.rank = 1 := rfl
  have hs : D.contr.size ⟨0, by rw [hr]; exact Nat.one_pos⟩ = 2048 := rfl
  rw [← Equiv.sum_comp (contrEquiv1 D 2048 hr hs).symm]
  refine Finset.sum_congr rfl fun k _ => ?_
  have hk := contrEquiv1_symm_val D 2048 hr hs k
  refine congrArg₂ (· * ·) (congrArg a (funext fun x => Fin.ext ?_)) (congrArg b (funext fun x => Fin.ext ?_))
  · match x with
    | ⟨0, _⟩ => exact hk
    | ⟨1, _⟩ => rfl
  · match x with
    | ⟨0, _⟩ => exact hk
    | ⟨1, _⟩ => rfl

theorem index0 (t : Fin cfg0.N) : win0_0.index t = ![0, t.val / 4] := by revert t; decide
theorem index1 (t : Fin cfg0.N) : win0_1.index t = ![0, t.val % 4] := by revert t; decide
theorem index2 (t : Fin cfg0.N) : win0_2.index t = ![t.val / 4, t.val % 4, 0, 0] := by revert t; decide

/-- What the body leaves at an entry of its block. -/
theorem out_apply (a : Vec Ideal S2048x512 .bf16) (b : Vec Ideal S2048x1408 .bf16) (u v : Fin 1) (i : Fin 512) (j : Fin 1408) :
    (out0_2 a b : S1x1x512x1408.Idx → EReal) (ix4 u v i j) = ∑ k : Fin 2048, a (ix2 k i) * b (ix2 k j) := by
  unfold out0_2
  rw [View.canon_unit_zero (by decide), View.ld_unit_zero (by decide), View.ld_unit_zero (by decide)]
  unfold k0_pay1
  refine (shapeCast_apply _ _ _ (ix2 i j) ?_).trans (product a b i j)
  rw [Shape.rowMajor_val_two, Shape.rowMajor_val_four]
  show i.val * 1408 + j.val = ((u.val * 1 + v.val) * 512 + i.val) * 1408 + j.val
  omega

theorem blk0 (c : Dev nD) (t : Fin cfg0.N) (k : Fin 2048) (i : Fin 512) (I : Fin 1024) (hI : I.val = 512 * (t.val / 4) + i.val) :
    (iblk m c 0 t : S2048x512.Idx → EReal) (ix2 k i) = m ((c.tc : Thread nD τ).loc main_arg0) (ix2 k I) := by
  blk_ext [iblk, index0]
  show t.val / 4 * 512 + i.val = I.val
  omega

theorem blk1 (c : Dev nD) (t : Fin cfg0.N) (k : Fin 2048) (j : Fin 1408) (J : Fin 5632) (hJ : J.val = 1408 * (t.val % 4) + j.val) :
    (iblk m c 1 t : S2048x1408.Idx → EReal) (ix2 k j) = m ((c.tc : Thread nD τ).loc main_arg1) (ix2 k J) := by
  blk_ext [iblk, index1]
  show t.val % 4 * 1408 + j.val = J.val
  omega

theorem point (c : Dev nD) (t : Fin cfg0.N) (u v : Fin 1) (i : Fin 512) (j : Fin 1408) (p : Fin 2) (q : Fin 4)
    (hp : p.val = t.val / 4) (hq : q.val = t.val % 4) :
    (out0_2 (iblk m c 0 t) (iblk m c 1 t) : S1x1x512x1408.Idx → EReal) (ix4 u v i j)
      = grad (m ((c.tc : Thread nD τ).loc main_arg0)) (m ((c.tc : Thread nD τ).loc main_arg1)) (ix4 p q i j) := by
  rw [out_apply]
  unfold grad
  refine Finset.sum_congr rfl fun k _ => congrArg₂ (· * ·) (blk0 m c t k i _ ?_) (blk1 m c t k j _ ?_)
  · show 512 * p.val + i.val = _
    rw [hp]
  · show 1408 * q.val + j.val = _
    rw [hq]

theorem place (t : Fin cfg0.N) (u v : Fin 1) (i : Fin 512) (j : Fin 1408) (p : Fin 2) (q : Fin 4)
    (hp : p.val = t.val / 4) (hq : q.val = t.val % 4) :
    ((cfg0.win 2).blk t).view.emb (ix4 u v i j : S1x1x512x1408.Idx) = (ix4 p q i j : S2x4x512x1408.Idx) := by
  blk_ext [index2]
  · exact hp.symm
  · exact hq.symm

theorem point_block (c : Dev nD) (t : Fin cfg0.N) (y : S1x1x512x1408.Idx) :
    (out0_2 (iblk m c 0 t) (iblk m c 1 t) : S1x1x512x1408.Idx → EReal) y
      = grad (m ((c.tc : Thread nD τ).loc main_arg0)) (m ((c.tc : Thread nD τ).loc main_arg1)) (((cfg0.win 2).blk t).view.emb y) := by
  obtain ⟨u, v, i, j, rfl⟩ : ∃ (u v : Fin 1) (i : Fin 512) (j : Fin 1408), y = ix4 u v i j := ⟨y 0, y 1, y 2, y 3, eq_ix4 _⟩
  have ht : t.val < 8 := t.isLt
  rw [place t u v i j ⟨t.val / 4, by omega⟩ ⟨t.val % 4, by omega⟩ rfl rfl]
  exact point m c t u v i j _ _ rfl rfl

theorem covers : (cfg0.win 2).Covers := by decide +kernel

/-- The array after the run. -/
theorem arr (c : Dev nD) : ((dats m 0 c).arrAt 2 cfg0.N : S2x4x512x1408.Idx → EReal)
    = grad (m ((c.tc : Thread nD τ).loc main_arg0)) (m ((c.tc : Thread nD τ).loc main_arg1)) := by
  refine (dats m 0 c).arrAt_eq_of_covers 2 _ covers fun t hfl y => ?_
  blk_simp
  rw [after0_2]
  exact point_block m c t y

/-- The reference's array. -/
theorem ref (h : S2048x1024.Idx → EReal) (z : S2048x5632.Idx → EReal) :
    (Cert.Reference2Ideal.Read.val_main_v8 (F := Ideal) h z : S2x4x512x1408.Idx → EReal) = grad h z := by
  funext i
  rw [Cert.Reference2Ideal.Read.val_main_v8_apply, Cert.Reference2Ideal.Read.val_main_v7_apply, Cert.Reference2Ideal.Read.val_main_v6_apply,
    Cert.Reference2Ideal.Read.val_main_v5_apply]
  refine (Cert.Reference2Ideal.Read.val_main_v4_apply h z _).trans ?_
  refine Finset.sum_congr rfl fun k _ => ?_
  rw [mul_comm]
  have h0 : (i 0).val < 2 := (i 0).isLt
  have h1 : (i 1).val < 4 := (i 1).isLt
  have h2 : (i 2).val < 512 := (i 2).isLt
  have h3 : (i 3).val < 1408 := (i 3).isLt
  refine congrArg₂ (· * ·) (congrArg h (funext fun x => Fin.ext ?_)) (congrArg z (funext fun x => Fin.ext ?_))
  · match x with
    | ⟨0, _⟩ => rfl
    | ⟨1, _⟩ => show (((((i 0).val * 512 + (i 2).val) * 4 + (i 1).val) * 1408 + (i 3).val) / 5632) = 512 * (i 0).val + (i 2).val; omega
  · match x with
    | ⟨0, _⟩ => rfl
    | ⟨1, _⟩ => show (((((i 0).val * 512 + (i 2).val) * 4 + (i 1).val) * 1408 + (i 3).val) % 5632) = 1408 * (i 1).val + (i 3).val; omega

end Cert.Dwin

end
-- ==== Proof.Half.lean ====
/- One half as the programs write it, and its product with a sum of extended reals. -/
module

public import Idealize.ShloMosaic.Lib.IdealHost
public import Idealize.ShloMosaic.PureOps.Ideal.Laws

@[expose] public section

noncomputable section

namespace Cert.Half

open Idealize.ShloMosaic

/-- The constant one half. -/
def half : EReal := Ideal.ofBits .f32 0x3F000000#32

theorem half_eq : half = ((1 / 2 : ℝ) : EReal) := by
  unfold half
  simp [Ideal.ofBits, Ideal.ieee, -EReal.coe_mul]
  norm_num

theorem half_mul_add (a b : EReal) : half * (a + b) = half * a + half * b := by
  rw [half_eq]
  exact EReal.left_distrib_of_nonneg_of_ne_top (by exact_mod_cast (by norm_num : (0 : ℝ) ≤ 1 / 2)) (EReal.coe_ne_top _) _ _

/-- Half of a sum is the sum of the halves, whatever the terms. -/
theorem half_mul_sum {ι : Type*} (s : Finset ι) (f : ι → EReal) : half * ∑ k ∈ s, f k = ∑ k ∈ s, half * f k := by
  classical
  induction s using Finset.induction_on with
  | empty => simp
  | insert a s ha ih => rw [Finset.sum_insert ha, Finset.sum_insert ha, half_mul_add, ih]

end Cert.Half

end
-- ==== Proof.Dwout.lean ====
/- The gradient of the feed-forward's second matrix: the kernel's blocks of half the product of the activations with the
   gradient of the output rows, and the reference's one product, are the same array. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Half
public import Idealize.ShloMosaic.Lib.Pipeline.ValueKit.Geometry
public import Idealize.ShloMosaic.Lib.Pipeline.Value
public import Idealize.ShloMosaic.Lib.ValueIdx
public import Idealize.ShloMosaic.PureOps.Ideal.Laws

@[expose] public section

set_option maxRecDepth 16384

noncomputable section

namespace Cert.Dwout

open Cert.Kernel3Ideal Cert.Kernel3Ideal.Gen Idealize.ShloMosaic Idealize.ShloMosaic.TcCoe Idealize.SL.Sem
open Idealize.ShloMosaic.ValueIdx Cert.Half

variable (m : (ℓ : Loc nD τ sig) → Buf (Elt Ideal) ℓ) (ρ : Dev nD → PrngReg)

/-- The gradient of the matrix, its columns in two halves, as the call lays it out. -/
def grad (a : S2048x2816.Idx → EReal) (y : S2048x1024.Idx → EReal) : S2x2816x512.Idx → EReal := fun i =>
  (∑ k : Fin 2048, a (ix2 k (i 1)) * y (ix2 k ⟨512 * (i 0).val + (i 2).val, by have := (i 0).isLt; have := (i 2).isLt; simp at *; omega⟩)) * half

/-- One block's product. -/
theorem product (a : FVec Ideal S2048x1408 .bf16) (b : FVec Ideal S2048x512 .bf16) (i : Fin 1408) (j : Fin 512) :
    matmul dot_S2048x1408_S2048x512_S1408x512_0_0_1_1_n_n none a b (constant S1408x512 .f32 0x00000000#32) (ix2 i j)
      = ∑ k : Fin 2048, a (ix2 k i) * b (ix2 k j) := by
  refine (Ideal.matmul_constant_zero_apply dot_S2048x1408_S2048x512_S1408x512_0_0_1_1_n_n none a b (ix2 i j)).trans ?_
  let D := dot_S2048x1408_S2048x512_S1408x512_0_0_1_1_n_n
  have hr : D.contr.rank = 1 := rfl
  have hs : D.contr.size ⟨0, by rw [hr]; exact Nat.one_pos⟩ = 2048 := rfl
  rw [← Equiv.sum_comp (contrEquiv1 D 2048 hr hs).symm]
  refine Finset.sum_congr rfl fun k _ => ?_
  have hk := contrEquiv1_symm_val D 2048 hr hs k
  refine congrArg₂ (· * ·) (congrArg a (funext fun x => Fin.ext ?_)) (congrArg b (funext fun x => Fin.ext ?_))
  · match x with
    | ⟨0, _⟩ => exact hk
    | ⟨1, _⟩ => rfl
  · match x with
    | ⟨0, _⟩ => exact hk
    | ⟨1, _⟩ => rfl

theorem index0 (t : Fin cfg0.N) : win0_0.index t = ![0, t.val / 2] := by revert t; decide
theorem index1 (t : Fin cfg0.N) : win0_1.index t = ![0, t.val % 2] := by revert t; decide
theorem index2 (t : Fin cfg0.N) : win0_2.index t = ![t.val % 2, t.val / 2, 0] := by revert t; decide

/-- What the body leaves at an entry of its block. -/
theorem out_apply (a : Vec Ideal S2048x1408 .bf16) (b : Vec Ideal S2048x512 .f32) (u : Fin 1) (i : Fin 1408) (j : Fin 512) :
    (out0_2 a b : S1x1408x512.Idx → EReal) (ix3 u i j) = (∑ k : Fin 2048, a (ix2 k i) * b (ix2 k j)) * half := by
  unfold out0_2
  rw [View.canon_unit_zero (by decide), View.ld_unit_zero (by decide), View.ld_unit_zero (by decide)]
  unfold k0_pay1
  refine (shapeCast_apply _ _ _ (ix2 i j) ?_).trans (congrArg (· * half) (product a b i j))
  rw [Shape.rowMajor_val_two, Shape.rowMajor_val_three]
  show i.val * 512 + j.val = (u.val * 1408 + i.val) * 512 + j.val
  omega

theorem blk0 (c : Dev nD) (t : Fin cfg0.N) (k : Fin 2048) (i : Fin 1408) (I : Fin 2816) (hI : I.val = 1408 * (t.val / 2) + i.val) :
    (iblk m c 0 t : S2048x1408.Idx → EReal) (ix2 k i) = m ((c.tc : Thread nD τ).loc main_arg0) (ix2 k I) := by
  blk_ext [iblk, index0]
  show t.val / 2 * 1408 + i.val = I.val
  omega

theorem blk1 (c : Dev nD) (t : Fin cfg0.N) (k : Fin 2048) (j : Fin 512) (J : Fin 1024) (hJ : J.val = 512 * (t.val % 2) + j.val) :
    (iblk m c 1 t : S2048x512.Idx → EReal) (ix2 k j) = m ((c.tc : Thread nD τ).loc main_arg1) (ix2 k J) := by
  blk_ext [iblk, index1]
  show t.val % 2 * 512 + j.val = J.val
  omega

theorem point (c : Dev nD) (t : Fin cfg0.N) (u : Fin 1) (i : Fin 1408) (j : Fin 512) (p : Fin 2) (I : Fin 2816)
    (hp : p.val = t.val % 2) (hI : I.val = 1408 * (t.val / 2) + i.val) :
    (out0_2 (iblk m c 0 t) (iblk m c 1 t) : S1x1408x512.Idx → EReal) (ix3 u i j)
      = grad (m ((c.tc : Thread nD τ).loc main_arg0)) (m ((c.tc : Thread nD τ).loc main_arg1)) (ix3 p I j) := by
  rw [out_apply]
  unfold grad
  refine congrArg (· * half) (Finset.sum_congr rfl fun k _ => congrArg₂ (· * ·) (blk0 m c t k i _ hI) (blk1 m c t k j _ ?_))
  show 512 * p.val + j.val = _
  rw [hp]

theorem place (t : Fin cfg0.N) (u : Fin 1) (i : Fin 1408) (j : Fin 512) (p : Fin 2) (I : Fin 2816)
    (hp : p.val = t.val % 2) (hI : I.val = 1408 * (t.val / 2) + i.val) :
    ((cfg0.win 2).blk t).view.emb (ix3 u i j : S1x1408x512.Idx) = (ix3 p I j : S2x2816x512.Idx) := by
  blk_ext [index2]
  · exact hp.symm
  · show t.val / 2 * 1408 + i.val = I.val
    omega

theorem point_block (c : Dev nD) (t : Fin cfg0.N) (y : S1x1408x512.Idx) :
    (out0_2 (iblk m c 0 t) (iblk m c 1 t) : S1x1408x512.Idx → EReal) y
      = grad (m ((c.tc : Thread nD τ).loc main_arg0)) (m ((c.tc : Thread nD τ).loc main_arg1)) (((cfg0.win 2).blk t).view.emb y) := by
  obtain ⟨u, i, j, rfl⟩ : ∃ (u : Fin 1) (i : Fin 1408) (j : Fin 512), y = ix3 u i j := ⟨y 0, y 1, y 2, eq_ix3 _⟩
  have ht : t.val < 4 := t.isLt
  have hi : i.val < 1408 := i.isLt
  rw [place t u i j ⟨t.val % 2, by omega⟩ ⟨1408 * (t.val / 2) + i.val, by omega⟩ rfl rfl]
  exact point m c t u i j _ _ rfl rfl

theorem covers : (cfg0.win 2).Covers := by decide +kernel

/-- The array after the run. -/
theorem arr (c : Dev nD) : ((dats m 0 c).arrAt 2 cfg0.N : S2x2816x512.Idx → EReal)
    = grad (m ((c.tc : Thread nD τ).loc main_arg0)) (m ((c.tc : Thread nD τ).loc main_arg1)) := by
  refine (dats m 0 c).arrAt_eq_of_covers 2 _ covers fun t hfl y => ?_
  blk_simp
  rw [after0_2]
  exact point_block m c t y

/-- The reference's array. -/
theorem ref (a : S2048x2816.Idx → EReal) (y : S2048x1024.Idx → EReal) :
    (Cert.Reference3Ideal.Read.val_main_v11 (F := Ideal) a y : S2x2816x512.Idx → EReal) = grad a y := by
  funext i
  rw [Cert.Reference3Ideal.Read.val_main_v11_apply, Cert.Reference3Ideal.Read.val_main_v10_apply, Cert.Reference3Ideal.Read.val_main_v9_apply,
    Cert.Reference3Ideal.Read.val_main_v8_apply]
  refine (Cert.Reference3Ideal.Read.val_main_v7_apply a y _).trans ?_
  unfold grad
  rw [mul_comm, half_mul_sum]
  refine Finset.sum_congr rfl fun k _ => ?_
  rw [Cert.Reference3Ideal.Read.val_main_v6_apply, Cert.Reference3Ideal.Read.val_main_v5_apply, Cert.Reference3Ideal.Read.val_main_cst_1_apply,
    Cert.Reference3Ideal.Read.val_main_v0_apply]
  have h0 : (i 0).val < 2 := (i 0).isLt
  have h1 : (i 1).val < 2816 := (i 1).isLt
  have h2 : (i 2).val < 512 := (i 2).isLt
  have e : ∀ (p p' q q' : EReal), p = p' → q = q' → half * q * p = half * (p' * q') := by
    rintro p _ q _ rfl rfl
    rw [mul_assoc, mul_comm q p]
  refine e _ _ _ _ (congrArg a (funext fun x => Fin.ext ?_)) (congrArg y (funext fun x => Fin.ext ?_))
  · match x with
    | ⟨0, _⟩ => rfl
    | ⟨1, _⟩ => show ((((i 1).val * 2 + (i 0).val) * 512 + (i 2).val) / 1024) = (i 1).val; omega
  · match x with
    | ⟨0, _⟩ => rfl
    | ⟨1, _⟩ => show ((((i 1).val * 2 + (i 0).val) * 512 + (i 2).val) % 1024) = 512 * (i 0).val + (i 2).val; omega

end Cert.Dwout

end
-- ==== Proof.Dact.lean ====
/- The gradient of the feed-forward's activations: the kernel's blocks of half the product of the gradient of the output rows
   with the second matrix, gathered from its four parts, and the reference's one product, are the same array. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Half
public import Idealize.ShloMosaic.Lib.Pipeline.ValueKit.Geometry
public import Idealize.ShloMosaic.Lib.Pipeline.Value
public import Idealize.ShloMosaic.Lib.ValueIdx
public import Idealize.ShloMosaic.PureOps.Ideal.Laws

@[expose] public section

set_option maxRecDepth 16384

noncomputable section

namespace Cert.Dact

open Cert.Kernel4Ideal Cert.Kernel4Ideal.Gen Idealize.ShloMosaic Idealize.ShloMosaic.TcCoe Idealize.SL.Sem
open Idealize.ShloMosaic.ValueIdx Cert.Half

variable (m : (ℓ : Loc nD τ sig) → Buf (Elt Ideal) ℓ) (ρ : Dev nD → PrngReg)

/-- The gradient of the activations. -/
def grad (y : S2048x1024.Idx → EReal) (w : S4x704x1024.Idx → EReal) : S2048x2816.Idx → EReal := fun i =>
  (∑ k : Fin 1024, y (ix2 (i 0) k) * w (ix3 ⟨(i 1).val / 704, by have := (i 1).isLt; simp at *; omega⟩ ⟨(i 1).val % 704, by omega⟩ k)) * half

/-- One block's product. -/
theorem product (a : FVec Ideal S1024x1024 .bf16) (b : FVec Ideal S1408x1024 .bf16) (i : Fin 1024) (j : Fin 1408) :
    matmul dot_S1024x1024_S1408x1024_S1024x1408_1_1_0_0_n_n none a b (constant S1024x1408 .f32 0x00000000#32) (ix2 i j)
      = ∑ k : Fin 1024, a (ix2 i k) * b (ix2 j k) := by
  refine (Ideal.matmul_constant_zero_apply dot_S1024x1024_S1408x1024_S1024x1408_1_1_0_0_n_n none a b (ix2 i j)).trans ?_
  let D := dot_S1024x1024_S1408x1024_S1024x1408_1_1_0_0_n_n
  have hr : D.contr.rank = 1 := rfl
  have hs : D.contr.size ⟨0, by rw [hr]; exact Nat.one_pos⟩ = 1024 := rfl
  rw [← Equiv.sum_comp (contrEquiv1 D 1024 hr hs).symm]
  refine Finset.sum_congr rfl fun k _ => ?_
  have hk := contrEquiv1_symm_val D 1024 hr hs k
  refine congrArg₂ (· * ·) (congrArg a (funext fun x => Fin.ext ?_)) (congrArg b (funext fun x => Fin.ext ?_))
  · match x with
    | ⟨0, _⟩ => rfl
    | ⟨1, _⟩ => exact hk
  · match x with
    | ⟨0, _⟩ => rfl
    | ⟨1, _⟩ => exact hk

theorem index0 (t : Fin cfg0.N) : win0_0.index t = ![t.val / 2, 0] := by revert t; decide
theorem index1 (t : Fin cfg0.N) : win0_1.index t = ![t.val % 2, 0, 0] := by revert t; decide
theorem index2 (t : Fin cfg0.N) : win0_2.index t = ![t.val / 2, t.val % 2] := by revert t; decide

/-- What the body leaves at an entry of its block. -/
theorem out_apply (a : Vec Ideal S1024x1024 .f32) (b : Vec Ideal S2x704x1024 .bf16) (i : Fin 1024) (j : Fin 1408) :
    (out0_2 a b : S1024x1408.Idx → EReal) (ix2 i j)
      = (∑ k : Fin 1024, a (ix2 i k) * b (ix3 ⟨j.val / 704, by omega⟩ ⟨j.val % 704, by omega⟩ k)) * half := by
  unfold out0_2
  rw [View.canon_unit_zero (by decide), View.ld_unit_zero (by decide), View.ld_unit_zero (by decide)]
  unfold k0_pay1
  refine congrArg (· * half) ((product a _ i j).trans (Finset.sum_congr rfl fun k _ => congrArg (a (ix2 i k) * ·) ?_))
  refine shapeCast_apply _ _ _ _ ?_
  rw [Shape.rowMajor_val_two, Shape.rowMajor_val_three]
  show (j.val / 704 * 704 + j.val % 704) * 1024 + k.val = j.val * 1024 + k.val
  omega

theorem blk0 (c : Dev nD) (t : Fin cfg0.N) (i : Fin 1024) (k : Fin 1024) (I : Fin 2048) (hI : I.val = 1024 * (t.val / 2) + i.val) :
    (iblk m c 0 t : S1024x1024.Idx → EReal) (ix2 i k) = m ((c.tc : Thread nD τ).loc main_arg0) (ix2 I k) := by
  blk_ext [iblk, index0]
  show t.val / 2 * 1024 + i.val = I.val
  omega

theorem blk1 (c : Dev nD) (t : Fin cfg0.N) (p : Fin 2) (q : Fin 704) (k : Fin 1024) (P : Fin 4) (hP : P.val = 2 * (t.val % 2) + p.val) :
    (iblk m c 1 t : S2x704x1024.Idx → EReal) (ix3 p q k) = m ((c.tc : Thread nD τ).loc main_arg1) (ix3 P q k) := by
  blk_ext [iblk, index1]
  show t.val % 2 * 2 + p.val = P.val
  omega

theorem point (c : Dev nD) (t : Fin cfg0.N) (i : Fin 1024) (j : Fin 1408) (I : Fin 2048) (J : Fin 2816)
    (hI : I.val = 1024 * (t.val / 2) + i.val) (hJ : J.val = 1408 * (t.val % 2) + j.val) :
    (out0_2 (iblk m c 0 t) (iblk m c 1 t) : S1024x1408.Idx → EReal) (ix2 i j)
      = grad (m ((c.tc : Thread nD τ).loc main_arg0)) (m ((c.tc : Thread nD τ).loc main_arg1)) (ix2 I J) := by
  rw [out_apply]
  unfold grad
  refine congrArg (· * half) (Finset.sum_congr rfl fun k _ => congrArg₂ (· * ·) (blk0 m c t i k _ hI) ?_)
  refine (blk1 m c t _ _ k ⟨J.val / 704, by omega⟩ ?_).trans (congrArg _ ?_)
  · show J.val / 704 = 2 * (t.val % 2) + j.val / 704
    omega
  · have : (⟨j.val % 704, by omega⟩ : Fin 704) = ⟨J.val % 704, by omega⟩ := Fin.ext (by show j.val % 704 = J.val % 704; omega)
    rw [this]

theorem place (t : Fin cfg0.N) (i : Fin 1024) (j : Fin 1408) (I : Fin 2048) (J : Fin 2816)
    (hI : I.val = 1024 * (t.val / 2) + i.val) (hJ : J.val = 1408 * (t.val % 2) + j.val) :
    ((cfg0.win 2).blk t).view.emb (ix2 i j : S1024x1408.Idx) = (ix2 I J : S2048x2816.Idx) := by
  blk_ext [index2]
  · show t.val / 2 * 1024 + i.val = I.val
    omega
  · show t.val % 2 * 1408 + j.val = J.val
    omega

theorem point_block (c : Dev nD) (t : Fin cfg0.N) (y : S1024x1408.Idx) :
    (out0_2 (iblk m c 0 t) (iblk m c 1 t) : S1024x1408.Idx → EReal) y
      = grad (m ((c.tc : Thread nD τ).loc main_arg0)) (m ((c.tc : Thread nD τ).loc main_arg1)) (((cfg0.win 2).blk t).view.emb y) := by
  obtain ⟨i, j, rfl⟩ : ∃ (i : Fin 1024) (j : Fin 1408), y = ix2 i j := ⟨y 0, y 1, eq_ix2 _⟩
  have ht : t.val < 4 := t.isLt
  have hi : i.val < 1024 := i.isLt
  have hj : j.val < 1408 := j.isLt
  rw [place t i j ⟨1024 * (t.val / 2) + i.val, by omega⟩ ⟨1408 * (t.val % 2) + j.val, by omega⟩ rfl rfl]
  exact point m c t i j _ _ rfl rfl

theorem covers : (cfg0.win 2).Covers := by decide +kernel

/-- The array after the run. -/
theorem arr (c : Dev nD) : ((dats m 0 c).arrAt 2 cfg0.N : S2048x2816.Idx → EReal)
    = grad (m ((c.tc : Thread nD τ).loc main_arg0)) (m ((c.tc : Thread nD τ).loc main_arg1)) := by
  refine (dats m 0 c).arrAt_eq_of_covers 2 _ covers fun t hfl y => ?_
  blk_simp
  rw [after0_2]
  exact point_block m c t y

/-- The reference's array. -/
theorem ref (y : S2048x1024.Idx → EReal) (w : S4x704x1024.Idx → EReal) :
    (Cert.Reference4Ideal.Read.val_main_v9 (F := Ideal) y w : S2048x2816.Idx → EReal) = grad y w := by
  funext i
  rw [Cert.Reference4Ideal.Read.val_main_v9_apply]
  refine (Cert.Reference4Ideal.Read.val_main_v8_apply y w _).trans ?_
  unfold grad
  rw [mul_comm, half_mul_sum]
  refine Finset.sum_congr rfl fun k _ => ?_
  rw [Cert.Reference4Ideal.Read.val_main_v7_apply, Cert.Reference4Ideal.Read.val_main_v6_apply, Cert.Reference4Ideal.Read.val_main_cst_1_apply,
    Cert.Reference4Ideal.Read.val_main_v1_apply, Cert.Reference4Ideal.Read.val_main_v0_apply]
  have h0 : (i 0).val < 2048 := (i 0).isLt
  have h1 : (i 1).val < 2816 := (i 1).isLt
  have hk : k.val < 1024 := k.isLt
  have e : ∀ (p p' q q' : EReal), p = p' → q = q' → half * p * q = half * (p' * q') := by
    rintro p _ q _ rfl rfl
    exact mul_assoc _ _ _
  refine e _ _ _ _ (congrArg y (funext fun x => Fin.ext ?_)) (congrArg w (funext fun x => Fin.ext ?_))
  · match x with
    | ⟨0, _⟩ => rfl
    | ⟨1, _⟩ => rfl
  · match x with
    | ⟨0, _⟩ => show ((i 1).val * 1024 + k.val) / 720896 = (i 1).val / 704; omega
    | ⟨1, _⟩ => show ((i 1).val * 1024 + k.val) / 1024 % 704 = (i 1).val % 704; omega
    | ⟨2, _⟩ => show ((i 1).val * 1024 + k.val) % 1024 = k.val; omega

end Cert.Dact

end
-- ==== Proof.Feed.lean ====
/- The feed-forward backward calls: each program leaves its arguments alone, and ends with the reference's array. -/
module

public import proofs.«01_k».proof.Defs
public import proofs.«01_k».proof.Proof.Dwin
public import proofs.«01_k».proof.Proof.Dwout
public import proofs.«01_k».proof.Proof.Dact
public import proofs.«01_k».proof.Proof.Gen.Kernel2
public import proofs.«01_k».proof.Proof.Gen.Kernel3
public import proofs.«01_k».proof.Proof.Gen.Kernel4
public import Idealize.ShloMosaic.Lib.Quiescent

@[expose] public section

noncomputable section

namespace Cert.Feed

open Idealize.ShloMosaic Idealize.SL.Sem

/-- The two programs run the same body. -/
theorem body2 : @Cert.Kernel2.defs Bits _ Cert.Kernel2.Gen.facts = @Cert.Kernel2Ideal.defs Bits _ Cert.Kernel2Ideal.Gen.facts := by
  refine congrArg (Pipeline.defs _) (congrArg Defs.onTc (funext fun l => funext fun x => ?_))
  match l, x with
  | 0, x => rfl

theorem frameP2 : @Cert.quiescent_Kernel2 Cert.Kernel2.Gen.facts := fun m ρ _ =>
  (congrArg (fun d => θ_run d (onTc (τ := Cert.Kernel2.τ) (Cert.Kernel2.main (F := Bits))) ⟨m, fun _ => 0, ρ⟩ _) body2).mpr
    (Cert.Kernel2Ideal.Gen.frame (F := Bits) m ρ)
theorem frameK2 : @Cert.quiescent_Kernel2Ideal Cert.Kernel2Ideal.Gen.facts := fun m ρ _ => Cert.Kernel2Ideal.Gen.frame (F := Ideal) m ρ
theorem frameR2 : @Cert.quiescent_Reference2Ideal Cert.Reference2Ideal.Gen.facts := fun m ρ _ =>
  (θ_run _ _ _).mono (fun r h => ⟨fun c => (h c).2, sem_eq_zero_of_no_sems (by decide) r.2⟩)
    (Cert.Reference2Ideal.Value.run (F := Ideal) m ρ)

/-- The call's array is the reference's. -/
theorem values2 : @Cert.algebraic_Kernel2Ideal_Reference2Ideal Cert.Kernel2Ideal.Gen.facts Cert.Reference2Ideal.Gen.facts :=
  fun m ρ m' ρ' _ hag => by
  refine ⟨fun c => Cert.Dwin.grad (m ((c.tc : Thread _ _).loc Cert.Kernel2Ideal.main_arg0)) (m ((c.tc : Thread _ _).loc Cert.Kernel2Ideal.main_arg1)), ?_, ?_⟩
  · exact (θ_run _ _ _).mono (fun r h c => ⟨(h c).1.trans (Cert.Dwin.arr m c), (h c).2⟩) (Cert.Kernel2Ideal.Value.run_blocks (F := Ideal) m ρ)
  · refine (θ_run _ _ _).mono (fun r h c => ?_) (Cert.Reference2Ideal.Value.run (F := Ideal) m' ρ')
    obtain ⟨a0, a1⟩ := hag c
    refine ⟨(h c).1.trans ((Cert.Reference2Ideal.Read.val_main_v8_eq _ _).trans ?_), (h c).2⟩
    rw [a0, a1]
    exact Cert.Dwin.ref _ _

/-- The two programs run the same body. -/
theorem body3 : @Cert.Kernel3.defs Bits _ Cert.Kernel3.Gen.facts = @Cert.Kernel3Ideal.defs Bits _ Cert.Kernel3Ideal.Gen.facts := by
  refine congrArg (Pipeline.defs _) (congrArg Defs.onTc (funext fun l => funext fun x => ?_))
  match l, x with
  | 0, x => rfl

theorem frameP3 : @Cert.quiescent_Kernel3 Cert.Kernel3.Gen.facts := fun m ρ _ =>
  (congrArg (fun d => θ_run d (onTc (τ := Cert.Kernel3.τ) (Cert.Kernel3.main (F := Bits))) ⟨m, fun _ => 0, ρ⟩ _) body3).mpr
    (Cert.Kernel3Ideal.Gen.frame (F := Bits) m ρ)
theorem frameK3 : @Cert.quiescent_Kernel3Ideal Cert.Kernel3Ideal.Gen.facts := fun m ρ _ => Cert.Kernel3Ideal.Gen.frame (F := Ideal) m ρ
theorem frameR3 : @Cert.quiescent_Reference3Ideal Cert.Reference3Ideal.Gen.facts := fun m ρ _ =>
  (θ_run _ _ _).mono (fun r h => ⟨fun c => (h c).2, sem_eq_zero_of_no_sems (by decide) r.2⟩)
    (Cert.Reference3Ideal.Value.run (F := Ideal) m ρ)

/-- The call's array is the reference's. -/
theorem values3 : @Cert.algebraic_Kernel3Ideal_Reference3Ideal Cert.Kernel3Ideal.Gen.facts Cert.Reference3Ideal.Gen.facts :=
  fun m ρ m' ρ' _ hag => by
  refine ⟨fun c => Cert.Dwout.grad (m ((c.tc : Thread _ _).loc Cert.Kernel3Ideal.main_arg0)) (m ((c.tc : Thread _ _).loc Cert.Kernel3Ideal.main_arg1)), ?_, ?_⟩
  · exact (θ_run _ _ _).mono (fun r h c => ⟨(h c).1.trans (Cert.Dwout.arr m c), (h c).2⟩) (Cert.Kernel3Ideal.Value.run_blocks (F := Ideal) m ρ)
  · refine (θ_run _ _ _).mono (fun r h c => ?_) (Cert.Reference3Ideal.Value.run (F := Ideal) m' ρ')
    obtain ⟨a0, a1⟩ := hag c
    refine ⟨(h c).1.trans ((Cert.Reference3Ideal.Read.val_main_v11_eq _ _).trans ?_), (h c).2⟩
    rw [a0, a1]
    exact Cert.Dwout.ref _ _

/-- The two programs run the same body. -/
theorem body4 : @Cert.Kernel4.defs Bits _ Cert.Kernel4.Gen.facts = @Cert.Kernel4Ideal.defs Bits _ Cert.Kernel4Ideal.Gen.facts := by
  refine congrArg (Pipeline.defs _) (congrArg Defs.onTc (funext fun l => funext fun x => ?_))
  match l, x with
  | 0, x => rfl

theorem frameP4 : @Cert.quiescent_Kernel4 Cert.Kernel4.Gen.facts := fun m ρ _ =>
  (congrArg (fun d => θ_run d (onTc (τ := Cert.Kernel4.τ) (Cert.Kernel4.main (F := Bits))) ⟨m, fun _ => 0, ρ⟩ _) body4).mpr
    (Cert.Kernel4Ideal.Gen.frame (F := Bits) m ρ)
theorem frameK4 : @Cert.quiescent_Kernel4Ideal Cert.Kernel4Ideal.Gen.facts := fun m ρ _ => Cert.Kernel4Ideal.Gen.frame (F := Ideal) m ρ
theorem frameR4 : @Cert.quiescent_Reference4Ideal Cert.Reference4Ideal.Gen.facts := fun m ρ _ =>
  (θ_run _ _ _).mono (fun r h => ⟨fun c => (h c).2, sem_eq_zero_of_no_sems (by decide) r.2⟩)
    (Cert.Reference4Ideal.Value.run (F := Ideal) m ρ)

/-- The call's array is the reference's. -/
theorem values4 : @Cert.algebraic_Kernel4Ideal_Reference4Ideal Cert.Kernel4Ideal.Gen.facts Cert.Reference4Ideal.Gen.facts :=
  fun m ρ m' ρ' _ hag => by
  refine ⟨fun c => Cert.Dact.grad (m ((c.tc : Thread _ _).loc Cert.Kernel4Ideal.main_arg0)) (m ((c.tc : Thread _ _).loc Cert.Kernel4Ideal.main_arg1)), ?_, ?_⟩
  · exact (θ_run _ _ _).mono (fun r h c => ⟨(h c).1.trans (Cert.Dact.arr m c), (h c).2⟩) (Cert.Kernel4Ideal.Value.run_blocks (F := Ideal) m ρ)
  · refine (θ_run _ _ _).mono (fun r h c => ?_) (Cert.Reference4Ideal.Value.run (F := Ideal) m' ρ')
    obtain ⟨a0, a1⟩ := hag c
    refine ⟨(h c).1.trans ((Cert.Reference4Ideal.Read.val_main_v9_eq _ _).trans ?_), (h c).2⟩
    rw [a0, a1]
    exact Cert.Dact.ref _ _

end Cert.Feed

end
-- ==== Proof.DhStep.lean ====
/- The gradient of the feed-forward's input rows, one grid point at a time: what each of the body's cases leaves in the carried
   sum and in the two results, as the body's own arithmetic on the blocks. -/
module

public import proofs.«01_k».proof.Proof.Gen.Kernel5Ideal.Value
public import Idealize.ShloMosaic.Lib.Pipeline.ValueKit.Geometry
public import Idealize.ShloMosaic.Lib.Pipeline.Value
public import Idealize.ShloMosaic.Lib.ValueIdx
public import Idealize.ShloMosaic.PureOps.Ideal.Laws

@[expose] public section

set_option maxRecDepth 16384

noncomputable section

namespace Cert.Dh

open Cert.Kernel5Ideal Cert.Kernel5Ideal.Gen Idealize.ShloMosaic Idealize.ShloMosaic.TcCoe Idealize.SL.Sem
open Idealize.ShloMosaic.Tactic

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords) (a3 : Memref sig .tc .vmem S1024x1408 .bf16) (h3 : a3.IsWhole)
  (a4 : Memref sig .tc .vmem S1x1024x1408 .bf16) (h4 : a4.IsWhole) (a5 : Memref sig .tc .vmem S1024x1024 .f32) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .f32) (h8 : a8.IsWhole) (a9 : Memref sig .tc .vmem S1x1024 .f32) (h9 : a9.IsWhole)
  (a10 : Memref sig .tc .vmem S1024x1024 .f32) (h10 : a10.IsWhole)
  (x0 : Vec F S1024x1408 .bf16) (x1 : Vec F S1x1024x1408 .bf16) (x2 : Vec F S1024x1024 .f32) (x3 : Vec F S1x1024 .f32)
  (x4 : Vec F S1024x1024 .f32) (o6 : Vec F S1x1024 .f32) (s : Vec F S1024x1024 .f32)

/-- The first of a row block's four points stores the product. -/
theorem sum_first (hc0 : cond0_0 i) (hc1 : ¬cond0_1 i) (hc2 : ¬cond0_2 i) :
    sout0_A_0 c i a3 h3 a4 h4 a5 h5 a6 h6 a7 h7 a8 h8 a9 h9 a10 h10 hc0 hc1 hc2 x0 x1 x2 x3 x4 = k0_pay1 x1 x0 := by
  unfold sout0_A_0
  rw [View.read_writes_eq_canon _ _ _ (scover0_A_0 c i a3 h3 a4 h4 a5 h5 a6 h6 a7 h7 a8 h8 a9 h9 a10 h10 hc0 hc1 hc2 x0 x1 x2 x3 x4)]
  unfold kernelRun0_A
  dsimp only
  sl_unfold_words
  rw [View.canon_unit_zero zero2]
  unfold k0_pay2
  simp only [View.readAt_eq_ld, h3.read_unread, h4.read_unread, View.ld_unit_zero (S := S1024x1408) zero2,
    View.ld_unit_zero (S := S1x1024x1408) zero3, shapeCast_self]

/-- The middle points add their product. -/
theorem sum_next (hc0 : ¬cond0_0 i) (hc1 : cond0_1 i) (hc2 : ¬cond0_2 i) :
    sout0_B_0 c i a3 h3 a4 h4 a5 h5 a6 h6 a7 h7 a8 h8 a9 h9 a10 h10 hc0 hc1 hc2 x0 x1 x2 x3 x4 s = addf s (k0_pay1 x1 x0) := by
  unfold sout0_B_0
  rw [View.read_writes_eq_canon _ _ _ (scover0_B_0 c i a3 h3 a4 h4 a5 h5 a6 h6 a7 h7 a8 h8 a9 h9 a10 h10 hc0 hc1 hc2 x0 x1 x2 x3 x4 s)]
  unfold kernelRun0_B
  dsimp only
  sl_unfold_words
  rw [View.canon_unit_zero zero2]
  unfold k0_pay3
  simp only [View.readAt_eq_ld, h3.read_unread, h4.read_unread, h10.read_unread, View.ld_unit_zero (S := S1024x1408) zero2,
    View.ld_unit_zero (S := S1x1024x1408) zero3, View.ld_unit_zero (S := S1024x1024) zero2, shapeCast_self]

/-- The first row block's last point: the rows' gradient. -/
theorem rows_first (hc0 : ¬cond0_0 i) (hc1 : cond0_1 i) (hc2 : cond0_2 i) (hc3 : cond0_3 i) (hc4 : ¬cond0_4 i) :
    out0_C_5 c i a3 h3 a4 h4 a5 h5 a6 h6 a7 h7 a8 h8 a9 h9 a10 h10 hc0 hc1 hc2 hc3 hc4 x0 x1 x2 x3 x4 s
      = k0_pay7 (addf s (k0_pay1 x1 x0)) x2 x3 x4 := by
  unfold out0_C_5
  rw [View.read_writes_eq_canon _ _ _ (cover0_C_5 c i a3 h3 a4 h4 a5 h5 a6 h6 a7 h7 a8 h8 a9 h9 a10 h10 hc0 hc1 hc2 hc3 hc4 x0 x1 x2 x3 x4 s)]
  unfold kernelRun0_C
  dsimp only
  sl_unfold_words
  rw [View.canon_unit_zero zero2]
  simp only [View.readCov_unit_zero (S := S1024x1024) _ zero2]
  unfold k0_pay3
  simp only [View.readAt_eq_ld, h3.read_unread, h4.read_unread, h5.read_unread, h6.read_unread, h7.read_unread, h10.read_unread,
    View.ld_unit_zero (S := S1024x1408) zero2, View.ld_unit_zero (S := S1x1024) zero2,
    View.ld_unit_zero (S := S1x1024x1408) zero3, View.ld_unit_zero (S := S1024x1024) zero2, shapeCast_self]

/-- The first row block's last point: the gain's gradient. -/
theorem gain_first (hc0 : ¬cond0_0 i) (hc1 : cond0_1 i) (hc2 : cond0_2 i) (hc3 : cond0_3 i) (hc4 : ¬cond0_4 i) :
    out0_C_6 c i a3 h3 a4 h4 a5 h5 a6 h6 a7 h7 a8 h8 a9 h9 a10 h10 hc0 hc1 hc2 hc3 hc4 x0 x1 x2 x3 x4 s
      = k0_pay6 (addf s (k0_pay1 x1 x0)) x2 := by
  unfold out0_C_6
  rw [View.read_writes_eq_canon _ _ _ (cover0_C_6 c i a3 h3 a4 h4 a5 h5 a6 h6 a7 h7 a8 h8 a9 h9 a10 h10 hc0 hc1 hc2 hc3 hc4 x0 x1 x2 x3 x4 s)]
  unfold kernelRun0_C
  dsimp only
  sl_unfold_words
  rw [View.canon_unit_zero zero2]
  simp only [View.readCov_unit_zero (S := S1024x1024) _ zero2]
  unfold k0_pay3
  simp only [View.readAt_eq_ld, h3.read_unread, h4.read_unread, h5.read_unread, h6.read_unread, h7.read_unread, h10.read_unread,
    View.ld_unit_zero (S := S1024x1408) zero2, View.ld_unit_zero (S := S1x1024) zero2,
    View.ld_unit_zero (S := S1x1024x1408) zero3, View.ld_unit_zero (S := S1024x1024) zero2, shapeCast_self]

/-- The second row block's last point: the rows' gradient. -/
theorem rows_last (hc0 : ¬cond0_0 i) (hc1 : cond0_1 i) (hc2 : cond0_2 i) (hc3 : ¬cond0_3 i) (hc4 : cond0_4 i) :
    out0_D_5 c i a3 h3 a4 h4 a5 h5 a6 h6 a7 h7 a8 h8 a9 h9 a10 h10 hc0 hc1 hc2 hc3 hc4 x0 x1 x2 x3 x4 o6 s
      = k0_pay7 (addf s (k0_pay1 x1 x0)) x2 x3 x4 := by
  unfold out0_D_5
  rw [View.read_writes_eq_canon _ _ _ (cover0_D_5 c i a3 h3 a4 h4 a5 h5 a6 h6 a7 h7 a8 h8 a9 h9 a10 h10 hc0 hc1 hc2 hc3 hc4 x0 x1 x2 x3 x4 o6 s)]
  unfold kernelRun0_D
  dsimp only
  sl_unfold_words
  rw [View.canon_unit_zero zero2]
  simp only [View.readCov_unit_zero (S := S1024x1024) _ zero2]
  unfold k0_pay3
  simp only [View.readAt_eq_ld, h3.read_unread, h4.read_unread, h5.read_unread, h6.read_unread, h7.read_unread, h10.read_unread,
    View.ld_unit_zero (S := S1024x1408) zero2, View.ld_unit_zero (S := S1x1024) zero2,
    View.ld_unit_zero (S := S1x1024x1408) zero3, View.ld_unit_zero (S := S1024x1024) zero2, shapeCast_self]

/-- The second row block's last point adds to the gain's gradient. -/
theorem gain_last (hc0 : ¬cond0_0 i) (hc1 : cond0_1 i) (hc2 : cond0_2 i) (hc3 : ¬cond0_3 i) (hc4 : cond0_4 i) :
    out0_D_6 c i a3 h3 a4 h4 a5 h5 a6 h6 a7 h7 a8 h8 a9 h9 a10 h10 hc0 hc1 hc2 hc3 hc4 x0 x1 x2 x3 x4 o6 s
      = addf o6 (k0_pay6 (addf s (k0_pay1 x1 x0)) x2) := by
  unfold out0_D_6
  rw [View.read_writes_eq_canon _ _ _ (cover0_D_6 c i a3 h3 a4 h4 a5 h5 a6 h6 a7 h7 a8 h8 a9 h9 a10 h10 hc0 hc1 hc2 hc3 hc4 x0 x1 x2 x3 x4 o6 s)]
  unfold kernelRun0_D
  dsimp only
  sl_unfold_words
  rw [View.canon_unit_zero zero2]
  unfold k0_pay8
  simp only [View.readCov_unit_zero (S := S1024x1024) _ zero2]
  unfold k0_pay3
  simp only [View.readAt_eq_ld, h3.read_unread, h4.read_unread, h5.read_unread, h6.read_unread, h7.read_unread, h9.read_unread, h10.read_unread,
    View.ld_unit_zero (S := S1024x1408) zero2, View.ld_unit_zero (S := S1x1024) zero2,
    View.ld_unit_zero (S := S1x1024x1408) zero3, View.ld_unit_zero (S := S1024x1024) zero2, shapeCast_self]

end Cert.Dh

end
-- ==== Proof.DhFold.lean ====
/- The gradient of the feed-forward's input rows, over the whole grid: the carried sum after the four points of a row block is
   the sum of their four products, and the two results are the body's arithmetic on those sums. -/
module

public import proofs.«01_k».proof.Proof.DhStep

@[expose] public section

set_option maxRecDepth 16384

noncomputable section

namespace Cert.Dh

open Cert.Kernel5Ideal Cert.Kernel5Ideal.Gen Cert.Kernel5Ideal.Value Idealize.ShloMosaic Idealize.ShloMosaic.TcCoe Idealize.SL.Sem

variable {F : FTy → Type} [FloatOps F]
variable (m : (ℓ : Loc nD τ sig) → Buf (Elt F) ℓ) (c : Dev nD)

/-- The product of a point's two blocks. -/
def prod (t : Fin cfg0.N) : FVec F S1024x1024 .f32 := k0_pay1 (iblk m c 1 t) (iblk m c 0 t)

variable (t : Fin cfg0.N) (acc : Vec F S1024x1024 .f32 × Vec F S1x1024 .f32 × Vec F S1024x1024 .f32)

theorem step_first (h : t.val % 4 = 0) : (stAt0 m c t.val t.isLt acc).2.2 = prod m c t := by
  rw [stAt0_A m c t acc h (by omega) (by omega)]
  unfold prod; dsimp only; rw [sum_first]

theorem step_next (h : 1 ≤ t.val % 4) (h' : ¬t.val % 4 = 3) : (stAt0 m c t.val t.isLt acc).2.2 = addf acc.2.2 (prod m c t) := by
  rw [stAt0_B m c t acc (by omega) h h']
  unfold prod; dsimp only; rw [sum_next]

theorem keep_first (h : t.val % 4 = 0) : (stAt0 m c t.val t.isLt acc).2.1 = acc.2.1 := by
  rw [stAt0_A m c t acc h (by omega) (by omega)]
  rfl

theorem keep_next (h : 1 ≤ t.val % 4) (h' : ¬t.val % 4 = 3) : (stAt0 m c t.val t.isLt acc).2.1 = acc.2.1 := by
  rw [stAt0_B m c t acc (by omega) h h']
  rfl

theorem rows_C (h : t.val % 4 = 3) (h' : t.val < 4) :
    (stAt0 m c t.val t.isLt acc).1 = k0_pay7 (addf acc.2.2 (prod m c t)) (iblk m c 2 t) (iblk m c 3 t) (iblk m c 4 t) := by
  rw [stAt0_C m c t acc (by omega) (by omega) h h' (by omega)]
  unfold prod; dsimp only; rw [rows_first]

theorem gain_C (h : t.val % 4 = 3) (h' : t.val < 4) :
    (stAt0 m c t.val t.isLt acc).2.1 = k0_pay6 (addf acc.2.2 (prod m c t)) (iblk m c 2 t) := by
  rw [stAt0_C m c t acc (by omega) (by omega) h h' (by omega)]
  unfold prod; dsimp only; rw [gain_first]

theorem rows_D (h : t.val % 4 = 3) (h' : 4 ≤ t.val) :
    (stAt0 m c t.val t.isLt acc).1 = k0_pay7 (addf acc.2.2 (prod m c t)) (iblk m c 2 t) (iblk m c 3 t) (iblk m c 4 t) := by
  rw [stAt0_D m c t acc (by omega) (by omega) h (by omega) h']
  unfold prod; dsimp only; rw [rows_last]

theorem gain_D (h : t.val % 4 = 3) (h' : 4 ≤ t.val) :
    (stAt0 m c t.val t.isLt acc).2.1 = addf acc.2.1 (k0_pay6 (addf acc.2.2 (prod m c t)) (iblk m c 2 t)) := by
  rw [stAt0_D m c t acc (by omega) (by omega) h (by omega) h']
  unfold prod; dsimp only; rw [gain_last]

/-- The point `j` of row block `q`. -/
def pt (q : Fin 2) (j : Fin 4) : Fin cfg0.N := ⟨4 * q.val + j.val, lt_of_lt_of_eq (by omega) N_0.symm⟩

/-- The sum a row block's four points leave. -/
def sums (q : Fin 2) : FVec F S1024x1024 .f32 :=
  addf (addf (addf (prod m c (pt q 0)) (prod m c (pt q 1))) (prod m c (pt q 2))) (prod m c (pt q 3))

/-- Whatever a row block starts from, its first three points leave the sum of their products, and the gain's gradient as it was. -/
theorem three (q : Fin 2) :
    let s0 := stAt0 m c (pt q 0).val (pt q 0).isLt acc
    let s1 := stAt0 m c (pt q 1).val (pt q 1).isLt s0
    let s2 := stAt0 m c (pt q 2).val (pt q 2).isLt s1
    s2.2.2 = addf (addf (prod m c (pt q 0)) (prod m c (pt q 1))) (prod m c (pt q 2)) ∧ s2.2.1 = acc.2.1 := by
  intro s0 s1 s2
  have v0 : (pt q 0).val % 4 = 0 := by show (4 * q.val + 0) % 4 = 0; omega
  have v1 : (pt q 1).val % 4 = 1 := by show (4 * q.val + 1) % 4 = 1; omega
  have v2 : (pt q 2).val % 4 = 2 := by show (4 * q.val + 2) % 4 = 2; omega
  constructor
  · rw [show s2.2.2 = _ from step_next m c (pt q 2) s1 (by omega) (by omega), show s1.2.2 = _ from step_next m c (pt q 1) s0 (by omega) (by omega),
      show s0.2.2 = _ from step_first m c (pt q 0) acc v0]
  · rw [show s2.2.1 = _ from keep_next m c (pt q 2) s1 (by omega) (by omega), show s1.2.1 = _ from keep_next m c (pt q 1) s0 (by omega) (by omega),
      show s0.2.1 = _ from keep_first m c (pt q 0) acc v0]

/-- What the carried state holds after point `n`. -/
def held (n : ℕ) (hn : n < cfg0.N) : Vec F S1024x1024 .f32 × Vec F S1x1024 .f32 × Vec F S1024x1024 .f32 := outsAt0 m c n hn

theorem held_zero : held m c 0 (pt 0 0).isLt = stAt0 m c (pt 0 0).val (pt 0 0).isLt junk0 := outsAt0_zero m c _
theorem held_succ (n : ℕ) (hn : n + 1 < cfg0.N) :
    held m c (n + 1) hn = stAt0 m c (n + 1) hn (held m c n (Nat.lt_of_succ_lt hn)) := outsAt0_succ m c n hn

theorem held_two : (held m c 2 (pt 0 2).isLt).2.2 = addf (addf (prod m c (pt 0 0)) (prod m c (pt 0 1))) (prod m c (pt 0 2)) := by
  rw [held_succ m c 1 (pt 0 2).isLt, held_succ m c 0 (pt 0 1).isLt, held_zero]
  exact (three m c junk0 0).1

theorem rows_three : (held m c 3 (pt 0 3).isLt).1 = k0_pay7 (sums m c 0) (iblk m c 2 (pt 0 3)) (iblk m c 3 (pt 0 3)) (iblk m c 4 (pt 0 3)) := by
  rw [held_succ m c 2 (pt 0 3).isLt]
  refine (rows_C m c (pt 0 3) _ rfl (by decide)).trans ?_
  rw [held_two]; rfl

theorem gain_three : (held m c 3 (pt 0 3).isLt).2.1 = k0_pay6 (sums m c 0) (iblk m c 2 (pt 0 3)) := by
  rw [held_succ m c 2 (pt 0 3).isLt]
  refine (gain_C m c (pt 0 3) _ rfl (by decide)).trans ?_
  rw [held_two]; rfl

theorem held_six : (held m c 6 (pt 1 2).isLt).2.2 = addf (addf (prod m c (pt 1 0)) (prod m c (pt 1 1))) (prod m c (pt 1 2))
    ∧ (held m c 6 (pt 1 2).isLt).2.1 = k0_pay6 (sums m c 0) (iblk m c 2 (pt 0 3)) := by
  rw [held_succ m c 5 (pt 1 2).isLt, held_succ m c 4 (pt 1 1).isLt, held_succ m c 3 (pt 1 0).isLt]
  have h := three m c (held m c 3 (pt 0 3).isLt) 1
  exact ⟨h.1, h.2.trans (gain_three m c)⟩

theorem rows_seven : (held m c 7 (pt 1 3).isLt).1 = k0_pay7 (sums m c 1) (iblk m c 2 (pt 1 3)) (iblk m c 3 (pt 1 3)) (iblk m c 4 (pt 1 3)) := by
  rw [held_succ m c 6 (pt 1 3).isLt]
  refine (rows_D m c (pt 1 3) _ rfl (by decide)).trans ?_
  rw [(held_six m c).1]; rfl

theorem gain_seven : (held m c 7 (pt 1 3).isLt).2.1
    = addf (k0_pay6 (sums m c 0) (iblk m c 2 (pt 0 3))) (k0_pay6 (sums m c 1) (iblk m c 2 (pt 1 3))) := by
  rw [held_succ m c 6 (pt 1 3).isLt]
  refine (gain_D m c (pt 1 3) _ rfl (by decide)).trans ?_
  rw [(held_six m c).1, (held_six m c).2]; rfl

/-- The rows' gradient at row `r` of row block `q`. -/
theorem rows_entry (q : Fin 2) (r : Fin 1024) (j : Fin 1024) (R : Fin 2048) (hR : R.val = 1024 * q.val + r.val) :
    G5 m c (ValueIdx.ix2 R j : S2048x1024.Idx)
      = k0_pay7 (sums m c q) (iblk m c 2 (pt q 3)) (iblk m c 3 (pt q 3)) (iblk m c 4 (pt q 3)) (ValueIdx.ix2 r j) := by
  have hq : q.val < 2 := q.isLt
  have hr : r.val < 1024 := r.isLt
  have hj : j.val < 1024 := j.isLt
  have hp : pt5Of (ValueIdx.ix2 R j : S2048x1024.Idx) = 4 * q.val + 3 := by
    show 4 * (1 * (R.val / 1024 - 0) + 1 * (j.val / 1024 - 0)) + 3 = _
    omega
  have hl : loc5Of (ValueIdx.ix2 R j : S2048x1024.Idx) = ValueIdx.ix2 r j := by
    funext a; apply Fin.ext
    match a with
    | ⟨0, _⟩ => show R.val % 1024 = r.val; omega
    | ⟨1, _⟩ => show j.val % 1024 = j.val; omega
  unfold G5
  rw [dif_pos (by rw [hp]; exact (pt q 3).isLt), hl, fold0_congr m c _ _ (4 * q.val + 3) (by rw [Nat.zero_add]; exact (pt q 3).isLt) hp]
  refine (congrFun (congrArg Prod.fst (outsAt0_sweep m c (4 * q.val + 3) (pt q 3).isLt).symm) _).trans ?_
  refine congrFun (?_ : (held m c (4 * q.val + 3) (pt q 3).isLt).1 = _) _
  match q with
  | 0 => exact rows_three m c
  | 1 => exact rows_seven m c

/-- The gain's gradient. -/
theorem gain_entry : G6 m c = addf (k0_pay6 (sums m c 0) (iblk m c 2 (pt 0 3))) (k0_pay6 (sums m c 1) (iblk m c 2 (pt 1 3))) := by
  rw [G6_last, ← outsAt0_sweep m c 7 (pt 1 3).isLt]
  exact gain_seven m c

end Cert.Dh

end
-- ==== Proof.NormRow.lean ====
/- The gradient of a root-mean-square norm, one row at a time over the extended reals: the kernel's form, with the normalized row
   written once, and the form the chain rule gives, operation by operation; they agree for every row, infinite entries too. -/
module

public import proofs.«01_k».proof.Proof.Finite

@[expose] public section

noncomputable section

namespace Cert.Norm

open Idealize.ShloMosaic Cert.Grad

/-- A sum over `N` terms, in `p` blocks of `n`. -/
theorem sum_blocks (p n N : ℕ) (h : p * n = N) (f : Fin N → EReal) :
    ∑ k, f k = ∑ i : Fin p, ∑ j : Fin n, f ⟨n * i.val + j.val, by
      have hi := i.isLt; have hj := j.isLt
      calc n * i.val + j.val < n * i.val + n := by omega
        _ = n * (i.val + 1) := by ring
        _ ≤ n * p := Nat.mul_le_mul_left n hi
        _ = N := by rw [mul_comm, h]⟩ := by
  subst h
  rw [← finProdFinEquiv.sum_comp, Fintype.sum_prod_type]
  refine Finset.sum_congr rfl fun i _ => Finset.sum_congr rfl fun j _ => congrArg f (Fin.ext ?_)
  show j.val + n * i.val = n * i.val + j.val
  omega

/-- The width of a row, and the small number added to the mean of its squares. -/
def width : EReal := Ideal.ofBits .f32 0x44800000#32
def eps : EReal := Ideal.ofBits .f32 0x358637BD#32
def minusHalf : EReal := Ideal.ofBits .f32 0xBF000000#32

theorem width_real : width = ((1024 : ℝ) : EReal) := by
  unfold width
  simp [Ideal.ofBits, Ideal.ieee]
  rw [← EReal.coe_mul]
  norm_num

theorem eps_real : ∃ e : ℝ, 0 < e ∧ eps = (e : EReal) := by
  unfold eps
  refine ⟨_, ?_, by simp only [Ideal.ofBits, Ideal.ieee]; simp; rw [← EReal.coe_mul]⟩
  positivity

theorem minusHalf_real : minusHalf = ((-(1 / 2) : ℝ) : EReal) := by
  unfold minusHalf
  simp [Ideal.ofBits, Ideal.ieee]
  rw [← EReal.coe_mul]
  norm_num

variable {n : ℕ}

/-- The mean of a row's squares, with the small number added, and its inverse square root. -/
def meanSq (x : Fin n → EReal) : EReal := Ideal.div (∑ k, x k * x k) width + eps
def rstd (x : Fin n → EReal) : EReal := Ideal.rsqrt (meanSq x)

/-- The kernel's gradient of a row: `d` is the gradient of the normalized row times the gain, `y` what is added to it. -/
def grad (x g d : Fin n → EReal) (y : EReal) (j : Fin n) : EReal :=
  y + rstd x * (d j * g j - x j * rstd x * Ideal.div (∑ k, d k * g k * (x k * rstd x)) width)

/-- What each entry of the row adds to the gradient through the inverse square root. -/
def through (x g d : Fin n → EReal) : EReal :=
  Ideal.div ((∑ k, x k * (d k * g k)) * (minusHalf * Ideal.div (rstd x) (meanSq x))) width

/-- The chain rule's gradient of a row. -/
def chain (x g d : Fin n → EReal) (y : EReal) (j : Fin n) : EReal :=
  y + d j * g j * rstd x + x j * through x g d + through x g d * x j

/-- A row with an infinite entry has the inverse square root zero. -/
theorem rstd_zero (x : Fin n → EReal) (h : ¬∀ k, IsNum (x k)) : meanSq x = ⊤ ∧ rstd x = 0 := by
  obtain ⟨j, hj⟩ := not_forall.mp h
  have hsq : ∀ k, 0 ≤ x k * x k := fun k => by
    rcases le_total 0 (x k) with hk | hk
    · exact mul_nonneg hk hk
    · have := mul_nonneg (EReal.neg_nonneg.mpr hk) (EReal.neg_nonneg.mpr hk)
      rwa [neg_mul_neg] at this
  have htop : x j * x j = ⊤ := by
    by_cases h1 : x j = ⊤
    · rw [h1]; exact EReal.top_mul_top
    · by_cases h2 : x j = ⊥
      · rw [h2]; exact EReal.bot_mul_bot
      · exact absurd (fin_of_ne h1 h2) hj
  have hsum : ∑ k, x k * x k = ⊤ := top_le_iff.mp (htop ▸ Finset.single_le_sum (f := fun k => x k * x k) (fun k _ => hsq k) (Finset.mem_univ j))
  obtain ⟨e, -, hE⟩ := eps_real
  have hm : meanSq x = ⊤ := by
    unfold meanSq
    rw [hsum, width_real, div_coe _ _ (by norm_num), EReal.top_mul_coe_of_pos (by norm_num), hE, EReal.top_add_coe]
  refine ⟨hm, ?_⟩
  unfold rstd
  rw [hm, Ideal.rsqrt_top]

/-- The two gradients agree, whatever the row, the gain and the gradients are. -/
theorem grad_eq_chain (x g d : Fin n → EReal) (y : EReal) (j : Fin n) : grad x g d y j = chain x g d y j := by
  by_cases hx : ∀ k, IsNum (x k)
  swap
  · obtain ⟨hm, hr⟩ := rstd_zero x hx
    unfold grad chain through
    have h0 : Ideal.div 0 ⊤ = 0 := by
      rw [Ideal.div, if_neg EReal.top_ne_zero, zero_mul]
    rw [hm, hr, h0, width_real]
    simp only [div_coe _ _ (show (1024 : ℝ) ≠ 0 by norm_num)]
    simp
  choose X hX using hx
  obtain rfl : x = fun k => (X k : EReal) := funext hX
  obtain ⟨e, he, hE⟩ := eps_real
  set M : ℝ := (∑ k, X k * X k) * (1024 : ℝ)⁻¹ + e with hM
  have hsq : 0 ≤ ∑ k, X k * X k := Finset.sum_nonneg fun k _ => mul_self_nonneg _
  have hMpos : 0 < M := by positivity
  have h1024 : (1024 : ℝ) ≠ 0 := by norm_num
  have hmean : meanSq (fun k => (X k : EReal)) = (M : EReal) := by
    unfold meanSq
    simp only [← EReal.coe_mul]
    rw [← coe_sum, width_real, div_coe _ _ h1024, hE, ← EReal.coe_mul, ← EReal.coe_add]
  set r : ℝ := (Real.sqrt M)⁻¹ with hr
  have hr0 : 0 ≤ r := inv_nonneg.mpr (Real.sqrt_nonneg M)
  have hrstd : rstd (fun k => (X k : EReal)) = (r : EReal) := by
    unfold rstd
    rw [hmean, Ideal.rsqrt_coe, if_neg (not_lt.mpr hMpos.le), if_neg hMpos.ne']
  have hrr : M⁻¹ = r * r := by
    rw [hr, ← mul_inv, Real.mul_self_sqrt hMpos.le]
  unfold grad chain through
  rw [hrstd, hmean]
  simp only [width_real, minusHalf_real, div_coe _ _ h1024, div_coe _ _ hMpos.ne']
  have hT : ∑ k, d k * g k * ((X k : EReal) * (r : EReal)) = (∑ k, (X k : EReal) * (d k * g k)) * (r : EReal) := by
    rw [sum_mul_coe _ r hr0]
    exact Finset.sum_congr rfl fun k _ => by ac_rfl
  rw [hT]
  set S : EReal := ∑ k, (X k : EReal) * (d k * g k) with hS
  set C : ℝ := 1 / 2 * (r * r * r * (1024 : ℝ)⁻¹) with hC
  have hC0 : 0 ≤ C := by positivity
  have hl : S * (((-(1 / 2) : ℝ) : EReal) * ((r : EReal) * ((M⁻¹ : ℝ) : EReal))) * (((1024 : ℝ)⁻¹ : ℝ) : EReal) = -S * (C : EReal) := by
    rw [mul_assoc, ← EReal.coe_mul, ← EReal.coe_mul, ← EReal.coe_mul, hrr,
      show -(1 / 2) * (r * (r * r)) * (1024 : ℝ)⁻¹ = -C by rw [hC]; ring, EReal.coe_neg, mul_neg, neg_mul]
  have hk : (r : EReal) * (d j * g j - (X j : EReal) * (r : EReal) * (S * (r : EReal) * (((1024 : ℝ)⁻¹ : ℝ) : EReal)))
      = d j * g j * (r : EReal) + (X j : EReal) * -S * ((C + C : ℝ) : EReal) := by
    rw [coe_mul_sub _ hr0, mul_comm (r : EReal) (d j * g j), sub_eq_add_neg, mul_neg, neg_mul,
      show C + C = r * r * r * (1024 : ℝ)⁻¹ by rw [hC]; ring, EReal.coe_mul, EReal.coe_mul, EReal.coe_mul]
    congr 2
    ac_rfl
  rw [hl, hk, EReal.coe_add, EReal.left_distrib_of_nonneg (EReal.coe_nonneg.mpr hC0) (EReal.coe_nonneg.mpr hC0), add_assoc, add_assoc]
  congr 3
  · ac_rfl
  · ac_rfl

end Cert.Norm

end
-- ==== Proof.DhRef.lean ====
/- The reference's gradient of the feed-forward's input rows and of the norm's gain, entry by entry. -/
module

public import proofs.«01_k».proof.Proof.Gen.Reference5Ideal.Run
public import proofs.«01_k».proof.Proof.Gen.Reference5Ideal.Read
public import proofs.«01_k».proof.Proof.NormRow
public import Idealize.ShloMosaic.Lib.ValueIdx
public import Idealize.ShloMosaic.PureOps.Ideal.Laws

@[expose] public section

set_option maxRecDepth 16384

noncomputable section

namespace Cert.Dh

open Idealize.ShloMosaic Idealize.ShloMosaic.ValueIdx Cert.Norm
open Cert.Reference5Ideal Cert.Reference5Ideal.Read Cert.Reference5Ideal.Gen

variable (x : S2048x1024.Idx → EReal) (g : S1x1024.Idx → EReal) (w : S4x1024x1408.Idx → EReal) (d : S2048x5632.Idx → EReal)
  (y : S2048x1024.Idx → EReal)

/-- A row of the rows, and the gain. -/
def row (R : Fin 2048) (k : Fin 1024) : EReal := x (ix2 R k)
def gain (k : Fin 1024) : EReal := g (ix2 0 k)

/-- The gradient of the normalized rows times the gain: row `R` of the gradients against the matrix, chip by chip. -/
def normed (R : Fin 2048) (j : Fin 1024) : EReal :=
  ∑ p : Fin 4, ∑ k : Fin 1408, d (ix2 R ⟨1408 * p.val + k.val, by omega⟩) * w (ix3 p j k)

theorem ref_normed (R : Fin 2048) (j : Fin 1024) : val_main_v20 (F := Ideal) w d (ix2 R j) = normed w d R j := by
  rw [val_main_v20_apply, sum_blocks 4 1408 5632 (by norm_num)]
  refine Finset.sum_congr rfl fun p _ => Finset.sum_congr rfl fun k _ => ?_
  rw [val_main_v2_apply, val_main_v1_apply]
  have hp : p.val < 4 := p.isLt
  have hk : k.val < 1408 := k.isLt
  have hj : j.val < 1024 := j.isLt
  refine congrArg₂ (· * ·) (congrArg d (funext fun a => Fin.ext ?_)) (congrArg w (funext fun a => Fin.ext ?_))
  · match a with
    | ⟨0, _⟩ => rfl
    | ⟨1, _⟩ => rfl
  · match a with
    | ⟨0, _⟩ => show (j.val * 5632 + (1408 * p.val + k.val)) / 1408 % 4 = p.val; omega
    | ⟨1, _⟩ => show (j.val * 5632 + (1408 * p.val + k.val)) / 5632 = j.val; omega
    | ⟨2, _⟩ => show (j.val * 5632 + (1408 * p.val + k.val)) % 1408 = k.val; omega

theorem zero_word : (FloatOps.ofBits (F := Ideal) .f32 0x00000000#32 : EReal) = 0 := by
  show Ideal.ofBits .f32 0x00000000#32 = 0
  simp [Ideal.ofBits, Ideal.ieee]

theorem ref_meanSq (R : Fin 2048) (u : Fin 1) : val_main_v9 (F := Ideal) x (ix2 R u) = meanSq (row x R) := by
  rw [val_main_v9_apply, val_main_v7_apply, val_main_v8_apply, val_main_v5_apply, val_main_v6_apply, val_main_v4_apply]
  show Ideal.div (FloatOps.ofBits (F := Ideal) .f32 0x00000000#32 + _) width + eps = _
  rw [zero_word, zero_add]
  unfold meanSq
  refine congrArg (fun s => Ideal.div s width + eps) (Finset.sum_congr rfl fun k _ => ?_)
  rw [show idx_main_v4 (idx_main_v5 (ix2 R u)) k = ix2 R k from funext fun a => Fin.ext (match a with | ⟨0, _⟩ => rfl | ⟨1, _⟩ => rfl)]
  rfl

theorem ref_rstd (R : Fin 2048) (u : Fin 1) : val_main_v10 (F := Ideal) x (ix2 R u) = rstd (row x R) := by
  rw [val_main_v10_apply, ref_meanSq]
  rfl

theorem ref_scaled (R : Fin 2048) (j : Fin 1024) : val_main_v25 (F := Ideal) g w d (ix2 R j) = normed w d R j * gain g j := by
  rw [val_main_v25_apply, ref_normed, val_main_v24_apply]
  exact congrArg (fun i => normed w d R j * g i) (funext fun a => Fin.ext (match a with | ⟨0, _⟩ => rfl | ⟨1, _⟩ => rfl))

theorem ref_through (R : Fin 2048) (j : Fin 1024) :
    val_main_v36 (F := Ideal) x g w d (ix2 R j) = through (row x R) (gain g) (normed w d R) := by
  rw [val_main_v36_apply, val_main_v35_apply, Fin.sum_univ_one]
  rw [show idx_main_v35 (idx_main_v36 (ix2 R j)) 0 = ix2 R 0 from funext fun a => Fin.ext (match a with | ⟨0, _⟩ => rfl | ⟨1, _⟩ => rfl)]
  rw [val_main_v34_apply, val_main_v33_apply, val_main_v32_apply, val_main_v28_apply, val_main_v27_apply, val_main_v13_apply, val_main_v12_apply,
    val_main_v11_apply, ref_rstd, ref_meanSq]
  show FloatOps.ofBits (F := Ideal) .f32 0x00000000#32
    + Ideal.div ((FloatOps.ofBits (F := Ideal) .f32 0x00000000#32 + _) * (minusHalf * Ideal.div _ _)) width = _
  rw [zero_word, zero_add, zero_add]
  unfold through
  refine congrArg (fun s => Ideal.div (s * (minusHalf * Ideal.div (rstd (row x R)) (meanSq (row x R)))) width) (Finset.sum_congr rfl fun k _ => ?_)
  rw [show idx_main_v27 (idx_main_v28 (ix2 R 0)) k = ix2 R k from funext fun a => Fin.ext (match a with
    | ⟨0, _⟩ => by show R.val * 1 + 0 = R.val; omega
    | ⟨1, _⟩ => rfl),
    val_main_v26_apply, ref_scaled]
  rfl

/-- The reference's gradient of the rows. -/
theorem ref_rows (R : Fin 2048) (j : Fin 1024) :
    val_main_v40 (F := Ideal) x g w d y (ix2 R j) = chain (row x R) (gain g) (normed w d R) (y (ix2 R j)) j := by
  rw [val_main_v40_apply, val_main_v38_apply, val_main_v39_apply, val_main_v31_apply, val_main_v37_apply, val_main_v30_apply, ref_scaled, ref_through,
    val_main_v29_apply, show idx_main_v29 (ix2 R j) = ix2 R 0 from funext fun a => Fin.ext (match a with | ⟨0, _⟩ => rfl | ⟨1, _⟩ => rfl), ref_rstd]
  rfl

/-- The reference's gradient of the gain. -/
theorem ref_gain (u : Fin 1) (j : Fin 1024) :
    val_main_v23 (F := Ideal) x w d (ix2 u j) = ∑ R : Fin 2048, row x R j * rstd (row x R) * normed w d R j := by
  rw [val_main_v23_apply, val_main_v22_apply]
  refine (congrArg (· + _) zero_word).trans ((zero_add _).trans (Finset.sum_congr rfl fun R _ => ?_))
  rw [show idx_main_v22 (idx_main_v23 (ix2 u j)) R = ix2 R j from funext fun a => Fin.ext (match a with
    | ⟨0, _⟩ => rfl
    | ⟨1, _⟩ => by show u.val * 1024 + j.val = j.val; omega),
    val_main_v21_apply, val_main_v15_apply, val_main_v14_apply, ref_normed,
    show idx_main_v14 (ix2 R j) = ix2 R 0 from funext fun a => Fin.ext (match a with | ⟨0, _⟩ => rfl | ⟨1, _⟩ => rfl), ref_rstd]
  rfl

end Cert.Dh

end
-- ==== Proof.DhBlock.lean ====
/- The gradient of the feed-forward's input rows and of the norm's gain: the kernel's two arrays, entry by entry, and their equality with
   the reference's. -/
module

public import proofs.«01_k».proof.Proof.DhFold
public import proofs.«01_k».proof.Proof.DhRef

@[expose] public section

set_option maxRecDepth 16384

noncomputable section

namespace Cert.Dh

open Cert.Kernel5Ideal Cert.Kernel5Ideal.Gen Idealize.ShloMosaic Idealize.ShloMosaic.TcCoe Idealize.SL.Sem
open Idealize.ShloMosaic.ValueIdx Cert.Norm

/-! ## The body's arithmetic, entry by entry -/

/-- One block's product. -/
theorem block_product (a b : FVec Ideal S1024x1408 .bf16) (i j : Fin 1024) :
    matmul dot_S1024x1408_S1024x1408_S1024x1024_1_1_0_0_n_n none a b (constant S1024x1024 .f32 0x00000000#32) (ix2 i j)
      = ∑ k : Fin 1408, a (ix2 i k) * b (ix2 j k) := by
  refine (Ideal.matmul_constant_zero_apply dot_S1024x1408_S1024x1408_S1024x1024_1_1_0_0_n_n none a b (ix2 i j)).trans ?_
  let D := dot_S1024x1408_S1024x1408_S1024x1024_1_1_0_0_n_n
  have hr : D.contr.rank = 1 := rfl
  have hs : D.contr.size ⟨0, by rw [hr]; exact Nat.one_pos⟩ = 1408 := rfl
  rw [← Equiv.sum_comp (contrEquiv1 D 1408 hr hs).symm]
  refine Finset.sum_congr rfl fun k _ => ?_
  have hk := contrEquiv1_symm_val D 1408 hr hs k
  refine congrArg₂ (· * ·) (congrArg a (funext fun x => Fin.ext ?_)) (congrArg b (funext fun x => Fin.ext ?_))
  · match x with
    | ⟨0, _⟩ => rfl
    | ⟨1, _⟩ => exact hk
  · match x with
    | ⟨0, _⟩ => rfl
    | ⟨1, _⟩ => exact hk

theorem prod_apply (w : Vec Ideal S1x1024x1408 .bf16) (a : Vec Ideal S1024x1408 .bf16) (i j : Fin 1024) :
    (k0_pay1 w a : S1024x1024.Idx → EReal) (ix2 i j) = ∑ k : Fin 1408, a (ix2 i k) * w (ix3 0 j k) := by
  unfold k0_pay1
  refine (block_product _ _ i j).trans (Finset.sum_congr rfl fun k _ => congrArg (a (ix2 i k) * ·) (shapeCast_apply _ _ _ (ix3 0 j k) ?_))
  rw [Shape.rowMajor_val_two, Shape.rowMajor_val_three]
  show (0 * 1024 + j.val) * 1408 + k.val = j.val * 1408 + k.val
  omega

/-- A sum along the rows of a block, and one down its columns. -/
theorem sum_along (v : FVec Ideal S1024x1024 .f32) (i : Fin 1024) (u : Fin 1) :
    (shapeCast S1024x1 (multiReduction .add [1] S1024 v 0x00000000#32 reduces_S1024x1024_S1024 (.inl rfl) rfl) shapeCasts_S1024_S1024x1
      : S1024x1.Idx → EReal) (ix2 i u) = ∑ k : Fin 1024, v (ix2 i k) := by
  refine (shapeCast_apply _ _ _ (ix1 i) ?_).trans ((Ideal.multiReduction_add_single ..).trans (Finset.sum_congr rfl fun k _ => congrArg v ?_))
  · rw [Shape.rowMajor_val_one, Shape.rowMajor_val_two]
    show i.val = i.val * 1 + u.val
    omega
  · exact funext fun a => Fin.ext (match a with | ⟨0, _⟩ => rfl | ⟨1, _⟩ => rfl)

theorem sum_down (v : FVec Ideal S1024x1024 .f32) (j : Fin 1024) (u : Fin 1) :
    (shapeCast S1x1024 (multiReduction .add [0] S1024 v 0x00000000#32 reduces_S1024x1024_S1024_2 (.inl rfl) rfl) shapeCasts_S1024_S1x1024
      : S1x1024.Idx → EReal) (ix2 u j) = ∑ k : Fin 1024, v (ix2 k j) := by
  refine (shapeCast_apply _ _ _ (ix1 j) ?_).trans ((Ideal.multiReduction_add_single ..).trans (Finset.sum_congr rfl fun k _ => congrArg v ?_))
  · rw [Shape.rowMajor_val_one, Shape.rowMajor_val_two]
    show j.val = u.val * 1024 + j.val
    omega
  · exact funext fun a => Fin.ext (match a with | ⟨0, _⟩ => rfl | ⟨1, _⟩ => rfl)

/-- A column spread over a block, and a row. -/
theorem spread_column (v : FVec Ideal S1024x1 .f32) (i j : Fin 1024) :
    (broadcastTo S1024x1024 v broadcasts_S1024x1_S1024x1024 : S1024x1024.Idx → EReal) (ix2 i j) = v (ix2 i 0) :=
  congrArg v (funext fun a => Fin.ext (match a with | ⟨0, _⟩ => rfl | ⟨1, _⟩ => rfl))
theorem spread_row (v : FVec Ideal S1x1024 .f32) (i j : Fin 1024) :
    (broadcastTo S1024x1024 v broadcasts_S1x1024_S1024x1024 : S1024x1024.Idx → EReal) (ix2 i j) = v (ix2 0 j) :=
  congrArg v (funext fun a => Fin.ext (match a with | ⟨0, _⟩ => rfl | ⟨1, _⟩ => rfl))

/-- A row of a block. -/
def line (v : S1024x1024.Idx → EReal) (i k : Fin 1024) : EReal := v (ix2 i k)

theorem rstd_apply (v : Vec Ideal S1024x1024 .f32) (i : Fin 1024) (u : Fin 1) :
    (k0_pay4 v : S1024x1.Idx → EReal) (ix2 i u) = rstd (line v i) := by
  unfold k0_pay4
  exact congrArg (fun s => Ideal.rsqrt (Ideal.div s width + eps)) (sum_along (mulf v v) i u)

theorem unit_apply (v : Vec Ideal S1024x1024 .f32) (i j : Fin 1024) :
    (k0_pay5 v : S1024x1024.Idx → EReal) (ix2 i j) = line v i j * rstd (line v i) := by
  unfold k0_pay5
  exact congrArg (v (ix2 i j) * ·) ((spread_column _ i j).trans (rstd_apply v i 0))

theorem gain_apply (s v : Vec Ideal S1024x1024 .f32) (u : Fin 1) (j : Fin 1024) :
    (k0_pay6 s v : S1x1024.Idx → EReal) (ix2 u j) = ∑ r : Fin 1024, line s r j * (line v r j * rstd (line v r)) := by
  unfold k0_pay6
  exact (sum_down _ j u).trans (Finset.sum_congr rfl fun r _ => congrArg (s (ix2 r j) * ·) (unit_apply v r j))

theorem rows_apply (s v : Vec Ideal S1024x1024 .f32) (g : Vec Ideal S1x1024 .f32) (y : Vec Ideal S1024x1024 .f32) (i j : Fin 1024) :
    (k0_pay7 s v g y : S1024x1024.Idx → EReal) (ix2 i j) = grad (line v i) (fun k => g (ix2 0 k)) (line s i) (y (ix2 i j)) j := by
  unfold k0_pay7 grad
  refine congrArg (y (ix2 i j) + ·) (congrArg₂ (· * ·) ((spread_column _ i j).trans (rstd_apply v i 0)) (congrArg₂ (· - ·)
    (congrArg (s (ix2 i j) * ·) (spread_row g i j)) (congrArg₂ (· * ·) (unit_apply v i j) ((spread_column _ i j).trans
      (congrArg (fun t => Ideal.div t width) ((sum_along _ i 0).trans (Finset.sum_congr rfl fun k _ =>
        congrArg₂ (· * ·) (congrArg (s (ix2 i k) * ·) (spread_row g i k)) (unit_apply v i k))))))))

/-! ## The blocks -/

variable (m : (ℓ : Loc nD τ sig) → Buf (Elt Ideal) ℓ) (c : Dev nD)

/-- The call's arguments on one device: the rows, the gain, the matrix, the gradients and what is added. -/
abbrev aX : S2048x1024.Idx → EReal := m ((c.tc : Thread nD τ).loc main_arg0)
abbrev aG : S1x1024.Idx → EReal := m ((c.tc : Thread nD τ).loc main_arg1)
abbrev aW : S4x1024x1408.Idx → EReal := m ((c.tc : Thread nD τ).loc main_arg2)
abbrev aD : S2048x5632.Idx → EReal := m ((c.tc : Thread nD τ).loc main_arg3)
abbrev aY : S2048x1024.Idx → EReal := m ((c.tc : Thread nD τ).loc main_arg4)

theorem index0 (t : Fin cfg0.N) : win0_0.index t = ![t.val / 4, t.val % 4] := by revert t; decide
theorem index1 (t : Fin cfg0.N) : win0_1.index t = ![t.val % 4, 0, 0] := by revert t; decide
theorem index2 (t : Fin cfg0.N) : win0_2.index t = ![t.val / 4, 0] := by revert t; decide
theorem index3 (t : Fin cfg0.N) : win0_3.index t = ![0, 0] := by revert t; decide
theorem index4 (t : Fin cfg0.N) : win0_4.index t = ![t.val / 4, 0] := by revert t; decide

theorem blk0 (t : Fin cfg0.N) (i : Fin 1024) (k : Fin 1408) (I : Fin 2048) (K : Fin 5632) (hI : I.val = 1024 * (t.val / 4) + i.val)
    (hK : K.val = 1408 * (t.val % 4) + k.val) :
    (iblk m c 0 t : S1024x1408.Idx → EReal) (ix2 i k) = aD m c (ix2 I K) := by
  blk_ext [iblk, index0]
  · show t.val / 4 * 1024 + i.val = I.val
    omega
  · show t.val % 4 * 1408 + k.val = K.val
    omega

theorem blk1 (t : Fin cfg0.N) (j : Fin 1024) (k : Fin 1408) (p : Fin 4) (hp : p.val = t.val % 4) :
    (iblk m c 1 t : S1x1024x1408.Idx → EReal) (ix3 0 j k) = aW m c (ix3 p j k) := by
  blk_ext [iblk, index1]
  exact hp.symm

theorem blk2 (t : Fin cfg0.N) (i j : Fin 1024) (I : Fin 2048) (hI : I.val = 1024 * (t.val / 4) + i.val) :
    (iblk m c 2 t : S1024x1024.Idx → EReal) (ix2 i j) = aX m c (ix2 I j) := by
  blk_ext [iblk, index2]
  show t.val / 4 * 1024 + i.val = I.val
  omega

theorem blk3 (t : Fin cfg0.N) (j : Fin 1024) :
    (iblk m c 3 t : S1x1024.Idx → EReal) (ix2 0 j) = aG m c (ix2 0 j) := by
  blk_ext [iblk, index3]

theorem blk4 (t : Fin cfg0.N) (i j : Fin 1024) (I : Fin 2048) (hI : I.val = 1024 * (t.val / 4) + i.val) :
    (iblk m c 4 t : S1024x1024.Idx → EReal) (ix2 i j) = aY m c (ix2 I j) := by
  blk_ext [iblk, index4]
  show t.val / 4 * 1024 + i.val = I.val
  omega

theorem pt_div (q : Fin 2) (p : Fin 4) : (pt q p).val / 4 = q.val := by
  show (4 * q.val + p.val) / 4 = q.val
  omega
theorem pt_mod (q : Fin 2) (p : Fin 4) : (pt q p).val % 4 = p.val := by
  show (4 * q.val + p.val) % 4 = p.val
  omega

/-- The carried sum after a row block's four points is the gradient of its normalized rows times the gain. -/
theorem sums_apply (q : Fin 2) (r j : Fin 1024) (R : Fin 2048) (hR : R.val = 1024 * q.val + r.val) :
    line (sums m c q) r j = normed (aW m c) (aD m c) R j := by
  have h : ∀ p : Fin 4, (prod m c (pt q p) : S1024x1024.Idx → EReal) (ix2 r j)
      = ∑ k : Fin 1408, aD m c (ix2 R ⟨1408 * p.val + k.val, by omega⟩) * aW m c (ix3 p j k) := by
    intro p
    unfold prod
    rw [prod_apply]
    refine Finset.sum_congr rfl fun k _ => congrArg₂ (HMul.hMul (α := EReal) (β := EReal)) (blk0 m c _ r k R _ ?_ ?_) (blk1 m c _ j k p ?_)
    · rw [pt_div, hR]
    · rw [pt_mod]
    · rw [pt_mod]
  unfold normed
  rw [Fin.sum_univ_four, ← h 0, ← h 1, ← h 2, ← h 3]
  rfl

theorem line_rows (q : Fin 2) (r : Fin 1024) (R : Fin 2048) (hR : R.val = 1024 * q.val + r.val) :
    line (iblk m c 2 (pt q 3)) r = row (aX m c) R :=
  funext fun k => blk2 m c _ r k R (by rw [pt_div, hR])

/-- The kernel's gradient of the rows. -/
theorem kernel_rows (R : Fin 2048) (j : Fin 1024) :
    (Value.G5 m c : S2048x1024.Idx → EReal) (ix2 R j)
      = grad (row (aX m c) R) (gain (aG m c))
        (normed (aW m c) (aD m c) R)
        (aY m c (ix2 R j)) j := by
  obtain ⟨q, r, hR⟩ : ∃ (q : Fin 2) (r : Fin 1024), R.val = 1024 * q.val + r.val :=
    ⟨⟨R.val / 1024, by omega⟩, ⟨R.val % 1024, by omega⟩, by show R.val = 1024 * (R.val / 1024) + R.val % 1024; omega⟩
  refine (rows_entry m c q r j R hR).trans ((rows_apply _ _ _ _ r j).trans ?_)
  rw [line_rows m c q r R hR, show line (sums m c q) r = normed _ _ R from funext fun k => sums_apply m c q r k R hR,
    blk4 m c _ r j R (by rw [pt_div, hR]), show (fun k => (iblk m c 3 (pt q 3) : S1x1024.Idx → EReal) (ix2 0 k)) = gain _ from funext fun k => blk3 m c _ k]

/-- The kernel's gradient of the gain. -/
theorem kernel_gain (u : Fin 1) (j : Fin 1024) :
    (Value.G6 m c : S1x1024.Idx → EReal) (ix2 u j)
      = ∑ R : Fin 2048, row (aX m c) R j * rstd (row (aX m c) R)
        * normed (aW m c) (aD m c) R j := by
  rw [sum_blocks 2 1024 2048 (by norm_num), Fin.sum_univ_two]
  have e : ∀ q : Fin 2, (k0_pay6 (sums m c q) (iblk m c 2 (pt q 3)) : S1x1024.Idx → EReal) (ix2 u j)
      = ∑ r : Fin 1024, row (aX m c) ⟨1024 * q.val + r.val, by omega⟩ j * rstd (row (aX m c) ⟨1024 * q.val + r.val, by omega⟩)
        * normed (aW m c) (aD m c) ⟨1024 * q.val + r.val, by omega⟩ j := by
    intro q
    refine (gain_apply _ _ u j).trans (Finset.sum_congr rfl fun r _ => ?_)
    rw [line_rows m c q r ⟨1024 * q.val + r.val, by omega⟩ rfl, sums_apply m c q r j ⟨1024 * q.val + r.val, by omega⟩ rfl, mul_comm]
  exact (congrFun (gain_entry m c) _).trans (congrArg₂ (· + ·) (e 0) (e 1))

/-! ## The two arrays are the reference's -/

/-- The gain's gradient needs nothing of the arguments. -/
theorem gain_eq : (Value.G6 m c : S1x1024.Idx → EReal)
    = Cert.Reference5Ideal.Read.val_main_v23 (F := Ideal) (aX m c) (aW m c)
      (aD m c) := by
  funext i
  obtain ⟨u, j, rfl⟩ : ∃ (u : Fin 1) (j : Fin 1024), i = ix2 u j := ⟨i 0, i 1, eq_ix2 _⟩
  rw [kernel_gain, ref_gain]

/-- The rows' gradient. -/
theorem rows_eq : (Value.G5 m c : S2048x1024.Idx → EReal)
    = Cert.Reference5Ideal.Read.val_main_v40 (F := Ideal) (aX m c) (aG m c)
      (aW m c) (aD m c) (aY m c) := by
  funext i
  obtain ⟨R, j, rfl⟩ : ∃ (R : Fin 2048) (j : Fin 1024), i = ix2 R j := ⟨i 0, i 1, eq_ix2 _⟩
  rw [kernel_rows, ref_rows]
  exact grad_eq_chain _ _ _ _ _

end Cert.Dh

end
-- ==== Proof.FeedDh.lean ====
/- The feed-forward's input gradient: the program leaves its arguments alone, and ends with the reference's two arrays. -/
module

public import proofs.«01_k».proof.Defs
public import proofs.«01_k».proof.Proof.DhBlock
public import proofs.«01_k».proof.Proof.Gen.Kernel5
public import proofs.«01_k».proof.Proof.Gen.Reference5Ideal.Run
public import Idealize.ShloMosaic.Lib.Quiescent

@[expose] public section

noncomputable section

namespace Cert.Feed

open Idealize.ShloMosaic Idealize.SL.Sem

/-- The two programs run the same body. -/
theorem body5 : @Cert.Kernel5.defs Bits _ Cert.Kernel5.Gen.facts = @Cert.Kernel5Ideal.defs Bits _ Cert.Kernel5Ideal.Gen.facts := by
  refine congrArg (Pipeline.defs _) (congrArg Defs.onTc (funext fun l => funext fun x => ?_))
  match l, x with
  | 0, x => rfl

theorem frameP5 : @Cert.quiescent_Kernel5 Cert.Kernel5.Gen.facts := fun m ρ _ =>
  (congrArg (fun d => θ_run d (onTc (τ := Cert.Kernel5.τ) (Cert.Kernel5.main (F := Bits))) ⟨m, fun _ => 0, ρ⟩ _) body5).mpr
    (Cert.Kernel5Ideal.Gen.frame (F := Bits) m ρ)
theorem frameK5 : @Cert.quiescent_Kernel5Ideal Cert.Kernel5Ideal.Gen.facts := fun m ρ _ => Cert.Kernel5Ideal.Gen.frame (F := Ideal) m ρ
theorem frameR5 : @Cert.quiescent_Reference5Ideal Cert.Reference5Ideal.Gen.facts := fun m ρ _ =>
  (θ_run _ _ _).mono (fun r h => ⟨fun c => (h c).2.2, sem_eq_zero_of_no_sems (by decide) r.2⟩)
    (Cert.Reference5Ideal.Value.run (F := Ideal) m ρ)

/-- The call's two arrays are the reference's. -/
theorem values5 : @Cert.algebraic_Kernel5Ideal_Reference5Ideal Cert.Kernel5Ideal.Gen.facts Cert.Reference5Ideal.Gen.facts :=
  fun m ρ m' ρ' _ hag => by
  refine ⟨fun c => Cert.Kernel5Ideal.Value.G5 m c, fun c => Cert.Kernel5Ideal.Value.G6 m c, ?_, ?_⟩
  · exact Cert.Kernel5Ideal.Value.run (F := Ideal) m ρ
  · refine (θ_run _ _ _).mono (fun r h c => ?_) (Cert.Reference5Ideal.Value.run (F := Ideal) m' ρ')
    obtain ⟨a0, a1, a2, a3, a4⟩ := hag c
    obtain ⟨h0, h1, hrest⟩ := h c
    refine ⟨h0.trans ((Cert.Reference5Ideal.Read.val_main_v40_eq _ _).trans ?_),
      h1.trans ((Cert.Reference5Ideal.Read.val_main_v23_eq _ _ _).trans ?_), hrest⟩
    all_goals simp only [a0, a1, a2, a3, a4]
    · exact (Cert.Dh.rows_eq m c).symm
    · exact (Cert.Dh.gain_eq m c).symm

end Cert.Feed

end
-- ==== Proof.MdhStep.lean ====
/- The gradient of the mixer's input rows, one grid point at a time: what each of the body's cases leaves in the carried
   sum and in the two results, as the body's own arithmetic on the blocks. -/
module

public import proofs.«01_k».proof.Proof.Gen.Kernel6Ideal.Value
public import Idealize.ShloMosaic.Lib.Pipeline.ValueKit.Geometry
public import Idealize.ShloMosaic.Lib.Pipeline.Value
public import Idealize.ShloMosaic.Lib.ValueIdx
public import Idealize.ShloMosaic.PureOps.Ideal.Laws

@[expose] public section

set_option maxRecDepth 16384

noncomputable section

namespace Cert.Mdh

open Cert.Kernel6Ideal Cert.Kernel6Ideal.Gen Idealize.ShloMosaic Idealize.ShloMosaic.TcCoe Idealize.SL.Sem
open Idealize.ShloMosaic.Tactic

variable {F : FTy → Type} [FloatOps F]

theorem zero2 : (![0, 0] : Fin 2 → Nat) = fun _ => 0 := funext fun a => by fin_cases a <;> rfl

variable (c : Dev nD) (i : grid0.Coords) (a3 : Memref sig .tc .vmem S1024x896 .bf16) (h3 : a3.IsWhole)
  (a4 : Memref sig .tc .vmem S1024x896 .bf16) (h4 : a4.IsWhole) (a5 : Memref sig .tc .vmem S1024x1024 .f32) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .f32) (h8 : a8.IsWhole) (a9 : Memref sig .tc .vmem S1x1024 .f32) (h9 : a9.IsWhole)
  (a10 : Memref sig .tc .vmem S1024x1024 .f32) (h10 : a10.IsWhole)
  (x0 : Vec F S1024x896 .bf16) (x1 : Vec F S1024x896 .bf16) (x2 : Vec F S1024x1024 .f32) (x3 : Vec F S1x1024 .f32)
  (x4 : Vec F S1024x1024 .f32) (o6 : Vec F S1x1024 .f32) (s : Vec F S1024x1024 .f32)

/-- The first of a row block's seven points stores the product. -/
theorem sum_first (hc0 : cond0_0 i) (hc1 : ¬cond0_1 i) (hc2 : ¬cond0_2 i) :
    sout0_A_0 c i a3 h3 a4 h4 a5 h5 a6 h6 a7 h7 a8 h8 a9 h9 a10 h10 hc0 hc1 hc2 x0 x1 x2 x3 x4 = k0_pay1 x1 x0 := by
  unfold sout0_A_0
  rw [View.read_writes_eq_canon _ _ _ (scover0_A_0 c i a3 h3 a4 h4 a5 h5 a6 h6 a7 h7 a8 h8 a9 h9 a10 h10 hc0 hc1 hc2 x0 x1 x2 x3 x4)]
  unfold kernelRun0_A
  dsimp only
  sl_unfold_words
  rw [View.canon_unit_zero zero2]
  unfold k0_pay2
  simp only [View.readAt_eq_ld, h3.read_unread, h4.read_unread, View.ld_unit_zero (S := S1024x896) zero2,
    shapeCast_self]

/-- The middle points add their product. -/
theorem sum_next (hc0 : ¬cond0_0 i) (hc1 : cond0_1 i) (hc2 : ¬cond0_2 i) :
    sout0_B_0 c i a3 h3 a4 h4 a5 h5 a6 h6 a7 h7 a8 h8 a9 h9 a10 h10 hc0 hc1 hc2 x0 x1 x2 x3 x4 s = addf s (k0_pay1 x1 x0) := by
  unfold sout0_B_0
  rw [View.read_writes_eq_canon _ _ _ (scover0_B_0 c i a3 h3 a4 h4 a5 h5 a6 h6 a7 h7 a8 h8 a9 h9 a10 h10 hc0 hc1 hc2 x0 x1 x2 x3 x4 s)]
  unfold kernelRun0_B
  dsimp only
  sl_unfold_words
  rw [View.canon_unit_zero zero2]
  unfold k0_pay3
  simp only [View.readAt_eq_ld, h3.read_unread, h4.read_unread, h10.read_unread, View.ld_unit_zero (S := S1024x896) zero2,
    View.ld_unit_zero (S := S1024x1024) zero2, shapeCast_self]

/-- The first row block's last point: the rows' gradient. -/
theorem rows_first (hc0 : ¬cond0_0 i) (hc1 : cond0_1 i) (hc2 : cond0_2 i) (hc3 : cond0_3 i) (hc4 : ¬cond0_4 i) :
    out0_C_5 c i a3 h3 a4 h4 a5 h5 a6 h6 a7 h7 a8 h8 a9 h9 a10 h10 hc0 hc1 hc2 hc3 hc4 x0 x1 x2 x3 x4 s
      = k0_pay7 (addf s (k0_pay1 x1 x0)) x2 x3 x4 := by
  unfold out0_C_5
  rw [View.read_writes_eq_canon _ _ _ (cover0_C_5 c i a3 h3 a4 h4 a5 h5 a6 h6 a7 h7 a8 h8 a9 h9 a10 h10 hc0 hc1 hc2 hc3 hc4 x0 x1 x2 x3 x4 s)]
  unfold kernelRun0_C
  dsimp only
  sl_unfold_words
  rw [View.canon_unit_zero zero2]
  simp only [View.readCov_unit_zero (S := S1024x1024) _ zero2]
  unfold k0_pay3
  simp only [View.readAt_eq_ld, h3.read_unread, h4.read_unread, h5.read_unread, h6.read_unread, h7.read_unread, h10.read_unread,
    View.ld_unit_zero (S := S1024x896) zero2, View.ld_unit_zero (S := S1x1024) zero2,
    View.ld_unit_zero (S := S1024x1024) zero2, shapeCast_self]

/-- The first row block's last point: the gain's gradient. -/
theorem gain_first (hc0 : ¬cond0_0 i) (hc1 : cond0_1 i) (hc2 : cond0_2 i) (hc3 : cond0_3 i) (hc4 : ¬cond0_4 i) :
    out0_C_6 c i a3 h3 a4 h4 a5 h5 a6 h6 a7 h7 a8 h8 a9 h9 a10 h10 hc0 hc1 hc2 hc3 hc4 x0 x1 x2 x3 x4 s
      = k0_pay6 (addf s (k0_pay1 x1 x0)) x2 := by
  unfold out0_C_6
  rw [View.read_writes_eq_canon _ _ _ (cover0_C_6 c i a3 h3 a4 h4 a5 h5 a6 h6 a7 h7 a8 h8 a9 h9 a10 h10 hc0 hc1 hc2 hc3 hc4 x0 x1 x2 x3 x4 s)]
  unfold kernelRun0_C
  dsimp only
  sl_unfold_words
  rw [View.canon_unit_zero zero2]
  simp only [View.readCov_unit_zero (S := S1024x1024) _ zero2]
  unfold k0_pay3
  simp only [View.readAt_eq_ld, h3.read_unread, h4.read_unread, h5.read_unread, h6.read_unread, h7.read_unread, h10.read_unread,
    View.ld_unit_zero (S := S1024x896) zero2, View.ld_unit_zero (S := S1x1024) zero2,
    View.ld_unit_zero (S := S1024x1024) zero2, shapeCast_self]

/-- The second row block's last point: the rows' gradient. -/
theorem rows_last (hc0 : ¬cond0_0 i) (hc1 : cond0_1 i) (hc2 : cond0_2 i) (hc3 : ¬cond0_3 i) (hc4 : cond0_4 i) :
    out0_D_5 c i a3 h3 a4 h4 a5 h5 a6 h6 a7 h7 a8 h8 a9 h9 a10 h10 hc0 hc1 hc2 hc3 hc4 x0 x1 x2 x3 x4 o6 s
      = k0_pay7 (addf s (k0_pay1 x1 x0)) x2 x3 x4 := by
  unfold out0_D_5
  rw [View.read_writes_eq_canon _ _ _ (cover0_D_5 c i a3 h3 a4 h4 a5 h5 a6 h6 a7 h7 a8 h8 a9 h9 a10 h10 hc0 hc1 hc2 hc3 hc4 x0 x1 x2 x3 x4 o6 s)]
  unfold kernelRun0_D
  dsimp only
  sl_unfold_words
  rw [View.canon_unit_zero zero2]
  simp only [View.readCov_unit_zero (S := S1024x1024) _ zero2]
  unfold k0_pay3
  simp only [View.readAt_eq_ld, h3.read_unread, h4.read_unread, h5.read_unread, h6.read_unread, h7.read_unread, h10.read_unread,
    View.ld_unit_zero (S := S1024x896) zero2, View.ld_unit_zero (S := S1x1024) zero2,
    View.ld_unit_zero (S := S1024x1024) zero2, shapeCast_self]

/-- The second row block's last point adds to the gain's gradient. -/
theorem gain_last (hc0 : ¬cond0_0 i) (hc1 : cond0_1 i) (hc2 : cond0_2 i) (hc3 : ¬cond0_3 i) (hc4 : cond0_4 i) :
    out0_D_6 c i a3 h3 a4 h4 a5 h5 a6 h6 a7 h7 a8 h8 a9 h9 a10 h10 hc0 hc1 hc2 hc3 hc4 x0 x1 x2 x3 x4 o6 s
      = addf o6 (k0_pay6 (addf s (k0_pay1 x1 x0)) x2) := by
  unfold out0_D_6
  rw [View.read_writes_eq_canon _ _ _ (cover0_D_6 c i a3 h3 a4 h4 a5 h5 a6 h6 a7 h7 a8 h8 a9 h9 a10 h10 hc0 hc1 hc2 hc3 hc4 x0 x1 x2 x3 x4 o6 s)]
  unfold kernelRun0_D
  dsimp only
  sl_unfold_words
  rw [View.canon_unit_zero zero2]
  unfold k0_pay8
  simp only [View.readCov_unit_zero (S := S1024x1024) _ zero2]
  unfold k0_pay3
  simp only [View.readAt_eq_ld, h3.read_unread, h4.read_unread, h5.read_unread, h6.read_unread, h7.read_unread, h9.read_unread, h10.read_unread,
    View.ld_unit_zero (S := S1024x896) zero2, View.ld_unit_zero (S := S1x1024) zero2,
    View.ld_unit_zero (S := S1024x1024) zero2, shapeCast_self]

end Cert.Mdh

end
-- ==== Proof.MdhFold.lean ====
/- The gradient of the mixer's input rows, over the whole grid: the carried sum after the seven points of a row block is the sum of
   their seven products, and the two results are the body's arithmetic on those sums. -/
module

public import proofs.«01_k».proof.Proof.MdhStep

@[expose] public section

set_option maxRecDepth 16384

noncomputable section

namespace Cert.Mdh

open Cert.Kernel6Ideal Cert.Kernel6Ideal.Gen Cert.Kernel6Ideal.Value Idealize.ShloMosaic Idealize.ShloMosaic.TcCoe Idealize.SL.Sem

variable {F : FTy → Type} [FloatOps F]
variable (m : (ℓ : Loc nD τ sig) → Buf (Elt F) ℓ) (c : Dev nD)

/-- The product of a point's two blocks. -/
def prod (t : Fin cfg0.N) : FVec F S1024x1024 .f32 := k0_pay1 (iblk m c 1 t) (iblk m c 0 t)

variable (t : Fin cfg0.N) (acc : Vec F S1024x1024 .f32 × Vec F S1x1024 .f32 × Vec F S1024x1024 .f32)

theorem step_first (h : t.val % 7 = 0) :
    (stAt0 m c t.val t.isLt acc).2.2 = prod m c t ∧ (stAt0 m c t.val t.isLt acc).2.1 = acc.2.1 := by
  rw [stAt0_A m c t acc h (by omega) (by omega)]
  refine ⟨?_, rfl⟩
  unfold prod; dsimp only; rw [sum_first]

theorem step_next (h : 1 ≤ t.val % 7) (h' : ¬t.val % 7 = 6) :
    (stAt0 m c t.val t.isLt acc).2.2 = addf acc.2.2 (prod m c t) ∧ (stAt0 m c t.val t.isLt acc).2.1 = acc.2.1 := by
  rw [stAt0_B m c t acc (by omega) h h']
  refine ⟨?_, rfl⟩
  unfold prod; dsimp only; rw [sum_next]

theorem step_C (h : t.val % 7 = 6) (h' : t.val < 7) :
    (stAt0 m c t.val t.isLt acc).1 = k0_pay7 (addf acc.2.2 (prod m c t)) (iblk m c 2 t) (iblk m c 3 t) (iblk m c 4 t)
      ∧ (stAt0 m c t.val t.isLt acc).2.1 = k0_pay6 (addf acc.2.2 (prod m c t)) (iblk m c 2 t) := by
  rw [stAt0_C m c t acc (by omega) (by omega) h h' (by omega)]
  unfold prod; dsimp only; rw [rows_first, gain_first]
  exact ⟨rfl, rfl⟩

theorem step_D (h : t.val % 7 = 6) (h' : 7 ≤ t.val) :
    (stAt0 m c t.val t.isLt acc).1 = k0_pay7 (addf acc.2.2 (prod m c t)) (iblk m c 2 t) (iblk m c 3 t) (iblk m c 4 t)
      ∧ (stAt0 m c t.val t.isLt acc).2.1 = addf acc.2.1 (k0_pay6 (addf acc.2.2 (prod m c t)) (iblk m c 2 t)) := by
  rw [stAt0_D m c t acc (by omega) (by omega) h (by omega) h']
  unfold prod; dsimp only; rw [rows_last, gain_last]
  exact ⟨rfl, rfl⟩

/-- The point `j` of row block `q`. -/
def pt (q : Fin 2) (j : ℕ) (h : j < 7) : Fin cfg0.N := ⟨7 * q.val + j, lt_of_lt_of_eq (by omega) N_0.symm⟩

/-- The sum of a row block's products up to point `j`. -/
def part (q : Fin 2) : (j : ℕ) → j < 7 → FVec F S1024x1024 .f32
  | 0, h => prod m c (pt q 0 h)
  | j + 1, h => addf (part q j (by omega)) (prod m c (pt q (j + 1) h))

/-- The last point of a row block, and the sum its seven points leave. -/
def tail (q : Fin 2) : Fin cfg0.N := pt q 6 (by omega)
def sums (q : Fin 2) : FVec F S1024x1024 .f32 := part m c q 6 (by omega)

/-- What the carried state holds after point `n`, and before a row block. -/
def held (n : ℕ) (hn : n < cfg0.N) : Vec F S1024x1024 .f32 × Vec F S1x1024 .f32 × Vec F S1024x1024 .f32 := outsAt0 m c n hn
def before (q : Fin 2) : Vec F S1024x1024 .f32 × Vec F S1x1024 .f32 × Vec F S1024x1024 .f32 :=
  match q with
  | 0 => junk0
  | 1 => held m c 6 (tail 0).isLt

theorem held_succ (n : ℕ) (hn : n + 1 < cfg0.N) :
    held m c (n + 1) hn = stAt0 m c (n + 1) hn (held m c n (Nat.lt_of_succ_lt hn)) := outsAt0_succ m c n hn

theorem held_start (q : Fin 2) (h : 0 < 7) :
    held m c (pt q 0 h).val (pt q 0 h).isLt = stAt0 m c (pt q 0 h).val (pt q 0 h).isLt (before m c q) := by
  match q with
  | 0 => exact outsAt0_zero m c _
  | 1 => exact held_succ m c 6 _

/-- Up to its last point but one a row block carries the sum of its products, and leaves the gain's gradient as it was. -/
theorem carried (q : Fin 2) (j : ℕ) (h : j < 6) :
    (held m c (pt q j (by omega)).val (pt q j (by omega)).isLt).2.2 = part m c q j (by omega)
      ∧ (held m c (pt q j (by omega)).val (pt q j (by omega)).isLt).2.1 = (before m c q).2.1 := by
  induction j with
  | zero =>
    rw [held_start]
    exact step_first m c _ _ (by show (7 * q.val + 0) % 7 = 0; omega)
  | succ j ih =>
    obtain ⟨i1, i2⟩ := ih (by omega)
    have hs : held m c (pt q (j + 1) (by omega)).val (pt q (j + 1) (by omega)).isLt
        = stAt0 m c (pt q (j + 1) (by omega)).val (pt q (j + 1) (by omega)).isLt (held m c (pt q j (by omega)).val (pt q j (by omega)).isLt) :=
      held_succ m c (7 * q.val + j) _
    have hn := step_next m c (pt q (j + 1) (by omega)) (held m c (pt q j (by omega)).val (pt q j (by omega)).isLt)
      (by show 1 ≤ (7 * q.val + (j + 1)) % 7; omega) (by show ¬(7 * q.val + (j + 1)) % 7 = 6; omega)
    rw [hs]
    exact ⟨hn.1.trans (by rw [i1]; rfl), hn.2.trans i2⟩

theorem held_end (q : Fin 2) : held m c (tail q).val (tail q).isLt
    = stAt0 m c (tail q).val (tail q).isLt (held m c (pt q 5 (by omega)).val (pt q 5 (by omega)).isLt) :=
  held_succ m c (7 * q.val + 5) _

/-- What the first row block's last point leaves, and the second's. -/
theorem end_first : (held m c (tail 0).val (tail 0).isLt).1
      = k0_pay7 (sums m c 0) (iblk m c 2 (tail 0)) (iblk m c 3 (tail 0)) (iblk m c 4 (tail 0))
    ∧ (held m c (tail 0).val (tail 0).isLt).2.1 = k0_pay6 (sums m c 0) (iblk m c 2 (tail 0)) := by
  have h := step_C m c (tail 0) (held m c (pt 0 5 (by omega)).val (pt 0 5 (by omega)).isLt) rfl (by decide)
  rw [(carried m c 0 5 (by omega)).1] at h
  rw [held_end]
  exact h

theorem end_second : (held m c (tail 1).val (tail 1).isLt).1
      = k0_pay7 (sums m c 1) (iblk m c 2 (tail 1)) (iblk m c 3 (tail 1)) (iblk m c 4 (tail 1))
    ∧ (held m c (tail 1).val (tail 1).isLt).2.1
      = addf (k0_pay6 (sums m c 0) (iblk m c 2 (tail 0))) (k0_pay6 (sums m c 1) (iblk m c 2 (tail 1))) := by
  have h := step_D m c (tail 1) (held m c (pt 1 5 (by omega)).val (pt 1 5 (by omega)).isLt) rfl (by decide)
  rw [(carried m c 1 5 (by omega)).1, (carried m c 1 5 (by omega)).2,
    show (before m c 1).2.1 = k0_pay6 (sums m c 0) (iblk m c 2 (tail 0)) from (end_first m c).2] at h
  rw [held_end]
  exact h

/-- The rows' gradient at row `r` of row block `q`. -/
theorem rows_entry (q : Fin 2) (r : Fin 1024) (j : Fin 1024) (R : Fin 2048) (hR : R.val = 1024 * q.val + r.val) :
    G5 m c (ValueIdx.ix2 R j : S2048x1024.Idx)
      = k0_pay7 (sums m c q) (iblk m c 2 (tail q)) (iblk m c 3 (tail q)) (iblk m c 4 (tail q)) (ValueIdx.ix2 r j) := by
  have hq : q.val < 2 := q.isLt
  have hr : r.val < 1024 := r.isLt
  have hj : j.val < 1024 := j.isLt
  have hp : pt5Of (ValueIdx.ix2 R j : S2048x1024.Idx) = 7 * q.val + 6 := by
    show 7 * (1 * (R.val / 1024 - 0) + 1 * (j.val / 1024 - 0)) + 6 = _
    omega
  have hl : loc5Of (ValueIdx.ix2 R j : S2048x1024.Idx) = ValueIdx.ix2 r j := by
    funext a; apply Fin.ext
    match a with
    | ⟨0, _⟩ => show R.val % 1024 = r.val; omega
    | ⟨1, _⟩ => show j.val % 1024 = j.val; omega
  unfold G5
  rw [dif_pos (by rw [hp]; exact (tail q).isLt), hl, fold0_congr m c _ _ (7 * q.val + 6) (by rw [Nat.zero_add]; exact (tail q).isLt) hp]
  refine (congrFun (congrArg Prod.fst (outsAt0_sweep m c (7 * q.val + 6) (tail q).isLt).symm) _).trans ?_
  refine congrFun (?_ : (held m c (tail q).val (tail q).isLt).1 = _) _
  match q with
  | 0 => exact (end_first m c).1
  | 1 => exact (end_second m c).1

/-- The gain's gradient. -/
theorem gain_entry : G6 m c = addf (k0_pay6 (sums m c 0) (iblk m c 2 (tail 0))) (k0_pay6 (sums m c 1) (iblk m c 2 (tail 1))) := by
  rw [G6_last, ← outsAt0_sweep m c 13 (tail 1).isLt]
  exact (end_second m c).2

end Cert.Mdh

end
-- ==== Proof.MdhRef.lean ====
/- The reference's gradient of the mixer's input rows and of the norm's gain, entry by entry. -/
module

public import proofs.«01_k».proof.Proof.Gen.Reference6Ideal.Run
public import proofs.«01_k».proof.Proof.Gen.Reference6Ideal.Read
public import proofs.«01_k».proof.Proof.DhRef
public import Idealize.ShloMosaic.Lib.ValueIdx
public import Idealize.ShloMosaic.PureOps.Ideal.Laws

@[expose] public section

set_option maxRecDepth 16384

noncomputable section

namespace Cert.Mdh

open Idealize.ShloMosaic Idealize.ShloMosaic.ValueIdx Cert.Norm
open Cert.Dh (row gain zero_word)
open Cert.Reference6Ideal Cert.Reference6Ideal.Read Cert.Reference6Ideal.Gen

variable (x : S2048x1024.Idx → EReal) (g : S1x1024.Idx → EReal) (w : S1024x6272.Idx → EReal) (d : S2048x6272.Idx → EReal)
  (y : S2048x1024.Idx → EReal)

/-- The gradient of the normalized rows times the gain: row `R` of the gradients against the matrix. -/
def normed (R : Fin 2048) (j : Fin 1024) : EReal := ∑ k : Fin 6272, d (ix2 R k) * w (ix2 j k)

theorem ref_normed (R : Fin 2048) (j : Fin 1024) : val_main_v18 (F := Ideal) w d (ix2 R j) = normed w d R j := by
  rw [val_main_v18_apply]
  refine Finset.sum_congr rfl fun k _ => ?_
  rw [val_main_v0_apply, val_main_v17_apply]
  refine congrArg₂ (HMul.hMul (α := EReal) (β := EReal)) (congrArg d ?_) (congrArg w ?_)
  · exact funext fun a => match a with | ⟨0, _⟩ => rfl | ⟨1, _⟩ => rfl
  · exact funext fun a => match a with | ⟨0, _⟩ => rfl | ⟨1, _⟩ => rfl

theorem ref_meanSq (R : Fin 2048) (u : Fin 1) : val_main_v7 (F := Ideal) x (ix2 R u) = meanSq (row x R) := by
  rw [val_main_v7_apply, val_main_v5_apply, val_main_v6_apply, val_main_v3_apply, val_main_v4_apply, val_main_v2_apply]
  show Ideal.div (FloatOps.ofBits (F := Ideal) .f32 0x00000000#32 + _) width + eps = _
  rw [zero_word, zero_add]
  unfold meanSq
  refine congrArg (fun s => Ideal.div s width + eps) (Finset.sum_congr rfl fun k _ => ?_)
  rw [show idx_main_v2 (idx_main_v3 (ix2 R u)) k = ix2 R k from funext fun a => Fin.ext (match a with | ⟨0, _⟩ => rfl | ⟨1, _⟩ => rfl)]
  rfl

theorem ref_rstd (R : Fin 2048) (u : Fin 1) : val_main_v8 (F := Ideal) x (ix2 R u) = rstd (row x R) := by
  rw [val_main_v8_apply, ref_meanSq]
  rfl

theorem ref_scaled (R : Fin 2048) (j : Fin 1024) : val_main_v23 (F := Ideal) g w d (ix2 R j) = normed w d R j * gain g j := by
  rw [val_main_v23_apply, ref_normed, val_main_v22_apply]
  exact congrArg (fun i => normed w d R j * g i) (funext fun a => Fin.ext (match a with | ⟨0, _⟩ => rfl | ⟨1, _⟩ => rfl))

theorem ref_through (R : Fin 2048) (j : Fin 1024) :
    val_main_v34 (F := Ideal) x g w d (ix2 R j) = through (row x R) (gain g) (normed w d R) := by
  rw [val_main_v34_apply, val_main_v33_apply, Fin.sum_univ_one]
  rw [show idx_main_v33 (idx_main_v34 (ix2 R j)) 0 = ix2 R 0 from funext fun a => Fin.ext (match a with | ⟨0, _⟩ => rfl | ⟨1, _⟩ => rfl)]
  rw [val_main_v32_apply, val_main_v31_apply, val_main_v30_apply, val_main_v26_apply, val_main_v25_apply, val_main_v11_apply, val_main_v10_apply,
    val_main_v9_apply, ref_rstd, ref_meanSq]
  show FloatOps.ofBits (F := Ideal) .f32 0x00000000#32
    + Ideal.div ((FloatOps.ofBits (F := Ideal) .f32 0x00000000#32 + _) * (minusHalf * Ideal.div _ _)) width = _
  rw [zero_word, zero_add, zero_add]
  unfold through
  refine congrArg (fun s => Ideal.div (s * (minusHalf * Ideal.div (rstd (row x R)) (meanSq (row x R)))) width) (Finset.sum_congr rfl fun k _ => ?_)
  rw [show idx_main_v25 (idx_main_v26 (ix2 R 0)) k = ix2 R k from funext fun a => Fin.ext (match a with
    | ⟨0, _⟩ => by show R.val * 1 + 0 = R.val; omega
    | ⟨1, _⟩ => rfl),
    val_main_v24_apply, ref_scaled]
  rfl

/-- The reference's gradient of the rows. -/
theorem ref_rows (R : Fin 2048) (j : Fin 1024) :
    val_main_v38 (F := Ideal) x g w d y (ix2 R j) = chain (row x R) (gain g) (normed w d R) (y (ix2 R j)) j := by
  rw [val_main_v38_apply, val_main_v36_apply, val_main_v37_apply, val_main_v29_apply, val_main_v35_apply, val_main_v28_apply, ref_scaled, ref_through,
    val_main_v27_apply, show idx_main_v27 (ix2 R j) = ix2 R 0 from funext fun a => Fin.ext (match a with | ⟨0, _⟩ => rfl | ⟨1, _⟩ => rfl), ref_rstd]
  rfl

/-- The reference's gradient of the gain. -/
theorem ref_gain (u : Fin 1) (j : Fin 1024) :
    val_main_v21 (F := Ideal) x w d (ix2 u j) = ∑ R : Fin 2048, row x R j * rstd (row x R) * normed w d R j := by
  rw [val_main_v21_apply, val_main_v20_apply]
  refine (congrArg (· + _) zero_word).trans ((zero_add _).trans (Finset.sum_congr rfl fun R _ => ?_))
  rw [show idx_main_v20 (idx_main_v21 (ix2 u j)) R = ix2 R j from funext fun a => Fin.ext (match a with
    | ⟨0, _⟩ => rfl
    | ⟨1, _⟩ => by show u.val * 1024 + j.val = j.val; omega),
    val_main_v19_apply, val_main_v13_apply, val_main_v12_apply, ref_normed,
    show idx_main_v12 (ix2 R j) = ix2 R 0 from funext fun a => Fin.ext (match a with | ⟨0, _⟩ => rfl | ⟨1, _⟩ => rfl), ref_rstd]
  rfl

end Cert.Mdh

end
-- ==== Proof.Products.lean ====
/- The entry of a block's product with one contracted axis, as a sum over that axis. -/
module

public import Idealize.ShloMosaic.Lib.ValueIdx
public import Idealize.ShloMosaic.PureOps.Ideal.Laws

@[expose] public section

noncomputable section

namespace Cert.Products

open Idealize.ShloMosaic Idealize.ShloMosaic.ValueIdx

/-- An entry of a product that contracts one axis of `K` terms; `f` and `g` say which entries of the factors meet. -/
theorem entry {sl sr so : Shape} {φ₁ φ₂ : FTy} (D : DotDims sl sr so) (K : ℕ) (hr : D.contr.rank = 1) (hs : D.contr.size ⟨0, by omega⟩ = K)
    (a : FVec Ideal sl φ₁) (b : FVec Ideal sr φ₂) (i : so.Idx) (f : Fin K → sl.Idx) (g : Fin K → sr.Idx)
    (hf : ∀ k q, (q ⟨0, by omega⟩ : ℕ) = k.val → ∀ x, (D.lhsIdx i q x).val = (f k x).val)
    (hg : ∀ k q, (q ⟨0, by omega⟩ : ℕ) = k.val → ∀ x, (D.rhsIdx i q x).val = (g k x).val) :
    (matmul D none a b (constant so .f32 0x00000000#32) i : EReal) = ∑ k : Fin K, (a (f k) : EReal) * (b (g k) : EReal) := by
  refine (Ideal.matmul_constant_zero_apply D none a b i).trans ?_
  rw [← Equiv.sum_comp (contrEquiv1 D K hr hs).symm]
  refine Finset.sum_congr rfl fun k _ => ?_
  have hk := contrEquiv1_symm_val D K hr hs k
  exact congrArg₂ (HMul.hMul (α := EReal) (β := EReal)) (congrArg a (funext fun x => Fin.ext (hf k _ hk x)))
    (congrArg b (funext fun x => Fin.ext (hg k _ hk x)))

end Cert.Products

end
-- ==== Proof.MdhBlock.lean ====
/- The gradient of the mixer's input rows and of the norm's gain: the kernel's two arrays, entry by entry, and their equality with
   the reference's. -/
module

public import proofs.«01_k».proof.Proof.MdhFold
public import proofs.«01_k».proof.Proof.MdhRef
public import proofs.«01_k».proof.Proof.DhBlock
public import proofs.«01_k».proof.Proof.Products

@[expose] public section

set_option maxRecDepth 16384

noncomputable section

namespace Cert.Mdh

open Cert.Kernel6Ideal Cert.Kernel6Ideal.Gen Idealize.ShloMosaic Idealize.ShloMosaic.TcCoe Idealize.SL.Sem
open Idealize.ShloMosaic.ValueIdx Cert.Norm Cert.Products
open Cert.Dh (row gain line)

/-! ## The body's arithmetic, entry by entry: after the products it is the feed-forward's -/

theorem prod_apply (w : Vec Ideal S1024x896 .bf16) (a : Vec Ideal S1024x896 .bf16) (i j : Fin 1024) :
    (k0_pay1 w a : S1024x1024.Idx → EReal) (ix2 i j) = ∑ k : Fin 896, (a (ix2 i k) : EReal) * (w (ix2 j k) : EReal) := by
  unfold k0_pay1
  exact entry (φ₁ := .bf16) (φ₂ := .bf16) dot_S1024x896_S1024x896_S1024x1024_1_1_0_0_n_n 896 rfl rfl _ _ (ix2 i j) (fun k => ix2 i k) (fun k => ix2 j k)
    (fun _ _ hk x => match x with | ⟨0, _⟩ => rfl | ⟨1, _⟩ => hk) (fun _ _ hk x => match x with | ⟨0, _⟩ => rfl | ⟨1, _⟩ => hk)

theorem gain_apply (s v : Vec Ideal S1024x1024 .f32) (u : Fin 1) (j : Fin 1024) :
    (k0_pay6 s v : S1x1024.Idx → EReal) (ix2 u j) = ∑ r : Fin 1024, line s r j * (line v r j * rstd (line v r)) :=
  (congrFun (rfl : k0_pay6 s v = Cert.Kernel5Ideal.Gen.k0_pay6 s v) _).trans (Cert.Dh.gain_apply s v u j)

theorem rows_apply (s v : Vec Ideal S1024x1024 .f32) (g : Vec Ideal S1x1024 .f32) (y : Vec Ideal S1024x1024 .f32) (i j : Fin 1024) :
    (k0_pay7 s v g y : S1024x1024.Idx → EReal) (ix2 i j) = grad (line v i) (fun k => g (ix2 0 k)) (line s i) (y (ix2 i j)) j :=
  (congrFun (rfl : k0_pay7 s v g y = Cert.Kernel5Ideal.Gen.k0_pay7 s v g y) _).trans (Cert.Dh.rows_apply s v g y i j)

/-! ## The blocks -/

variable (m : (ℓ : Loc nD τ sig) → Buf (Elt Ideal) ℓ) (c : Dev nD)

/-- The call's arguments on one device: the rows, the gain, the matrix, the gradients and what is added. -/
abbrev aX : S2048x1024.Idx → EReal := m ((c.tc : Thread nD τ).loc main_arg0)
abbrev aG : S1x1024.Idx → EReal := m ((c.tc : Thread nD τ).loc main_arg1)
abbrev aW : S1024x6272.Idx → EReal := m ((c.tc : Thread nD τ).loc main_arg2)
abbrev aD : S2048x6272.Idx → EReal := m ((c.tc : Thread nD τ).loc main_arg3)
abbrev aY : S2048x1024.Idx → EReal := m ((c.tc : Thread nD τ).loc main_arg4)

theorem index0 (t : Fin cfg0.N) : win0_0.index t = ![t.val / 7, t.val % 7] := by revert t; decide
theorem index1 (t : Fin cfg0.N) : win0_1.index t = ![0, t.val % 7] := by revert t; decide
theorem index2 (t : Fin cfg0.N) : win0_2.index t = ![t.val / 7, 0] := by revert t; decide
theorem index3 (t : Fin cfg0.N) : win0_3.index t = ![0, 0] := by revert t; decide
theorem index4 (t : Fin cfg0.N) : win0_4.index t = ![t.val / 7, 0] := by revert t; decide

theorem blk0 (t : Fin cfg0.N) (i : Fin 1024) (k : Fin 896) (I : Fin 2048) (K : Fin 6272) (hI : I.val = 1024 * (t.val / 7) + i.val)
    (hK : K.val = 896 * (t.val % 7) + k.val) :
    (iblk m c 0 t : S1024x896.Idx → EReal) (ix2 i k) = aD m c (ix2 I K) := by
  blk_ext [iblk, index0]
  · show t.val / 7 * 1024 + i.val = I.val
    omega
  · show t.val % 7 * 896 + k.val = K.val
    omega

theorem blk1 (t : Fin cfg0.N) (j : Fin 1024) (k : Fin 896) (K : Fin 6272) (hK : K.val = 896 * (t.val % 7) + k.val) :
    (iblk m c 1 t : S1024x896.Idx → EReal) (ix2 j k) = aW m c (ix2 j K) := by
  blk_ext [iblk, index1]
  show t.val % 7 * 896 + k.val = K.val
  omega

theorem blk2 (t : Fin cfg0.N) (i j : Fin 1024) (I : Fin 2048) (hI : I.val = 1024 * (t.val / 7) + i.val) :
    (iblk m c 2 t : S1024x1024.Idx → EReal) (ix2 i j) = aX m c (ix2 I j) := by
  blk_ext [iblk, index2]
  show t.val / 7 * 1024 + i.val = I.val
  omega

theorem blk3 (t : Fin cfg0.N) (j : Fin 1024) :
    (iblk m c 3 t : S1x1024.Idx → EReal) (ix2 0 j) = aG m c (ix2 0 j) := by
  blk_ext [iblk, index3]

theorem blk4 (t : Fin cfg0.N) (i j : Fin 1024) (I : Fin 2048) (hI : I.val = 1024 * (t.val / 7) + i.val) :
    (iblk m c 4 t : S1024x1024.Idx → EReal) (ix2 i j) = aY m c (ix2 I j) := by
  blk_ext [iblk, index4]
  show t.val / 7 * 1024 + i.val = I.val
  omega

theorem tail_div (q : Fin 2) : (tail q).val / 7 = q.val := by
  show (7 * q.val + 6) / 7 = q.val
  omega

/-- The product of a point's two blocks is the point's part of the row's product with the matrix. -/
theorem point_apply (q : Fin 2) (p : Fin 7) (r j : Fin 1024) (R : Fin 2048) (hR : R.val = 1024 * q.val + r.val) :
    (prod m c (pt q p.val p.isLt) : S1024x1024.Idx → EReal) (ix2 r j)
      = ∑ k : Fin 896, aD m c (ix2 R ⟨896 * p.val + k.val, by omega⟩) * aW m c (ix2 j ⟨896 * p.val + k.val, by omega⟩) := by
  have hd : (pt q p.val p.isLt).val / 7 = q.val := by show (7 * q.val + p.val) / 7 = q.val; omega
  have hm : (pt q p.val p.isLt).val % 7 = p.val := by show (7 * q.val + p.val) % 7 = p.val; omega
  unfold prod
  rw [prod_apply]
  exact Finset.sum_congr rfl fun k _ => congrArg₂ (HMul.hMul (α := EReal) (β := EReal)) (blk0 m c _ r k R _ (by rw [hd, hR]) (by rw [hm]))
    (blk1 m c _ j k _ (by rw [hm]))

/-- The carried sum after a row block's seven points is the gradient of its normalized rows times the gain. -/
theorem sums_apply (q : Fin 2) (r j : Fin 1024) (R : Fin 2048) (hR : R.val = 1024 * q.val + r.val) :
    line (sums m c q) r j = normed (aW m c) (aD m c) R j := by
  have h := fun p : Fin 7 => point_apply m c q p r j R hR
  unfold normed
  rw [sum_blocks 7 896 6272 (by norm_num), Fin.sum_univ_seven, ← h 0, ← h 1, ← h 2, ← h 3, ← h 4, ← h 5, ← h 6]
  rfl

theorem line_rows (q : Fin 2) (r : Fin 1024) (R : Fin 2048) (hR : R.val = 1024 * q.val + r.val) :
    line (iblk m c 2 (tail q)) r = row (aX m c) R :=
  funext fun k => blk2 m c _ r k R (by rw [tail_div, hR])

/-- The kernel's gradient of the rows. -/
theorem kernel_rows (R : Fin 2048) (j : Fin 1024) :
    (Value.G5 m c : S2048x1024.Idx → EReal) (ix2 R j)
      = grad (row (aX m c) R) (gain (aG m c))
        (normed (aW m c) (aD m c) R)
        (aY m c (ix2 R j)) j := by
  obtain ⟨q, r, hR⟩ : ∃ (q : Fin 2) (r : Fin 1024), R.val = 1024 * q.val + r.val :=
    ⟨⟨R.val / 1024, by omega⟩, ⟨R.val % 1024, by omega⟩, by show R.val = 1024 * (R.val / 1024) + R.val % 1024; omega⟩
  refine (rows_entry m c q r j R hR).trans ((rows_apply _ _ _ _ r j).trans ?_)
  rw [line_rows m c q r R hR, show line (sums m c q) r = normed _ _ R from funext fun k => sums_apply m c q r k R hR,
    blk4 m c _ r j R (by rw [tail_div, hR]), show (fun k => (iblk m c 3 (tail q) : S1x1024.Idx → EReal) (ix2 0 k)) = gain _ from funext fun k => blk3 m c _ k]

/-- The kernel's gradient of the gain. -/
theorem kernel_gain (u : Fin 1) (j : Fin 1024) :
    (Value.G6 m c : S1x1024.Idx → EReal) (ix2 u j)
      = ∑ R : Fin 2048, row (aX m c) R j * rstd (row (aX m c) R)
        * normed (aW m c) (aD m c) R j := by
  rw [sum_blocks 2 1024 2048 (by norm_num), Fin.sum_univ_two]
  have e : ∀ q : Fin 2, (k0_pay6 (sums m c q) (iblk m c 2 (tail q)) : S1x1024.Idx → EReal) (ix2 u j)
      = ∑ r : Fin 1024, row (aX m c) ⟨1024 * q.val + r.val, by omega⟩ j * rstd (row (aX m c) ⟨1024 * q.val + r.val, by omega⟩)
        * normed (aW m c) (aD m c) ⟨1024 * q.val + r.val, by omega⟩ j := by
    intro q
    refine (gain_apply _ _ u j).trans (Finset.sum_congr rfl fun r _ => ?_)
    rw [line_rows m c q r ⟨1024 * q.val + r.val, by omega⟩ rfl, sums_apply m c q r j ⟨1024 * q.val + r.val, by omega⟩ rfl, mul_comm]
  exact (congrFun (gain_entry m c) _).trans (congrArg₂ (· + ·) (e 0) (e 1))

/-! ## The two arrays are the reference's -/

/-- The gain's gradient. -/
theorem gain_eq : (Value.G6 m c : S1x1024.Idx → EReal)
    = Cert.Reference6Ideal.Read.val_main_v21 (F := Ideal) (aX m c) (aW m c)
      (aD m c) := by
  funext i
  obtain ⟨u, j, rfl⟩ : ∃ (u : Fin 1) (j : Fin 1024), i = ix2 u j := ⟨i 0, i 1, eq_ix2 _⟩
  rw [kernel_gain, ref_gain]

/-- The rows' gradient. -/
theorem rows_eq : (Value.G5 m c : S2048x1024.Idx → EReal)
    = Cert.Reference6Ideal.Read.val_main_v38 (F := Ideal) (aX m c) (aG m c)
      (aW m c) (aD m c) (aY m c) := by
  funext i
  obtain ⟨R, j, rfl⟩ : ∃ (R : Fin 2048) (j : Fin 1024), i = ix2 R j := ⟨i 0, i 1, eq_ix2 _⟩
  rw [kernel_rows, ref_rows]
  exact grad_eq_chain _ _ _ _ _

end Cert.Mdh

end
-- ==== Proof.FeedMdh.lean ====
/- The mixer's input gradient: the program leaves its arguments alone, and ends with the reference's two arrays. -/
module

public import proofs.«01_k».proof.Defs
public import proofs.«01_k».proof.Proof.MdhBlock
public import proofs.«01_k».proof.Proof.Gen.Kernel6
public import proofs.«01_k».proof.Proof.Gen.Reference6Ideal.Run
public import Idealize.ShloMosaic.Lib.Quiescent

@[expose] public section

noncomputable section

namespace Cert.Feed

open Idealize.ShloMosaic Idealize.SL.Sem

/-- The two programs run the same body. -/
theorem body6 : @Cert.Kernel6.defs Bits _ Cert.Kernel6.Gen.facts = @Cert.Kernel6Ideal.defs Bits _ Cert.Kernel6Ideal.Gen.facts := by
  refine congrArg (Pipeline.defs _) (congrArg Defs.onTc (funext fun l => funext fun x => ?_))
  match l, x with
  | 0, x => rfl

theorem frameP6 : @Cert.quiescent_Kernel6 Cert.Kernel6.Gen.facts := fun m ρ _ =>
  (congrArg (fun d => θ_run d (onTc (τ := Cert.Kernel6.τ) (Cert.Kernel6.main (F := Bits))) ⟨m, fun _ => 0, ρ⟩ _) body6).mpr
    (Cert.Kernel6Ideal.Gen.frame (F := Bits) m ρ)
theorem frameK6 : @Cert.quiescent_Kernel6Ideal Cert.Kernel6Ideal.Gen.facts := fun m ρ _ => Cert.Kernel6Ideal.Gen.frame (F := Ideal) m ρ
theorem frameR6 : @Cert.quiescent_Reference6Ideal Cert.Reference6Ideal.Gen.facts := fun m ρ _ =>
  (θ_run _ _ _).mono (fun r h => ⟨fun c => (h c).2.2, sem_eq_zero_of_no_sems (by decide) r.2⟩)
    (Cert.Reference6Ideal.Value.run (F := Ideal) m ρ)

/-- The call's two arrays are the reference's. -/
theorem values6 : @Cert.algebraic_Kernel6Ideal_Reference6Ideal Cert.Kernel6Ideal.Gen.facts Cert.Reference6Ideal.Gen.facts :=
  fun m ρ m' ρ' _ hag => by
  refine ⟨fun c => Cert.Kernel6Ideal.Value.G5 m c, fun c => Cert.Kernel6Ideal.Value.G6 m c, ?_, ?_⟩
  · exact Cert.Kernel6Ideal.Value.run (F := Ideal) m ρ
  · refine (θ_run _ _ _).mono (fun r h c => ?_) (Cert.Reference6Ideal.Value.run (F := Ideal) m' ρ')
    obtain ⟨a0, a1, a2, a3, a4⟩ := hag c
    obtain ⟨h0, h1, hrest⟩ := h c
    refine ⟨h0.trans ((Cert.Reference6Ideal.Read.val_main_v38_eq _ _).trans ?_),
      h1.trans ((Cert.Reference6Ideal.Read.val_main_v21_eq _ _ _).trans ?_), hrest⟩
    all_goals simp only [a0, a1, a2, a3, a4]
    · exact (Cert.Mdh.rows_eq m c).symm
    · exact (Cert.Mdh.gain_eq m c).symm

end Cert.Feed

end
-- ==== Proof.MixDwin.lean ====
/- The gradient of the mixer's first matrix: the kernel's blocks of the product of the normed rows with the gradient of the projection,
   and the reference's one product, are the same array. -/
module

public import proofs.«01_k».proof.Proof.Gen.Kernel7Ideal.Value
public import proofs.«01_k».proof.Proof.Gen.Reference7Ideal.Read
public import proofs.«01_k».proof.Proof.Products
public import Idealize.ShloMosaic.Lib.Pipeline.ValueKit.Geometry
public import Idealize.ShloMosaic.Lib.Pipeline.Value

@[expose] public section

set_option maxRecDepth 16384

noncomputable section

namespace Cert.MixDwin

open Cert.Kernel7Ideal Cert.Kernel7Ideal.Gen Idealize.ShloMosaic Idealize.ShloMosaic.TcCoe Idealize.SL.Sem
open Idealize.ShloMosaic.ValueIdx Cert.Products

variable (m : (ℓ : Loc nD τ sig) → Buf (Elt Ideal) ℓ)

/-- The gradient of the matrix. -/
def grad (h : S2048x1024.Idx → EReal) (p : S2048x6272.Idx → EReal) : S1024x6272.Idx → EReal := fun i =>
  ∑ k : Fin 2048, h (ix2 k (i 0)) * p (ix2 k (i 1))

theorem index0 (t : Fin cfg0.N) : win0_0.index t = ![0, t.val / 7] := by revert t; decide
theorem index1 (t : Fin cfg0.N) : win0_1.index t = ![0, t.val % 7] := by revert t; decide
theorem index2 (t : Fin cfg0.N) : win0_2.index t = ![t.val / 7, t.val % 7] := by revert t; decide

/-- What the body leaves at an entry of its block. -/
theorem out_apply (a : Vec Ideal S2048x512 .bf16) (b : Vec Ideal S2048x896 .bf16) (i : Fin 512) (j : Fin 896) :
    (out0_2 a b : S512x896.Idx → EReal) (ix2 i j) = ∑ k : Fin 2048, (a (ix2 k i) : EReal) * (b (ix2 k j) : EReal) := by
  unfold out0_2
  rw [View.canon_unit_zero (by decide), View.ld_unit_zero (by decide), View.ld_unit_zero (by decide)]
  unfold k0_pay1
  exact entry (φ₁ := .bf16) (φ₂ := .bf16) _ 2048 rfl rfl a b (ix2 i j) (fun k => ix2 k i) (fun k => ix2 k j)
    (fun _ _ hk x => match x with | ⟨0, _⟩ => hk | ⟨1, _⟩ => rfl) (fun _ _ hk x => match x with | ⟨0, _⟩ => hk | ⟨1, _⟩ => rfl)

theorem place (t : Fin cfg0.N) (i : Fin 512) (j : Fin 896) : ∃ (I : Fin 1024) (J : Fin 6272),
    ((cfg0.win 2).blk t).view.emb (ix2 i j : S512x896.Idx) = (ix2 I J : S1024x6272.Idx) ∧ I.val = t.val / 7 * 512 + i.val
      ∧ J.val = t.val % 7 * 896 + j.val := by
  have ht : t.val < 14 := t.isLt
  refine ⟨⟨t.val / 7 * 512 + i.val, by omega⟩, ⟨t.val % 7 * 896 + j.val, by omega⟩, ?_, rfl, rfl⟩
  blk_ext [index2]

theorem blk0 (c : Dev nD) (t : Fin cfg0.N) (k : Fin 2048) (i : Fin 512) (I : Fin 1024) (hI : I.val = t.val / 7 * 512 + i.val) :
    (iblk m c 0 t : S2048x512.Idx → EReal) (ix2 k i) = m ((c.tc : Thread nD τ).loc main_arg0) (ix2 k I) := by
  blk_ext [iblk, index0]
  exact hI.symm

theorem blk1 (c : Dev nD) (t : Fin cfg0.N) (k : Fin 2048) (j : Fin 896) (J : Fin 6272) (hJ : J.val = t.val % 7 * 896 + j.val) :
    (iblk m c 1 t : S2048x896.Idx → EReal) (ix2 k j) = m ((c.tc : Thread nD τ).loc main_arg1) (ix2 k J) := by
  blk_ext [iblk, index1]
  exact hJ.symm

theorem point_block (c : Dev nD) (t : Fin cfg0.N) (y : S512x896.Idx) :
    (out0_2 (iblk m c 0 t) (iblk m c 1 t) : S512x896.Idx → EReal) y
      = grad (m ((c.tc : Thread nD τ).loc main_arg0)) (m ((c.tc : Thread nD τ).loc main_arg1)) (((cfg0.win 2).blk t).view.emb y) := by
  obtain ⟨i, j, rfl⟩ : ∃ (i : Fin 512) (j : Fin 896), y = ix2 i j := ⟨y 0, y 1, eq_ix2 _⟩
  obtain ⟨I, J, h, hI, hJ⟩ := place t i j
  rw [h, out_apply]
  exact Finset.sum_congr rfl fun k _ => congrArg₂ (HMul.hMul (α := EReal) (β := EReal)) (blk0 m c t k i I hI) (blk1 m c t k j J hJ)

theorem covers : (cfg0.win 2).Covers := by decide +kernel

/-- The array after the run. -/
theorem arr (c : Dev nD) : ((dats m 0 c).arrAt 2 cfg0.N : S1024x6272.Idx → EReal)
    = grad (m ((c.tc : Thread nD τ).loc main_arg0)) (m ((c.tc : Thread nD τ).loc main_arg1)) := by
  refine (dats m 0 c).arrAt_eq_of_covers 2 _ covers fun t hfl y => ?_
  blk_simp
  rw [after0_2]
  exact point_block m c t y

/-- The reference's array. -/
theorem ref (h : S2048x1024.Idx → EReal) (p : S2048x6272.Idx → EReal) :
    (Cert.Reference7Ideal.Read.val_main_v6 (F := Ideal) h p : S1024x6272.Idx → EReal) = grad h p := by
  funext i
  rw [Cert.Reference7Ideal.Read.val_main_v6_apply, Cert.Reference7Ideal.Read.val_main_v5_apply]
  refine (Cert.Reference7Ideal.Read.val_main_v4_apply h p _).trans (Finset.sum_congr rfl fun k _ => ?_)
  rw [Cert.Reference7Ideal.Read.val_main_v1_apply, Cert.Reference7Ideal.Read.val_main_v0_apply]
  refine (mul_comm _ _).trans (congrArg₂ (HMul.hMul (α := EReal) (β := EReal)) (congrArg h ?_) (congrArg p ?_))
  · exact funext fun x => match x with | ⟨0, _⟩ => rfl | ⟨1, _⟩ => rfl
  · exact funext fun x => match x with | ⟨0, _⟩ => rfl | ⟨1, _⟩ => rfl

end Cert.MixDwin

end
-- ==== Proof.Dmerged.lean ====
/- The gradient of the mixer's merged rows: the kernel's blocks of the product of the output's gradient with the gathered matrix, and
   the reference's one product, are the same array. -/
module

public import proofs.«01_k».proof.Proof.Gen.Kernel8Ideal.Value
public import proofs.«01_k».proof.Proof.Gen.Reference8Ideal.Read
public import proofs.«01_k».proof.Proof.Products
public import Idealize.ShloMosaic.Lib.Pipeline.ValueKit.Geometry
public import Idealize.ShloMosaic.Lib.Pipeline.Value

@[expose] public section

set_option maxRecDepth 16384

noncomputable section

namespace Cert.Dmerged

open Cert.Kernel8Ideal Cert.Kernel8Ideal.Gen Idealize.ShloMosaic Idealize.ShloMosaic.TcCoe Idealize.SL.Sem
open Idealize.ShloMosaic.ValueIdx Cert.Products

variable (m : (ℓ : Loc nD τ sig) → Buf (Elt Ideal) ℓ)

/-- The gradient of the merged rows; the matrix comes in four parts of 256 rows. -/
def grad (y : S2048x1024.Idx → EReal) (w : S4x256x1024.Idx → EReal) : S2048x1024.Idx → EReal := fun i =>
  ∑ k : Fin 1024, y (ix2 (i 0) k) * w (ix3 ⟨(i 1).val / 256, by have := (i 1).isLt; simp at *; omega⟩ ⟨(i 1).val % 256, by omega⟩ k)

theorem index0 (t : Fin cfg0.N) : win0_0.index t = ![t.val / 2, 0] := by revert t; decide
theorem index1 (t : Fin cfg0.N) : win0_1.index t = ![t.val % 2, 0, 0] := by revert t; decide
theorem index2 (t : Fin cfg0.N) : win0_2.index t = ![t.val / 2, t.val % 2] := by revert t; decide

/-- What the body leaves at an entry of its block. -/
theorem out_apply (a : Vec Ideal S1024x1024 .f32) (b : Vec Ideal S2x256x1024 .bf16) (i : Fin 1024) (j : Fin 512) :
    (out0_2 a b : S1024x512.Idx → EReal) (ix2 i j)
      = ∑ k : Fin 1024, (a (ix2 i k) : EReal) * (b (ix3 ⟨j.val / 256, by omega⟩ ⟨j.val % 256, by omega⟩ k) : EReal) := by
  unfold out0_2
  rw [View.canon_unit_zero (by decide), View.ld_unit_zero (by decide), View.ld_unit_zero (by decide)]
  unfold k0_pay1
  refine (entry (φ₁ := .bf16) (φ₂ := .bf16) dot_S1024x1024_S512x1024_S1024x512_1_1_0_0_n_n 1024 rfl rfl _ _ (ix2 i j) (fun k => ix2 i k) (fun k => ix2 j k)
    (fun _ _ hk x => match x with | ⟨0, _⟩ => rfl | ⟨1, _⟩ => hk) (fun _ _ hk x => match x with | ⟨0, _⟩ => rfl | ⟨1, _⟩ => hk)).trans
    (Finset.sum_congr rfl fun k _ => congrArg (HMul.hMul (α := EReal) (β := EReal) _) ?_)
  refine shapeCast_apply _ _ _ _ ?_
  rw [Shape.rowMajor_val_two, Shape.rowMajor_val_three]
  show (j.val / 256 * 256 + j.val % 256) * 1024 + k.val = j.val * 1024 + k.val
  omega

theorem place (t : Fin cfg0.N) (i : Fin 1024) (j : Fin 512) : ∃ (I : Fin 2048) (J : Fin 1024),
    ((cfg0.win 2).blk t).view.emb (ix2 i j : S1024x512.Idx) = (ix2 I J : S2048x1024.Idx) ∧ I.val = t.val / 2 * 1024 + i.val
      ∧ J.val = t.val % 2 * 512 + j.val := by
  have ht : t.val < 4 := t.isLt
  refine ⟨⟨t.val / 2 * 1024 + i.val, by omega⟩, ⟨t.val % 2 * 512 + j.val, by omega⟩, ?_, rfl, rfl⟩
  blk_ext [index2]

theorem blk0 (c : Dev nD) (t : Fin cfg0.N) (i : Fin 1024) (k : Fin 1024) (I : Fin 2048) (hI : I.val = t.val / 2 * 1024 + i.val) :
    (iblk m c 0 t : S1024x1024.Idx → EReal) (ix2 i k) = m ((c.tc : Thread nD τ).loc main_arg0) (ix2 I k) := by
  blk_ext [iblk, index0]
  exact hI.symm

theorem blk1 (c : Dev nD) (t : Fin cfg0.N) (p : Fin 2) (q : Fin 256) (k : Fin 1024) (P : Fin 4) (Q : Fin 256)
    (hP : P.val = t.val % 2 * 2 + p.val) (hQ : Q.val = q.val) :
    (iblk m c 1 t : S2x256x1024.Idx → EReal) (ix3 p q k) = m ((c.tc : Thread nD τ).loc main_arg1) (ix3 P Q k) := by
  blk_ext [iblk, index1]
  · exact hP.symm
  · exact hQ.symm

theorem point_block (c : Dev nD) (t : Fin cfg0.N) (y : S1024x512.Idx) :
    (out0_2 (iblk m c 0 t) (iblk m c 1 t) : S1024x512.Idx → EReal) y
      = grad (m ((c.tc : Thread nD τ).loc main_arg0)) (m ((c.tc : Thread nD τ).loc main_arg1)) (((cfg0.win 2).blk t).view.emb y) := by
  obtain ⟨i, j, rfl⟩ : ∃ (i : Fin 1024) (j : Fin 512), y = ix2 i j := ⟨y 0, y 1, eq_ix2 _⟩
  obtain ⟨I, J, h, hI, hJ⟩ := place t i j
  rw [h, out_apply]
  refine Finset.sum_congr rfl fun k _ => congrArg₂ (HMul.hMul (α := EReal) (β := EReal)) (blk0 m c t i k I hI) (blk1 m c t _ _ k _ _ ?_ ?_)
  · show J.val / 256 = t.val % 2 * 2 + j.val / 256
    omega
  · show J.val % 256 = j.val % 256
    omega

theorem covers : (cfg0.win 2).Covers := by decide +kernel

/-- The array after the run. -/
theorem arr (c : Dev nD) : ((dats m 0 c).arrAt 2 cfg0.N : S2048x1024.Idx → EReal)
    = grad (m ((c.tc : Thread nD τ).loc main_arg0)) (m ((c.tc : Thread nD τ).loc main_arg1)) := by
  refine (dats m 0 c).arrAt_eq_of_covers 2 _ covers fun t hfl y => ?_
  blk_simp
  rw [after0_2]
  exact point_block m c t y

/-- The reference's array. -/
theorem ref (y : S2048x1024.Idx → EReal) (w : S4x256x1024.Idx → EReal) :
    (Cert.Reference8Ideal.Read.val_main_v4 (F := Ideal) y w : S2048x1024.Idx → EReal) = grad y w := by
  funext i
  refine (Cert.Reference8Ideal.Read.val_main_v4_apply y w _).trans (Finset.sum_congr rfl fun k _ => ?_)
  rw [Cert.Reference8Ideal.Read.val_main_v1_apply, Cert.Reference8Ideal.Read.val_main_v0_apply]
  refine congrArg₂ (HMul.hMul (α := EReal) (β := EReal)) (congrArg y ?_) (congrArg w (funext fun x => Fin.ext ?_))
  · exact funext fun x => match x with | ⟨0, _⟩ => rfl | ⟨1, _⟩ => rfl
  · have h1 : (i 1).val < 1024 := (i 1).isLt
    match x with
    | ⟨0, _⟩ => show ((i 1).val * 1024 + k.val) / 262144 = (i 1).val / 256; omega
    | ⟨1, _⟩ => show ((i 1).val * 1024 + k.val) / 1024 % 256 = (i 1).val % 256; omega
    | ⟨2, _⟩ => show ((i 1).val * 1024 + k.val) % 1024 = k.val; omega

end Cert.Dmerged

end
-- ==== Proof.MixDwout.lean ====
/- The gradient of the mixer's second matrix: the kernel's blocks of the product of the merged rows with the gradient of the output,
   and the reference's one product, are the same array. -/
module

public import proofs.«01_k».proof.Proof.Gen.Kernel9Ideal.Value
public import proofs.«01_k».proof.Proof.Gen.Reference9Ideal.Read
public import proofs.«01_k».proof.Proof.Products
public import Idealize.ShloMosaic.Lib.Pipeline.ValueKit.Geometry
public import Idealize.ShloMosaic.Lib.Pipeline.Value

@[expose] public section

set_option maxRecDepth 16384

noncomputable section

namespace Cert.MixDwout

open Cert.Kernel9Ideal Cert.Kernel9Ideal.Gen Idealize.ShloMosaic Idealize.ShloMosaic.TcCoe Idealize.SL.Sem
open Idealize.ShloMosaic.ValueIdx Cert.Products

variable (m : (ℓ : Loc nD τ sig) → Buf (Elt Ideal) ℓ)

/-- The gradient of the matrix, its columns in two halves, as the call lays it out. -/
def grad (a : S2048x1024.Idx → EReal) (y : S2048x1024.Idx → EReal) : S2x1024x512.Idx → EReal := fun i =>
  ∑ k : Fin 2048, a (ix2 k (i 1)) * y (ix2 k ⟨(i 0).val * 512 + (i 2).val, by have := (i 0).isLt; have := (i 2).isLt; simp at *; omega⟩)

theorem index0 (t : Fin cfg0.N) : win0_0.index t = ![0, 0] := by revert t; decide
theorem index1 (t : Fin cfg0.N) : win0_1.index t = ![0, t.val] := by revert t; decide
theorem index2 (t : Fin cfg0.N) : win0_2.index t = ![t.val, 0, 0] := by revert t; decide

/-- What the body leaves at an entry of its block. -/
theorem out_apply (a : Vec Ideal S2048x1024 .bf16) (b : Vec Ideal S2048x512 .f32) (u : Fin 1) (i : Fin 1024) (j : Fin 512) :
    (out0_2 a b : S1x1024x512.Idx → EReal) (ix3 u i j) = ∑ k : Fin 2048, (a (ix2 k i) : EReal) * (b (ix2 k j) : EReal) := by
  unfold out0_2
  rw [View.canon_unit_zero (by decide), View.ld_unit_zero (by decide), View.ld_unit_zero (by decide)]
  unfold k0_pay1
  refine (shapeCast_apply _ _ _ (ix2 i j) ?_).trans
    (entry (φ₁ := .bf16) (φ₂ := .bf16) _ 2048 rfl rfl _ _ (ix2 i j) (fun k => ix2 k i) (fun k => ix2 k j)
      (fun _ _ hk x => match x with | ⟨0, _⟩ => hk | ⟨1, _⟩ => rfl) (fun _ _ hk x => match x with | ⟨0, _⟩ => hk | ⟨1, _⟩ => rfl))
  rw [Shape.rowMajor_val_two, Shape.rowMajor_val_three]
  show i.val * 512 + j.val = (u.val * 1024 + i.val) * 512 + j.val
  omega

theorem place (t : Fin cfg0.N) (u : Fin 1) (i : Fin 1024) (j : Fin 512) : ∃ p : Fin 2,
    ((cfg0.win 2).blk t).view.emb (ix3 u i j : S1x1024x512.Idx) = (ix3 p i j : S2x1024x512.Idx) ∧ p.val = t.val := by
  refine ⟨⟨t.val, t.isLt⟩, ?_, rfl⟩
  blk_ext [index2]

theorem blk0 (c : Dev nD) (t : Fin cfg0.N) (k : Fin 2048) (i : Fin 1024) :
    (iblk m c 0 t : S2048x1024.Idx → EReal) (ix2 k i) = m ((c.tc : Thread nD τ).loc main_arg0) (ix2 k i) := by
  blk_ext [iblk, index0]

theorem blk1 (c : Dev nD) (t : Fin cfg0.N) (k : Fin 2048) (j : Fin 512) (J : Fin 1024) (hJ : J.val = t.val * 512 + j.val) :
    (iblk m c 1 t : S2048x512.Idx → EReal) (ix2 k j) = m ((c.tc : Thread nD τ).loc main_arg1) (ix2 k J) := by
  blk_ext [iblk, index1]
  exact hJ.symm

theorem point_block (c : Dev nD) (t : Fin cfg0.N) (y : S1x1024x512.Idx) :
    (out0_2 (iblk m c 0 t) (iblk m c 1 t) : S1x1024x512.Idx → EReal) y
      = grad (m ((c.tc : Thread nD τ).loc main_arg0)) (m ((c.tc : Thread nD τ).loc main_arg1)) (((cfg0.win 2).blk t).view.emb y) := by
  obtain ⟨u, i, j, rfl⟩ : ∃ (u : Fin 1) (i : Fin 1024) (j : Fin 512), y = ix3 u i j := ⟨y 0, y 1, y 2, eq_ix3 _⟩
  obtain ⟨p, h, hp⟩ := place t u i j
  rw [h, out_apply]
  refine Finset.sum_congr rfl fun k _ => congrArg₂ (HMul.hMul (α := EReal) (β := EReal)) (blk0 m c t k i) (blk1 m c t k j _ ?_)
  show p.val * 512 + j.val = _
  rw [hp]

theorem covers : (cfg0.win 2).Covers := by decide +kernel

/-- The array after the run. -/
theorem arr (c : Dev nD) : ((dats m 0 c).arrAt 2 cfg0.N : S2x1024x512.Idx → EReal)
    = grad (m ((c.tc : Thread nD τ).loc main_arg0)) (m ((c.tc : Thread nD τ).loc main_arg1)) := by
  refine (dats m 0 c).arrAt_eq_of_covers 2 _ covers fun t hfl y => ?_
  blk_simp
  rw [after0_2]
  exact point_block m c t y

/-- The reference's array. -/
theorem ref (a : S2048x1024.Idx → EReal) (y : S2048x1024.Idx → EReal) :
    (Cert.Reference9Ideal.Read.val_main_v7 (F := Ideal) a y : S2x1024x512.Idx → EReal) = grad a y := by
  funext i
  rw [Cert.Reference9Ideal.Read.val_main_v7_apply, Cert.Reference9Ideal.Read.val_main_v6_apply, Cert.Reference9Ideal.Read.val_main_v5_apply,
    Cert.Reference9Ideal.Read.val_main_v4_apply]
  refine (Cert.Reference9Ideal.Read.val_main_v3_apply a y _).trans (Finset.sum_congr rfl fun k _ => ?_)
  rw [Cert.Reference9Ideal.Read.val_main_v0_apply]
  have h0 : (i 0).val < 2 := (i 0).isLt
  have h1 : (i 1).val < 1024 := (i 1).isLt
  have h2 : (i 2).val < 512 := (i 2).isLt
  refine (mul_comm _ _).trans (congrArg₂ (HMul.hMul (α := EReal) (β := EReal)) (congrArg a (funext fun x => Fin.ext ?_)) (congrArg y (funext fun x => Fin.ext ?_)))
  · match x with
    | ⟨0, _⟩ => rfl
    | ⟨1, _⟩ => show ((((i 1).val * 2 + (i 0).val) * 512 + (i 2).val) / 1024) = (i 1).val; omega
  · match x with
    | ⟨0, _⟩ => rfl
    | ⟨1, _⟩ => show ((((i 1).val * 2 + (i 0).val) * 512 + (i 2).val) % 1024) = (i 0).val * 512 + (i 2).val; omega

end Cert.MixDwout

end
-- ==== Proof.FeedMix.lean ====
/- The mixer's backward products: each program leaves its arguments alone, and ends with the reference's array. -/
module

public import proofs.«01_k».proof.Defs
public import proofs.«01_k».proof.Proof.MixDwin
public import proofs.«01_k».proof.Proof.Gen.Kernel7
public import proofs.«01_k».proof.Proof.Gen.Reference7Ideal.Run
public import proofs.«01_k».proof.Proof.Dmerged
public import proofs.«01_k».proof.Proof.Gen.Kernel8
public import proofs.«01_k».proof.Proof.Gen.Reference8Ideal.Run
public import proofs.«01_k».proof.Proof.MixDwout
public import proofs.«01_k».proof.Proof.Gen.Kernel9
public import proofs.«01_k».proof.Proof.Gen.Reference9Ideal.Run
public import Idealize.ShloMosaic.Lib.Quiescent

@[expose] public section

noncomputable section

namespace Cert.Feed

open Idealize.ShloMosaic Idealize.SL.Sem

/-- The two programs run the same body. -/
theorem body7 : @Cert.Kernel7.defs Bits _ Cert.Kernel7.Gen.facts = @Cert.Kernel7Ideal.defs Bits _ Cert.Kernel7Ideal.Gen.facts := by
  refine congrArg (Pipeline.defs _) (congrArg Defs.onTc (funext fun l => funext fun x => ?_))
  match l, x with
  | 0, x => rfl

theorem frameP7 : @Cert.quiescent_Kernel7 Cert.Kernel7.Gen.facts := fun m ρ _ =>
  (congrArg (fun d => θ_run d (onTc (τ := Cert.Kernel7.τ) (Cert.Kernel7.main (F := Bits))) ⟨m, fun _ => 0, ρ⟩ _) body7).mpr
    (Cert.Kernel7Ideal.Gen.frame (F := Bits) m ρ)
theorem frameK7 : @Cert.quiescent_Kernel7Ideal Cert.Kernel7Ideal.Gen.facts := fun m ρ _ => Cert.Kernel7Ideal.Gen.frame (F := Ideal) m ρ
theorem frameR7 : @Cert.quiescent_Reference7Ideal Cert.Reference7Ideal.Gen.facts := fun m ρ _ =>
  (θ_run _ _ _).mono (fun r h => ⟨fun c => (h c).2, sem_eq_zero_of_no_sems (by decide) r.2⟩)
    (Cert.Reference7Ideal.Value.run (F := Ideal) m ρ)

/-- The call's array is the reference's. -/
theorem values7 : @Cert.algebraic_Kernel7Ideal_Reference7Ideal Cert.Kernel7Ideal.Gen.facts Cert.Reference7Ideal.Gen.facts :=
  fun m ρ m' ρ' _ hag => by
  refine ⟨fun c => Cert.MixDwin.grad (m ((c.tc : Thread _ _).loc Cert.Kernel7Ideal.main_arg0)) (m ((c.tc : Thread _ _).loc Cert.Kernel7Ideal.main_arg1)), ?_, ?_⟩
  · exact (θ_run _ _ _).mono (fun r h c => ⟨(h c).1.trans (Cert.MixDwin.arr m c), (h c).2⟩) (Cert.Kernel7Ideal.Value.run_blocks (F := Ideal) m ρ)
  · refine (θ_run _ _ _).mono (fun r h c => ?_) (Cert.Reference7Ideal.Value.run (F := Ideal) m' ρ')
    obtain ⟨a0, a1⟩ := hag c
    refine ⟨(h c).1.trans ((Cert.Reference7Ideal.Read.val_main_v6_eq _ _).trans ?_), (h c).2⟩
    rw [a0, a1]
    exact Cert.MixDwin.ref _ _

/-- The two programs run the same body. -/
theorem body8 : @Cert.Kernel8.defs Bits _ Cert.Kernel8.Gen.facts = @Cert.Kernel8Ideal.defs Bits _ Cert.Kernel8Ideal.Gen.facts := by
  refine congrArg (Pipeline.defs _) (congrArg Defs.onTc (funext fun l => funext fun x => ?_))
  match l, x with
  | 0, x => rfl

theorem frameP8 : @Cert.quiescent_Kernel8 Cert.Kernel8.Gen.facts := fun m ρ _ =>
  (congrArg (fun d => θ_run d (onTc (τ := Cert.Kernel8.τ) (Cert.Kernel8.main (F := Bits))) ⟨m, fun _ => 0, ρ⟩ _) body8).mpr
    (Cert.Kernel8Ideal.Gen.frame (F := Bits) m ρ)
theorem frameK8 : @Cert.quiescent_Kernel8Ideal Cert.Kernel8Ideal.Gen.facts := fun m ρ _ => Cert.Kernel8Ideal.Gen.frame (F := Ideal) m ρ
theorem frameR8 : @Cert.quiescent_Reference8Ideal Cert.Reference8Ideal.Gen.facts := fun m ρ _ =>
  (θ_run _ _ _).mono (fun r h => ⟨fun c => (h c).2, sem_eq_zero_of_no_sems (by decide) r.2⟩)
    (Cert.Reference8Ideal.Value.run (F := Ideal) m ρ)

/-- The call's array is the reference's. -/
theorem values8 : @Cert.algebraic_Kernel8Ideal_Reference8Ideal Cert.Kernel8Ideal.Gen.facts Cert.Reference8Ideal.Gen.facts :=
  fun m ρ m' ρ' _ hag => by
  refine ⟨fun c => Cert.Dmerged.grad (m ((c.tc : Thread _ _).loc Cert.Kernel8Ideal.main_arg0)) (m ((c.tc : Thread _ _).loc Cert.Kernel8Ideal.main_arg1)), ?_, ?_⟩
  · exact (θ_run _ _ _).mono (fun r h c => ⟨(h c).1.trans (Cert.Dmerged.arr m c), (h c).2⟩) (Cert.Kernel8Ideal.Value.run_blocks (F := Ideal) m ρ)
  · refine (θ_run _ _ _).mono (fun r h c => ?_) (Cert.Reference8Ideal.Value.run (F := Ideal) m' ρ')
    obtain ⟨a0, a1⟩ := hag c
    refine ⟨(h c).1.trans ((Cert.Reference8Ideal.Read.val_main_v4_eq _ _).trans ?_), (h c).2⟩
    rw [a0, a1]
    exact Cert.Dmerged.ref _ _

/-- The two programs run the same body. -/
theorem body9 : @Cert.Kernel9.defs Bits _ Cert.Kernel9.Gen.facts = @Cert.Kernel9Ideal.defs Bits _ Cert.Kernel9Ideal.Gen.facts := by
  refine congrArg (Pipeline.defs _) (congrArg Defs.onTc (funext fun l => funext fun x => ?_))
  match l, x with
  | 0, x => rfl

theorem frameP9 : @Cert.quiescent_Kernel9 Cert.Kernel9.Gen.facts := fun m ρ _ =>
  (congrArg (fun d => θ_run d (onTc (τ := Cert.Kernel9.τ) (Cert.Kernel9.main (F := Bits))) ⟨m, fun _ => 0, ρ⟩ _) body9).mpr
    (Cert.Kernel9Ideal.Gen.frame (F := Bits) m ρ)
theorem frameK9 : @Cert.quiescent_Kernel9Ideal Cert.Kernel9Ideal.Gen.facts := fun m ρ _ => Cert.Kernel9Ideal.Gen.frame (F := Ideal) m ρ
theorem frameR9 : @Cert.quiescent_Reference9Ideal Cert.Reference9Ideal.Gen.facts := fun m ρ _ =>
  (θ_run _ _ _).mono (fun r h => ⟨fun c => (h c).2, sem_eq_zero_of_no_sems (by decide) r.2⟩)
    (Cert.Reference9Ideal.Value.run (F := Ideal) m ρ)

/-- The call's array is the reference's. -/
theorem values9 : @Cert.algebraic_Kernel9Ideal_Reference9Ideal Cert.Kernel9Ideal.Gen.facts Cert.Reference9Ideal.Gen.facts :=
  fun m ρ m' ρ' _ hag => by
  refine ⟨fun c => Cert.MixDwout.grad (m ((c.tc : Thread _ _).loc Cert.Kernel9Ideal.main_arg0)) (m ((c.tc : Thread _ _).loc Cert.Kernel9Ideal.main_arg1)), ?_, ?_⟩
  · exact (θ_run _ _ _).mono (fun r h c => ⟨(h c).1.trans (Cert.MixDwout.arr m c), (h c).2⟩) (Cert.Kernel9Ideal.Value.run_blocks (F := Ideal) m ρ)
  · refine (θ_run _ _ _).mono (fun r h c => ?_) (Cert.Reference9Ideal.Value.run (F := Ideal) m' ρ')
    obtain ⟨a0, a1⟩ := hag c
    refine ⟨(h c).1.trans ((Cert.Reference9Ideal.Read.val_main_v7_eq _ _).trans ?_), (h c).2⟩
    rw [a0, a1]
    exact Cert.MixDwout.ref _ _

end Cert.Feed

end
-- ==== Proof.FfnOut.lean ====
/- The feed-forward's output rows: the kernel's blocks of the residual plus half the product of the activations with the gathered
   matrix, and the reference's one array, are the same. -/
module

public import proofs.«01_k».proof.Proof.Gen.Kernel10Ideal.Value
public import proofs.«01_k».proof.Proof.Gen.Reference10Ideal.Read
public import proofs.«01_k».proof.Proof.Products
public import proofs.«01_k».proof.Proof.Half
public import Idealize.ShloMosaic.Lib.Pipeline.ValueKit.Geometry
public import Idealize.ShloMosaic.Lib.Pipeline.Value

@[expose] public section

set_option maxRecDepth 16384

noncomputable section

namespace Cert.FfnOut

open Cert.Kernel10Ideal Cert.Kernel10Ideal.Gen Idealize.ShloMosaic Idealize.ShloMosaic.TcCoe Idealize.SL.Sem
open Idealize.ShloMosaic.ValueIdx Cert.Products Cert.Half

variable (m : (ℓ : Loc nD τ sig) → Buf (Elt Ideal) ℓ)

/-- The product of the activations with the matrix, which comes in four parts of 704 rows. -/
def prod (a : S2048x2816.Idx → EReal) (w : S4x704x1024.Idx → EReal) (i : Fin 2048) (j : Fin 1024) : EReal :=
  ∑ k : Fin 2816, a (ix2 i k) * w (ix3 ⟨k.val / 704, by omega⟩ ⟨k.val % 704, by omega⟩ j)

/-- The output rows. -/
def rows (a : S2048x2816.Idx → EReal) (w : S4x704x1024.Idx → EReal) (x : S2048x1024.Idx → EReal) : S2048x1024.Idx → EReal := fun i =>
  prod a w (i 0) (i 1) * half + x i

theorem index0 (t : Fin cfg0.N) : win0_0.index t = ![t.val / 2, 0] := by revert t; decide
theorem index1 (t : Fin cfg0.N) : win0_1.index t = ![0, 0, t.val % 2] := by revert t; decide
theorem index2 (t : Fin cfg0.N) : win0_2.index t = ![t.val / 2, t.val % 2] := by revert t; decide
theorem index3 (t : Fin cfg0.N) : win0_3.index t = ![t.val / 2, t.val % 2] := by revert t; decide

/-- What the body leaves at an entry of its block. -/
theorem out_apply (a : Vec Ideal S1024x2816 .bf16) (b : Vec Ideal S4x704x512 .bf16) (x : Vec Ideal S1024x512 .f32) (i : Fin 1024) (j : Fin 512) :
    (out0_3 a b x : S1024x512.Idx → EReal) (ix2 i j)
      = (∑ k : Fin 2816, (a (ix2 i k) : EReal) * (b (ix3 ⟨k.val / 704, by omega⟩ ⟨k.val % 704, by omega⟩ j) : EReal)) * half + (x (ix2 i j) : EReal) := by
  unfold out0_3
  rw [View.canon_unit_zero (by decide), View.ld_unit_zero (by decide), View.ld_unit_zero (by decide), View.ld_unit_zero (by decide)]
  unfold k0_pay1
  refine congrArg (fun p : EReal => p * half + (x (ix2 i j) : EReal))
    ((entry (φ₁ := .bf16) (φ₂ := .bf16) dot_S1024x2816_S2816x512_S1024x512_1_0_0_1_n_n 2816 rfl rfl _ _ (ix2 i j) (fun k => ix2 i k) (fun k => ix2 k j)
    (fun _ _ hk x => match x with | ⟨0, _⟩ => rfl | ⟨1, _⟩ => hk) (fun _ _ hk x => match x with | ⟨0, _⟩ => hk | ⟨1, _⟩ => rfl)).trans
    (Finset.sum_congr rfl fun k _ => congrArg (HMul.hMul (α := EReal) (β := EReal) _) ?_))
  refine shapeCast_apply _ _ _ _ ?_
  rw [Shape.rowMajor_val_two, Shape.rowMajor_val_three]
  show (k.val / 704 * 704 + k.val % 704) * 512 + j.val = k.val * 512 + j.val
  omega

theorem place (t : Fin cfg0.N) (i : Fin 1024) (j : Fin 512) : ∃ (I : Fin 2048) (J : Fin 1024),
    ((cfg0.win 3).blk t).view.emb (ix2 i j : S1024x512.Idx) = (ix2 I J : S2048x1024.Idx) ∧ I.val = t.val / 2 * 1024 + i.val
      ∧ J.val = t.val % 2 * 512 + j.val := by
  have ht : t.val < 4 := t.isLt
  refine ⟨⟨t.val / 2 * 1024 + i.val, by omega⟩, ⟨t.val % 2 * 512 + j.val, by omega⟩, ?_, rfl, rfl⟩
  blk_ext [index3]

theorem blk0 (c : Dev nD) (t : Fin cfg0.N) (i : Fin 1024) (k : Fin 2816) (I : Fin 2048) (hI : I.val = t.val / 2 * 1024 + i.val) :
    (iblk m c 0 t : S1024x2816.Idx → EReal) (ix2 i k) = m ((c.tc : Thread nD τ).loc main_arg0) (ix2 I k) := by
  blk_ext [iblk, index0]
  exact hI.symm

theorem blk1 (c : Dev nD) (t : Fin cfg0.N) (p : Fin 4) (q : Fin 704) (j : Fin 512) (J : Fin 1024) (hJ : J.val = t.val % 2 * 512 + j.val) :
    (iblk m c 1 t : S4x704x512.Idx → EReal) (ix3 p q j) = m ((c.tc : Thread nD τ).loc main_arg1) (ix3 p q J) := by
  blk_ext [iblk, index1]
  exact hJ.symm

theorem blk2 (c : Dev nD) (t : Fin cfg0.N) (i : Fin 1024) (j : Fin 512) (I : Fin 2048) (J : Fin 1024) (hI : I.val = t.val / 2 * 1024 + i.val)
    (hJ : J.val = t.val % 2 * 512 + j.val) :
    (iblk m c 2 t : S1024x512.Idx → EReal) (ix2 i j) = m ((c.tc : Thread nD τ).loc main_arg2) (ix2 I J) := by
  blk_ext [iblk, index2]
  · exact hI.symm
  · exact hJ.symm

theorem point_block (c : Dev nD) (t : Fin cfg0.N) (y : S1024x512.Idx) :
    (out0_3 (iblk m c 0 t) (iblk m c 1 t) (iblk m c 2 t) : S1024x512.Idx → EReal) y
      = rows (m ((c.tc : Thread nD τ).loc main_arg0)) (m ((c.tc : Thread nD τ).loc main_arg1)) (m ((c.tc : Thread nD τ).loc main_arg2))
        (((cfg0.win 3).blk t).view.emb y) := by
  obtain ⟨i, j, rfl⟩ : ∃ (i : Fin 1024) (j : Fin 512), y = ix2 i j := ⟨y 0, y 1, eq_ix2 _⟩
  obtain ⟨I, J, h, hI, hJ⟩ := place t i j
  rw [h, out_apply]
  exact congrArg₂ (fun p q : EReal => p * half + q)
    (Finset.sum_congr rfl fun k _ => congrArg₂ (HMul.hMul (α := EReal) (β := EReal)) (blk0 m c t i k I hI) (blk1 m c t _ _ j J hJ)) (blk2 m c t i j I J hI hJ)

theorem covers : (cfg0.win 3).Covers := by decide +kernel

/-- The array after the run. -/
theorem arr (c : Dev nD) : ((dats m 0 c).arrAt 3 cfg0.N : S2048x1024.Idx → EReal)
    = rows (m ((c.tc : Thread nD τ).loc main_arg0)) (m ((c.tc : Thread nD τ).loc main_arg1)) (m ((c.tc : Thread nD τ).loc main_arg2)) := by
  refine (dats m 0 c).arrAt_eq_of_covers 3 _ covers fun t hfl y => ?_
  blk_simp
  rw [after0_3]
  exact point_block m c t y

/-- The reference's array. -/
theorem ref (a : S2048x2816.Idx → EReal) (w : S4x704x1024.Idx → EReal) (x : S2048x1024.Idx → EReal) :
    (Cert.Reference10Ideal.Read.val_main_v6 (F := Ideal) a w x : S2048x1024.Idx → EReal) = rows a w x := by
  funext i
  rw [Cert.Reference10Ideal.Read.val_main_v6_apply, Cert.Reference10Ideal.Read.val_main_v5_apply, Cert.Reference10Ideal.Read.val_main_v4_apply,
    Cert.Reference10Ideal.Read.val_main_cst_apply]
  refine (add_comm (x i) (half * _)).trans (congrArg (· + x i) ((mul_comm half _).trans (congrArg (· * half) ?_)))
  refine (Cert.Reference10Ideal.Read.val_main_v3_apply a w _).trans (Finset.sum_congr rfl fun k _ => ?_)
  rw [Cert.Reference10Ideal.Read.val_main_v2_apply, Cert.Reference10Ideal.Read.val_main_v1_apply, Cert.Reference10Ideal.Read.val_main_v0_apply]
  refine congrArg₂ (HMul.hMul (α := EReal) (β := EReal)) (congrArg a ?_) (congrArg w (funext fun x => Fin.ext ?_))
  · exact funext fun x => match x with | ⟨0, _⟩ => rfl | ⟨1, _⟩ => rfl
  · have h1 : (i 1).val < 1024 := (i 1).isLt
    match x with
    | ⟨0, _⟩ => show (k.val * 1024 + (i 1).val) / 720896 = k.val / 704; omega
    | ⟨1, _⟩ => show (k.val * 1024 + (i 1).val) / 1024 % 704 = k.val % 704; omega
    | ⟨2, _⟩ => show (k.val * 1024 + (i 1).val) % 1024 = (i 1).val; omega

end Cert.FfnOut

end
-- ==== Proof.Proj.lean ====
/- The mixer's projection: the kernel's blocks of the product of the normed rows with the matrix, and the bias, are the reference's
   array. -/
module

public import proofs.«01_k».proof.Proof.Gen.Kernel11Ideal.Value
public import proofs.«01_k».proof.Proof.Gen.Reference11Ideal.Read
public import proofs.«01_k».proof.Proof.Products
public import Idealize.ShloMosaic.Lib.Pipeline.ValueKit.Geometry
public import Idealize.ShloMosaic.Lib.Pipeline.Value

@[expose] public section

set_option maxRecDepth 16384

noncomputable section

namespace Cert.Proj

open Cert.Kernel11Ideal Cert.Kernel11Ideal.Gen Idealize.ShloMosaic Idealize.ShloMosaic.TcCoe Idealize.SL.Sem
open Idealize.ShloMosaic.ValueIdx Cert.Products

variable (m : (ℓ : Loc nD τ sig) → Buf (Elt Ideal) ℓ)

/-- The projection. -/
def proj (h : S2048x1024.Idx → EReal) (w : S1024x6272.Idx → EReal) (b : S1x6272.Idx → EReal) : S2048x6272.Idx → EReal := fun i =>
  (∑ k : Fin 1024, h (ix2 (i 0) k) * w (ix2 k (i 1))) + b (ix2 0 (i 1))

theorem index0 (t : Fin cfg0.N) : win0_0.index t = ![t.val / 7, 0] := by revert t; decide
theorem index1 (t : Fin cfg0.N) : win0_1.index t = ![0, t.val % 7] := by revert t; decide
theorem index2 (t : Fin cfg0.N) : win0_2.index t = ![0, t.val % 7] := by revert t; decide
theorem index3 (t : Fin cfg0.N) : win0_3.index t = ![t.val / 7, t.val % 7] := by revert t; decide

/-- What the body leaves at an entry of its block. -/
theorem out_apply (a : Vec Ideal S1024x1024 .bf16) (w : Vec Ideal S1024x896 .bf16) (b : Vec Ideal S1x896 .f32) (i : Fin 1024) (j : Fin 896) :
    (out0_3 a w b : S1024x896.Idx → EReal) (ix2 i j)
      = (∑ k : Fin 1024, (a (ix2 i k) : EReal) * (w (ix2 k j) : EReal)) + (b (ix2 0 j) : EReal) := by
  unfold out0_3
  rw [View.canon_unit_zero (by decide), View.ld_unit_zero (by decide), View.ld_unit_zero (by decide), View.ld_unit_zero (by decide)]
  unfold k0_pay1
  refine congrArg₂ (HAdd.hAdd (α := EReal) (β := EReal))
    (entry (φ₁ := .bf16) (φ₂ := .bf16) _ 1024 rfl rfl _ _ (ix2 i j) (fun k => ix2 i k) (fun k => ix2 k j)
    (fun _ _ hk x => match x with | ⟨0, _⟩ => rfl | ⟨1, _⟩ => hk) (fun _ _ hk x => match x with | ⟨0, _⟩ => hk | ⟨1, _⟩ => rfl)) ?_
  refine broadcastTo_apply _ _ _ _ fun x => ?_
  match x with
  | ⟨0, _⟩ => rfl
  | ⟨1, _⟩ => rfl

theorem place (t : Fin cfg0.N) (i : Fin 1024) (j : Fin 896) : ∃ (I : Fin 2048) (J : Fin 6272),
    ((cfg0.win 3).blk t).view.emb (ix2 i j : S1024x896.Idx) = (ix2 I J : S2048x6272.Idx) ∧ I.val = t.val / 7 * 1024 + i.val
      ∧ J.val = t.val % 7 * 896 + j.val := by
  have ht : t.val < 14 := t.isLt
  refine ⟨⟨t.val / 7 * 1024 + i.val, by omega⟩, ⟨t.val % 7 * 896 + j.val, by omega⟩, ?_, rfl, rfl⟩
  blk_ext [index3]

theorem blk0 (c : Dev nD) (t : Fin cfg0.N) (i : Fin 1024) (k : Fin 1024) (I : Fin 2048) (hI : I.val = t.val / 7 * 1024 + i.val) :
    (iblk m c 0 t : S1024x1024.Idx → EReal) (ix2 i k) = m ((c.tc : Thread nD τ).loc main_arg0) (ix2 I k) := by
  blk_ext [iblk, index0]
  exact hI.symm

theorem blk1 (c : Dev nD) (t : Fin cfg0.N) (k : Fin 1024) (j : Fin 896) (J : Fin 6272) (hJ : J.val = t.val % 7 * 896 + j.val) :
    (iblk m c 1 t : S1024x896.Idx → EReal) (ix2 k j) = m ((c.tc : Thread nD τ).loc main_arg1) (ix2 k J) := by
  blk_ext [iblk, index1]
  exact hJ.symm

theorem blk2 (c : Dev nD) (t : Fin cfg0.N) (u : Fin 1) (j : Fin 896) (J : Fin 6272) (hJ : J.val = t.val % 7 * 896 + j.val) :
    (iblk m c 2 t : S1x896.Idx → EReal) (ix2 u j) = m ((c.tc : Thread nD τ).loc main_arg2) (ix2 u J) := by
  blk_ext [iblk, index2]
  exact hJ.symm

theorem point_block (c : Dev nD) (t : Fin cfg0.N) (y : S1024x896.Idx) :
    (out0_3 (iblk m c 0 t) (iblk m c 1 t) (iblk m c 2 t) : S1024x896.Idx → EReal) y
      = proj (m ((c.tc : Thread nD τ).loc main_arg0)) (m ((c.tc : Thread nD τ).loc main_arg1)) (m ((c.tc : Thread nD τ).loc main_arg2))
        (((cfg0.win 3).blk t).view.emb y) := by
  obtain ⟨i, j, rfl⟩ : ∃ (i : Fin 1024) (j : Fin 896), y = ix2 i j := ⟨y 0, y 1, eq_ix2 _⟩
  obtain ⟨I, J, h, hI, hJ⟩ := place t i j
  rw [h, out_apply]
  exact congrArg₂ (HAdd.hAdd (α := EReal) (β := EReal))
    (Finset.sum_congr rfl fun k _ => congrArg₂ (HMul.hMul (α := EReal) (β := EReal)) (blk0 m c t i k I hI) (blk1 m c t k j J hJ)) (blk2 m c t 0 j J hJ)

theorem covers : (cfg0.win 3).Covers := by decide +kernel

/-- The array after the run. -/
theorem arr (c : Dev nD) : ((dats m 0 c).arrAt 3 cfg0.N : S2048x6272.Idx → EReal)
    = proj (m ((c.tc : Thread nD τ).loc main_arg0)) (m ((c.tc : Thread nD τ).loc main_arg1)) (m ((c.tc : Thread nD τ).loc main_arg2)) := by
  refine (dats m 0 c).arrAt_eq_of_covers 3 _ covers fun t hfl y => ?_
  blk_simp
  rw [after0_3]
  exact point_block m c t y

/-- The reference's array. -/
theorem ref (h : S2048x1024.Idx → EReal) (w : S1024x6272.Idx → EReal) (b : S1x6272.Idx → EReal) :
    (Cert.Reference11Ideal.Read.val_main_v5 (F := Ideal) h w b : S2048x6272.Idx → EReal) = proj h w b := by
  funext i
  rw [Cert.Reference11Ideal.Read.val_main_v5_apply, Cert.Reference11Ideal.Read.val_main_v4_apply, Cert.Reference11Ideal.Read.val_main_v3_apply]
  refine congrArg₂ (HAdd.hAdd (α := EReal) (β := EReal)) ?_ (congrArg b ?_)
  · refine (Cert.Reference11Ideal.Read.val_main_v2_apply h w _).trans (Finset.sum_congr rfl fun k _ => ?_)
    rw [Cert.Reference11Ideal.Read.val_main_v1_apply, Cert.Reference11Ideal.Read.val_main_v0_apply]
    refine congrArg₂ (HMul.hMul (α := EReal) (β := EReal)) (congrArg h ?_) (congrArg w ?_)
    · exact funext fun x => match x with | ⟨0, _⟩ => rfl | ⟨1, _⟩ => rfl
    · exact funext fun x => match x with | ⟨0, _⟩ => rfl | ⟨1, _⟩ => rfl
  · exact funext fun x => match x with | ⟨0, _⟩ => rfl | ⟨1, _⟩ => rfl

end Cert.Proj

end
-- ==== Proof.MixOut.lean ====
/- The mixer's output rows: the kernel's blocks of the residual plus the product of the merged rows with the gathered
   matrix, and the reference's one array, are the same. -/
module

public import proofs.«01_k».proof.Proof.Gen.Kernel12Ideal.Value
public import proofs.«01_k».proof.Proof.Gen.Reference12Ideal.Read
public import proofs.«01_k».proof.Proof.Products
public import Idealize.ShloMosaic.Lib.Pipeline.ValueKit.Geometry
public import Idealize.ShloMosaic.Lib.Pipeline.Value

@[expose] public section

set_option maxRecDepth 16384

noncomputable section

namespace Cert.MixOut

open Cert.Kernel12Ideal Cert.Kernel12Ideal.Gen Idealize.ShloMosaic Idealize.ShloMosaic.TcCoe Idealize.SL.Sem
open Idealize.ShloMosaic.ValueIdx Cert.Products

variable (m : (ℓ : Loc nD τ sig) → Buf (Elt Ideal) ℓ)

/-- The product of the merged rows with the matrix, which comes in four parts of 256 rows. -/
def prod (a : S2048x1024.Idx → EReal) (w : S4x256x1024.Idx → EReal) (i : Fin 2048) (j : Fin 1024) : EReal :=
  ∑ k : Fin 1024, a (ix2 i k) * w (ix3 ⟨k.val / 256, by omega⟩ ⟨k.val % 256, by omega⟩ j)

/-- The output rows. -/
def rows (a : S2048x1024.Idx → EReal) (w : S4x256x1024.Idx → EReal) (x : S2048x1024.Idx → EReal) : S2048x1024.Idx → EReal := fun i =>
  prod a w (i 0) (i 1) + x i

theorem index0 (t : Fin cfg0.N) : win0_0.index t = ![t.val / 2, 0] := by revert t; decide
theorem index1 (t : Fin cfg0.N) : win0_1.index t = ![0, 0, t.val % 2] := by revert t; decide
theorem index2 (t : Fin cfg0.N) : win0_2.index t = ![t.val / 2, t.val % 2] := by revert t; decide
theorem index3 (t : Fin cfg0.N) : win0_3.index t = ![t.val / 2, t.val % 2] := by revert t; decide

/-- What the body leaves at an entry of its block. -/
theorem out_apply (a : Vec Ideal S1024x1024 .bf16) (b : Vec Ideal S4x256x512 .bf16) (x : Vec Ideal S1024x512 .f32) (i : Fin 1024) (j : Fin 512) :
    (out0_3 a b x : S1024x512.Idx → EReal) (ix2 i j)
      = (∑ k : Fin 1024, (a (ix2 i k) : EReal) * (b (ix3 ⟨k.val / 256, by omega⟩ ⟨k.val % 256, by omega⟩ j) : EReal)) + (x (ix2 i j) : EReal) := by
  unfold out0_3
  rw [View.canon_unit_zero (by decide), View.ld_unit_zero (by decide), View.ld_unit_zero (by decide), View.ld_unit_zero (by decide)]
  unfold k0_pay1
  refine congrArg (fun p : EReal => p + (x (ix2 i j) : EReal))
    ((entry (φ₁ := .bf16) (φ₂ := .bf16) dot_S1024x1024_S1024x512_S1024x512_1_0_0_1_n_n 1024 rfl rfl _ _ (ix2 i j) (fun k => ix2 i k) (fun k => ix2 k j)
    (fun _ _ hk x => match x with | ⟨0, _⟩ => rfl | ⟨1, _⟩ => hk) (fun _ _ hk x => match x with | ⟨0, _⟩ => hk | ⟨1, _⟩ => rfl)).trans
    (Finset.sum_congr rfl fun k _ => congrArg (HMul.hMul (α := EReal) (β := EReal) _) ?_))
  refine shapeCast_apply _ _ _ _ ?_
  rw [Shape.rowMajor_val_two, Shape.rowMajor_val_three]
  show (k.val / 256 * 256 + k.val % 256) * 512 + j.val = k.val * 512 + j.val
  omega

theorem place (t : Fin cfg0.N) (i : Fin 1024) (j : Fin 512) : ∃ (I : Fin 2048) (J : Fin 1024),
    ((cfg0.win 3).blk t).view.emb (ix2 i j : S1024x512.Idx) = (ix2 I J : S2048x1024.Idx) ∧ I.val = t.val / 2 * 1024 + i.val
      ∧ J.val = t.val % 2 * 512 + j.val := by
  have ht : t.val < 4 := t.isLt
  refine ⟨⟨t.val / 2 * 1024 + i.val, by omega⟩, ⟨t.val % 2 * 512 + j.val, by omega⟩, ?_, rfl, rfl⟩
  blk_ext [index3]

theorem blk0 (c : Dev nD) (t : Fin cfg0.N) (i : Fin 1024) (k : Fin 1024) (I : Fin 2048) (hI : I.val = t.val / 2 * 1024 + i.val) :
    (iblk m c 0 t : S1024x1024.Idx → EReal) (ix2 i k) = m ((c.tc : Thread nD τ).loc main_arg0) (ix2 I k) := by
  blk_ext [iblk, index0]
  exact hI.symm

theorem blk1 (c : Dev nD) (t : Fin cfg0.N) (p : Fin 4) (q : Fin 256) (j : Fin 512) (J : Fin 1024) (hJ : J.val = t.val % 2 * 512 + j.val) :
    (iblk m c 1 t : S4x256x512.Idx → EReal) (ix3 p q j) = m ((c.tc : Thread nD τ).loc main_arg1) (ix3 p q J) := by
  blk_ext [iblk, index1]
  exact hJ.symm

theorem blk2 (c : Dev nD) (t : Fin cfg0.N) (i : Fin 1024) (j : Fin 512) (I : Fin 2048) (J : Fin 1024) (hI : I.val = t.val / 2 * 1024 + i.val)
    (hJ : J.val = t.val % 2 * 512 + j.val) :
    (iblk m c 2 t : S1024x512.Idx → EReal) (ix2 i j) = m ((c.tc : Thread nD τ).loc main_arg2) (ix2 I J) := by
  blk_ext [iblk, index2]
  · exact hI.symm
  · exact hJ.symm

theorem point_block (c : Dev nD) (t : Fin cfg0.N) (y : S1024x512.Idx) :
    (out0_3 (iblk m c 0 t) (iblk m c 1 t) (iblk m c 2 t) : S1024x512.Idx → EReal) y
      = rows (m ((c.tc : Thread nD τ).loc main_arg0)) (m ((c.tc : Thread nD τ).loc main_arg1)) (m ((c.tc : Thread nD τ).loc main_arg2))
        (((cfg0.win 3).blk t).view.emb y) := by
  obtain ⟨i, j, rfl⟩ : ∃ (i : Fin 1024) (j : Fin 512), y = ix2 i j := ⟨y 0, y 1, eq_ix2 _⟩
  obtain ⟨I, J, h, hI, hJ⟩ := place t i j
  rw [h, out_apply]
  exact congrArg₂ (HAdd.hAdd (α := EReal) (β := EReal))
    (Finset.sum_congr rfl fun k _ => congrArg₂ (HMul.hMul (α := EReal) (β := EReal)) (blk0 m c t i k I hI) (blk1 m c t _ _ j J hJ)) (blk2 m c t i j I J hI hJ)

theorem covers : (cfg0.win 3).Covers := by decide +kernel

/-- The array after the run. -/
theorem arr (c : Dev nD) : ((dats m 0 c).arrAt 3 cfg0.N : S2048x1024.Idx → EReal)
    = rows (m ((c.tc : Thread nD τ).loc main_arg0)) (m ((c.tc : Thread nD τ).loc main_arg1)) (m ((c.tc : Thread nD τ).loc main_arg2)) := by
  refine (dats m 0 c).arrAt_eq_of_covers 3 _ covers fun t hfl y => ?_
  blk_simp
  rw [after0_3]
  exact point_block m c t y

/-- The reference's array. -/
theorem ref (a : S2048x1024.Idx → EReal) (w : S4x256x1024.Idx → EReal) (x : S2048x1024.Idx → EReal) :
    (Cert.Reference12Ideal.Read.val_main_v4 (F := Ideal) a w x : S2048x1024.Idx → EReal) = rows a w x := by
  funext i
  rw [Cert.Reference12Ideal.Read.val_main_v4_apply]
  refine (add_comm (x i) _).trans (congrArg (· + x i) ?_)
  refine (Cert.Reference12Ideal.Read.val_main_v3_apply a w _).trans (Finset.sum_congr rfl fun k _ => ?_)
  rw [Cert.Reference12Ideal.Read.val_main_v2_apply, Cert.Reference12Ideal.Read.val_main_v1_apply, Cert.Reference12Ideal.Read.val_main_v0_apply]
  refine congrArg₂ (HMul.hMul (α := EReal) (β := EReal)) (congrArg a ?_) (congrArg w (funext fun x => Fin.ext ?_))
  · exact funext fun x => match x with | ⟨0, _⟩ => rfl | ⟨1, _⟩ => rfl
  · have h1 : (i 1).val < 1024 := (i 1).isLt
    match x with
    | ⟨0, _⟩ => show (k.val * 1024 + (i 1).val) / 262144 = k.val / 256; omega
    | ⟨1, _⟩ => show (k.val * 1024 + (i 1).val) / 1024 % 256 = k.val % 256; omega
    | ⟨2, _⟩ => show (k.val * 1024 + (i 1).val) % 1024 = (i 1).val; omega

end Cert.MixOut

end
-- ==== Proof.FeedOut.lean ====
/- The forward products: each program leaves its arguments alone, and ends with the reference's array. -/
module

public import proofs.«01_k».proof.Defs
public import proofs.«01_k».proof.Proof.FfnOut
public import proofs.«01_k».proof.Proof.Gen.Kernel10
public import proofs.«01_k».proof.Proof.Gen.Reference10Ideal.Run
public import proofs.«01_k».proof.Proof.Proj
public import proofs.«01_k».proof.Proof.Gen.Kernel11
public import proofs.«01_k».proof.Proof.Gen.Reference11Ideal.Run
public import proofs.«01_k».proof.Proof.MixOut
public import proofs.«01_k».proof.Proof.Gen.Kernel12
public import proofs.«01_k».proof.Proof.Gen.Reference12Ideal.Run
public import Idealize.ShloMosaic.Lib.Quiescent

@[expose] public section

noncomputable section

namespace Cert.Feed

open Idealize.ShloMosaic Idealize.SL.Sem

/-- The two programs run the same body. -/
theorem body10 : @Cert.Kernel10.defs Bits _ Cert.Kernel10.Gen.facts = @Cert.Kernel10Ideal.defs Bits _ Cert.Kernel10Ideal.Gen.facts := by
  refine congrArg (Pipeline.defs _) (congrArg Defs.onTc (funext fun l => funext fun x => ?_))
  match l, x with
  | 0, x => rfl

theorem frameP10 : @Cert.quiescent_Kernel10 Cert.Kernel10.Gen.facts := fun m ρ _ =>
  (congrArg (fun d => θ_run d (onTc (τ := Cert.Kernel10.τ) (Cert.Kernel10.main (F := Bits))) ⟨m, fun _ => 0, ρ⟩ _) body10).mpr
    (Cert.Kernel10Ideal.Gen.frame (F := Bits) m ρ)
theorem frameK10 : @Cert.quiescent_Kernel10Ideal Cert.Kernel10Ideal.Gen.facts := fun m ρ _ => Cert.Kernel10Ideal.Gen.frame (F := Ideal) m ρ
theorem frameR10 : @Cert.quiescent_Reference10Ideal Cert.Reference10Ideal.Gen.facts := fun m ρ _ =>
  (θ_run _ _ _).mono (fun r h => ⟨fun c => (h c).2, sem_eq_zero_of_no_sems (by decide) r.2⟩)
    (Cert.Reference10Ideal.Value.run (F := Ideal) m ρ)

/-- The call's array is the reference's. -/
theorem values10 : @Cert.algebraic_Kernel10Ideal_Reference10Ideal Cert.Kernel10Ideal.Gen.facts Cert.Reference10Ideal.Gen.facts :=
  fun m ρ m' ρ' _ hag => by
  refine ⟨fun c => Cert.FfnOut.rows (m ((c.tc : Thread _ _).loc Cert.Kernel10Ideal.main_arg0)) (m ((c.tc : Thread _ _).loc Cert.Kernel10Ideal.main_arg1)) (m ((c.tc : Thread _ _).loc Cert.Kernel10Ideal.main_arg2)), ?_, ?_⟩
  · exact (θ_run _ _ _).mono (fun r h c => ⟨(h c).1.trans (Cert.FfnOut.arr m c), (h c).2⟩) (Cert.Kernel10Ideal.Value.run_blocks (F := Ideal) m ρ)
  · refine (θ_run _ _ _).mono (fun r h c => ?_) (Cert.Reference10Ideal.Value.run (F := Ideal) m' ρ')
    obtain ⟨a0, a1, a2⟩ := hag c
    refine ⟨(h c).1.trans ((Cert.Reference10Ideal.Read.val_main_v6_eq _ _ _).trans ?_), (h c).2⟩
    rw [a0, a1, a2]
    exact Cert.FfnOut.ref _ _ _

/-- The two programs run the same body. -/
theorem body11 : @Cert.Kernel11.defs Bits _ Cert.Kernel11.Gen.facts = @Cert.Kernel11Ideal.defs Bits _ Cert.Kernel11Ideal.Gen.facts := by
  refine congrArg (Pipeline.defs _) (congrArg Defs.onTc (funext fun l => funext fun x => ?_))
  match l, x with
  | 0, x => rfl

theorem frameP11 : @Cert.quiescent_Kernel11 Cert.Kernel11.Gen.facts := fun m ρ _ =>
  (congrArg (fun d => θ_run d (onTc (τ := Cert.Kernel11.τ) (Cert.Kernel11.main (F := Bits))) ⟨m, fun _ => 0, ρ⟩ _) body11).mpr
    (Cert.Kernel11Ideal.Gen.frame (F := Bits) m ρ)
theorem frameK11 : @Cert.quiescent_Kernel11Ideal Cert.Kernel11Ideal.Gen.facts := fun m ρ _ => Cert.Kernel11Ideal.Gen.frame (F := Ideal) m ρ
theorem frameR11 : @Cert.quiescent_Reference11Ideal Cert.Reference11Ideal.Gen.facts := fun m ρ _ =>
  (θ_run _ _ _).mono (fun r h => ⟨fun c => (h c).2, sem_eq_zero_of_no_sems (by decide) r.2⟩)
    (Cert.Reference11Ideal.Value.run (F := Ideal) m ρ)

/-- The call's array is the reference's. -/
theorem values11 : @Cert.algebraic_Kernel11Ideal_Reference11Ideal Cert.Kernel11Ideal.Gen.facts Cert.Reference11Ideal.Gen.facts :=
  fun m ρ m' ρ' _ hag => by
  refine ⟨fun c => Cert.Proj.proj (m ((c.tc : Thread _ _).loc Cert.Kernel11Ideal.main_arg0)) (m ((c.tc : Thread _ _).loc Cert.Kernel11Ideal.main_arg1)) (m ((c.tc : Thread _ _).loc Cert.Kernel11Ideal.main_arg2)), ?_, ?_⟩
  · exact (θ_run _ _ _).mono (fun r h c => ⟨(h c).1.trans (Cert.Proj.arr m c), (h c).2⟩) (Cert.Kernel11Ideal.Value.run_blocks (F := Ideal) m ρ)
  · refine (θ_run _ _ _).mono (fun r h c => ?_) (Cert.Reference11Ideal.Value.run (F := Ideal) m' ρ')
    obtain ⟨a0, a1, a2⟩ := hag c
    refine ⟨(h c).1.trans ((Cert.Reference11Ideal.Read.val_main_v5_eq _ _ _).trans ?_), (h c).2⟩
    rw [a0, a1, a2]
    exact Cert.Proj.ref _ _ _

/-- The two programs run the same body. -/
theorem body12 : @Cert.Kernel12.defs Bits _ Cert.Kernel12.Gen.facts = @Cert.Kernel12Ideal.defs Bits _ Cert.Kernel12Ideal.Gen.facts := by
  refine congrArg (Pipeline.defs _) (congrArg Defs.onTc (funext fun l => funext fun x => ?_))
  match l, x with
  | 0, x => rfl

theorem frameP12 : @Cert.quiescent_Kernel12 Cert.Kernel12.Gen.facts := fun m ρ _ =>
  (congrArg (fun d => θ_run d (onTc (τ := Cert.Kernel12.τ) (Cert.Kernel12.main (F := Bits))) ⟨m, fun _ => 0, ρ⟩ _) body12).mpr
    (Cert.Kernel12Ideal.Gen.frame (F := Bits) m ρ)
theorem frameK12 : @Cert.quiescent_Kernel12Ideal Cert.Kernel12Ideal.Gen.facts := fun m ρ _ => Cert.Kernel12Ideal.Gen.frame (F := Ideal) m ρ
theorem frameR12 : @Cert.quiescent_Reference12Ideal Cert.Reference12Ideal.Gen.facts := fun m ρ _ =>
  (θ_run _ _ _).mono (fun r h => ⟨fun c => (h c).2, sem_eq_zero_of_no_sems (by decide) r.2⟩)
    (Cert.Reference12Ideal.Value.run (F := Ideal) m ρ)

/-- The call's array is the reference's. -/
theorem values12 : @Cert.algebraic_Kernel12Ideal_Reference12Ideal Cert.Kernel12Ideal.Gen.facts Cert.Reference12Ideal.Gen.facts :=
  fun m ρ m' ρ' _ hag => by
  refine ⟨fun c => Cert.MixOut.rows (m ((c.tc : Thread _ _).loc Cert.Kernel12Ideal.main_arg0)) (m ((c.tc : Thread _ _).loc Cert.Kernel12Ideal.main_arg1)) (m ((c.tc : Thread _ _).loc Cert.Kernel12Ideal.main_arg2)), ?_, ?_⟩
  · exact (θ_run _ _ _).mono (fun r h c => ⟨(h c).1.trans (Cert.MixOut.arr m c), (h c).2⟩) (Cert.Kernel12Ideal.Value.run_blocks (F := Ideal) m ρ)
  · refine (θ_run _ _ _).mono (fun r h c => ?_) (Cert.Reference12Ideal.Value.run (F := Ideal) m' ρ')
    obtain ⟨a0, a1, a2⟩ := hag c
    refine ⟨(h c).1.trans ((Cert.Reference12Ideal.Read.val_main_v4_eq _ _ _).trans ?_), (h c).2⟩
    rw [a0, a1, a2]
    exact Cert.MixOut.ref _ _ _

end Cert.Feed

end
-- ==== Proof.FfnInBody.lean ====
/- The norm, the first product and the gate of the feed-forward layer: the body at one point of the grid, whatever the floats
   are. At the first of a row block's two points it stores the normed rows; at both it multiplies them. -/
module

public import proofs.«01_k».proof.Proof.Body
public import proofs.«01_k».proof.Proof.Gen.Kernel13Ideal.Frame
public import proofs.«01_k».proof.Proof.Gen.Kernel13Ideal.Skeleton

@[expose] public section

set_option maxRecDepth 16384

noncomputable section

namespace Cert.FfnIn

open Cert.Kernel13Ideal Cert.Kernel13Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- A load of the whole of a buffer reads the buffer. -/
theorem load_whole {sg : RefSig} {κ' : Kind} {sp : Space} {s : Shape} {e : EltTy} {Val : EltTy → Type} (v : View sg κ' sp s e)
    (f : v.ty.Contents Val) {off : Fin s.rank → ℕ} (inb : ∀ a, off a + s.size a ≤ s.size a) :
    v.readAt Val (Rect.unit off s.size inb).toLoadRect f = v.read Val f := by
  funext i
  rw [View.readAt_unit v f inb rfl inb]
  exact congrArg (v.read Val f) (funext fun a => Fin.ext (by show off a + 1 * (i a).val = (i a).val; have := inb a; omega))

/-- A load of the whole of a buffer that has been stored whole reads what was stored. -/
theorem load_stored {sg : RefSig} {κ' : Kind} {sp : Space} {s : Shape} {e : EltTy} {Val : EltTy → Type} [∀ e, Inhabited (Val e)] (v : View sg κ' sp s e)
    {off off' : Fin s.rank → ℕ} (inb : ∀ a, off a + s.size a ≤ s.size a) (inb' : ∀ a, off' a + s.size a ≤ s.size a) (w : s.Idx → Val e) (L) :
    v.readCov ((⟨Rect.unit off s.size inb, w⟩ : View.Piece Val s e) :: L) (Rect.unit off' s.size inb').toLoadRect = w := by
  unfold View.readCov
  exact (load_whole _ _ _).trans (Grad.read_whole _ _ _ _ _)

/-- What the block of normed rows holds after the point: stored now, or there from the point before. -/
def rowsAfter (i : grid0.Coords) (x2 : Vec F S512x1024 .f32) (x3 : Vec F S1x1024 .f32) (x6 : Vec F S512x1024 .bf16) : Vec F S512x1024 .bf16 :=
  if k0_cond1 i = 1#1 then k0_pay1 x2 x3 else x6

set_option maxHeartbeats 4000000 in
/-- The body's triple. -/
theorem body_run (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S512x1024 .bf16) (harg6 : arg6.IsWhole) (arg7 : Memref sig .tc .vmem S512x1408 .bf16) (harg7 : arg7.IsWhole) (arg8 : Memref sig .tc .vmem S512x1408 .bf16) (harg8 : arg8.IsWhole) (arg9 : Memref sig .tc .vmem S512x1408 .bf16) (harg9 : arg9.IsWhole)
    (x2 : Vec F S512x1024 .f32) (x3 : Vec F S1x1024 .f32) (x4 x5 : Vec F S1x1024x1408 .bf16) (x6 h : Vec F S512x1024 .bf16) (hh : rowsAfter i x2 x3 x6 = h) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare h ∗ owns (c : Thread nD τ) arg7 fullShare (k0_pay5 h x4) ∗ owns (c : Thread nD τ) arg8 fullShare (k0_pay6 h x5) ∗ owns (c : Thread nD τ) arg9 fullShare (k0_pay7 h x4 x5)) -∗ K ⟨⟩))
      ⊢ wp frame (wpE (defs₀ (F := F)) Variants.none c none) E (cc0_ffn_in (F := F) i arg2 harg2 arg3 harg3 arg4 harg4 arg5 harg5 arg6 harg6 arg7 harg7 arg8 harg8 arg9 harg9) K := by
  simp only [cc0_ffn_in_eq_skeleton]; unfold cc0_ffn_in_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5; obtain rfl := harg6.eq_unread hf6
  unfold rowsAfter at hh
  by_cases hc : k0_cond1 i = 1#1
  · rw [if_pos hc] at hh
    simp only [dif_pos hc]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      sl_unfold_words
      refine (Grad.read_whole _ _ _ _ _).trans ?_
      exact (congrArg₂ k0_pay1 ((load_whole _ _ _).trans hf2) ((load_whole _ _ _).trans hf3)).trans hh
    isplitl [H7]
    · iexists _; isplitr
      swap; · iexact H7
      ipureintro
      sl_unfold_words
      refine (Grad.read_whole _ _ _ _ _).trans ?_
      exact congrArg₂ k0_pay5 ((load_stored _ _ _ _ _).trans ((congrArg₂ k0_pay1 ((load_whole _ _ _).trans hf2) ((load_whole _ _ _).trans hf3)).trans hh)) ((load_whole _ _ _).trans hf4)
    isplitl [H8]
    · iexists _; isplitr
      swap; · iexact H8
      ipureintro
      sl_unfold_words
      refine (Grad.read_whole _ _ _ _ _).trans ?_
      exact congrArg₂ k0_pay6 ((load_stored _ _ _ _ _).trans ((congrArg₂ k0_pay1 ((load_whole _ _ _).trans hf2) ((load_whole _ _ _).trans hf3)).trans hh)) ((load_whole _ _ _).trans hf5)
    iexists _; isplitr
    swap; · iexact H9
    ipureintro
    sl_unfold_words
    refine (Grad.read_whole _ _ _ _ _).trans ?_
    rw [((load_stored _ _ _ _ _).trans ((congrArg₂ k0_pay1 ((load_whole _ _ _).trans hf2) ((load_whole _ _ _).trans hf3)).trans hh)), (load_whole _ _ _).trans hf4, (load_whole _ _ _).trans hf5]
  · rw [if_neg hc] at hh
    simp only [dif_neg hc]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      exact (harg6.read_unread _).trans hh
    isplitl [H7]
    · iexists _; isplitr
      swap; · iexact H7
      ipureintro
      sl_unfold_words
      refine (Grad.read_whole _ _ _ _ _).trans ?_
      exact congrArg₂ k0_pay5 ((load_whole _ _ _).trans (hf6.trans hh)) ((load_whole _ _ _).trans hf4)
    isplitl [H8]
    · iexists _; isplitr
      swap; · iexact H8
      ipureintro
      sl_unfold_words
      refine (Grad.read_whole _ _ _ _ _).trans ?_
      exact congrArg₂ k0_pay6 ((load_whole _ _ _).trans (hf6.trans hh)) ((load_whole _ _ _).trans hf5)
    iexists _; isplitr
    swap; · iexact H9
    ipureintro
    sl_unfold_words
    refine (Grad.read_whole _ _ _ _ _).trans ?_
    rw [((load_whole _ _ _).trans (hf6.trans hh)), (load_whole _ _ _).trans hf4, (load_whole _ _ _).trans hf5]

end Cert.FfnIn

end
-- ==== Proof.FfnInFrame.lean ====
/- The launch of the norm, the first product and the gate of the feed-forward layer, whatever the floats are: what each point
   leaves in its blocks, the run of the whole program, and the frame. A row block has two points; the block of its normed
   rows is stored at the first of them, read again at the second and then written back. -/
module

public import proofs.«01_k».proof.Proof.FfnInBody
public import Idealize.ShloMosaic.Lib.Claim

@[expose] public section

set_option maxRecDepth 16384

noncomputable section

namespace Cert.FfnIn

open Cert.Kernel13Ideal Cert.Kernel13Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row block of `t`. -/
def start (t : Fin cfg0.N) : Fin cfg0.N := ⟨2 * (t.val / 2), by omega⟩

/-- The normed rows of the row block of `t`. -/
def rows (c : Dev nD) (t : Fin cfg0.N) : Vec F S512x1024 .bf16 := k0_pay1 (iblk m c 0 (start t)) (iblk m c 1 (start t))

/-- What the pipeline finds and what each point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rows m c t
    | ⟨5, _⟩ => k0_pay5 (rows m c t) (iblk m c 2 t)
    | ⟨6, _⟩ => k0_pay6 (rows m c t) (iblk m c 3 t)
    | ⟨7, _⟩ => k0_pay7 (rows m c t) (iblk m c 2 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = rows m c t := by dsimp only [dats]
theorem after_5 (c : Dev nD) (t : Fin cfg0.N) : (dats m 0 c).after 5 t = k0_pay5 (rows m c t) (iblk m c 2 t) := by dsimp only [dats]
theorem after_6 (c : Dev nD) (t : Fin cfg0.N) : (dats m 0 c).after 6 t = k0_pay6 (rows m c t) (iblk m c 3 t) := by dsimp only [dats]
theorem after_7 (c : Dev nD) (t : Fin cfg0.N) : (dats m 0 c).after 7 t = k0_pay7 (rows m c t) (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The normed rows, stored at the first point and found at the second -/

/-- The body stores the rows at the first point of a row block, and only there. -/
theorem cond_iff : ∀ t : Fin cfg0.N, k0_cond1 (grid0.coords t) = 1#1 ↔ t.val % 2 = 0 :=
  (by decide +kernel : ∀ t : Fin grid0.N, k0_cond1 (grid0.coords t) = 1#1 ↔ t.val % 2 = 0)

theorem live_first : ∀ t : Fin cfg0.N, t.val % 2 = 0 → cfg0.idle 4 (grid0.coords t) = false :=
  (by decide +kernel : ∀ t : Fin grid0.N, t.val % 2 = 0 → cfg0.idle 4 (grid0.coords t) = false)

theorem idle_second : ∀ t : Fin cfg0.N, ¬t.val % 2 = 0 → cfg0.idle 4 (grid0.coords t) = true :=
  (by decide +kernel : ∀ t : Fin grid0.N, ¬t.val % 2 = 0 → cfg0.idle 4 (grid0.coords t) = true)

/-- At the second point of a row block the block of rows holds what the first left. -/
theorem before_second (c : Dev nD) (t : Fin cfg0.N) (ht : ¬t.val % 2 = 0) (d) : (dats m 0 c).before 4 t d = rows m c t := by
  have h0 : t.val ≠ 0 := by omega
  have hN := t.isLt
  have hs : start (⟨t.val - 1, by omega⟩ : Fin cfg0.N) = start t := Fin.ext (by show 2 * ((t.val - 1) / 2) = 2 * (t.val / 2); omega)
  have hr : rows m c (⟨t.val - 1, by omega⟩ : Fin cfg0.N) = rows m c t := by unfold rows; rw [hs]
  have hf : ¬(cfg0.win 4).flush (⟨t.val - 1, by omega⟩ : Fin cfg0.N) = true := fun h => by
    have := (flush0_4 _).mp h
    simp only at this
    omega
  have hi : cfg0.idle 4 (cfg0.grid.coords (⟨t.val - 1, by omega⟩ : Fin cfg0.N)) = false := live_first _ (by show (t.val - 1) % 2 = 0; omega)
  rw [(dats m 0 c).before_of_pos 4 t h0 ((cfg0.win 4).fetch_out rfl t) d, if_neg hf]
  unfold Dat.left
  rw [hi]
  show (dats m 0 c).kept 4 _ d = _
  unfold Dat.kept
  rw [Pipeline.fill_of_clip_none (cfg := cfg0) 4 _ (fun _ => rfl) d ((dats m 0 c).after 4 _), (cfg0.win 4).fill_cut, after_4, hr]

theorem rows_after (c : Dev nD) (t : Fin cfg0.N) (d) :
    rowsAfter (grid0.coords t) (iblk m c 0 t) (iblk m c 1 t) ((dats m 0 c).before 4 t d) = rows m c t := by
  unfold rowsAfter
  by_cases h : t.val % 2 = 0
  · rw [if_pos ((cond_iff t).mpr h)]
    have hs : start t = t := Fin.ext (by show 2 * (t.val / 2) = t.val; omega)
    unfold rows; rw [hs]
  · rw [if_neg fun hc => h ((cond_iff t).mp hc)]
    exact before_second m c t h d

/-! ## The body at a point -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The block of rows is left at the rows at both points: stored at the first, written back at the second. -/
theorem leaves_rows (c : Dev nD) (t : Fin cfg0.N) :
    (dats m 0 c).leavesExact 4 t = owns (c : Thread nD τ) (st0_4 t) fullShare ((dats m 0 c).after 4 t) := by
  unfold Dat.leavesExact
  by_cases h : t.val % 2 = 0
  · have hi : cfg0.idle 4 (cfg0.grid.coords t) = false := live_first t h
    rw [hi]
  · have hi : cfg0.idle 4 (cfg0.grid.coords t) = true := idle_second t h
    have hf : (cfg0.win 4).flush t = true := (flush0_4 t).mpr (by omega)
    rw [hi, hf]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    leaves_rows, after_0, after_1, after_2, after_3, after_4, after_5, after_6, after_7]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run (c := c) (i := grid0.coords t) (x2 := iblk m c 0 t) (x3 := iblk m c 1 t) (x4 := iblk m c 2 t) (x5 := iblk m c 3 t) (hh := rows_after m c t d4))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution of the program ends, with the pipeline's arrays at what the blocks make of them and no semaphore raised. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_arrays m ρ)

/-- The frame: the arguments unchanged, every semaphore at rest. -/
theorem frame_rest : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

/-- The run with the result arrays named. -/
theorem run_results : θ_run defs (onTc (τ := τ) (main (F := F))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N) :=
  (θ_run defs _ _).mono (fun r h c => ⟨(h c).1 4, (h c).1 5, (h c).1 6, (h c).1 7⟩) (run_arrays m ρ)

end Cert.FfnIn

end
-- ==== Proof.FfnInRef.lean ====
/- The first half of the feed-forward layer: the normed rows, the two halves of their product with the matrix and the gated rows, and
   the reference's four arrays, which are these. -/
module

public import proofs.«01_k».proof.Proof.Gen.Reference13Ideal.Run
public import proofs.«01_k».proof.Proof.Gen.Reference13Ideal.Read
public import proofs.«01_k».proof.Proof.DhRef

@[expose] public section

set_option maxRecDepth 16384

noncomputable section

namespace Cert.FfnIn

open Idealize.ShloMosaic Idealize.ShloMosaic.ValueIdx Cert.Norm
open Cert.Dh (row gain zero_word)
open Cert.Reference13Ideal Cert.Reference13Ideal.Read Cert.Reference13Ideal.Gen

variable (x : S2048x1024.Idx → EReal) (g : S1x1024.Idx → EReal) (w : S4x1024x1408.Idx → EReal)

/-- The normed rows times the gain. -/
def normed (R : Fin 2048) (j : Fin 1024) : EReal := row x R j * rstd (row x R) * gain g j

/-- The normed rows' product with part `p` of the matrix, which comes in four parts of 1408 columns. -/
def prod (R : Fin 2048) (p : Fin 4) (k : Fin 1408) : EReal := ∑ j : Fin 1024, normed x g R j * w (ix3 p j k)

/-- A gate's `silu` times the other half. -/
def gated (a b : EReal) : EReal := a * Ideal.div (Ideal.ofBits .f32 0x3F800000#32) (Ideal.ofBits .f32 0x3F800000#32 + Ideal.exp (-a)) * b

/-- The four arrays: the normed rows, the gate, the other half, and the gated rows. The first two parts of the matrix make the gate. -/
def arrH : S2048x1024.Idx → EReal := fun i => normed x g (i 0) (i 1)
def arrGate : S2048x2816.Idx → EReal := fun i => prod x g w (i 0)
  ⟨(i 1).val / 1408, by have h : (i 1).val < 2816 := (i 1).isLt; omega⟩ ⟨(i 1).val % 1408, by omega⟩
def arrUp : S2048x2816.Idx → EReal := fun i => prod x g w (i 0)
  ⟨(i 1).val / 1408 + 2, by have h : (i 1).val < 2816 := (i 1).isLt; omega⟩ ⟨(i 1).val % 1408, by omega⟩
def arrAct : S2048x2816.Idx → EReal := fun i => gated (arrGate x g w i) (arrUp x g w i)

theorem ref_meanSq (R : Fin 2048) (u : Fin 1) : val_main_v6 (F := Ideal) x (ix2 R u) = meanSq (row x R) := by
  rw [val_main_v6_apply, val_main_v4_apply, val_main_v5_apply, val_main_v2_apply, val_main_v3_apply, val_main_v1_apply]
  show Ideal.div (FloatOps.ofBits (F := Ideal) .f32 0x00000000#32 + _) width + eps = _
  rw [zero_word, zero_add]
  unfold meanSq
  refine congrArg (fun s => Ideal.div s width + eps) (Finset.sum_congr rfl fun k _ => ?_)
  rw [show idx_main_v1 (idx_main_v2 (ix2 R u)) k = ix2 R k from funext fun a => Fin.ext (match a with | ⟨0, _⟩ => rfl | ⟨1, _⟩ => rfl)]
  rfl

theorem ref_rstd (R : Fin 2048) (u : Fin 1) : val_main_v7 (F := Ideal) x (ix2 R u) = rstd (row x R) := by
  rw [val_main_v7_apply, ref_meanSq]
  rfl

theorem ref_normed (R : Fin 2048) (j : Fin 1024) : val_main_v11 (F := Ideal) x g (ix2 R j) = normed x g R j := by
  rw [val_main_v11_apply, val_main_v9_apply, val_main_v8_apply, val_main_v10_apply,
    show idx_main_v8 (ix2 R j) = ix2 R 0 from funext fun a => Fin.ext (match a with | ⟨0, _⟩ => rfl | ⟨1, _⟩ => rfl), ref_rstd]
  exact congrArg (fun i => x (ix2 R j) * rstd (row x R) * g i) (funext fun a => Fin.ext (match a with | ⟨0, _⟩ => rfl | ⟨1, _⟩ => rfl))

/-- The whole matrix, whose column `1408 p + k` is column `k` of part `p`. -/
theorem ref_matrix (j : Fin 1024) (J : Fin 5632) :
    val_main_v14 (F := Ideal) w (ix2 j J) = w (ix3 ⟨J.val / 1408, by omega⟩ j ⟨J.val % 1408, by omega⟩) := by
  rw [val_main_v14_apply, val_main_v13_apply, val_main_v12_apply]
  have hj : j.val < 1024 := j.isLt
  have hJ : J.val < 5632 := J.isLt
  refine congrArg w (funext fun a => Fin.ext ?_)
  match a with
  | ⟨0, _⟩ => show (j.val * 5632 + J.val) / 1408 % 4 = J.val / 1408; omega
  | ⟨1, _⟩ => show (j.val * 5632 + J.val) / 5632 = j.val; omega
  | ⟨2, _⟩ => show (j.val * 5632 + J.val) % 1408 = J.val % 1408; omega

theorem ref_prod (R : Fin 2048) (J : Fin 5632) :
    val_main_v15 (F := Ideal) x g w (ix2 R J) = prod x g w R ⟨J.val / 1408, by omega⟩ ⟨J.val % 1408, by omega⟩ := by
  rw [val_main_v15_apply]
  refine Finset.sum_congr rfl fun k _ => ?_
  rw [show lidx_main_v15 (ix2 R J) k = ix2 R k from funext fun a => Fin.ext (match a with | ⟨0, _⟩ => rfl | ⟨1, _⟩ => rfl),
    show ridx_main_v15 (ix2 R J) k = ix2 k J from funext fun a => Fin.ext (match a with | ⟨0, _⟩ => rfl | ⟨1, _⟩ => rfl), ref_normed, ref_matrix]

theorem ref_gate (i : S2048x2816.Idx) : val_main_v16 (F := Ideal) x g w i = arrGate x g w i := by
  have h1 : (i 1).val < 2816 := (i 1).isLt
  rw [val_main_v16_apply, show idx_main_v16 i = ix2 (i 0) ⟨(i 1).val, by omega⟩ from
    funext fun a => Fin.ext (match a with | ⟨0, _⟩ => rfl | ⟨1, _⟩ => rfl)]
  exact ref_prod x g w _ _

theorem ref_up (i : S2048x2816.Idx) : val_main_v17 (F := Ideal) x g w i = arrUp x g w i := by
  have h1 : (i 1).val < 2816 := (i 1).isLt
  rw [val_main_v17_apply, show idx_main_v17 i = ix2 (i 0) ⟨2816 + (i 1).val, by omega⟩ from
    funext fun a => Fin.ext (match a with | ⟨0, _⟩ => rfl | ⟨1, _⟩ => rfl)]
  refine (ref_prod x g w _ _).trans ?_
  unfold arrUp
  exact congrArg₂ (prod x g w (i 0)) (Fin.ext (by show (2816 + (i 1).val) / 1408 = (i 1).val / 1408 + 2; omega))
    (Fin.ext (by show (2816 + (i 1).val) % 1408 = (i 1).val % 1408; omega))

theorem ref_act (i : S2048x2816.Idx) : val_main_v19 (F := Ideal) x g w i = arrAct x g w i := by
  rw [val_main_v19_apply, val_main_v18_apply, val_main_call0_v5_apply, val_main_call0_v4_apply, val_main_call0_v3_apply, val_main_call0_v2_apply,
    val_main_call0_v1_apply, val_main_call0_v0_apply, ref_gate, ref_up]
  rfl

/-- The reference's four arrays. -/
theorem ref_arrays : (val_main_v20 (F := Ideal) x g : S2048x1024.Idx → EReal) = arrH x g
    ∧ (val_main_v21 (F := Ideal) x g w : S2048x2816.Idx → EReal) = arrGate x g w
    ∧ (val_main_v22 (F := Ideal) x g w : S2048x2816.Idx → EReal) = arrUp x g w
    ∧ (val_main_v23 (F := Ideal) x g w : S2048x2816.Idx → EReal) = arrAct x g w := by
  refine ⟨funext fun i => ?_, funext fun i => ?_, funext fun i => ?_, funext fun i => ?_⟩
  · rw [val_main_v20_apply, eq_ix2 i]
    exact ref_normed x g _ _
  · rw [val_main_v21_apply]
    exact ref_gate x g w i
  · rw [val_main_v22_apply]
    exact ref_up x g w i
  · rw [val_main_v23_apply]
    exact ref_act x g w i

end Cert.FfnIn

end
-- ==== Proof.FfnIn.lean ====
/- The first half of the feed-forward layer: the kernel's four result arrays, entry by entry. -/
module

public import proofs.«01_k».proof.Proof.FfnInFrame
public import proofs.«01_k».proof.Proof.FfnInRef
public import proofs.«01_k».proof.Proof.Products
public import Idealize.ShloMosaic.Lib.Pipeline.ValueKit.Geometry
public import Idealize.ShloMosaic.Lib.Pipeline.Value

@[expose] public section

set_option maxRecDepth 16384

noncomputable section

namespace Cert.FfnIn

open Cert.Kernel13Ideal Cert.Kernel13Ideal.Gen Idealize.ShloMosaic Idealize.ShloMosaic.TcCoe Idealize.SL.Sem
open Idealize.ShloMosaic.ValueIdx Cert.Norm Cert.Products
open Cert.Dh (row gain zero_word)

/-! ## The body's arithmetic, entry by entry -/

/-- A row of a block. -/
def line (v : S512x1024.Idx → EReal) (i : Fin 512) (k : Fin 1024) : EReal := v (ix2 i k)

theorem sum_along (v : FVec Ideal S512x1024 .f32) (i : Fin 512) (u : Fin 1) :
    (shapeCast S512x1 (multiReduction .add [1] S512 v 0x00000000#32 reduces_S512x1024_S512 (.inl rfl) rfl) shapeCasts_S512_S512x1
      : S512x1.Idx → EReal) (ix2 i u) = ∑ k : Fin 1024, v (ix2 i k) := by
  refine (shapeCast_apply _ _ _ (ix1 i) ?_).trans ((Ideal.multiReduction_add_single ..).trans (Finset.sum_congr rfl fun k _ => congrArg v ?_))
  · rw [Shape.rowMajor_val_one, Shape.rowMajor_val_two]
    show i.val = i.val * 1 + u.val
    omega
  · exact funext fun a => Fin.ext (match a with | ⟨0, _⟩ => rfl | ⟨1, _⟩ => rfl)

theorem spread_column (v : FVec Ideal S512x1 .f32) (i : Fin 512) (j : Fin 1024) :
    (broadcastTo S512x1024 v broadcasts_S512x1_S512x1024 : S512x1024.Idx → EReal) (ix2 i j) = v (ix2 i 0) :=
  congrArg v (funext fun a => Fin.ext (match a with | ⟨0, _⟩ => rfl | ⟨1, _⟩ => rfl))
theorem spread_row (v : FVec Ideal S1x1024 .f32) (i : Fin 512) (j : Fin 1024) :
    (broadcastTo S512x1024 v broadcasts_S1x1024_S512x1024 : S512x1024.Idx → EReal) (ix2 i j) = v (ix2 0 j) :=
  congrArg v (funext fun a => Fin.ext (match a with | ⟨0, _⟩ => rfl | ⟨1, _⟩ => rfl))

theorem norm_apply (v : Vec Ideal S512x1024 .f32) (g : Vec Ideal S1x1024 .f32) (i : Fin 512) (j : Fin 1024) :
    (k0_pay1 v g : S512x1024.Idx → EReal) (ix2 i j) = line v i j * rstd (line v i) * g (ix2 0 j) := by
  unfold k0_pay1
  exact congrArg₂ (HMul.hMul (α := EReal) (β := EReal)) (congrArg (line v i j * ·) ((spread_column _ i j).trans
    (congrArg (fun s => Ideal.rsqrt (Ideal.div s width + eps)) (sum_along (mulf v v) i 0)))) (spread_row g i j)

/-- A block's product with one part of the matrix. -/
theorem prod_apply (h : Vec Ideal S512x1024 .bf16) (b : Vec Ideal S1x1024x1408 .bf16) (i : Fin 512) (k : Fin 1408) :
    (k0_pay3 h b : S512x1408.Idx → EReal) (ix2 i k) = ∑ j : Fin 1024, (h (ix2 i j) : EReal) * (b (ix3 0 j k) : EReal) := by
  unfold k0_pay3 k0_pay2
  refine (entry (φ₁ := .bf16) (φ₂ := .bf16) dot_S512x1024_S1024x1408_S512x1408_1_0_0_1_n_n 1024 rfl rfl _ _ (ix2 i k) (fun j => ix2 i j)
    (fun j => ix2 j k) (fun _ _ hk x => match x with | ⟨0, _⟩ => rfl | ⟨1, _⟩ => hk)
    (fun _ _ hk x => match x with | ⟨0, _⟩ => hk | ⟨1, _⟩ => rfl)).trans
    (Finset.sum_congr rfl fun j _ => congrArg₂ (HMul.hMul (α := EReal) (β := EReal)) (shapeCast_apply _ _ _ (ix2 i j) rfl)
      (shapeCast_apply _ _ _ (ix3 0 j k) ?_))
  rw [Shape.rowMajor_val_two, Shape.rowMajor_val_three]
  show (0 * 1024 + j.val) * 1408 + k.val = j.val * 1408 + k.val
  omega

/-- The two products are one function of their operands. -/
theorem second_product (h : Vec Ideal S512x1024 .bf16) (b : Vec Ideal S1x1024x1408 .bf16) : k0_pay4 h b = k0_pay3 h b := rfl

theorem gate_apply (h : Vec Ideal S512x1024 .bf16) (b : Vec Ideal S1x1024x1408 .bf16) (y : S512x1408.Idx) :
    (k0_pay5 h b : S512x1408.Idx → EReal) y = (k0_pay3 h b : S512x1408.Idx → EReal) y := rfl
theorem up_apply (h : Vec Ideal S512x1024 .bf16) (b : Vec Ideal S1x1024x1408 .bf16) (y : S512x1408.Idx) :
    (k0_pay6 h b : S512x1408.Idx → EReal) y = (k0_pay3 h b : S512x1408.Idx → EReal) y := rfl

theorem act_apply (h : Vec Ideal S512x1024 .bf16) (a b : Vec Ideal S1x1024x1408 .bf16) (y : S512x1408.Idx) :
    (k0_pay7 h a b : S512x1408.Idx → EReal) y = gated ((k0_pay3 h a : S512x1408.Idx → EReal) y) ((k0_pay3 h b : S512x1408.Idx → EReal) y) := by
  unfold k0_pay7 gated
  rw [second_product]
  generalize k0_pay3 h a = p
  generalize k0_pay3 h b = q
  refine congrArg (fun s : EReal => (p y : EReal) * Ideal.div (Ideal.ofBits .f32 0x3F800000#32) (Ideal.ofBits .f32 0x3F800000#32 + Ideal.exp s)
    * (q y : EReal)) ?_
  show (FloatOps.ofBits (F := Ideal) .f32 0x00000000#32 : EReal) - (p y : EReal) = -(p y : EReal)
  rw [zero_word, zero_sub]

/-! ## The blocks -/

variable (m : (ℓ : Loc nD τ sig) → Buf (Elt Ideal) ℓ) (c : Dev nD)

/-- The call's arguments on one device: the rows, the gain and the matrix. -/
abbrev aX : S2048x1024.Idx → EReal := m ((c.tc : Thread nD τ).loc main_arg0)
abbrev aG : S1x1024.Idx → EReal := m ((c.tc : Thread nD τ).loc main_arg1)
abbrev aW : S4x1024x1408.Idx → EReal := m ((c.tc : Thread nD τ).loc main_arg2)

theorem index0 (t : Fin cfg0.N) : win0_0.index t = ![t.val / 2, 0] := by revert t; decide
theorem index1 (t : Fin cfg0.N) : win0_1.index t = ![0, 0] := by revert t; decide
theorem index2 (t : Fin cfg0.N) : win0_2.index t = ![t.val % 2, 0, 0] := by revert t; decide
theorem index3 (t : Fin cfg0.N) : win0_3.index t = ![t.val % 2 + 2, 0, 0] := by revert t; decide
theorem index4 (t : Fin cfg0.N) : win0_4.index t = ![t.val / 2, 0] := by revert t; decide
theorem index5 (t : Fin cfg0.N) : win0_5.index t = ![t.val / 2, t.val % 2] := by revert t; decide
theorem index6 (t : Fin cfg0.N) : win0_6.index t = ![t.val / 2, t.val % 2] := by revert t; decide
theorem index7 (t : Fin cfg0.N) : win0_7.index t = ![t.val / 2, t.val % 2] := by revert t; decide

theorem blk0 (t : Fin cfg0.N) (i : Fin 512) (k : Fin 1024) (I : Fin 2048) (hI : I.val = t.val / 2 * 512 + i.val) :
    (iblk m c 0 t : S512x1024.Idx → EReal) (ix2 i k) = aX m c (ix2 I k) := by
  blk_ext [iblk, index0]
  exact hI.symm

theorem blk1 (t : Fin cfg0.N) (u : Fin 1) (k : Fin 1024) : (iblk m c 1 t : S1x1024.Idx → EReal) (ix2 u k) = aG m c (ix2 u k) := by
  blk_ext [iblk, index1]

theorem blk2 (t : Fin cfg0.N) (j : Fin 1024) (k : Fin 1408) (p : Fin 4) (hp : p.val = t.val % 2) :
    (iblk m c 2 t : S1x1024x1408.Idx → EReal) (ix3 0 j k) = aW m c (ix3 p j k) := by
  blk_ext [iblk, index2]
  exact hp.symm

theorem blk3 (t : Fin cfg0.N) (j : Fin 1024) (k : Fin 1408) (p : Fin 4) (hp : p.val = t.val % 2 + 2) :
    (iblk m c 3 t : S1x1024x1408.Idx → EReal) (ix3 0 j k) = aW m c (ix3 p j k) := by
  blk_ext [iblk, index3]
  exact hp.symm

theorem place4 (t : Fin cfg0.N) (i : Fin 512) (j : Fin 1024) : ∃ I : Fin 2048,
    ((cfg0.win 4).blk t).view.emb (ix2 i j : S512x1024.Idx) = (ix2 I j : S2048x1024.Idx) ∧ I.val = t.val / 2 * 512 + i.val := by
  have ht : t.val < 8 := t.isLt
  refine ⟨⟨t.val / 2 * 512 + i.val, by omega⟩, ?_, rfl⟩
  blk_ext [index4]

/-- The place of an entry of a block of 512 rows and 1408 columns. -/
def Placed (t : Fin cfg0.N) (i : Fin 512) (k : Fin 1408) (I : Fin 2048) (J : Fin 2816) : Prop :=
  I.val = t.val / 2 * 512 + i.val ∧ J.val = t.val % 2 * 1408 + k.val

theorem place5 (t : Fin cfg0.N) (i : Fin 512) (k : Fin 1408) : ∃ (I : Fin 2048) (J : Fin 2816),
    ((cfg0.win 5).blk t).view.emb (ix2 i k : S512x1408.Idx) = (ix2 I J : S2048x2816.Idx) ∧ Placed t i k I J := by
  have ht : t.val < 8 := t.isLt
  refine ⟨⟨t.val / 2 * 512 + i.val, by omega⟩, ⟨t.val % 2 * 1408 + k.val, by omega⟩, ?_, rfl, rfl⟩
  blk_ext [index5]

theorem place6 (t : Fin cfg0.N) (i : Fin 512) (k : Fin 1408) : ∃ (I : Fin 2048) (J : Fin 2816),
    ((cfg0.win 6).blk t).view.emb (ix2 i k : S512x1408.Idx) = (ix2 I J : S2048x2816.Idx) ∧ Placed t i k I J := by
  have ht : t.val < 8 := t.isLt
  refine ⟨⟨t.val / 2 * 512 + i.val, by omega⟩, ⟨t.val % 2 * 1408 + k.val, by omega⟩, ?_, rfl, rfl⟩
  blk_ext [index6]

theorem place7 (t : Fin cfg0.N) (i : Fin 512) (k : Fin 1408) : ∃ (I : Fin 2048) (J : Fin 2816),
    ((cfg0.win 7).blk t).view.emb (ix2 i k : S512x1408.Idx) = (ix2 I J : S2048x2816.Idx) ∧ Placed t i k I J := by
  have ht : t.val < 8 := t.isLt
  refine ⟨⟨t.val / 2 * 512 + i.val, by omega⟩, ⟨t.val % 2 * 1408 + k.val, by omega⟩, ?_, rfl, rfl⟩
  blk_ext [index7]

/-- The block of normed rows of a point: both points of a row block have the same one. -/
theorem rows_apply (t : Fin cfg0.N) (i : Fin 512) (j : Fin 1024) (I : Fin 2048) (hI : I.val = t.val / 2 * 512 + i.val) :
    (rows m c t : S512x1024.Idx → EReal) (ix2 i j) = normed (aX m c) (aG m c) I j := by
  have hs : I.val = (start t).val / 2 * 512 + i.val := by
    show I.val = 2 * (t.val / 2) / 2 * 512 + i.val
    omega
  have hline : line (iblk m c 0 (start t)) i = row (aX m c) I := funext fun k => blk0 m c (start t) i k I hs
  unfold rows normed
  rw [norm_apply, hline]
  exact congrArg (fun b : EReal => row (aX m c) I j * rstd (row (aX m c) I) * b) (blk1 m c (start t) 0 j)

/-- The two products of a point, in the arrays' own places. -/
theorem gate_place (t : Fin cfg0.N) (i : Fin 512) (k : Fin 1408) (I : Fin 2048) (J : Fin 2816) (h : Placed t i k I J) :
    (k0_pay3 (rows m c t) (iblk m c 2 t) : S512x1408.Idx → EReal) (ix2 i k) = arrGate (aX m c) (aG m c) (aW m c) (ix2 I J) := by
  obtain ⟨hI, hJ⟩ := h
  have hk : k.val < 1408 := k.isLt
  rw [prod_apply]
  refine Finset.sum_congr rfl fun j _ => congrArg₂ (HMul.hMul (α := EReal) (β := EReal)) (rows_apply m c t i j I hI)
    ((blk2 m c t j k ⟨J.val / 1408, by omega⟩ (by show J.val / 1408 = t.val % 2; omega)).trans
      (congrArg (fun q => aW m c (ix3 _ j q)) (Fin.ext ?_)))
  show k.val = J.val % 1408
  omega

theorem up_place (t : Fin cfg0.N) (i : Fin 512) (k : Fin 1408) (I : Fin 2048) (J : Fin 2816) (h : Placed t i k I J) :
    (k0_pay3 (rows m c t) (iblk m c 3 t) : S512x1408.Idx → EReal) (ix2 i k) = arrUp (aX m c) (aG m c) (aW m c) (ix2 I J) := by
  obtain ⟨hI, hJ⟩ := h
  have hk : k.val < 1408 := k.isLt
  rw [prod_apply]
  refine Finset.sum_congr rfl fun j _ => congrArg₂ (HMul.hMul (α := EReal) (β := EReal)) (rows_apply m c t i j I hI)
    ((blk3 m c t j k ⟨J.val / 1408 + 2, by omega⟩ (by show J.val / 1408 + 2 = t.val % 2 + 2; omega)).trans
      (congrArg (fun q => aW m c (ix3 _ j q)) (Fin.ext ?_)))
  show k.val = J.val % 1408
  omega

theorem point4 (t : Fin cfg0.N) (y : S512x1024.Idx) :
    (rows m c t : S512x1024.Idx → EReal) y = arrH (aX m c) (aG m c) (((cfg0.win 4).blk t).view.emb y) := by
  obtain ⟨i, j, rfl⟩ : ∃ (i : Fin 512) (j : Fin 1024), y = ix2 i j := ⟨y 0, y 1, eq_ix2 _⟩
  obtain ⟨I, h, hI⟩ := place4 t i j
  rw [h]
  exact rows_apply m c t i j I hI

theorem point5 (t : Fin cfg0.N) (y : S512x1408.Idx) :
    (k0_pay5 (rows m c t) (iblk m c 2 t) : S512x1408.Idx → EReal) y
      = arrGate (aX m c) (aG m c) (aW m c) (((cfg0.win 5).blk t).view.emb y) := by
  obtain ⟨i, k, rfl⟩ : ∃ (i : Fin 512) (k : Fin 1408), y = ix2 i k := ⟨y 0, y 1, eq_ix2 _⟩
  obtain ⟨I, J, h, hp⟩ := place5 t i k
  rw [h, gate_apply]
  exact gate_place m c t i k I J hp

theorem point6 (t : Fin cfg0.N) (y : S512x1408.Idx) :
    (k0_pay6 (rows m c t) (iblk m c 3 t) : S512x1408.Idx → EReal) y
      = arrUp (aX m c) (aG m c) (aW m c) (((cfg0.win 6).blk t).view.emb y) := by
  obtain ⟨i, k, rfl⟩ : ∃ (i : Fin 512) (k : Fin 1408), y = ix2 i k := ⟨y 0, y 1, eq_ix2 _⟩
  obtain ⟨I, J, h, hp⟩ := place6 t i k
  rw [h, up_apply]
  exact up_place m c t i k I J hp

theorem point7 (t : Fin cfg0.N) (y : S512x1408.Idx) :
    (k0_pay7 (rows m c t) (iblk m c 2 t) (iblk m c 3 t) : S512x1408.Idx → EReal) y
      = arrAct (aX m c) (aG m c) (aW m c) (((cfg0.win 7).blk t).view.emb y) := by
  obtain ⟨i, k, rfl⟩ : ∃ (i : Fin 512) (k : Fin 1408), y = ix2 i k := ⟨y 0, y 1, eq_ix2 _⟩
  obtain ⟨I, J, h, hp⟩ := place7 t i k
  rw [h, act_apply]
  exact congrArg₂ gated (gate_place m c t i k I J hp) (up_place m c t i k I J hp)

/-! ## The arrays after the run -/

theorem covers4 : (cfg0.win 4).Covers := by decide +kernel
theorem covers5 : (cfg0.win 5).Covers := by decide +kernel
theorem covers6 : (cfg0.win 6).Covers := by decide +kernel
theorem covers7 : (cfg0.win 7).Covers := by decide +kernel

theorem arr4 : ((dats m 0 c).arrAt 4 cfg0.N : S2048x1024.Idx → EReal) = arrH (aX m c) (aG m c) := by
  refine (dats m 0 c).arrAt_eq_of_covers 4 _ covers4 fun t hfl y => ?_
  blk_simp
  rw [after_4]
  exact point4 m c t y

theorem arr5 : ((dats m 0 c).arrAt 5 cfg0.N : S2048x2816.Idx → EReal) = arrGate (aX m c) (aG m c) (aW m c) := by
  refine (dats m 0 c).arrAt_eq_of_covers 5 _ covers5 fun t hfl y => ?_
  blk_simp
  rw [after_5]
  exact point5 m c t y

theorem arr6 : ((dats m 0 c).arrAt 6 cfg0.N : S2048x2816.Idx → EReal) = arrUp (aX m c) (aG m c) (aW m c) := by
  refine (dats m 0 c).arrAt_eq_of_covers 6 _ covers6 fun t hfl y => ?_
  blk_simp
  rw [after_6]
  exact point6 m c t y

theorem arr7 : ((dats m 0 c).arrAt 7 cfg0.N : S2048x2816.Idx → EReal) = arrAct (aX m c) (aG m c) (aW m c) := by
  refine (dats m 0 c).arrAt_eq_of_covers 7 _ covers7 fun t hfl y => ?_
  blk_simp
  rw [after_7]
  exact point7 m c t y

end Cert.FfnIn

end
-- ==== Proof.FeedIn.lean ====
/- The first half of the feed-forward layer: the program leaves its arguments alone, and ends with the reference's four arrays. -/
module

public import proofs.«01_k».proof.Defs
public import proofs.«01_k».proof.Proof.FfnIn
public import proofs.«01_k».proof.Proof.Gen.Kernel13
public import Idealize.ShloMosaic.Lib.Claim
public import Idealize.ShloMosaic.Lib.Quiescent

@[expose] public section

noncomputable section

namespace Cert.Feed

open Idealize.ShloMosaic Idealize.SL.Sem

/-- The two programs run the same body. -/
theorem body13 : @Cert.Kernel13.defs Bits _ Cert.Kernel13.Gen.facts = @Cert.Kernel13Ideal.defs Bits _ Cert.Kernel13Ideal.Gen.facts := by
  refine congrArg (Pipeline.defs _) (congrArg Defs.onTc (funext fun l => funext fun x => ?_))
  match l, x with
  | 0, x => rfl

theorem frameP13 : @Cert.quiescent_Kernel13 Cert.Kernel13.Gen.facts := fun m ρ _ =>
  (congrArg (fun d => θ_run d (onTc (τ := Cert.Kernel13.τ) (Cert.Kernel13.main (F := Bits))) ⟨m, fun _ => 0, ρ⟩ _) body13).mpr
    (Cert.FfnIn.frame_rest (F := Bits) m ρ)
theorem frameK13 : @Cert.quiescent_Kernel13Ideal Cert.Kernel13Ideal.Gen.facts := fun m ρ _ => Cert.FfnIn.frame_rest (F := Ideal) m ρ
theorem frameR13 : @Cert.quiescent_Reference13Ideal Cert.Reference13Ideal.Gen.facts := fun m ρ _ =>
  (θ_run _ _ _).mono (fun r h => ⟨fun c => (h c).2.2.2.2, sem_eq_zero_of_no_sems (by decide) r.2⟩)
    (Cert.Reference13Ideal.Value.run (F := Ideal) m ρ)

/-- The call's four arrays are the reference's. -/
theorem values13 : @Cert.algebraic_Kernel13Ideal_Reference13Ideal Cert.Kernel13Ideal.Gen.facts Cert.Reference13Ideal.Gen.facts :=
  fun m ρ m' ρ' _ hag => by
  refine ⟨fun c => Cert.FfnIn.arrH (Cert.FfnIn.aX m c) (Cert.FfnIn.aG m c),
    fun c => Cert.FfnIn.arrGate (Cert.FfnIn.aX m c) (Cert.FfnIn.aG m c) (Cert.FfnIn.aW m c),
    fun c => Cert.FfnIn.arrUp (Cert.FfnIn.aX m c) (Cert.FfnIn.aG m c) (Cert.FfnIn.aW m c),
    fun c => Cert.FfnIn.arrAct (Cert.FfnIn.aX m c) (Cert.FfnIn.aG m c) (Cert.FfnIn.aW m c), ?_, ?_⟩
  · refine (θ_run _ _ _).mono (fun r h c => ?_) (θ_run_and (Cert.FfnIn.run_results (F := Ideal) m ρ) (Cert.FfnIn.unchanged (F := Ideal) m ρ))
    obtain ⟨h0, h1, h2, h3⟩ := h.1 c
    exact ⟨h0.trans (Cert.FfnIn.arr4 m c), h1.trans (Cert.FfnIn.arr5 m c), h2.trans (Cert.FfnIn.arr6 m c), h3.trans (Cert.FfnIn.arr7 m c), h.2 c⟩
  · refine (θ_run _ _ _).mono (fun r h c => ?_) (Cert.Reference13Ideal.Value.run (F := Ideal) m' ρ')
    obtain ⟨a0, a1, a2⟩ := hag c
    obtain ⟨h0, h1, h2, h3, hrest⟩ := h c
    refine ⟨h0.trans ((Cert.Reference13Ideal.Read.val_main_v20_eq _ _).trans ?_), h1.trans ((Cert.Reference13Ideal.Read.val_main_v21_eq _ _ _).trans ?_),
      h2.trans ((Cert.Reference13Ideal.Read.val_main_v22_eq _ _ _).trans ?_), h3.trans ((Cert.Reference13Ideal.Read.val_main_v23_eq _ _ _).trans ?_), hrest⟩
    all_goals simp only [a0, a1, a2]
    · exact (Cert.FfnIn.ref_arrays _ _ (Cert.FfnIn.aW m c)).1
    · exact (Cert.FfnIn.ref_arrays _ _ _).2.1
    · exact (Cert.FfnIn.ref_arrays _ _ _).2.2.1
    · exact (Cert.FfnIn.ref_arrays _ _ _).2.2.2

end Cert.Feed

end
-- ==== Proof.BrDw.lean ====
/- The gradients of the three branches' matrices: the kernel's blocks of the products of a branch's rows with the gradient of its
   product, and the reference's products, are the same arrays. -/
module

public import proofs.«01_k».proof.Proof.Gen.Kernel14Ideal.Value
public import proofs.«01_k».proof.Proof.Gen.Reference14Ideal.Read
public import proofs.«01_k».proof.Proof.Products
public import Idealize.ShloMosaic.Lib.Pipeline.ValueKit.Geometry
public import Idealize.ShloMosaic.Lib.Pipeline.Value

@[expose] public section

set_option maxRecDepth 16384

noncomputable section

namespace Cert.BrDw

open Cert.Kernel14Ideal Cert.Kernel14Ideal.Gen Idealize.ShloMosaic Idealize.ShloMosaic.TcCoe Idealize.SL.Sem
open Idealize.ShloMosaic.ValueIdx Cert.Products

/-- The place of an entry of the call's layout: the rows come in two halves, the columns in four parts. -/
def hrow {n : ℕ} (N : ℕ) (p : Fin 2) (i : Fin n) (hN : N = 2 * n) : Fin N := ⟨p.val * n + i.val, by
  have := i.isLt
  rcases (by omega : p.val = 0 ∨ p.val = 1) with h | h <;> rw [h] <;> omega⟩
def pcol (q : Fin 4) (j : Fin 256) : Fin 1024 := ⟨q.val * 256 + j.val, by omega⟩

/-- The gradient of a branch's matrix, of 256 or of 512 rows, as the call lays it out. -/
def narrow (o : S2048x256.Idx → EReal) (y : S2048x1024.Idx → EReal) : S2x4x128x256.Idx → EReal := fun i =>
  ∑ k : Fin 2048, o (ix2 k (hrow 256 (i 0) (i 2) rfl)) * y (ix2 k (pcol (i 1) (i 3)))
def wide (o : S2048x512.Idx → EReal) (y : S2048x1024.Idx → EReal) : S2x4x256x256.Idx → EReal := fun i =>
  ∑ k : Fin 2048, o (ix2 k (hrow 512 (i 0) (i 2) rfl)) * y (ix2 k (pcol (i 1) (i 3)))

/-! ## The body's blocks -/

theorem index0 (t : Fin cfg0.N) : win0_0.index t = ![0, 0] := by revert t; decide
theorem index1 (t : Fin cfg0.N) : win0_1.index t = ![0, 0] := by revert t; decide
theorem index2 (t : Fin cfg0.N) : win0_2.index t = ![0, 0] := by revert t; decide
theorem index3 (t : Fin cfg0.N) : win0_3.index t = ![0, t.val] := by revert t; decide
theorem index4 (t : Fin cfg0.N) : win0_4.index t = ![0, t.val] := by revert t; decide
theorem index5 (t : Fin cfg0.N) : win0_5.index t = ![0, t.val] := by revert t; decide
theorem index6 (t : Fin cfg0.N) : win0_6.index t = ![0, t.val, 0, 0] := by revert t; decide
theorem index7 (t : Fin cfg0.N) : win0_7.index t = ![0, t.val, 0, 0] := by revert t; decide
theorem index8 (t : Fin cfg0.N) : win0_8.index t = ![0, t.val, 0, 0] := by revert t; decide

theorem prod_narrow (a b : Vec Ideal S2048x256 .bf16) (i j : Fin 256) :
    (k0_pay4 a b : S256x256.Idx → EReal) (ix2 i j) = ∑ k : Fin 2048, (a (ix2 k i) : EReal) * (b (ix2 k j) : EReal) := by
  unfold k0_pay4
  exact entry (φ₁ := .bf16) (φ₂ := .bf16) _ 2048 rfl rfl _ _ (ix2 i j) (fun k => ix2 k i) (fun k => ix2 k j)
    (fun _ _ hk x => match x with | ⟨0, _⟩ => hk | ⟨1, _⟩ => rfl) (fun _ _ hk x => match x with | ⟨0, _⟩ => hk | ⟨1, _⟩ => rfl)

theorem prod_wide (a : Vec Ideal S2048x512 .bf16) (b : Vec Ideal S2048x256 .bf16) (i : Fin 512) (j : Fin 256) :
    (k0_pay7 a b : S512x256.Idx → EReal) (ix2 i j) = ∑ k : Fin 2048, (a (ix2 k i) : EReal) * (b (ix2 k j) : EReal) := by
  unfold k0_pay7
  exact entry (φ₁ := .bf16) (φ₂ := .bf16) _ 2048 rfl rfl _ _ (ix2 i j) (fun k => ix2 k i) (fun k => ix2 k j)
    (fun _ _ hk x => match x with | ⟨0, _⟩ => hk | ⟨1, _⟩ => rfl) (fun _ _ hk x => match x with | ⟨0, _⟩ => hk | ⟨1, _⟩ => rfl)

/-- The first and the third branch run the same arithmetic. -/
theorem third_product (a b : Vec Ideal S2048x256 .bf16) : k0_pay1 a b = k0_pay4 a b := rfl

variable (x0 : Vec Ideal S2048x256 .bf16) (x1 : Vec Ideal S2048x512 .bf16) (x2 x3 x4 x5 : Vec Ideal S2048x256 .bf16)

theorem out6_apply (p : Fin 2) (u : Fin 1) (i : Fin 128) (j : Fin 256) :
    (out0_6 x0 x1 x2 x3 x4 x5 : S2x1x128x256.Idx → EReal) (ix4 p u i j)
      = ∑ k : Fin 2048, (x0 (ix2 k (hrow 256 p i rfl)) : EReal) * (x3 (ix2 k j) : EReal) := by
  unfold out0_6
  rw [View.ld_unit_zero (by decide), View.ld_unit_zero (by decide), Value.canon6_eq]
  exact (congrArg (k0_pay4 x0 x3) (show Value.ix6_0 (ix4 p u i j) = ix2 (hrow 256 p i rfl) j from
    funext fun a => Fin.ext (match a with | ⟨0, _⟩ => rfl | ⟨1, _⟩ => rfl))).trans (prod_narrow x0 x3 (hrow 256 p i rfl) j)

theorem out7_apply (p : Fin 2) (u : Fin 1) (i : Fin 256) (j : Fin 256) :
    (out0_7 x0 x1 x2 x3 x4 x5 : S2x1x256x256.Idx → EReal) (ix4 p u i j)
      = ∑ k : Fin 2048, (x1 (ix2 k (hrow 512 p i rfl)) : EReal) * (x4 (ix2 k j) : EReal) := by
  unfold out0_7
  rw [View.ld_unit_zero (by decide), View.ld_unit_zero (by decide), Value.canon7_eq]
  exact (congrArg (k0_pay7 x1 x4) (show Value.ix7_0 (ix4 p u i j) = ix2 (hrow 512 p i rfl) j from
    funext fun a => Fin.ext (match a with | ⟨0, _⟩ => rfl | ⟨1, _⟩ => rfl))).trans (prod_wide x1 x4 (hrow 512 p i rfl) j)

theorem out8_apply (p : Fin 2) (u : Fin 1) (i : Fin 128) (j : Fin 256) :
    (out0_8 x0 x1 x2 x3 x4 x5 : S2x1x128x256.Idx → EReal) (ix4 p u i j)
      = ∑ k : Fin 2048, (x2 (ix2 k (hrow 256 p i rfl)) : EReal) * (x5 (ix2 k j) : EReal) := by
  unfold out0_8
  rw [View.ld_unit_zero (by decide), View.ld_unit_zero (by decide), Value.canon8_eq]
  exact (congrArg (k0_pay4 x2 x5) (show Value.ix8_0 (ix4 p u i j) = ix2 (hrow 256 p i rfl) j from
    funext fun a => Fin.ext (match a with | ⟨0, _⟩ => rfl | ⟨1, _⟩ => rfl))).trans (prod_narrow x2 x5 (hrow 256 p i rfl) j)

/-! ## The blocks -/

variable (m : (ℓ : Loc nD τ sig) → Buf (Elt Ideal) ℓ) (c : Dev nD)

/-- The call's arguments on one device: the branches' rows and the gradients of their products. -/
abbrev oA : S2048x256.Idx → EReal := m ((c.tc : Thread nD τ).loc main_arg0)
abbrev oB : S2048x512.Idx → EReal := m ((c.tc : Thread nD τ).loc main_arg1)
abbrev oC : S2048x256.Idx → EReal := m ((c.tc : Thread nD τ).loc main_arg2)
abbrev yA : S2048x1024.Idx → EReal := m ((c.tc : Thread nD τ).loc main_arg3)
abbrev yB : S2048x1024.Idx → EReal := m ((c.tc : Thread nD τ).loc main_arg4)
abbrev yC : S2048x1024.Idx → EReal := m ((c.tc : Thread nD τ).loc main_arg5)

theorem blk0 (t : Fin cfg0.N) (k : Fin 2048) (i : Fin 256) : (iblk m c 0 t : S2048x256.Idx → EReal) (ix2 k i) = oA m c (ix2 k i) := by
  blk_ext [iblk, index0]
theorem blk1 (t : Fin cfg0.N) (k : Fin 2048) (i : Fin 512) : (iblk m c 1 t : S2048x512.Idx → EReal) (ix2 k i) = oB m c (ix2 k i) := by
  blk_ext [iblk, index1]
theorem blk2 (t : Fin cfg0.N) (k : Fin 2048) (i : Fin 256) : (iblk m c 2 t : S2048x256.Idx → EReal) (ix2 k i) = oC m c (ix2 k i) := by
  blk_ext [iblk, index2]

theorem blk3 (t : Fin cfg0.N) (k : Fin 2048) (j : Fin 256) (q : Fin 4) (hq : q.val = t.val) :
    (iblk m c 3 t : S2048x256.Idx → EReal) (ix2 k j) = yA m c (ix2 k (pcol q j)) := by
  blk_ext [iblk, index3]
  exact congrArg (fun n : ℕ => n * 256 + j.val) hq.symm
theorem blk4 (t : Fin cfg0.N) (k : Fin 2048) (j : Fin 256) (q : Fin 4) (hq : q.val = t.val) :
    (iblk m c 4 t : S2048x256.Idx → EReal) (ix2 k j) = yB m c (ix2 k (pcol q j)) := by
  blk_ext [iblk, index4]
  exact congrArg (fun n : ℕ => n * 256 + j.val) hq.symm
theorem blk5 (t : Fin cfg0.N) (k : Fin 2048) (j : Fin 256) (q : Fin 4) (hq : q.val = t.val) :
    (iblk m c 5 t : S2048x256.Idx → EReal) (ix2 k j) = yC m c (ix2 k (pcol q j)) := by
  blk_ext [iblk, index5]
  exact congrArg (fun n : ℕ => n * 256 + j.val) hq.symm

theorem place6 (t : Fin cfg0.N) (p : Fin 2) (u : Fin 1) (i : Fin 128) (j : Fin 256) : ∃ q : Fin 4,
    ((cfg0.win 6).blk t).view.emb (ix4 p u i j : S2x1x128x256.Idx) = (ix4 p q i j : S2x4x128x256.Idx) ∧ q.val = t.val := by
  refine ⟨⟨t.val, t.isLt⟩, ?_, rfl⟩
  blk_ext [index6]
theorem place7 (t : Fin cfg0.N) (p : Fin 2) (u : Fin 1) (i : Fin 256) (j : Fin 256) : ∃ q : Fin 4,
    ((cfg0.win 7).blk t).view.emb (ix4 p u i j : S2x1x256x256.Idx) = (ix4 p q i j : S2x4x256x256.Idx) ∧ q.val = t.val := by
  refine ⟨⟨t.val, t.isLt⟩, ?_, rfl⟩
  blk_ext [index7]
theorem place8 (t : Fin cfg0.N) (p : Fin 2) (u : Fin 1) (i : Fin 128) (j : Fin 256) : ∃ q : Fin 4,
    ((cfg0.win 8).blk t).view.emb (ix4 p u i j : S2x1x128x256.Idx) = (ix4 p q i j : S2x4x128x256.Idx) ∧ q.val = t.val := by
  refine ⟨⟨t.val, t.isLt⟩, ?_, rfl⟩
  blk_ext [index8]

theorem point6 (t : Fin cfg0.N) (y : S2x1x128x256.Idx) :
    (out0_6 (iblk m c 0 t) (iblk m c 1 t) (iblk m c 2 t) (iblk m c 3 t) (iblk m c 4 t) (iblk m c 5 t) : S2x1x128x256.Idx → EReal) y
      = narrow (oA m c) (yA m c) (((cfg0.win 6).blk t).view.emb y) := by
  obtain ⟨p, u, i, j, rfl⟩ : ∃ (p : Fin 2) (u : Fin 1) (i : Fin 128) (j : Fin 256), y = ix4 p u i j := ⟨y 0, y 1, y 2, y 3, eq_ix4 _⟩
  obtain ⟨q, h, hq⟩ := place6 t p u i j
  rw [h, out6_apply]
  exact Finset.sum_congr rfl fun k _ => congrArg₂ (HMul.hMul (α := EReal) (β := EReal)) (blk0 m c t k _) (blk3 m c t k j q hq)

theorem point7 (t : Fin cfg0.N) (y : S2x1x256x256.Idx) :
    (out0_7 (iblk m c 0 t) (iblk m c 1 t) (iblk m c 2 t) (iblk m c 3 t) (iblk m c 4 t) (iblk m c 5 t) : S2x1x256x256.Idx → EReal) y
      = wide (oB m c) (yB m c) (((cfg0.win 7).blk t).view.emb y) := by
  obtain ⟨p, u, i, j, rfl⟩ : ∃ (p : Fin 2) (u : Fin 1) (i : Fin 256) (j : Fin 256), y = ix4 p u i j := ⟨y 0, y 1, y 2, y 3, eq_ix4 _⟩
  obtain ⟨q, h, hq⟩ := place7 t p u i j
  rw [h, out7_apply]
  exact Finset.sum_congr rfl fun k _ => congrArg₂ (HMul.hMul (α := EReal) (β := EReal)) (blk1 m c t k _) (blk4 m c t k j q hq)

theorem point8 (t : Fin cfg0.N) (y : S2x1x128x256.Idx) :
    (out0_8 (iblk m c 0 t) (iblk m c 1 t) (iblk m c 2 t) (iblk m c 3 t) (iblk m c 4 t) (iblk m c 5 t) : S2x1x128x256.Idx → EReal) y
      = narrow (oC m c) (yC m c) (((cfg0.win 8).blk t).view.emb y) := by
  obtain ⟨p, u, i, j, rfl⟩ : ∃ (p : Fin 2) (u : Fin 1) (i : Fin 128) (j : Fin 256), y = ix4 p u i j := ⟨y 0, y 1, y 2, y 3, eq_ix4 _⟩
  obtain ⟨q, h, hq⟩ := place8 t p u i j
  rw [h, out8_apply]
  exact Finset.sum_congr rfl fun k _ => congrArg₂ (HMul.hMul (α := EReal) (β := EReal)) (blk2 m c t k _) (blk5 m c t k j q hq)

/-! ## The arrays after the run -/

theorem covers6 : (cfg0.win 6).Covers := by decide +kernel
theorem covers7 : (cfg0.win 7).Covers := by decide +kernel
theorem covers8 : (cfg0.win 8).Covers := by decide +kernel

theorem arr6 : ((dats m 0 c).arrAt 6 cfg0.N : S2x4x128x256.Idx → EReal) = narrow (oA m c) (yA m c) := by
  refine (dats m 0 c).arrAt_eq_of_covers 6 _ covers6 fun t hfl y => ?_
  blk_simp
  rw [after0_6]
  exact point6 m c t y

theorem arr7 : ((dats m 0 c).arrAt 7 cfg0.N : S2x4x256x256.Idx → EReal) = wide (oB m c) (yB m c) := by
  refine (dats m 0 c).arrAt_eq_of_covers 7 _ covers7 fun t hfl y => ?_
  blk_simp
  rw [after0_7]
  exact point7 m c t y

theorem arr8 : ((dats m 0 c).arrAt 8 cfg0.N : S2x4x128x256.Idx → EReal) = narrow (oC m c) (yC m c) := by
  refine (dats m 0 c).arrAt_eq_of_covers 8 _ covers8 fun t hfl y => ?_
  blk_simp
  rw [after0_8]
  exact point8 m c t y

/-! ## The reference's arrays -/

theorem ref_narrow (o : S2048x256.Idx → EReal) (y : S2048x1024.Idx → EReal) :
    (Cert.Reference14Ideal.Read.val_main_v8 (F := Ideal) o y : S2x4x128x256.Idx → EReal) = narrow o y := by
  funext i
  rw [Cert.Reference14Ideal.Read.val_main_v8_apply, Cert.Reference14Ideal.Read.val_main_v7_apply, Cert.Reference14Ideal.Read.val_main_v6_apply,
    Cert.Reference14Ideal.Read.val_main_v5_apply]
  refine (Cert.Reference14Ideal.Read.val_main_v4_apply o y _).trans (Finset.sum_congr rfl fun k _ => ?_)
  rw [Cert.Reference14Ideal.Read.val_main_v0_apply, Cert.Reference14Ideal.Read.val_main_v1_apply]
  have h0 : (i 0).val < 2 := (i 0).isLt
  have h1 : (i 1).val < 4 := (i 1).isLt
  have h2 : (i 2).val < 128 := (i 2).isLt
  have h3 : (i 3).val < 256 := (i 3).isLt
  refine (mul_comm _ _).trans (congrArg₂ (HMul.hMul (α := EReal) (β := EReal)) (congrArg o (funext fun x => Fin.ext ?_)) (congrArg y (funext fun x => Fin.ext ?_)))
  · match x with
    | ⟨0, _⟩ => rfl
    | ⟨1, _⟩ => show ((((i 0).val * 128 + (i 2).val) * 4 + (i 1).val) * 256 + (i 3).val) / 1024 = (i 0).val * 128 + (i 2).val; omega
  · match x with
    | ⟨0, _⟩ => rfl
    | ⟨1, _⟩ => show ((((i 0).val * 128 + (i 2).val) * 4 + (i 1).val) * 256 + (i 3).val) % 1024 = (i 1).val * 256 + (i 3).val; omega

theorem ref_wide (o : S2048x512.Idx → EReal) (y : S2048x1024.Idx → EReal) :
    (Cert.Reference14Ideal.Read.val_main_v17 (F := Ideal) o y : S2x4x256x256.Idx → EReal) = wide o y := by
  funext i
  rw [Cert.Reference14Ideal.Read.val_main_v17_apply, Cert.Reference14Ideal.Read.val_main_v16_apply, Cert.Reference14Ideal.Read.val_main_v15_apply,
    Cert.Reference14Ideal.Read.val_main_v14_apply]
  refine (Cert.Reference14Ideal.Read.val_main_v13_apply o y _).trans (Finset.sum_congr rfl fun k _ => ?_)
  rw [Cert.Reference14Ideal.Read.val_main_v9_apply, Cert.Reference14Ideal.Read.val_main_v10_apply]
  have h0 : (i 0).val < 2 := (i 0).isLt
  have h1 : (i 1).val < 4 := (i 1).isLt
  have h2 : (i 2).val < 256 := (i 2).isLt
  have h3 : (i 3).val < 256 := (i 3).isLt
  refine (mul_comm _ _).trans (congrArg₂ (HMul.hMul (α := EReal) (β := EReal)) (congrArg o (funext fun x => Fin.ext ?_)) (congrArg y (funext fun x => Fin.ext ?_)))
  · match x with
    | ⟨0, _⟩ => rfl
    | ⟨1, _⟩ => show ((((i 0).val * 256 + (i 2).val) * 4 + (i 1).val) * 256 + (i 3).val) / 1024 = (i 0).val * 256 + (i 2).val; omega
  · match x with
    | ⟨0, _⟩ => rfl
    | ⟨1, _⟩ => show ((((i 0).val * 256 + (i 2).val) * 4 + (i 1).val) * 256 + (i 3).val) % 1024 = (i 1).val * 256 + (i 3).val; omega

/-- The reference treats the first and the third branch alike. -/
theorem ref_third (o : S2048x256.Idx → EReal) (y : S2048x1024.Idx → EReal) :
    (Cert.Reference14Ideal.Read.val_main_v26 (F := Ideal) o y : S2x4x128x256.Idx → EReal) = narrow o y :=
  Eq.trans (b := Cert.Reference14Ideal.Read.val_main_v8 (F := Ideal) o y) rfl (ref_narrow o y)

end Cert.BrDw

end
-- ==== Proof.BrStep.lean ====
/- The branches' products and their gated sum, one grid point at a time: what the body leaves in the four results, as its own
   arithmetic on the blocks. -/
module

public import proofs.«01_k».proof.Proof.Gen.Kernel15Ideal.Value
public import Idealize.ShloMosaic.Lib.Pipeline.ValueKit.Geometry
public import Idealize.ShloMosaic.Lib.Pipeline.Value
public import Idealize.ShloMosaic.Lib.ValueIdx
public import Idealize.ShloMosaic.PureOps.Ideal.Laws

@[expose] public section

set_option maxRecDepth 16384

noncomputable section

namespace Cert.BrOut

open Cert.Kernel15Ideal Cert.Kernel15Ideal.Gen Idealize.ShloMosaic Idealize.ShloMosaic.TcCoe Idealize.SL.Sem
open Idealize.ShloMosaic.Tactic

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords)
  (a2 : Memref sig .tc .vmem S1024x256 .bf16) (h2 : a2.IsWhole) (a3 : Memref sig .tc .vmem S1024x256 .bf16) (h3 : a3.IsWhole)
  (a4 : Memref sig .tc .vmem S1024x256 .bf16) (h4 : a4.IsWhole) (a5 : Memref sig .tc .vmem S1024x256 .bf16) (h5 : a5.IsWhole)
  (a6 : Memref sig .tc .vmem S1024x512 .bf16) (h6 : a6.IsWhole) (a7 : Memref sig .tc .vmem S1024x256 .bf16) (h7 : a7.IsWhole)
  (a8 : Memref sig .tc .vmem S1x256x256 .bf16) (h8 : a8.IsWhole) (a9 : Memref sig .tc .vmem S1x512x256 .bf16) (h9 : a9.IsWhole)
  (a10 : Memref sig .tc .vmem S1x256x256 .bf16) (h10 : a10.IsWhole) (a11 : Memref sig .tc .vmem S1024x256 .f32) (h11 : a11.IsWhole)
  (a12 : Memref sig .tc .vmem S1024x256 .f32) (h12 : a12.IsWhole) (a13 : Memref sig .tc .vmem S1024x256 .f32) (h13 : a13.IsWhole)
  (a14 : Memref sig .tc .vmem S1024x256 .bf16) (h14 : a14.IsWhole)
  (x0 x1 x2 x3 : Vec F S1024x256 .bf16) (x4 : Vec F S1024x512 .bf16) (x5 : Vec F S1024x256 .bf16)
  (x6 : Vec F S1x256x256 .bf16) (x7 : Vec F S1x512x256 .bf16) (x8 : Vec F S1x256x256 .bf16)

/-- The first branch's product. -/
theorem left9 : out0_A_9 c i a2 h2 a3 h3 a4 h4 a5 h5 a6 h6 a7 h7 a8 h8 a9 h9 a10 h10 a11 h11 a12 h12 a13 h13 a14 h14 x0 x1 x2 x3 x4 x5 x6 x7 x8
    = k0_pay3 x3 x6 := by
  unfold out0_A_9
  rw [View.read_writes_eq_canon _ _ _
    (cover0_A_9 c i a2 h2 a3 h3 a4 h4 a5 h5 a6 h6 a7 h7 a8 h8 a9 h9 a10 h10 a11 h11 a12 h12 a13 h13 a14 h14 x0 x1 x2 x3 x4 x5 x6 x7 x8)]
  unfold kernelRun0_A
  dsimp only
  sl_unfold_words
  rw [View.canon_unit_zero zero2]
  simp only [View.readAt_eq_ld, h5.read_unread, h8.read_unread, View.ld_unit_zero (S := S1024x256) zero2,
    View.ld_unit_zero (S := S1x256x256) zero3]

/-- The second branch's product. -/
theorem left10 : out0_A_10 c i a2 h2 a3 h3 a4 h4 a5 h5 a6 h6 a7 h7 a8 h8 a9 h9 a10 h10 a11 h11 a12 h12 a13 h13 a14 h14 x0 x1 x2 x3 x4 x5 x6 x7 x8
    = k0_pay5 x4 x7 := by
  unfold out0_A_10
  rw [View.read_writes_eq_canon _ _ _
    (cover0_A_10 c i a2 h2 a3 h3 a4 h4 a5 h5 a6 h6 a7 h7 a8 h8 a9 h9 a10 h10 a11 h11 a12 h12 a13 h13 a14 h14 x0 x1 x2 x3 x4 x5 x6 x7 x8)]
  unfold kernelRun0_A
  dsimp only
  sl_unfold_words
  rw [View.canon_unit_zero zero2]
  simp only [View.readAt_eq_ld, h6.read_unread, h9.read_unread, View.ld_unit_zero (S := S1024x512) zero2,
    View.ld_unit_zero (S := S1x512x256) zero3]

/-- The third branch's product. -/
theorem left11 : out0_A_11 c i a2 h2 a3 h3 a4 h4 a5 h5 a6 h6 a7 h7 a8 h8 a9 h9 a10 h10 a11 h11 a12 h12 a13 h13 a14 h14 x0 x1 x2 x3 x4 x5 x6 x7 x8
    = k0_pay1 x5 x8 := by
  unfold out0_A_11
  rw [View.read_writes_eq_canon _ _ _
    (cover0_A_11 c i a2 h2 a3 h3 a4 h4 a5 h5 a6 h6 a7 h7 a8 h8 a9 h9 a10 h10 a11 h11 a12 h12 a13 h13 a14 h14 x0 x1 x2 x3 x4 x5 x6 x7 x8)]
  unfold kernelRun0_A
  dsimp only
  sl_unfold_words
  rw [View.canon_unit_zero zero2]
  simp only [View.readAt_eq_ld, h7.read_unread, h10.read_unread, View.ld_unit_zero (S := S1024x256) zero2,
    View.ld_unit_zero (S := S1x256x256) zero3]

/-- The gated sum. -/
theorem left12 : out0_A_12 c i a2 h2 a3 h3 a4 h4 a5 h5 a6 h6 a7 h7 a8 h8 a9 h9 a10 h10 a11 h11 a12 h12 a13 h13 a14 h14 x0 x1 x2 x3 x4 x5 x6 x7 x8
    = k0_pay2 (k0_pay4 x3 x6 x0) (k0_pay6 x4 x7 x1) x5 x8 x2 := by
  unfold out0_A_12
  rw [View.read_writes_eq_canon _ _ _
    (cover0_A_12 c i a2 h2 a3 h3 a4 h4 a5 h5 a6 h6 a7 h7 a8 h8 a9 h9 a10 h10 a11 h11 a12 h12 a13 h13 a14 h14 x0 x1 x2 x3 x4 x5 x6 x7 x8)]
  unfold kernelRun0_A
  dsimp only
  sl_unfold_words
  rw [View.canon_unit_zero zero2]
  simp only [View.readAt_eq_ld, h2.read_unread, h3.read_unread, h4.read_unread, h5.read_unread, h6.read_unread, h7.read_unread, h8.read_unread,
    h9.read_unread, h10.read_unread, View.ld_unit_zero (S := S1024x256) zero2, View.ld_unit_zero (S := S1024x512) zero2,
    View.ld_unit_zero (S := S1x256x256) zero3, View.ld_unit_zero (S := S1x512x256) zero3]

end Cert.BrOut

end
-- ==== Proof.BrOutRef.lean ====
/- The three branches' products and their gated sum, and the reference's four arrays, which are these. -/
module

public import proofs.«01_k».proof.Proof.Gen.Reference15Ideal.Run
public import proofs.«01_k».proof.Proof.Gen.Reference15Ideal.Read
public import Idealize.ShloMosaic.Lib.ValueIdx
public import Idealize.ShloMosaic.PureOps.Ideal.Laws

@[expose] public section

set_option maxRecDepth 16384

noncomputable section

namespace Cert.BrOut

open Idealize.ShloMosaic Idealize.ShloMosaic.ValueIdx
open Cert.Reference15Ideal Cert.Reference15Ideal.Read Cert.Reference15Ideal.Gen

/-- A column's part of the matrix, which comes in four parts of 256 columns, and its place there. -/
def part (J : Fin 1024) : Fin 4 := ⟨J.val / 256, by omega⟩
def within (J : Fin 1024) : Fin 256 := ⟨J.val % 256, by omega⟩

/-- A branch's product with its matrix, of 256 or of 512 rows. -/
def narrow (o : S2048x256.Idx → EReal) (w : S4x256x256.Idx → EReal) : S2048x1024.Idx → EReal := fun i =>
  ∑ k : Fin 256, o (ix2 (i 0) k) * w (ix3 (part (i 1)) k (within (i 1)))
def wide (o : S2048x512.Idx → EReal) (w : S4x512x256.Idx → EReal) : S2048x1024.Idx → EReal := fun i =>
  ∑ k : Fin 512, o (ix2 (i 0) k) * w (ix3 (part (i 1)) k (within (i 1)))

/-- The logistic function. -/
def sigma (z : EReal) : EReal := Ideal.div (Ideal.ofBits .f32 0x3F800000#32) (Ideal.ofBits .f32 0x3F800000#32 + Ideal.exp (-z))

/-- The columns of the projection that gate branch `n` are the 1024 from `3072 + 1024 n`. -/
def gateCol (n : Fin 3) (J : Fin 1024) : Fin 6272 := ⟨3072 + 1024 * n.val + J.val, by omega⟩

/-- The branches' gated sum. -/
def merged (p : S2048x6272.Idx → EReal) (a b c : S2048x1024.Idx → EReal) : S2048x1024.Idx → EReal := fun i =>
  sigma (p (ix2 (i 0) (gateCol 0 (i 1)))) * a i + sigma (p (ix2 (i 0) (gateCol 1 (i 1)))) * b i + sigma (p (ix2 (i 0) (gateCol 2 (i 1)))) * c i

theorem ref_narrow (o : S2048x256.Idx → EReal) (w : S4x256x256.Idx → EReal) :
    (val_main_v10 (F := Ideal) o w : S2048x1024.Idx → EReal) = narrow o w := by
  funext i
  have h1 : (i 1).val < 1024 := (i 1).isLt
  rw [val_main_v10_apply]
  refine Finset.sum_congr rfl fun k _ => ?_
  have hk : k.val < 256 := k.isLt
  rw [val_main_v6_apply, val_main_v9_apply, val_main_v8_apply, val_main_v7_apply]
  refine congrArg₂ (HMul.hMul (α := EReal) (β := EReal)) (congrArg o (funext fun a => Fin.ext (match a with | ⟨0, _⟩ => rfl | ⟨1, _⟩ => rfl)))
    (congrArg w (funext fun a => Fin.ext ?_))
  match a with
  | ⟨0, _⟩ => show (k.val * 1024 + (i 1).val) / 256 % 4 = (i 1).val / 256; omega
  | ⟨1, _⟩ => show (k.val * 1024 + (i 1).val) / 1024 = k.val; omega
  | ⟨2, _⟩ => show (k.val * 1024 + (i 1).val) % 256 = (i 1).val % 256; omega

theorem ref_wide (o : S2048x512.Idx → EReal) (w : S4x512x256.Idx → EReal) :
    (val_main_v15 (F := Ideal) o w : S2048x1024.Idx → EReal) = wide o w := by
  funext i
  have h1 : (i 1).val < 1024 := (i 1).isLt
  rw [val_main_v15_apply]
  refine Finset.sum_congr rfl fun k _ => ?_
  have hk : k.val < 512 := k.isLt
  rw [val_main_v11_apply, val_main_v14_apply, val_main_v13_apply, val_main_v12_apply]
  refine congrArg₂ (HMul.hMul (α := EReal) (β := EReal)) (congrArg o (funext fun a => Fin.ext (match a with | ⟨0, _⟩ => rfl | ⟨1, _⟩ => rfl)))
    (congrArg w (funext fun a => Fin.ext ?_))
  match a with
  | ⟨0, _⟩ => show (k.val * 1024 + (i 1).val) / 256 % 4 = (i 1).val / 256; omega
  | ⟨1, _⟩ => show (k.val * 1024 + (i 1).val) / 1024 = k.val; omega
  | ⟨2, _⟩ => show (k.val * 1024 + (i 1).val) % 256 = (i 1).val % 256; omega

/-- The reference treats the first and the third branch alike. -/
theorem ref_third (o : S2048x256.Idx → EReal) (w : S4x256x256.Idx → EReal) :
    (val_main_v20 (F := Ideal) o w : S2048x1024.Idx → EReal) = narrow o w :=
  Eq.trans (b := val_main_v10 (F := Ideal) o w) rfl (ref_narrow o w)

variable (p : S2048x6272.Idx → EReal)

theorem ref_gate0 (i : S2048x1024.Idx) : val_main_v26 (F := Ideal) p i = sigma (p (ix2 (i 0) (gateCol 0 (i 1)))) := by
  rw [val_main_v26_apply, val_main_v25_apply, val_main_v24_apply, val_main_v23_apply, val_main_v22_apply, val_main_v21_apply, val_main_v2_apply,
    val_main_v0_apply, show idx_main_v2 i = ix2 (i 0) (gateCol 0 (i 1)) from funext fun a => Fin.ext (match a with | ⟨0, _⟩ => rfl | ⟨1, _⟩ => rfl)]
  rfl

theorem ref_gate1 (i : S2048x1024.Idx) : val_main_v33 (F := Ideal) p i = sigma (p (ix2 (i 0) (gateCol 1 (i 1)))) := by
  rw [val_main_v33_apply, val_main_v32_apply, val_main_v31_apply, val_main_v30_apply, val_main_v29_apply, val_main_v28_apply, val_main_v3_apply,
    val_main_v0_apply, show idx_main_v3 i = ix2 (i 0) (gateCol 1 (i 1)) from funext fun a => Fin.ext (match a with | ⟨0, _⟩ => rfl | ⟨1, _⟩ => rfl)]
  rfl

theorem ref_gate2 (i : S2048x1024.Idx) : val_main_v41 (F := Ideal) p i = sigma (p (ix2 (i 0) (gateCol 2 (i 1)))) := by
  rw [val_main_v41_apply, val_main_v40_apply, val_main_v39_apply, val_main_v38_apply, val_main_v37_apply, val_main_v36_apply, val_main_v4_apply,
    val_main_v0_apply, show idx_main_v4 i = ix2 (i 0) (gateCol 2 (i 1)) from funext fun a => Fin.ext (match a with | ⟨0, _⟩ => rfl | ⟨1, _⟩ => rfl)]
  rfl

theorem ref_merged (oa : S2048x256.Idx → EReal) (ob : S2048x512.Idx → EReal) (oc : S2048x256.Idx → EReal)
    (wa : S4x256x256.Idx → EReal) (wb : S4x512x256.Idx → EReal) (wc : S4x256x256.Idx → EReal) :
    (val_main_v44 (F := Ideal) p oa ob oc wa wb wc : S2048x1024.Idx → EReal) = merged p (narrow oa wa) (wide ob wb) (narrow oc wc) := by
  funext i
  rw [val_main_v44_apply, val_main_v43_apply, val_main_v42_apply, val_main_v35_apply, val_main_v34_apply, val_main_v27_apply,
    ref_gate0, ref_gate1, ref_gate2, ref_narrow, ref_wide, ref_third]
  rfl

end Cert.BrOut

end
-- ==== Proof.BrOut.lean ====
/- The branches' products and their gated sum: the kernel's four result arrays, entry by entry. -/
module

public import proofs.«01_k».proof.Proof.BrStep
public import proofs.«01_k».proof.Proof.BrOutRef
public import proofs.«01_k».proof.Proof.DhRef
public import proofs.«01_k».proof.Proof.Products

@[expose] public section

set_option maxRecDepth 16384

noncomputable section

namespace Cert.BrOut

open Cert.Kernel15Ideal Cert.Kernel15Ideal.Gen Idealize.ShloMosaic Idealize.ShloMosaic.TcCoe Idealize.SL.Sem
open Idealize.ShloMosaic.ValueIdx Cert.Products
open Cert.Dh (zero_word)

/-! ## The body's arithmetic, entry by entry -/

theorem prod_narrow (a : Vec Ideal S1024x256 .bf16) (b : Vec Ideal S1x256x256 .bf16) (i : Fin 1024) (j : Fin 256) :
    (k0_pay3 a b : S1024x256.Idx → EReal) (ix2 i j) = ∑ k : Fin 256, (a (ix2 i k) : EReal) * (b (ix3 0 k j) : EReal) := by
  unfold k0_pay3
  refine (entry (φ₁ := .bf16) (φ₂ := .bf16) dot_S1024x256_S256x256_S1024x256_1_0_0_1_n_n 256 rfl rfl _ _ (ix2 i j) (fun k => ix2 i k) (fun k => ix2 k j)
    (fun _ _ hk x => match x with | ⟨0, _⟩ => rfl | ⟨1, _⟩ => hk) (fun _ _ hk x => match x with | ⟨0, _⟩ => hk | ⟨1, _⟩ => rfl)).trans
    (Finset.sum_congr rfl fun k _ => congrArg (fun s : EReal => (a (ix2 i k) : EReal) * s) (shapeCast_apply _ _ _ (ix3 0 k j) ?_))
  rw [Shape.rowMajor_val_two, Shape.rowMajor_val_three]
  show (0 * 256 + k.val) * 256 + j.val = k.val * 256 + j.val
  omega

theorem prod_wide (a : Vec Ideal S1024x512 .bf16) (b : Vec Ideal S1x512x256 .bf16) (i : Fin 1024) (j : Fin 256) :
    (k0_pay5 a b : S1024x256.Idx → EReal) (ix2 i j) = ∑ k : Fin 512, (a (ix2 i k) : EReal) * (b (ix3 0 k j) : EReal) := by
  unfold k0_pay5
  refine (entry (φ₁ := .bf16) (φ₂ := .bf16) dot_S1024x512_S512x256_S1024x256_1_0_0_1_n_n 512 rfl rfl _ _ (ix2 i j) (fun k => ix2 i k) (fun k => ix2 k j)
    (fun _ _ hk x => match x with | ⟨0, _⟩ => rfl | ⟨1, _⟩ => hk) (fun _ _ hk x => match x with | ⟨0, _⟩ => hk | ⟨1, _⟩ => rfl)).trans
    (Finset.sum_congr rfl fun k _ => congrArg (fun s : EReal => (a (ix2 i k) : EReal) * s) (shapeCast_apply _ _ _ (ix3 0 k j) ?_))
  rw [Shape.rowMajor_val_two, Shape.rowMajor_val_three]
  show (0 * 512 + k.val) * 256 + j.val = k.val * 256 + j.val
  omega

/-- The first and the third branch's products are one function of their operands. -/
theorem third_product (a : Vec Ideal S1024x256 .bf16) (b : Vec Ideal S1x256x256 .bf16) : k0_pay1 a b = k0_pay3 a b := rfl

/-- The gate as the body computes it. -/
theorem sigma_word (z : EReal) : Ideal.div (Ideal.ofBits .f32 0x3F800000#32)
    (Ideal.ofBits .f32 0x3F800000#32 + Ideal.exp ((FloatOps.ofBits (F := Ideal) .f32 0x00000000#32 : EReal) - z)) = sigma z := by
  rw [zero_word, zero_sub]
  rfl

theorem gated_first (a : Vec Ideal S1024x256 .bf16) (b : Vec Ideal S1x256x256 .bf16) (g : Vec Ideal S1024x256 .bf16) (y : S1024x256.Idx) :
    (k0_pay4 a b g : S1024x256.Idx → EReal) y = sigma (g y) * (k0_pay3 a b : S1024x256.Idx → EReal) y := by
  unfold k0_pay4
  generalize k0_pay3 a b = q
  exact congrArg (fun s : EReal => s * (q y : EReal)) (sigma_word (g y))

theorem gated_second (a : Vec Ideal S1024x512 .bf16) (b : Vec Ideal S1x512x256 .bf16) (g : Vec Ideal S1024x256 .bf16) (y : S1024x256.Idx) :
    (k0_pay6 a b g : S1024x256.Idx → EReal) y = sigma (g y) * (k0_pay5 a b : S1024x256.Idx → EReal) y := by
  unfold k0_pay6
  generalize k0_pay5 a b = q
  exact congrArg (fun s : EReal => s * (q y : EReal)) (sigma_word (g y))

theorem gated_sum (u v : FVec Ideal S1024x256 .f32) (a : Vec Ideal S1024x256 .bf16) (b : Vec Ideal S1x256x256 .bf16) (g : Vec Ideal S1024x256 .bf16)
    (y : S1024x256.Idx) :
    (k0_pay2 u v a b g : S1024x256.Idx → EReal) y = u y + v y + sigma (g y) * (k0_pay3 a b : S1024x256.Idx → EReal) y := by
  unfold k0_pay2
  rw [third_product]
  generalize k0_pay3 a b = q
  exact congrArg (fun s : EReal => (u y : EReal) + (v y : EReal) + s * (q y : EReal)) (sigma_word (g y))

/-! ## The blocks -/

variable (m : (ℓ : Loc nD τ sig) → Buf (Elt Ideal) ℓ) (c : Dev nD)

/-- The call's arguments on one device: the projection, the branches' rows and their matrices. -/
abbrev pP : S2048x6272.Idx → EReal := m ((c.tc : Thread nD τ).loc main_arg0)
abbrev oA : S2048x256.Idx → EReal := m ((c.tc : Thread nD τ).loc main_arg1)
abbrev oB : S2048x512.Idx → EReal := m ((c.tc : Thread nD τ).loc main_arg2)
abbrev oC : S2048x256.Idx → EReal := m ((c.tc : Thread nD τ).loc main_arg3)
abbrev wA : S4x256x256.Idx → EReal := m ((c.tc : Thread nD τ).loc main_arg4)
abbrev wB : S4x512x256.Idx → EReal := m ((c.tc : Thread nD τ).loc main_arg5)
abbrev wC : S4x256x256.Idx → EReal := m ((c.tc : Thread nD τ).loc main_arg6)

theorem index0 (t : Fin cfg0.N) : win0_0.index t = ![t.val / 4, 12 + t.val % 4] := by revert t; decide
theorem index1 (t : Fin cfg0.N) : win0_1.index t = ![t.val / 4, 16 + t.val % 4] := by revert t; decide
theorem index2 (t : Fin cfg0.N) : win0_2.index t = ![t.val / 4, 20 + t.val % 4] := by revert t; decide
theorem index3 (t : Fin cfg0.N) : win0_3.index t = ![t.val / 4, 0] := by revert t; decide
theorem index4 (t : Fin cfg0.N) : win0_4.index t = ![t.val / 4, 0] := by revert t; decide
theorem index5 (t : Fin cfg0.N) : win0_5.index t = ![t.val / 4, 0] := by revert t; decide
theorem index6 (t : Fin cfg0.N) : win0_6.index t = ![t.val % 4, 0, 0] := by revert t; decide
theorem index7 (t : Fin cfg0.N) : win0_7.index t = ![t.val % 4, 0, 0] := by revert t; decide
theorem index8 (t : Fin cfg0.N) : win0_8.index t = ![t.val % 4, 0, 0] := by revert t; decide
theorem index9 (t : Fin cfg0.N) : win0_9.index t = ![t.val / 4, t.val % 4] := by revert t; decide
theorem index10 (t : Fin cfg0.N) : win0_10.index t = ![t.val / 4, t.val % 4] := by revert t; decide
theorem index11 (t : Fin cfg0.N) : win0_11.index t = ![t.val / 4, t.val % 4] := by revert t; decide
theorem index12 (t : Fin cfg0.N) : win0_12.index t = ![t.val / 4, t.val % 4] := by revert t; decide

/-- The place of an entry of a result's block. -/
def Placed (t : Fin cfg0.N) (i : Fin 1024) (j : Fin 256) (I : Fin 2048) (J : Fin 1024) : Prop :=
  I.val = t.val / 4 * 1024 + i.val ∧ J.val = t.val % 4 * 256 + j.val

variable {t : Fin cfg0.N} {i : Fin 1024} {j : Fin 256} {I : Fin 2048} {J : Fin 1024}

theorem Placed.part (h : Placed t i j I J) : (part J).val = t.val % 4 := by
  have := h.2
  show J.val / 256 = _
  omega
theorem Placed.within (h : Placed t i j I J) : within J = j := by
  have := h.2
  refine Fin.ext ?_
  show J.val % 256 = _
  omega

theorem blk0 (h : Placed t i j I J) : (X0_0 m c t : S1024x256.Idx → EReal) (ix2 i j) = pP m c (ix2 I (gateCol 0 J)) := by
  obtain ⟨hI, hJ⟩ := h
  unfold X0_0 Pipeline.Window.fill
  rw [dif_pos (moved0_0 t _)]
  blk_ext [iblk, index0]
  · exact hI.symm
  · show (12 + t.val % 4) * 256 + j.val = 3072 + 1024 * 0 + J.val
    omega
theorem blk1 (h : Placed t i j I J) : (X0_1 m c t : S1024x256.Idx → EReal) (ix2 i j) = pP m c (ix2 I (gateCol 1 J)) := by
  obtain ⟨hI, hJ⟩ := h
  unfold X0_1 Pipeline.Window.fill
  rw [dif_pos (moved0_1 t _)]
  blk_ext [iblk, index1]
  · exact hI.symm
  · show (16 + t.val % 4) * 256 + j.val = 3072 + 1024 * 1 + J.val
    omega
theorem blk2 (h : Placed t i j I J) : (X0_2 m c t : S1024x256.Idx → EReal) (ix2 i j) = pP m c (ix2 I (gateCol 2 J)) := by
  obtain ⟨hI, hJ⟩ := h
  unfold X0_2 Pipeline.Window.fill
  rw [dif_pos (moved0_2 t _)]
  blk_ext [iblk, index2]
  · exact hI.symm
  · show (20 + t.val % 4) * 256 + j.val = 3072 + 1024 * 2 + J.val
    omega

theorem blk3 (k : Fin 256) (hI : I.val = t.val / 4 * 1024 + i.val) : (iblk m c 3 t : S1024x256.Idx → EReal) (ix2 i k) = oA m c (ix2 I k) := by
  blk_ext [iblk, index3]
  exact hI.symm
theorem blk4 (k : Fin 512) (hI : I.val = t.val / 4 * 1024 + i.val) : (iblk m c 4 t : S1024x512.Idx → EReal) (ix2 i k) = oB m c (ix2 I k) := by
  blk_ext [iblk, index4]
  exact hI.symm
theorem blk5 (k : Fin 256) (hI : I.val = t.val / 4 * 1024 + i.val) : (iblk m c 5 t : S1024x256.Idx → EReal) (ix2 i k) = oC m c (ix2 I k) := by
  blk_ext [iblk, index5]
  exact hI.symm

theorem blk6 (k j : Fin 256) (q : Fin 4) (hq : q.val = t.val % 4) : (iblk m c 6 t : S1x256x256.Idx → EReal) (ix3 0 k j) = wA m c (ix3 q k j) := by
  blk_ext [iblk, index6]
  exact hq.symm
theorem blk7 (k : Fin 512) (j : Fin 256) (q : Fin 4) (hq : q.val = t.val % 4) :
    (iblk m c 7 t : S1x512x256.Idx → EReal) (ix3 0 k j) = wB m c (ix3 q k j) := by
  blk_ext [iblk, index7]
  exact hq.symm
theorem blk8 (k j : Fin 256) (q : Fin 4) (hq : q.val = t.val % 4) : (iblk m c 8 t : S1x256x256.Idx → EReal) (ix3 0 k j) = wC m c (ix3 q k j) := by
  blk_ext [iblk, index8]
  exact hq.symm

theorem place9 (t : Fin cfg0.N) (i : Fin 1024) (j : Fin 256) : ∃ (I : Fin 2048) (J : Fin 1024),
    ((cfg0.win 9).blk t).view.emb (ix2 i j : S1024x256.Idx) = (ix2 I J : S2048x1024.Idx) ∧ Placed t i j I J := by
  have ht : t.val < 8 := t.isLt
  refine ⟨⟨t.val / 4 * 1024 + i.val, by omega⟩, ⟨t.val % 4 * 256 + j.val, by omega⟩, ?_, rfl, rfl⟩
  blk_ext [index9]
theorem place10 (t : Fin cfg0.N) (i : Fin 1024) (j : Fin 256) : ∃ (I : Fin 2048) (J : Fin 1024),
    ((cfg0.win 10).blk t).view.emb (ix2 i j : S1024x256.Idx) = (ix2 I J : S2048x1024.Idx) ∧ Placed t i j I J := by
  have ht : t.val < 8 := t.isLt
  refine ⟨⟨t.val / 4 * 1024 + i.val, by omega⟩, ⟨t.val % 4 * 256 + j.val, by omega⟩, ?_, rfl, rfl⟩
  blk_ext [index10]
theorem place11 (t : Fin cfg0.N) (i : Fin 1024) (j : Fin 256) : ∃ (I : Fin 2048) (J : Fin 1024),
    ((cfg0.win 11).blk t).view.emb (ix2 i j : S1024x256.Idx) = (ix2 I J : S2048x1024.Idx) ∧ Placed t i j I J := by
  have ht : t.val < 8 := t.isLt
  refine ⟨⟨t.val / 4 * 1024 + i.val, by omega⟩, ⟨t.val % 4 * 256 + j.val, by omega⟩, ?_, rfl, rfl⟩
  blk_ext [index11]
theorem place12 (t : Fin cfg0.N) (i : Fin 1024) (j : Fin 256) : ∃ (I : Fin 2048) (J : Fin 1024),
    ((cfg0.win 12).blk t).view.emb (ix2 i j : S1024x256.Idx) = (ix2 I J : S2048x1024.Idx) ∧ Placed t i j I J := by
  have ht : t.val < 8 := t.isLt
  refine ⟨⟨t.val / 4 * 1024 + i.val, by omega⟩, ⟨t.val % 4 * 256 + j.val, by omega⟩, ?_, rfl, rfl⟩
  blk_ext [index12]

/-- The three products of a point, in the arrays' own places. -/
theorem product_a (h : Placed t i j I J) :
    (k0_pay3 (iblk m c 3 t) (iblk m c 6 t) : S1024x256.Idx → EReal) (ix2 i j) = narrow (oA m c) (wA m c) (ix2 I J) := by
  rw [prod_narrow]
  refine Finset.sum_congr rfl fun k _ => congrArg₂ (HMul.hMul (α := EReal) (β := EReal)) (blk3 m c k h.1) ((blk6 m c k j (part J) h.part).trans ?_)
  exact congrArg (fun q => wA m c (ix3 (part J) k q)) h.within.symm
theorem product_b (h : Placed t i j I J) :
    (k0_pay5 (iblk m c 4 t) (iblk m c 7 t) : S1024x256.Idx → EReal) (ix2 i j) = wide (oB m c) (wB m c) (ix2 I J) := by
  rw [prod_wide]
  refine Finset.sum_congr rfl fun k _ => congrArg₂ (HMul.hMul (α := EReal) (β := EReal)) (blk4 m c k h.1) ((blk7 m c k j (part J) h.part).trans ?_)
  exact congrArg (fun q => wB m c (ix3 (part J) k q)) h.within.symm
theorem product_c (h : Placed t i j I J) :
    (k0_pay3 (iblk m c 5 t) (iblk m c 8 t) : S1024x256.Idx → EReal) (ix2 i j) = narrow (oC m c) (wC m c) (ix2 I J) := by
  rw [prod_narrow]
  refine Finset.sum_congr rfl fun k _ => congrArg₂ (HMul.hMul (α := EReal) (β := EReal)) (blk5 m c k h.1) ((blk8 m c k j (part J) h.part).trans ?_)
  exact congrArg (fun q => wC m c (ix3 (part J) k q)) h.within.symm

theorem point9 (t : Fin cfg0.N) (y : S1024x256.Idx) :
    (k0_pay3 (iblk m c 3 t) (iblk m c 6 t) : S1024x256.Idx → EReal) y = narrow (oA m c) (wA m c) (((cfg0.win 9).blk t).view.emb y) := by
  obtain ⟨i, j, rfl⟩ : ∃ (i : Fin 1024) (j : Fin 256), y = ix2 i j := ⟨y 0, y 1, eq_ix2 _⟩
  obtain ⟨I, J, h, hp⟩ := place9 t i j
  rw [h]
  exact product_a m c hp
theorem point10 (t : Fin cfg0.N) (y : S1024x256.Idx) :
    (k0_pay5 (iblk m c 4 t) (iblk m c 7 t) : S1024x256.Idx → EReal) y = wide (oB m c) (wB m c) (((cfg0.win 10).blk t).view.emb y) := by
  obtain ⟨i, j, rfl⟩ : ∃ (i : Fin 1024) (j : Fin 256), y = ix2 i j := ⟨y 0, y 1, eq_ix2 _⟩
  obtain ⟨I, J, h, hp⟩ := place10 t i j
  rw [h]
  exact product_b m c hp
theorem point11 (t : Fin cfg0.N) (y : S1024x256.Idx) :
    (k0_pay1 (iblk m c 5 t) (iblk m c 8 t) : S1024x256.Idx → EReal) y = narrow (oC m c) (wC m c) (((cfg0.win 11).blk t).view.emb y) := by
  obtain ⟨i, j, rfl⟩ : ∃ (i : Fin 1024) (j : Fin 256), y = ix2 i j := ⟨y 0, y 1, eq_ix2 _⟩
  obtain ⟨I, J, h, hp⟩ := place11 t i j
  rw [h, third_product]
  exact product_c m c hp

theorem point12 (t : Fin cfg0.N) (y : S1024x256.Idx) :
    (k0_pay2 (k0_pay4 (iblk m c 3 t) (iblk m c 6 t) (X0_0 m c t)) (k0_pay6 (iblk m c 4 t) (iblk m c 7 t) (X0_1 m c t))
        (iblk m c 5 t) (iblk m c 8 t) (X0_2 m c t) : S1024x256.Idx → EReal) y
      = merged (pP m c) (narrow (oA m c) (wA m c)) (wide (oB m c) (wB m c)) (narrow (oC m c) (wC m c)) (((cfg0.win 12).blk t).view.emb y) := by
  obtain ⟨i, j, rfl⟩ : ∃ (i : Fin 1024) (j : Fin 256), y = ix2 i j := ⟨y 0, y 1, eq_ix2 _⟩
  obtain ⟨I, J, h, hp⟩ := place12 t i j
  rw [h, gated_sum, gated_first, gated_second]
  refine congrArg₂ (HAdd.hAdd (α := EReal) (β := EReal)) (congrArg₂ (HAdd.hAdd (α := EReal) (β := EReal)) ?_ ?_) ?_
  · exact congrArg₂ (HMul.hMul (α := EReal) (β := EReal)) (congrArg sigma (blk0 m c hp)) (product_a m c hp)
  · exact congrArg₂ (HMul.hMul (α := EReal) (β := EReal)) (congrArg sigma (blk1 m c hp)) (product_b m c hp)
  · exact congrArg₂ (HMul.hMul (α := EReal) (β := EReal)) (congrArg sigma (blk2 m c hp)) (product_c m c hp)

/-! ## The arrays after the run -/

theorem covers9 : (cfg0.win 9).Covers := by decide +kernel
theorem covers10 : (cfg0.win 10).Covers := by decide +kernel
theorem covers11 : (cfg0.win 11).Covers := by decide +kernel
theorem covers12 : (cfg0.win 12).Covers := by decide +kernel

theorem arr9 : ((dats m 0 c).arrAt 9 cfg0.N : S2048x1024.Idx → EReal) = narrow (oA m c) (wA m c) := by
  refine (dats m 0 c).arrAt_eq_of_covers 9 _ covers9 fun t hfl y => ?_
  blk_simp
  rw [after0_9]
  unfold outsAt0
  dsimp only
  rw [left9]
  exact point9 m c t y
theorem arr10 : ((dats m 0 c).arrAt 10 cfg0.N : S2048x1024.Idx → EReal) = wide (oB m c) (wB m c) := by
  refine (dats m 0 c).arrAt_eq_of_covers 10 _ covers10 fun t hfl y => ?_
  blk_simp
  rw [after0_10]
  unfold outsAt0
  dsimp only
  rw [left10]
  exact point10 m c t y
theorem arr11 : ((dats m 0 c).arrAt 11 cfg0.N : S2048x1024.Idx → EReal) = narrow (oC m c) (wC m c) := by
  refine (dats m 0 c).arrAt_eq_of_covers 11 _ covers11 fun t hfl y => ?_
  blk_simp
  rw [after0_11]
  unfold outsAt0
  dsimp only
  rw [left11]
  exact point11 m c t y
theorem arr12 : ((dats m 0 c).arrAt 12 cfg0.N : S2048x1024.Idx → EReal)
    = merged (pP m c) (narrow (oA m c) (wA m c)) (wide (oB m c) (wB m c)) (narrow (oC m c) (wC m c)) := by
  refine (dats m 0 c).arrAt_eq_of_covers 12 _ covers12 fun t hfl y => ?_
  blk_simp
  rw [after0_12]
  unfold outsAt0
  dsimp only
  rw [left12]
  exact point12 m c t y

end Cert.BrOut

end
-- ==== Proof.FeedBr.lean ====
/- The mixer's branches: the two programs leave their arguments alone, and end with the references' arrays. -/
module

public import proofs.«01_k».proof.Defs
public import proofs.«01_k».proof.Proof.BrDw
public import proofs.«01_k».proof.Proof.BrOut
public import proofs.«01_k».proof.Proof.Gen.Kernel14
public import proofs.«01_k».proof.Proof.Gen.Kernel15
public import proofs.«01_k».proof.Proof.Gen.Reference14Ideal.Run
public import Idealize.ShloMosaic.Lib.Quiescent

@[expose] public section

noncomputable section

namespace Cert.Feed

open Idealize.ShloMosaic Idealize.SL.Sem

/-- The two programs run the same body. -/
theorem body14 : @Cert.Kernel14.defs Bits _ Cert.Kernel14.Gen.facts = @Cert.Kernel14Ideal.defs Bits _ Cert.Kernel14Ideal.Gen.facts := by
  refine congrArg (Pipeline.defs _) (congrArg Defs.onTc (funext fun l => funext fun x => ?_))
  match l, x with
  | 0, x => rfl

theorem frameP14 : @Cert.quiescent_Kernel14 Cert.Kernel14.Gen.facts := fun m ρ _ =>
  (congrArg (fun d => θ_run d (onTc (τ := Cert.Kernel14.τ) (Cert.Kernel14.main (F := Bits))) ⟨m, fun _ => 0, ρ⟩ _) body14).mpr
    (Cert.Kernel14Ideal.Gen.frame (F := Bits) m ρ)
theorem frameK14 : @Cert.quiescent_Kernel14Ideal Cert.Kernel14Ideal.Gen.facts := fun m ρ _ => Cert.Kernel14Ideal.Gen.frame (F := Ideal) m ρ
theorem frameR14 : @Cert.quiescent_Reference14Ideal Cert.Reference14Ideal.Gen.facts := fun m ρ _ =>
  (θ_run _ _ _).mono (fun r h => ⟨fun c => (h c).2.2.2, sem_eq_zero_of_no_sems (by decide) r.2⟩)
    (Cert.Reference14Ideal.Value.run (F := Ideal) m ρ)

/-- The call's three arrays are the reference's. -/
theorem values14 : @Cert.algebraic_Kernel14Ideal_Reference14Ideal Cert.Kernel14Ideal.Gen.facts Cert.Reference14Ideal.Gen.facts :=
  fun m ρ m' ρ' _ hag => by
  refine ⟨fun c => Cert.BrDw.narrow (Cert.BrDw.oA m c) (Cert.BrDw.yA m c), fun c => Cert.BrDw.wide (Cert.BrDw.oB m c) (Cert.BrDw.yB m c),
    fun c => Cert.BrDw.narrow (Cert.BrDw.oC m c) (Cert.BrDw.yC m c), ?_, ?_⟩
  · refine (θ_run _ _ _).mono (fun r h c => ?_) (Cert.Kernel14Ideal.Value.run_blocks (F := Ideal) m ρ)
    obtain ⟨h0, h1, h2, hrest⟩ := h c
    exact ⟨h0.trans (Cert.BrDw.arr6 m c), h1.trans (Cert.BrDw.arr7 m c), h2.trans (Cert.BrDw.arr8 m c), hrest⟩
  · refine (θ_run _ _ _).mono (fun r h c => ?_) (Cert.Reference14Ideal.Value.run (F := Ideal) m' ρ')
    obtain ⟨a0, a1, a2, a3, a4, a5⟩ := hag c
    obtain ⟨h0, h1, h2, hrest⟩ := h c
    refine ⟨h0.trans ((Cert.Reference14Ideal.Read.val_main_v8_eq _ _).trans ?_), h1.trans ((Cert.Reference14Ideal.Read.val_main_v17_eq _ _).trans ?_),
      h2.trans ((Cert.Reference14Ideal.Read.val_main_v26_eq _ _).trans ?_), hrest⟩
    all_goals simp only [a0, a1, a2, a3, a4, a5]
    · exact Cert.BrDw.ref_narrow _ _
    · exact Cert.BrDw.ref_wide _ _
    · exact Cert.BrDw.ref_third _ _

/-- The two programs run the same body. -/
theorem body15 : @Cert.Kernel15.defs Bits _ Cert.Kernel15.Gen.facts = @Cert.Kernel15Ideal.defs Bits _ Cert.Kernel15Ideal.Gen.facts := by
  refine congrArg (Pipeline.defs _) (congrArg Defs.onTc (funext fun l => funext fun x => ?_))
  match l, x with
  | 0, x => rfl

theorem frameP15 : @Cert.quiescent_Kernel15 Cert.Kernel15.Gen.facts := fun m ρ _ =>
  (congrArg (fun d => θ_run d (onTc (τ := Cert.Kernel15.τ) (Cert.Kernel15.main (F := Bits))) ⟨m, fun _ => 0, ρ⟩ _) body15).mpr
    (Cert.Kernel15Ideal.Gen.frame (F := Bits) m ρ)
theorem frameK15 : @Cert.quiescent_Kernel15Ideal Cert.Kernel15Ideal.Gen.facts := fun m ρ _ => Cert.Kernel15Ideal.Gen.frame (F := Ideal) m ρ
theorem frameR15 : @Cert.quiescent_Reference15Ideal Cert.Reference15Ideal.Gen.facts := fun m ρ _ =>
  (θ_run _ _ _).mono (fun r h => ⟨fun c => (h c).2.2.2.2, sem_eq_zero_of_no_sems (by decide) r.2⟩)
    (Cert.Reference15Ideal.Value.run (F := Ideal) m ρ)

/-- The call's four arrays are the reference's. -/
theorem values15 : @Cert.algebraic_Kernel15Ideal_Reference15Ideal Cert.Kernel15Ideal.Gen.facts Cert.Reference15Ideal.Gen.facts :=
  fun m ρ m' ρ' _ hag => by
  refine ⟨fun c => Cert.BrOut.narrow (Cert.BrOut.oA m c) (Cert.BrOut.wA m c), fun c => Cert.BrOut.wide (Cert.BrOut.oB m c) (Cert.BrOut.wB m c),
    fun c => Cert.BrOut.narrow (Cert.BrOut.oC m c) (Cert.BrOut.wC m c),
    fun c => Cert.BrOut.merged (Cert.BrOut.pP m c) (Cert.BrOut.narrow (Cert.BrOut.oA m c) (Cert.BrOut.wA m c))
      (Cert.BrOut.wide (Cert.BrOut.oB m c) (Cert.BrOut.wB m c)) (Cert.BrOut.narrow (Cert.BrOut.oC m c) (Cert.BrOut.wC m c)), ?_, ?_⟩
  · refine (θ_run _ _ _).mono (fun r h c => ?_) (Cert.Kernel15Ideal.Value.run_blocks (F := Ideal) m ρ)
    obtain ⟨h0, h1, h2, h3, hrest⟩ := h c
    exact ⟨h0.trans (Cert.BrOut.arr9 m c), h1.trans (Cert.BrOut.arr10 m c), h2.trans (Cert.BrOut.arr11 m c), h3.trans (Cert.BrOut.arr12 m c), hrest⟩
  · refine (θ_run _ _ _).mono (fun r h c => ?_) (Cert.Reference15Ideal.Value.run (F := Ideal) m' ρ')
    obtain ⟨a0, a1, a2, a3, a4, a5, a6⟩ := hag c
    obtain ⟨h0, h1, h2, h3, hrest⟩ := h c
    refine ⟨h0.trans ((Cert.Reference15Ideal.Read.val_main_v10_eq _ _).trans ?_), h1.trans ((Cert.Reference15Ideal.Read.val_main_v15_eq _ _).trans ?_),
      h2.trans ((Cert.Reference15Ideal.Read.val_main_v20_eq _ _).trans ?_),
      h3.trans ((Cert.Reference15Ideal.Read.val_main_v44_eq _ _ _ _ _ _ _).trans ?_), hrest⟩
    all_goals simp only [a0, a1, a2, a3, a4, a5, a6]
    · exact Cert.BrOut.ref_narrow _ _
    · exact Cert.BrOut.ref_wide _ _
    · exact Cert.BrOut.ref_third _ _
    · exact Cert.BrOut.ref_merged _ _ _ _ _ _ _

end Cert.Feed

end
-- ==== Proof.Dglu.lean ====
/- The gradient of the gated activation: the kernel's blocks and the reference's derivative are the same array, whenever the second
   factor and the gradient of the product are finite. -/
module

public import proofs.«01_k».proof.Defs
public import proofs.«01_k».proof.Proof.Gen.Kernel16Ideal.Value
public import proofs.«01_k».proof.Proof.Gen.Reference16Ideal.Read
public import proofs.«01_k».proof.Proof.BrOut
public import proofs.«01_k».proof.Proof.Finite
public import proofs.«01_k».proof.Proof.Softmax
public import Idealize.ShloMosaic.Lib.Pipeline.ValueKit.Geometry
public import Idealize.ShloMosaic.Lib.Pipeline.Value

@[expose] public section

set_option maxRecDepth 16384

noncomputable section

namespace Cert.Dglu

open Cert.Kernel16Ideal Cert.Kernel16Ideal.Gen Idealize.ShloMosaic Idealize.ShloMosaic.TcCoe Idealize.SL.Sem
open Idealize.ShloMosaic.ValueIdx Cert.Grad
open Cert.BrOut (sigma sigma_word)

/-! ## One entry -/

/-- The word of the number one. -/
abbrev one : EReal := Ideal.ofBits .f32 0x3F800000#32

theorem one_real : one = ((1 : ℝ) : EReal) := Ideal.ofBits_one_f32

/-- The gradients of the gate `a` and of the other factor `b`, from the gradient `e` of `a * sigma a * b`. -/
def gateGrad (a b e : EReal) : EReal := e * b * (sigma a + a * sigma a * (one - sigma a))
def otherGrad (a e : EReal) : EReal := e * a * sigma a

/-- The logistic function has real values, and so has the second part of its product's derivative. -/
theorem sigma_real (a : EReal) : IsNum (sigma a) ∧ IsNum (a * sigma a * (one - sigma a)) := by
  have hs : sigma a = Ideal.div one (one + Ideal.exp (-a)) := rfl
  induction a with
  | bot =>
    have h : sigma ⊥ = 0 := by
      rw [hs, EReal.neg_bot, show Ideal.exp ⊤ = ⊤ from rfl, one_real, EReal.coe_add_top]
      unfold Ideal.div
      rw [if_neg EReal.top_ne_zero, EReal.inv_top, mul_zero]
    rw [h, mul_zero, zero_mul]
    exact ⟨fin_zero, fin_zero⟩
  | coe r =>
    have h : IsNum (sigma (r : EReal)) := by
      have hp : (1 : ℝ) + Real.exp (-r) ≠ 0 := (add_pos one_pos (Real.exp_pos _)).ne'
      rw [hs, ← EReal.coe_neg, show Ideal.exp ((-r : ℝ) : EReal) = ((Real.exp (-r) : ℝ) : EReal) from rfl, one_real, ← EReal.coe_add, div_coe _ _ hp]
      exact fin_mul ⟨_, rfl⟩ ⟨_, rfl⟩
    refine ⟨h, fin_mul (fin_mul ⟨_, rfl⟩ h) ?_⟩
    obtain ⟨s, hs'⟩ := h
    rw [hs', one_real, ← EReal.coe_sub]
    exact ⟨_, rfl⟩
  | top =>
    have h : sigma ⊤ = ((1 : ℝ) : EReal) := by
      rw [hs, EReal.neg_top, show Ideal.exp ⊥ = 0 from rfl, add_zero, one_real, div_coe _ _ one_ne_zero, ← EReal.coe_mul]
      norm_num
    rw [h, one_real, ← EReal.coe_sub, sub_self, EReal.coe_zero, mul_zero]
    exact ⟨⟨1, rfl⟩, fin_zero⟩

/-- The derivative by the product rule, as the reference takes it. -/
theorem gateGrad_rule (a b e : EReal) (hb : IsNum b) (he : IsNum e) :
    e * b * sigma a + a * (e * b) * (sigma a * (one - sigma a)) = gateGrad a b e := by
  unfold gateGrad
  obtain ⟨⟨s, hs⟩, w, hw⟩ := sigma_real a
  obtain ⟨d, hd⟩ := fin_mul he hb
  rw [show a * (e * b) * (sigma a * (one - sigma a)) = e * b * (a * sigma a * (one - sigma a)) by
    rw [mul_comm a (e * b), mul_assoc (e * b), ← mul_assoc a], hw, hs, hd, ← EReal.coe_mul, ← EReal.coe_mul, ← EReal.coe_add, ← EReal.coe_add,
    ← EReal.coe_mul, mul_add]

/-- The two gradients side by side, as the call returns them. -/
def grads (g u d : S2048x2816.Idx → EReal) : S2048x5632.Idx → EReal := fun i =>
  if h : (i 1).val < 2816 then gateGrad (g (ix2 (i 0) ⟨(i 1).val, h⟩)) (u (ix2 (i 0) ⟨(i 1).val, h⟩)) (d (ix2 (i 0) ⟨(i 1).val, h⟩))
  else otherGrad (g (ix2 (i 0) ⟨(i 1).val - 2816, by have h1 : (i 1).val < 5632 := (i 1).isLt; omega⟩))
    (d (ix2 (i 0) ⟨(i 1).val - 2816, by have h1 : (i 1).val < 5632 := (i 1).isLt; omega⟩))

theorem grads_left (g u d : S2048x2816.Idx → EReal) (I : Fin 2048) (j : Fin 2816) (J : Fin 5632) (h : J.val = j.val) :
    grads g u d (ix2 I J) = gateGrad (g (ix2 I j)) (u (ix2 I j)) (d (ix2 I j)) := by
  have hp : J.val < 2816 := by omega
  have hj : (⟨J.val, hp⟩ : Fin 2816) = j := Fin.ext h
  refine (dif_pos hp).trans ?_
  exact congrArg (fun k : Fin 2816 => gateGrad (g (ix2 I k)) (u (ix2 I k)) (d (ix2 I k))) hj

theorem grads_right (g u d : S2048x2816.Idx → EReal) (I : Fin 2048) (j : Fin 2816) (J : Fin 5632) (h : J.val = 2816 + j.val) :
    grads g u d (ix2 I J) = otherGrad (g (ix2 I j)) (d (ix2 I j)) := by
  have hn : ¬J.val < 2816 := by omega
  have hj : (⟨J.val - 2816, by omega⟩ : Fin 2816) = j := Fin.ext (by show J.val - 2816 = j.val; omega)
  refine (dif_neg hn).trans ?_
  exact congrArg (fun k : Fin 2816 => otherGrad (g (ix2 I k)) (d (ix2 I k))) hj

/-! ## The blocks -/

theorem gate_apply (a b e : Vec Ideal S256x2816 .bf16) (y : S256x2816.Idx) :
    (k0_pay4 a b e : S256x2816.Idx → EReal) y = gateGrad (a y) (b y) (e y) := by
  unfold gateGrad
  rw [← sigma_word (a y)]
  rfl

theorem other_apply (a e : Vec Ideal S256x2816 .bf16) (y : S256x2816.Idx) :
    (k0_pay5 a e : S256x2816.Idx → EReal) y = otherGrad (a y) (e y) := by
  unfold otherGrad
  rw [← sigma_word (a y)]
  rfl

variable (m : (ℓ : Loc nD τ sig) → Buf (Elt Ideal) ℓ) (c : Dev nD)

/-- The call's arguments on one device: the gate, the other factor, and the gradient of the gated rows. -/
abbrev aG : S2048x2816.Idx → EReal := m ((c.tc : Thread nD τ).loc main_arg0)
abbrev aU : S2048x2816.Idx → EReal := m ((c.tc : Thread nD τ).loc main_arg1)
abbrev aD : S2048x2816.Idx → EReal := m ((c.tc : Thread nD τ).loc main_arg2)

theorem index0 (t : Fin cfg0.N) : win0_0.index t = ![t.val, 0] := by revert t; decide
theorem index1 (t : Fin cfg0.N) : win0_1.index t = ![t.val, 0] := by revert t; decide
theorem index2 (t : Fin cfg0.N) : win0_2.index t = ![t.val, 0] := by revert t; decide
theorem index3 (t : Fin cfg0.N) : win0_3.index t = ![t.val, 0] := by revert t; decide

variable (t : Fin cfg0.N) (i : Fin 256) (j : Fin 2816) (I : Fin 2048) (hI : I.val = t.val * 256 + i.val)
include hI

theorem blk0 : (iblk m c 0 t : S256x2816.Idx → EReal) (ix2 i j) = aG m c (ix2 I j) := by
  blk_ext [iblk, index0]
  exact hI.symm
theorem blk1 : (iblk m c 1 t : S256x2816.Idx → EReal) (ix2 i j) = aU m c (ix2 I j) := by
  blk_ext [iblk, index1]
  exact hI.symm
theorem blk2 : (iblk m c 2 t : S256x2816.Idx → EReal) (ix2 i j) = aD m c (ix2 I j) := by
  blk_ext [iblk, index2]
  exact hI.symm

omit hI

theorem place3 (t : Fin cfg0.N) (i : Fin 256) (J : Fin 5632) : ∃ I : Fin 2048,
    ((cfg0.win 3).blk t).view.emb (ix2 i J : S256x5632.Idx) = (ix2 I J : S2048x5632.Idx) ∧ I.val = t.val * 256 + i.val := by
  have ht : t.val < 8 := t.isLt
  refine ⟨⟨t.val * 256 + i.val, by omega⟩, ?_, rfl⟩
  blk_ext [index3]

theorem point3 (t : Fin cfg0.N) (y : S256x5632.Idx) :
    (out0_3 (iblk m c 0 t) (iblk m c 1 t) (iblk m c 2 t) : S256x5632.Idx → EReal) y
      = grads (aG m c) (aU m c) (aD m c) (((cfg0.win 3).blk t).view.emb y) := by
  unfold out0_3
  simp only [View.ld_unit_zero (S := S256x2816) Cert.BrOut.zero2]
  refine View.canon_apply_of_pieces (Val := Elt Ideal) (e := .bf16)
    (fun y => (grads (aG m c) (aU m c) (aD m c) (((cfg0.win 3).blk t).view.emb y) : EReal)) _ (fun p hp x => ?_) y (cover0_3 _ _ y)
  rcases List.mem_cons.mp hp with rfl | hp
  · obtain ⟨i, j, rfl⟩ : ∃ (i : Fin 256) (j : Fin 2816), x = ix2 i j := ⟨x 0, x 1, eq_ix2 _⟩
    have hJ : r0_2.emb (ix2 i j : S256x2816.Idx) = (ix2 i ⟨2816 + j.val, by omega⟩ : S256x5632.Idx) :=
      funext fun a => Fin.ext (match a with
        | ⟨0, _⟩ => by show 0 + 1 * i.val = i.val; omega
        | ⟨1, _⟩ => by show 2816 + 1 * j.val = 2816 + j.val; omega)
    obtain ⟨I, h, hI⟩ := place3 t i ⟨2816 + j.val, by omega⟩
    refine (other_apply _ _ (ix2 i j)).trans ?_
    rw [hJ, h, grads_right _ _ _ I j _ rfl]
    exact congrArg₂ otherGrad (blk0 m c t i j I hI) (blk2 m c t i j I hI)
  · obtain rfl := List.mem_singleton.mp hp
    obtain ⟨i, j, rfl⟩ : ∃ (i : Fin 256) (j : Fin 2816), x = ix2 i j := ⟨x 0, x 1, eq_ix2 _⟩
    have hJ : r0_1.emb (ix2 i j : S256x2816.Idx) = (ix2 i ⟨j.val, by omega⟩ : S256x5632.Idx) :=
      funext fun a => Fin.ext (match a with
        | ⟨0, _⟩ => by show 0 + 1 * i.val = i.val; omega
        | ⟨1, _⟩ => by show 0 + 1 * j.val = j.val; omega)
    obtain ⟨I, h, hI⟩ := place3 t i ⟨j.val, by omega⟩
    refine (gate_apply _ _ _ (ix2 i j)).trans ?_
    rw [hJ, h, grads_left _ _ _ I j _ rfl, blk0 m c t i j I hI, blk1 m c t i j I hI, blk2 m c t i j I hI]

theorem covers3 : (cfg0.win 3).Covers := by decide +kernel

theorem arr3 : ((dats m 0 c).arrAt 3 cfg0.N : S2048x5632.Idx → EReal) = grads (aG m c) (aU m c) (aD m c) := by
  refine (dats m 0 c).arrAt_eq_of_covers 3 _ covers3 fun t hfl y => ?_
  blk_simp
  rw [after0_3]
  exact point3 m c t y

/-! ## The reference -/

theorem ref_sigma (g : S2048x2816.Idx → EReal) (i : S2048x2816.Idx) : Cert.Reference16Ideal.Read.val_main_v3_2 (F := Ideal) g i = sigma (g i) := rfl

theorem ref_gate (g u d : S2048x2816.Idx → EReal) (i : S2048x2816.Idx) (hu : IsNum (u i)) (hd : IsNum (d i)) :
    Cert.Reference16Ideal.Read.val_main_v7 (F := Ideal) g u d i = gateGrad (g i) (u i) (d i) := by
  rw [← gateGrad_rule _ _ _ hu hd]
  rfl

theorem ref_other (g d : S2048x2816.Idx → EReal) (i : S2048x2816.Idx) :
    Cert.Reference16Ideal.Read.val_main_v5 (F := Ideal) g d i = otherGrad (g i) (d i) := by
  have h : Cert.Reference16Ideal.Read.val_main_v5 (F := Ideal) g d i = g i * sigma (g i) * d i := rfl
  rw [h, mul_comm, ← mul_assoc]
  rfl

theorem ref_grads (g u d : S2048x2816.Idx → EReal) (hu : ∀ i, IsNum (u i)) (hd : ∀ i, IsNum (d i)) :
    (Cert.Reference16Ideal.Read.val_main_v9 (F := Ideal) g u d : S2048x5632.Idx → EReal) = grads g u d := by
  funext i
  obtain ⟨I, J, rfl⟩ : ∃ (I : Fin 2048) (J : Fin 5632), i = ix2 I J := ⟨i 0, i 1, eq_ix2 _⟩
  rw [Cert.Reference16Ideal.Read.val_main_v9_apply]
  show Cert.Reference16Ideal.Read.val_main_v8 (F := Ideal) g u d (ix2 I J) = _
  unfold Cert.Reference16Ideal.Read.val_main_v8
  by_cases h : J.val < 2816
  · rw [grads_left g u d I ⟨J.val, h⟩ J rfl, ← ref_gate g u d _ (hu _) (hd _)]
    exact concatenate_pair_apply_left (s₁ := S2048x2816) (s₂ := S2048x2816) 1 _ _ _ (ix2 I J) rfl (ix2 I (⟨J.val, h⟩ : Fin 2816))
      (fun b => by match b with | ⟨0, _⟩ => rfl | ⟨1, _⟩ => rfl)
  · have hJ : J.val < 5632 := J.isLt
    rw [grads_right g u d I ⟨J.val - 2816, by omega⟩ J (by show J.val = 2816 + (J.val - 2816); omega), ← ref_other g d]
    exact concatenate_pair_apply_right (s₁ := S2048x2816) (s₂ := S2048x2816) 1 _ _ _ (ix2 I J) rfl rfl
      (ix2 I (⟨J.val - 2816, by omega⟩ : Fin 2816)) (fun b hb => by match b with | ⟨0, _⟩ => rfl | ⟨1, _⟩ => exact absurd rfl hb)
      (by show J.val - 2816 + 2816 = J.val; omega)

/-! ## The precondition -/

theorem factFacts : Cert.Pre_finite_factors.Facts := ⟨by decide, by decide⟩

/-- What the precondition says of the three arguments of one device. -/
theorem fin_args [hP : Cert.Pre_finite_factors.Facts] (x0 x1 x2 : FVec Ideal Cert.Pre_finite_factors.S2048x2816 .bf16)
    (h0 : (Cert.Pre_finite_factors.fn (F := Ideal) x0 x1 x2).1 = fun _ => 1#1)
    (h1 : (Cert.Pre_finite_factors.fn (F := Ideal) x0 x1 x2).2 = fun _ => 1#1) :
    (∀ i : S2048x2816.Idx, IsNum (x1 i)) ∧ ∀ i : S2048x2816.Idx, IsNum (x2 i) :=
  ⟨fin_of_test (fun _ => word_top) h0, fin_of_test (fun _ => word_top) h1⟩

end Cert.Dglu

end
-- ==== Proof.Dbias.lean ====
/- The gradient of the projection's bias: the kernel's product of a row of ones with the gradient of the projection, and the
   reference's sum over the rows, are the same row. -/
module

public import proofs.«01_k».proof.Proof.Gen.Kernel17Ideal.Frame
public import proofs.«01_k».proof.Proof.Gen.Reference17Ideal.Read
public import proofs.«01_k».proof.Proof.Products
public import Idealize.ShloMosaic.Lib.Pipeline.ValueKit.Geometry
public import Idealize.ShloMosaic.Lib.Pipeline.Value
public import Idealize.ShloMosaic.Lib.IdealHost

@[expose] public section

set_option maxRecDepth 16384

noncomputable section

namespace Cert.Dbias

open Cert.Kernel17Ideal Cert.Kernel17Ideal.Gen Idealize.ShloMosaic Idealize.ShloMosaic.TcCoe Idealize.SL.Sem
open Idealize.ShloMosaic.ValueIdx Cert.Products

variable (m : (ℓ : Loc nD τ sig) → Buf (Elt Ideal) ℓ) (ρ : Dev nD → PrngReg)

/-- The sums of the columns, and the array of eight such rows. -/
def colSum (d : S2048x6272.Idx → EReal) (J : Fin 6272) : EReal := ∑ k : Fin 2048, d (ix2 k J)
def row (d : S2048x6272.Idx → EReal) : S1x6272.Idx → EReal := fun i => colSum d (i 1)
def rows (d : S2048x6272.Idx → EReal) : S8x6272.Idx → EReal := fun i => colSum d (i 1)

/-- The argument on one device. -/
abbrev aD (c : Dev nD) : S2048x6272.Idx → EReal := m ((c.tc : Thread nD τ).loc main_arg0)

theorem index0 (t : Fin cfg0.N) : win0_0.index t = ![0, 0] := by revert t; decide
theorem index1 (t : Fin cfg0.N) : win0_1.index t = ![0, t.val] := by revert t; decide
theorem index2 (t : Fin cfg0.N) : win0_2.index t = ![0, t.val] := by revert t; decide

/-- What the region finds in the array of ones. -/
theorem V_ones (c : Dev nD) : (V m c main_v0 : S8x2048.Idx → EReal)
    = broadcastInDim S8x2048 ![] bcast_S_S8x2048 ((constant S_ .bf16 0x3F80#16 : FVec Ideal S_ .bf16) : S_.Idx → EReal) := by
  unfold_abbrev_sides
  after_results
  rfl

theorem ones_apply (c : Dev nD) (i : S8x2048.Idx) : ((V m c main_v0 : S8x2048.Idx → EReal) i : EReal) = (1 : EReal) := by
  rw [V_ones]
  refine (broadcastInDim_apply _ bcast_S_S8x2048 ((constant S_ .bf16 0x3F80#16 : FVec Ideal S_ .bf16) : S_.Idx → EReal) i (fun a => a.elim0) (fun a => a.elim0)).trans ?_
  exact Ideal.ofBits_one_bf16

/-- What the body leaves at an entry of its block. -/
theorem out_apply (a : Vec Ideal S8x2048 .bf16) (w : Vec Ideal S2048x896 .bf16) (i : Fin 8) (j : Fin 896) :
    (out0_2 a w : S8x896.Idx → EReal) (ix2 i j) = ∑ k : Fin 2048, (a (ix2 i k) : EReal) * (w (ix2 k j) : EReal) := by
  unfold out0_2
  rw [View.canon_unit_zero (by decide), View.ld_unit_zero (by decide), View.ld_unit_zero (by decide)]
  unfold k0_pay1
  rw [shapeCast_self]
  exact entry (φ₁ := .bf16) (φ₂ := .bf16) _ 2048 rfl rfl _ _ (ix2 i j) (fun k => ix2 i k) (fun k => ix2 k j)
    (fun _ _ hk x => match x with | ⟨0, _⟩ => rfl | ⟨1, _⟩ => hk) (fun _ _ hk x => match x with | ⟨0, _⟩ => hk | ⟨1, _⟩ => rfl)

theorem place (t : Fin cfg0.N) (i : Fin 8) (j : Fin 896) : ∃ J : Fin 6272,
    ((cfg0.win 2).blk t).view.emb (ix2 i j : S8x896.Idx) = (ix2 i J : S8x6272.Idx) ∧ J.val = t.val * 896 + j.val := by
  have ht : t.val < 7 := t.isLt
  refine ⟨⟨t.val * 896 + j.val, by omega⟩, ?_, rfl⟩
  blk_ext [index2]

theorem blk0 (c : Dev nD) (t : Fin cfg0.N) (i : Fin 8) (k : Fin 2048) : ((iblk m c 0 t : S8x2048.Idx → EReal) (ix2 i k) : EReal) = (1 : EReal) := by
  rw [← ones_apply m c (ix2 i k)]
  show V m c main_v0 _ = V m c main_v0 _
  blk_ext [iblk, index0]

theorem blk1 (c : Dev nD) (t : Fin cfg0.N) (k : Fin 2048) (j : Fin 896) (J : Fin 6272) (hJ : J.val = t.val * 896 + j.val) :
    (iblk m c 1 t : S2048x896.Idx → EReal) (ix2 k j) = aD m c (ix2 k J) := by
  rw [aD, ← V_main_arg0 m c]
  show V m c main_arg0 _ = V m c main_arg0 _
  blk_ext [iblk, index1]
  exact hJ.symm

theorem point_block (c : Dev nD) (t : Fin cfg0.N) (y : S8x896.Idx) :
    (out0_2 (iblk m c 0 t) (iblk m c 1 t) : S8x896.Idx → EReal) y = rows (aD m c) (((cfg0.win 2).blk t).view.emb y) := by
  obtain ⟨i, j, rfl⟩ : ∃ (i : Fin 8) (j : Fin 896), y = ix2 i j := ⟨y 0, y 1, eq_ix2 _⟩
  obtain ⟨J, h, hJ⟩ := place t i j
  rw [h, out_apply]
  exact Finset.sum_congr rfl fun k _ =>
    (congrArg₂ (HMul.hMul (α := EReal) (β := EReal)) (blk0 m c t i k) (blk1 m c t k j J hJ)).trans (one_mul _)

theorem covers : (cfg0.win 2).Covers := by decide +kernel

/-- The array that the call fills. -/
theorem arr (c : Dev nD) : ((dats m 0 c).arrAt 2 cfg0.N : S8x6272.Idx → EReal) = rows (aD m c) := by
  refine (dats m 0 c).arrAt_eq_of_covers 2 _ covers fun t hfl y => ?_
  blk_simp
  rw [after0_2]
  exact point_block m c t y

/-- The row that is taken of it after the call. -/
theorem tail (c : Dev nD) : (Pipeline.afterTail₀ cfgs (dats m) 0 (V0 m) [hostOps1] c main_v2 : S1x6272.Idx → EReal) = row (aD m c) := by
  have h : (Pipeline.afterTail₀ cfgs (dats m) 0 (V0 m) [hostOps1] c main_v2 : S1x6272.Idx → EReal)
      = extractStridedSlice S1x6272 ![0, 0] ((dats m 0 c).arrAt 2 cfg0.N : S8x6272.Idx → EReal) slices_S8x6272_S1x6272_0_0 := by
    unfold Pipeline.afterTail₀
    after_results
    have hw : (Pipeline.withArrays (cfgs 0).spec c (V0 m c) (fun w => (dats m 0 c).arrAt w (cfgs 0).N)
        (Proc.devRef .tc (Pipeline.arrRef (cfgs 0).spec 2)) : S8x6272.Idx → EReal) = (dats m 0 c).arrAt 2 cfg0.N :=
      Pipeline.withArrays_arr (cfgs 0).spec launch0.win.arr_inj c (V0 m c) (fun w => (dats m 0 c).arrAt w (cfgs 0).N) 2
    exact congrArg (fun x : S8x6272.Idx → EReal => extractStridedSlice S1x6272 ![0, 0] x slices_S8x6272_S1x6272_0_0) hw
  rw [h, arr]
  funext i
  exact extractStridedSlice_apply _ _ _ i (ix2 ⟨(i 0).val, by have h0 : (i 0).val < 1 := (i 0).isLt; omega⟩ (i 1)) fun a => match a with
    | ⟨0, _⟩ => (Nat.zero_add _).symm
    | ⟨1, _⟩ => (Nat.zero_add _).symm

/-- The run, with the returned row named. -/
theorem run_row : θ_run defs (onTc (τ := τ) (main (F := Ideal))) ⟨m, fun _ => 0, ρ⟩ fun r => ∀ c : Dev nD,
    r.2.mem ((c.tc : Thread nD τ).loc main_v2) = row (aD m c)
      ∧ r.2.mem ((c.tc : Thread nD τ).loc main_arg0) = m ((c.tc : Thread nD τ).loc main_arg0) :=
  (θ_run defs _ _).mono (fun r h c => ⟨((h.1 c).2 main_v2 (by decide)).trans (tail m c), h.2 c⟩)
    (θ_run_and (run_main (F := Ideal) m ρ) (unchanged (F := Ideal) m ρ))

/-- The reference's row. -/
theorem ref (d : S2048x6272.Idx → EReal) : (Cert.Reference17Ideal.Read.val_main_v6 (F := Ideal) d : S1x6272.Idx → EReal) = row d := by
  funext i
  rw [Cert.Reference17Ideal.Read.val_main_v6_apply, Cert.Reference17Ideal.Read.val_main_v5_apply, Cert.Reference17Ideal.Read.val_main_cst_1_apply]
  refine (congrArg (· + _) (Ideal.ofBits_zero_f32)).trans ((zero_add _).trans ?_)
  unfold row colSum
  refine Finset.sum_congr rfl fun k _ => ?_
  rw [Cert.Reference17Ideal.Read.val_main_v0_apply]
  refine congrArg d (funext fun x => Fin.ext ?_)
  have h0 : (i 0).val < 1 := (i 0).isLt
  match x with
  | ⟨0, _⟩ => rfl
  | ⟨1, _⟩ => show (i 0).val * 6272 + (i 1).val = (i 1).val; omega

end Cert.Dbias

end
-- ==== Proof.FeedAct.lean ====
/- The gradient of the gated activation, and the gradient of the projection's bias: the programs leave their arguments alone, and end
   with the references' arrays. -/
module

public import proofs.«01_k».proof.Defs
public import proofs.«01_k».proof.Proof.Dglu
public import proofs.«01_k».proof.Proof.Gen.Kernel16
public import proofs.«01_k».proof.Proof.Gen.Reference16Ideal.Run
public import proofs.«01_k».proof.Proof.Dbias
public import proofs.«01_k».proof.Proof.Gen.Kernel17
public import proofs.«01_k».proof.Proof.Gen.Reference17Ideal.Run
public import Idealize.ShloMosaic.Lib.Quiescent

@[expose] public section

noncomputable section

namespace Cert.Feed

open Idealize.ShloMosaic Idealize.SL.Sem

/-- The two programs run the same body. -/
theorem body16 : @Cert.Kernel16.defs Bits _ Cert.Kernel16.Gen.facts = @Cert.Kernel16Ideal.defs Bits _ Cert.Kernel16Ideal.Gen.facts := by
  refine congrArg (Pipeline.defs _) (congrArg Defs.onTc (funext fun l => funext fun x => ?_))
  match l, x with
  | 0, x => rfl

theorem frameP16 : @Cert.quiescent_Kernel16 Cert.Kernel16.Gen.facts := fun m ρ _ =>
  (congrArg (fun d => θ_run d (onTc (τ := Cert.Kernel16.τ) (Cert.Kernel16.main (F := Bits))) ⟨m, fun _ => 0, ρ⟩ _) body16).mpr
    (Cert.Kernel16Ideal.Gen.frame (F := Bits) m ρ)
theorem frameK16 : @Cert.quiescent_Kernel16Ideal Cert.Kernel16Ideal.Gen.facts := fun m ρ _ => Cert.Kernel16Ideal.Gen.frame (F := Ideal) m ρ
theorem frameR16 : @Cert.quiescent_Reference16Ideal Cert.Reference16Ideal.Gen.facts := fun m ρ _ =>
  (θ_run _ _ _).mono (fun r h => ⟨fun c => (h c).2, sem_eq_zero_of_no_sems (by decide) r.2⟩)
    (Cert.Reference16Ideal.Value.run (F := Ideal) m ρ)

/-- The call's array is the reference's, whenever the second factor and the gradient of the product are finite. -/
theorem values16 : @Cert.algebraic_Kernel16Ideal_Reference16Ideal_pre_finite_factors Cert.Kernel16Ideal.Gen.facts Cert.Reference16Ideal.Gen.facts
    Cert.Dglu.factFacts := fun m ρ m' ρ' hpre hag => by
  refine ⟨fun c => Cert.Dglu.grads (Cert.Dglu.aG m c) (Cert.Dglu.aU m c) (Cert.Dglu.aD m c), ?_, ?_⟩
  · refine (θ_run _ _ _).mono (fun r h c => ?_) (Cert.Kernel16Ideal.Value.run_blocks (F := Ideal) m ρ)
    obtain ⟨h0, hrest⟩ := h c
    exact ⟨h0.trans (Cert.Dglu.arr3 m c), hrest⟩
  · refine (θ_run _ _ _).mono (fun r h c => ?_) (Cert.Reference16Ideal.Value.run (F := Ideal) m' ρ')
    obtain ⟨p0, p1⟩ := hpre c
    obtain ⟨hu, hd⟩ := @Cert.Dglu.fin_args Cert.Dglu.factFacts _ _ _ p0 p1
    obtain ⟨a0, a1, a2⟩ := hag c
    obtain ⟨h0, hrest⟩ := h c
    refine ⟨h0.trans ((Cert.Reference16Ideal.Read.val_main_v9_eq _ _ _).trans ?_), hrest⟩
    simp only [a0, a1, a2]
    exact Cert.Dglu.ref_grads _ _ _ hu hd

/-- The two programs run the same body. -/
theorem body17 : @Cert.Kernel17.defs Bits _ Cert.Kernel17.Gen.facts = @Cert.Kernel17Ideal.defs Bits _ Cert.Kernel17Ideal.Gen.facts := by
  refine congrArg (Pipeline.defs _) (congrArg Defs.onTc (funext fun l => funext fun x => ?_))
  match l, x with
  | 0, x => rfl

theorem frameP17 : @Cert.quiescent_Kernel17 Cert.Kernel17.Gen.facts := fun m ρ _ =>
  (congrArg (fun d => θ_run d (onTc (τ := Cert.Kernel17.τ) (Cert.Kernel17.main (F := Bits))) ⟨m, fun _ => 0, ρ⟩ _) body17).mpr
    (Cert.Kernel17Ideal.Gen.frame (F := Bits) m ρ)
theorem frameK17 : @Cert.quiescent_Kernel17Ideal Cert.Kernel17Ideal.Gen.facts := fun m ρ _ => Cert.Kernel17Ideal.Gen.frame (F := Ideal) m ρ
theorem frameR17 : @Cert.quiescent_Reference17Ideal Cert.Reference17Ideal.Gen.facts := fun m ρ _ =>
  (θ_run _ _ _).mono (fun r h => ⟨fun c => (h c).2, sem_eq_zero_of_no_sems (by decide) r.2⟩)
    (Cert.Reference17Ideal.Value.run (F := Ideal) m ρ)

/-- The call's row is the reference's. -/
theorem values17 : @Cert.algebraic_Kernel17Ideal_Reference17Ideal Cert.Kernel17Ideal.Gen.facts Cert.Reference17Ideal.Gen.facts :=
  fun m ρ m' ρ' _ hag => by
  refine ⟨fun c => Cert.Dbias.row (Cert.Dbias.aD m c), Cert.Dbias.run_row m ρ, ?_⟩
  refine (θ_run _ _ _).mono (fun r h c => ?_) (Cert.Reference17Ideal.Value.run (F := Ideal) m' ρ')
  refine ⟨(h c).1.trans ((Cert.Reference17Ideal.Read.val_main_v6_eq _).trans ?_), (h c).2⟩
  rw [hag c]
  exact Cert.Dbias.ref _

end Cert.Feed

end
-- ==== Proof.Mnorm.lean ====
/- The mixer's forward norm: the kernel's blocks of normed rows are the reference's array, and the programs leave their arguments
   alone. -/
module

public import proofs.«01_k».proof.Defs
public import proofs.«01_k».proof.Proof.Gen.Kernel18
public import proofs.«01_k».proof.Proof.Gen.Kernel18Ideal.Value
public import proofs.«01_k».proof.Proof.Gen.Reference18Ideal.Run
public import proofs.«01_k».proof.Proof.Gen.Reference18Ideal.Read
public import proofs.«01_k».proof.Proof.FfnInRef
public import proofs.«01_k».proof.Proof.BrOut
public import Idealize.ShloMosaic.Lib.Quiescent
public import Idealize.ShloMosaic.Lib.Pipeline.ValueKit.Geometry
public import Idealize.ShloMosaic.Lib.Pipeline.Value

@[expose] public section

set_option maxRecDepth 16384

noncomputable section

namespace Cert.Mnorm

open Cert.Kernel18Ideal Cert.Kernel18Ideal.Gen Idealize.ShloMosaic Idealize.ShloMosaic.TcCoe Idealize.SL.Sem
open Idealize.ShloMosaic.ValueIdx Cert.Norm
open Cert.Dh (row gain)
open Cert.FfnIn (normed arrH)

/-! ## The body's arithmetic, entry by entry -/

/-- A row of a block. -/
def line (v : S256x1024.Idx → EReal) (i : Fin 256) (k : Fin 1024) : EReal := v (ix2 i k)

theorem sum_along (v : FVec Ideal S256x1024 .f32) (i : Fin 256) (u : Fin 1) :
    (shapeCast S256x1 (multiReduction .add [1] S256 v 0x00000000#32 reduces_S256x1024_S256 (.inl rfl) rfl) shapeCasts_S256_S256x1
      : S256x1.Idx → EReal) (ix2 i u) = ∑ k : Fin 1024, v (ix2 i k) := by
  refine (shapeCast_apply _ _ _ (ix1 i) ?_).trans ((Ideal.multiReduction_add_single ..).trans (Finset.sum_congr rfl fun k _ => congrArg v ?_))
  · rw [Shape.rowMajor_val_one, Shape.rowMajor_val_two]
    show i.val = i.val * 1 + u.val
    omega
  · exact funext fun a => Fin.ext (match a with | ⟨0, _⟩ => rfl | ⟨1, _⟩ => rfl)

theorem spread_column (v : FVec Ideal S256x1 .f32) (i : Fin 256) (j : Fin 1024) :
    (broadcastTo S256x1024 v broadcasts_S256x1_S256x1024 : S256x1024.Idx → EReal) (ix2 i j) = v (ix2 i 0) :=
  congrArg v (funext fun a => Fin.ext (match a with | ⟨0, _⟩ => rfl | ⟨1, _⟩ => rfl))
theorem spread_row (v : FVec Ideal S1x1024 .f32) (i : Fin 256) (j : Fin 1024) :
    (broadcastTo S256x1024 v broadcasts_S1x1024_S256x1024 : S256x1024.Idx → EReal) (ix2 i j) = v (ix2 0 j) :=
  congrArg v (funext fun a => Fin.ext (match a with | ⟨0, _⟩ => rfl | ⟨1, _⟩ => rfl))

theorem norm_apply (v : Vec Ideal S256x1024 .f32) (g : Vec Ideal S1x1024 .f32) (i : Fin 256) (j : Fin 1024) :
    (k0_pay1 v g : S256x1024.Idx → EReal) (ix2 i j) = line v i j * rstd (line v i) * g (ix2 0 j) := by
  unfold k0_pay1
  exact congrArg₂ (HMul.hMul (α := EReal) (β := EReal)) (congrArg (line v i j * ·) ((spread_column _ i j).trans
    (congrArg (fun s => Ideal.rsqrt (Ideal.div s width + eps)) (sum_along (mulf v v) i 0)))) (spread_row g i j)

/-! ## The blocks -/

variable (m : (ℓ : Loc nD τ sig) → Buf (Elt Ideal) ℓ) (c : Dev nD)

/-- The call's arguments on one device: the rows and the gain. -/
abbrev aX : S2048x1024.Idx → EReal := m ((c.tc : Thread nD τ).loc main_arg0)
abbrev aG : S1x1024.Idx → EReal := m ((c.tc : Thread nD τ).loc main_arg1)

theorem index0 (t : Fin cfg0.N) : win0_0.index t = ![t.val, 0] := by revert t; decide
theorem index1 (t : Fin cfg0.N) : win0_1.index t = ![0, 0] := by revert t; decide
theorem index2 (t : Fin cfg0.N) : win0_2.index t = ![t.val, 0] := by revert t; decide

theorem blk0 (t : Fin cfg0.N) (i : Fin 256) (k : Fin 1024) (I : Fin 2048) (hI : I.val = t.val * 256 + i.val) :
    (iblk m c 0 t : S256x1024.Idx → EReal) (ix2 i k) = aX m c (ix2 I k) := by
  blk_ext [iblk, index0]
  exact hI.symm

theorem blk1 (t : Fin cfg0.N) (u : Fin 1) (k : Fin 1024) : (iblk m c 1 t : S1x1024.Idx → EReal) (ix2 u k) = aG m c (ix2 u k) := by
  blk_ext [iblk, index1]

theorem place2 (t : Fin cfg0.N) (i : Fin 256) (j : Fin 1024) : ∃ I : Fin 2048,
    ((cfg0.win 2).blk t).view.emb (ix2 i j : S256x1024.Idx) = (ix2 I j : S2048x1024.Idx) ∧ I.val = t.val * 256 + i.val := by
  have ht : t.val < 8 := t.isLt
  refine ⟨⟨t.val * 256 + i.val, by omega⟩, ?_, rfl⟩
  blk_ext [index2]

theorem point2 (t : Fin cfg0.N) (y : S256x1024.Idx) :
    (out0_2 (iblk m c 0 t) (iblk m c 1 t) : S256x1024.Idx → EReal) y = arrH (aX m c) (aG m c) (((cfg0.win 2).blk t).view.emb y) := by
  unfold out0_2
  rw [View.ld_unit_zero (S := S256x1024) Cert.BrOut.zero2, View.ld_unit_zero (S := S1x1024) Cert.BrOut.zero2,
    View.canon_unit_zero (S := S256x1024) Cert.BrOut.zero2]
  obtain ⟨i, j, rfl⟩ : ∃ (i : Fin 256) (j : Fin 1024), y = ix2 i j := ⟨y 0, y 1, eq_ix2 _⟩
  obtain ⟨I, h, hI⟩ := place2 t i j
  have hline : line (iblk m c 0 t) i = row (aX m c) I := funext fun k => blk0 m c t i k I hI
  rw [h, norm_apply, hline]
  exact congrArg (fun b : EReal => row (aX m c) I j * rstd (row (aX m c) I) * b) (blk1 m c t 0 j)

theorem covers2 : (cfg0.win 2).Covers := by decide +kernel

theorem arr2 : ((dats m 0 c).arrAt 2 cfg0.N : S2048x1024.Idx → EReal) = arrH (aX m c) (aG m c) := by
  refine (dats m 0 c).arrAt_eq_of_covers 2 _ covers2 fun t hfl y => ?_
  blk_simp
  rw [after0_2]
  exact point2 m c t y

/-! ## The reference -/

/-- The reference's array is the one the feed-forward's reference computes before its product. -/
theorem ref (x : S2048x1024.Idx → EReal) (g : S1x1024.Idx → EReal) :
    (Cert.Reference18Ideal.Read.val_main_v12 (F := Ideal) x g : S2048x1024.Idx → EReal) = arrH x g :=
  Eq.trans (b := Cert.Reference13Ideal.Read.val_main_v20 (F := Ideal) x g) rfl
    (Cert.FfnIn.ref_arrays x g (fun _ => (0 : EReal))).1

/-! ## The programs -/

/-- The two programs run the same body. -/
theorem body : @Cert.Kernel18.defs Bits _ Cert.Kernel18.Gen.facts = @Cert.Kernel18Ideal.defs Bits _ Cert.Kernel18Ideal.Gen.facts := by
  refine congrArg (Pipeline.defs _) (congrArg Defs.onTc (funext fun l => funext fun x => ?_))
  match l, x with
  | 0, x => rfl

theorem frameP : @Cert.quiescent_Kernel18 Cert.Kernel18.Gen.facts := fun m ρ _ =>
  (congrArg (fun d => θ_run d (onTc (τ := Cert.Kernel18.τ) (Cert.Kernel18.main (F := Bits))) ⟨m, fun _ => 0, ρ⟩ _) body).mpr
    (Cert.Kernel18Ideal.Gen.frame (F := Bits) m ρ)
theorem frameK : @Cert.quiescent_Kernel18Ideal Cert.Kernel18Ideal.Gen.facts := fun m ρ _ => Cert.Kernel18Ideal.Gen.frame (F := Ideal) m ρ
theorem frameR : @Cert.quiescent_Reference18Ideal Cert.Reference18Ideal.Gen.facts := fun m ρ _ =>
  (θ_run _ _ _).mono (fun r h => ⟨fun c => (h c).2, sem_eq_zero_of_no_sems (by decide) r.2⟩)
    (Cert.Reference18Ideal.Value.run (F := Ideal) m ρ)

/-- The call's array is the reference's. -/
theorem values : @Cert.algebraic_Kernel18Ideal_Reference18Ideal Cert.Kernel18Ideal.Gen.facts Cert.Reference18Ideal.Gen.facts :=
  fun m ρ m' ρ' _ hag => by
  refine ⟨fun c => arrH (aX m c) (aG m c), ?_, ?_⟩
  · refine (θ_run _ _ _).mono (fun r h c => ?_) (Cert.Kernel18Ideal.Value.run_blocks (F := Ideal) m ρ)
    exact ⟨(h c).1.trans (arr2 m c), (h c).2⟩
  · refine (θ_run _ _ _).mono (fun r h c => ?_) (Cert.Reference18Ideal.Value.run (F := Ideal) m' ρ')
    obtain ⟨a0, a1⟩ := hag c
    refine ⟨(h c).1.trans ((Cert.Reference18Ideal.Read.val_main_v12_eq _ _).trans ?_), (h c).2⟩
    rw [a0, a1]
    exact ref _ _

end Cert.Mnorm

end
-- ==== Proof.lean ====
module

public import proofs.«01_k».proof.Defs
public import proofs.«01_k».proof.Proof.Rest
public import proofs.«01_k».proof.Proof.Arrays
public import proofs.«01_k».proof.Proof.RefResult
public import proofs.«01_k».proof.Proof.Finite
public import proofs.«01_k».proof.Proof.Gen.ReferenceIdeal.Run
public import proofs.«01_k».proof.Proof.Feed
public import proofs.«01_k».proof.Proof.FeedDh
public import proofs.«01_k».proof.Proof.FeedMdh
public import proofs.«01_k».proof.Proof.FeedMix
public import proofs.«01_k».proof.Proof.FeedOut
public import proofs.«01_k».proof.Proof.FeedIn
public import proofs.«01_k».proof.Proof.FeedBr
public import proofs.«01_k».proof.Proof.FeedAct
public import proofs.«01_k».proof.Proof.Mnorm
public import Idealize.ShloMosaic.Lib.Quiescent

@[expose] public section

noncomputable section

namespace Cert.Proof

open Idealize.ShloMosaic Idealize.SL.Sem

/-- The reference leaves its arguments alone, and it has no semaphores to leave raised. -/
theorem frameR : Cert.quiescent_ReferenceIdeal := fun m ρ _ =>
  (θ_run _ _ _).mono (fun r h => ⟨fun c => (h c).2.2.2.2, sem_eq_zero_of_no_sems (by decide) r.2⟩)
    (Cert.ReferenceIdeal.Value.run (F := Ideal) m ρ)

/-- What the precondition gives on each device: no score is plus infinity, and every row sees a key. -/
theorem scores (m : (ℓ : Loc Cert.KernelIdeal.nD Cert.KernelIdeal.τ Cert.KernelIdeal.sig) → Buf (Elt Ideal) ℓ)
    (hpre : @Cert.Pre_KernelIdeal_finite_scores Cert.Grad.preFacts m) (c : Dev Cert.KernelIdeal.nD) :
    (∀ H k q s, Cert.Grad.zRow (Cert.Grad.argOf m c Cert.KernelIdeal.main_arg0) (Cert.Grad.argOf m c Cert.KernelIdeal.main_arg1)
        (Cert.Grad.argOf m c Cert.KernelIdeal.main_arg3) H k q s ≠ ⊤)
      ∧ ∀ H k q, Cert.Grad.zRow (Cert.Grad.argOf m c Cert.KernelIdeal.main_arg0) (Cert.Grad.argOf m c Cert.KernelIdeal.main_arg1)
        (Cert.Grad.argOf m c Cert.KernelIdeal.main_arg3) H k q 512 ≠ ⊥ := by
  obtain ⟨h0, h1, h2⟩ := hpre c
  obtain ⟨hq, hk, ht⟩ := @Cert.Grad.fin_args Cert.Grad.preFacts _ _ _ _ _ h0 h1 h2
  exact ⟨Cert.Grad.score_top _ _ _ hq hk ht, Cert.Grad.score_bot _ _ _ hq hk ht⟩

/-- The two programs' four results are the same arrays, whenever queries, keys and table are finite. -/
theorem values : @Cert.algebraic_KernelIdeal_ReferenceIdeal_pre_finite_scores Cert.KernelIdeal.Gen.facts Cert.ReferenceIdeal.Gen.facts
    Cert.Grad.preFacts := fun m ρ m' ρ' hpre hag => by
  refine ⟨fun c => Cert.Grad.arrQ (Cert.Grad.argOf m c Cert.KernelIdeal.main_arg0) (Cert.Grad.argOf m c Cert.KernelIdeal.main_arg1)
      (Cert.Grad.argOf m c Cert.KernelIdeal.main_arg2) (Cert.Grad.argOf m c Cert.KernelIdeal.main_arg3) (Cert.Grad.argOf m c Cert.KernelIdeal.main_arg4),
    fun c => Cert.Grad.arrK (Cert.Grad.argOf m c Cert.KernelIdeal.main_arg0) (Cert.Grad.argOf m c Cert.KernelIdeal.main_arg1)
      (Cert.Grad.argOf m c Cert.KernelIdeal.main_arg2) (Cert.Grad.argOf m c Cert.KernelIdeal.main_arg3) (Cert.Grad.argOf m c Cert.KernelIdeal.main_arg4),
    fun c => Cert.Grad.arrV (Cert.Grad.argOf m c Cert.KernelIdeal.main_arg0) (Cert.Grad.argOf m c Cert.KernelIdeal.main_arg1)
      (Cert.Grad.argOf m c Cert.KernelIdeal.main_arg3) (Cert.Grad.argOf m c Cert.KernelIdeal.main_arg4),
    fun c => Cert.Grad.arrB (Cert.Grad.argOf m c Cert.KernelIdeal.main_arg0) (Cert.Grad.argOf m c Cert.KernelIdeal.main_arg1)
      (Cert.Grad.argOf m c Cert.KernelIdeal.main_arg2) (Cert.Grad.argOf m c Cert.KernelIdeal.main_arg3) (Cert.Grad.argOf m c Cert.KernelIdeal.main_arg4),
    ?_, ?_⟩
  · refine (θ_run _ _ _).mono (fun r h c => ?_) (θ_run_and (Cert.Grad.run_arrays m ρ) (Cert.Grad.unchanged m ρ))
    obtain ⟨hf, hn⟩ := scores m hpre c
    exact ⟨((h.1 c).1 5).trans (Cert.Grad.arr_q m c hf hn), ((h.1 c).1 6).trans (Cert.Grad.arr_k m c hf hn),
      ((h.1 c).1 7).trans (Cert.Grad.arr_v m c hf hn), ((h.1 c).1 8).trans (Cert.Grad.arr_b m c hf hn), h.2 c⟩
  · refine (θ_run _ _ _).mono (fun r h c => ?_) (Cert.ReferenceIdeal.Value.run (F := Ideal) m' ρ')
    obtain ⟨hf, hn⟩ := scores m hpre c
    obtain ⟨a0, a1, a2, a3, a4⟩ := hag c
    obtain ⟨h0, h1, h2, h3, hrest⟩ := h c
    refine ⟨h0.trans ((Cert.ReferenceIdeal.Read.val_main_v151_eq _).trans ?_), h1.trans ((Cert.ReferenceIdeal.Read.val_main_v152_eq _).trans ?_),
      h2.trans ((Cert.ReferenceIdeal.Read.val_main_v153_eq _).trans ?_), h3.trans ((Cert.ReferenceIdeal.Read.val_main_v154_eq _).trans ?_), hrest⟩
    all_goals simp only [StableHlo.launchContents_devRef, a0, a1, a2, a3, a4]
    · exact Cert.Grad.ref_q _ _ _ _ _ hf hn
    · exact Cert.Grad.ref_k _ _ _ _ _ hf hn
    · exact Cert.Grad.ref_v _ _ _ _
    · exact Cert.Grad.ref_b _ _ _ _ _ hf hn

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Grad.preFacts, Cert.Dglu.factFacts,
    fun m ρ _ => Cert.Rest.frameP m ρ,
    fun m ρ _ => Cert.Grad.frameK m ρ,
    fun m ρ _ => Cert.Grad.frameK m ρ,
    frameR,
    fun m ρ _ => frameR m ρ trivial,
    Cert.Feed.frameP2, Cert.Feed.frameK2, Cert.Feed.frameR2,
    Cert.Feed.frameP3, Cert.Feed.frameK3, Cert.Feed.frameR3,
    Cert.Feed.frameP4, Cert.Feed.frameK4, Cert.Feed.frameR4,
    Cert.Feed.frameP5, Cert.Feed.frameK5, Cert.Feed.frameR5,
    Cert.Feed.frameP6, Cert.Feed.frameK6, Cert.Feed.frameR6,
    Cert.Feed.frameP7, Cert.Feed.frameK7, Cert.Feed.frameR7,
    Cert.Feed.frameP8, Cert.Feed.frameK8, Cert.Feed.frameR8,
    Cert.Feed.frameP9, Cert.Feed.frameK9, Cert.Feed.frameR9,
    Cert.Feed.frameP10, Cert.Feed.frameK10, Cert.Feed.frameR10,
    Cert.Feed.frameP11, Cert.Feed.frameK11, Cert.Feed.frameR11,
    Cert.Feed.frameP12, Cert.Feed.frameK12, Cert.Feed.frameR12,
    Cert.Feed.frameP13, Cert.Feed.frameK13, Cert.Feed.frameR13,
    Cert.Feed.frameP14, Cert.Feed.frameK14, Cert.Feed.frameR14,
    Cert.Feed.frameP15, Cert.Feed.frameK15, Cert.Feed.frameR15,
    Cert.Feed.frameP16, Cert.Feed.frameK16, fun m ρ _ => Cert.Feed.frameK16 m ρ trivial, Cert.Feed.frameR16, fun m ρ _ => Cert.Feed.frameR16 m ρ trivial,
    Cert.Feed.frameP17, Cert.Feed.frameK17, Cert.Feed.frameR17,
    Cert.Mnorm.frameP, Cert.Mnorm.frameK, Cert.Mnorm.frameR,
    IdealRules.named_const.statement Cert.KernelIdeal.κ "mask" .f32 0xF149F2CA#32 ⊥ rfl,
    values,
    trivial, Cert.Feed.values2, trivial, Cert.Feed.values3, trivial, Cert.Feed.values4, trivial, Cert.Feed.values5,
    trivial, Cert.Feed.values6, trivial, Cert.Feed.values7, trivial, Cert.Feed.values8, trivial, Cert.Feed.values9, trivial, Cert.Feed.values10, trivial, Cert.Feed.values11, trivial, Cert.Feed.values12,
    trivial, Cert.Feed.values13, trivial, Cert.Feed.values14, trivial, Cert.Feed.values15, trivial, Cert.Feed.values16, trivial, Cert.Feed.values17,
    trivial, Cert.Mnorm.values⟩

end Cert.Proof

end
